-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_pool [hPre_finite_pool : Cert.Pre_finite_pool.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_pool.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite_pool.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite_pool.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_finite_pool.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_pool [hPre_finite_pool : Cert.Pre_finite_pool.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_pool.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite_pool.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite_pool.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_finite_pool.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_dbias [hPre_finite_dbias : Cert.Pre_finite_dbias.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_dbias.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_dbias [hPre_finite_dbias : Cert.Pre_finite_dbias.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_dbias.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_fwd [hPre_finite_fwd : Cert.Pre_finite_fwd.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_fwd.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).1 = (fun _ => 1#1)
    ∧ (Cert.Pre_finite_fwd.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_fwd [hPre_finite_fwd : Cert.Pre_finite_fwd.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_fwd.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))).1 = (fun _ => 1#1)
    ∧ (Cert.Pre_finite_fwd.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))).2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_bias [hPre_finite_bias : Cert.Pre_finite_bias.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_bias.fn (F := Ideal) (m ((c.tc : Thread Cert.Kernel13Ideal.nD Cert.Kernel13Ideal.τ).loc Cert.Kernel13Ideal.main_arg0))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_bias [hPre_finite_bias : Cert.Pre_finite_bias.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_bias.fn (F := Ideal) (m ((c.tc : Thread Cert.Reference13Ideal.nD Cert.Reference13Ideal.τ).loc Cert.Reference13Ideal.main_arg0))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_pool_fwd [hPre_finite_pool_fwd : Cert.Pre_finite_pool_fwd.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_pool_fwd.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_pool_fwd [hPre_finite_pool_fwd : Cert.Pre_finite_pool_fwd.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_pool_fwd.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_pool [hKernel6Ideal : Cert.Kernel6Ideal.Facts] [hPre_finite_pool : Cert.Pre_finite_pool.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_pool m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_pool [hReference6Ideal : Cert.Reference6Ideal.Facts] [hPre_finite_pool : Cert.Pre_finite_pool.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_pool m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite_dbias [hKernel7Ideal : Cert.Kernel7Ideal.Facts] [hPre_finite_dbias : Cert.Pre_finite_dbias.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_dbias m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite_dbias [hReference7Ideal : Cert.Reference7Ideal.Facts] [hPre_finite_dbias : Cert.Pre_finite_dbias.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_dbias m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_finite_fwd [hKernel8Ideal : Cert.Kernel8Ideal.Facts] [hPre_finite_fwd : Cert.Pre_finite_fwd.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_fwd m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_finite_fwd [hReference8Ideal : Cert.Reference8Ideal.Facts] [hPre_finite_fwd : Cert.Pre_finite_fwd.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_fwd m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Kernel13Ideal_pre_finite_bias [hKernel13Ideal : Cert.Kernel13Ideal.Facts] [hPre_finite_bias : Cert.Pre_finite_bias.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_bias m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Reference13Ideal_pre_finite_bias [hReference13Ideal : Cert.Reference13Ideal.Facts] [hPre_finite_bias : Cert.Pre_finite_bias.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_bias m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel14Ideal_pre_finite_pool_fwd [hKernel14Ideal : Cert.Kernel14Ideal.Facts] [hPre_finite_pool_fwd : Cert.Pre_finite_pool_fwd.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_pool_fwd m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_finite_pool_fwd [hReference14Ideal : Cert.Reference14Ideal.Facts] [hPre_finite_pool_fwd : Cert.Pre_finite_pool_fwd.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_pool_fwd m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_v50) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)) (v2 : (c : Dev Cert.Kernel3Ideal.nD) → Buf (Elt Ideal) ((c.tc : Thread Cert.Kernel3Ideal.nD Cert.Kernel3Ideal.τ).loc Cert.Kernel3Ideal.main_v8_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_v8_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v46) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v46) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite_pool [hKernel6Ideal : Cert.Kernel6Ideal.Facts] [hReference6Ideal : Cert.Reference6Ideal.Facts] [hPre_finite_pool : Cert.Pre_finite_pool.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_pool m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v171) = v0 c
          ∧ r.2.mem ((c.tc : Thread Cert.Reference6Ideal.nD Cert.Reference6Ideal.τ).loc Cert.Reference6Ideal.main_v102) = v1 c
          ∧ r.2.mem ((c.tc : Thread Cert.Reference6Ideal.nD Cert.Reference6Ideal.τ).loc Cert.Reference6Ideal.main_v172) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal_pre_finite_dbias [hKernel7Ideal : Cert.Kernel7Ideal.Facts] [hReference7Ideal : Cert.Reference7Ideal.Facts] [hPre_finite_dbias : Cert.Pre_finite_dbias.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_dbias m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "mask" .f32 0xF149F2CA#32 ⊥

def algebraic_Kernel8Ideal_Reference8Ideal_pre_finite_fwd [hKernel8Ideal : Cert.Kernel8Ideal.Facts] [hReference8Ideal : Cert.Reference8Ideal.Facts] [hPre_finite_fwd : Cert.Pre_finite_fwd.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_fwd m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v32)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v32) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v55) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)) (v2 : (c : Dev Cert.Kernel9Ideal.nD) → Buf (Elt Ideal) ((c.tc : Thread Cert.Kernel9Ideal.nD Cert.Kernel9Ideal.τ).loc Cert.Kernel9Ideal.main_v5_2)) (v3 : (c : Dev Cert.Kernel9Ideal.nD) → Buf (Elt Ideal) ((c.tc : Thread Cert.Kernel9Ideal.nD Cert.Kernel9Ideal.τ).loc Cert.Kernel9Ideal.main_v5_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_v5_2) = v2 c
          ∧ r.2.mem ((c.tc : Thread Cert.Kernel9Ideal.nD Cert.Kernel9Ideal.τ).loc Cert.Kernel9Ideal.main_v5_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_v18) = v2 c
          ∧ r.2.mem ((c.tc : Thread Cert.Reference9Ideal.nD Cert.Reference9Ideal.τ).loc Cert.Reference9Ideal.main_v21) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v9_0)) (v1 : (c : Dev Cert.Kernel11Ideal.nD) → Buf (Elt Ideal) ((c.tc : Thread Cert.Kernel11Ideal.nD Cert.Kernel11Ideal.τ).loc Cert.Kernel11Ideal.main_v9_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v9_0) = v0 c
          ∧ r.2.mem ((c.tc : Thread Cert.Kernel11Ideal.nD Cert.Kernel11Ideal.τ).loc Cert.Kernel11Ideal.main_v9_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v46) = v0 c
          ∧ r.2.mem ((c.tc : Thread Cert.Reference11Ideal.nD Cert.Reference11Ideal.τ).loc Cert.Reference11Ideal.main_v48) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_finite_bias [hKernel13Ideal : Cert.Kernel13Ideal.Facts] [hReference13Ideal : Cert.Reference13Ideal.Facts] [hPre_finite_bias : Cert.Pre_finite_bias.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_bias m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v35) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal_pre_finite_pool_fwd [hKernel14Ideal : Cert.Kernel14Ideal.Facts] [hReference14Ideal : Cert.Reference14Ideal.Facts] [hPre_finite_pool_fwd : Cert.Pre_finite_pool_fwd.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_pool_fwd m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v85) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_v30) = v1 c
          ∧ r.2.mem ((c.tc : Thread Cert.Reference16Ideal.nD Cert.Reference16Ideal.τ).loc Cert.Reference16Ideal.main_v11) = v2 c
          ∧ r.2.mem ((c.tc : Thread Cert.Reference16Ideal.nD Cert.Reference16Ideal.τ).loc Cert.Reference16Ideal.main_v17) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_v5) = v1 c
          ∧ r.2.mem ((c.tc : Thread Cert.Reference17Ideal.nD Cert.Reference17Ideal.τ).loc Cert.Reference17Ideal.main_v8) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hPre_finite_pool : Cert.Pre_finite_pool.Facts) (hPre_finite_dbias : Cert.Pre_finite_dbias.Facts) (hPre_finite_fwd : Cert.Pre_finite_fwd.Facts) (hPre_finite_bias : Cert.Pre_finite_bias.Facts) (hPre_finite_pool_fwd : Cert.Pre_finite_pool_fwd.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_pool (hKernel6Ideal := hKernel6Ideal) (hPre_finite_pool := hPre_finite_pool)
    ∧ quiescent_Reference6Ideal (hReference6Ideal := hReference6Ideal)
    ∧ quiescent_Reference6Ideal_pre_finite_pool (hReference6Ideal := hReference6Ideal) (hPre_finite_pool := hPre_finite_pool)
    ∧ quiescent_Kernel7 (hKernel7 := hKernel7)
    ∧ quiescent_Kernel7Ideal (hKernel7Ideal := hKernel7Ideal)
    ∧ quiescent_Kernel7Ideal_pre_finite_dbias (hKernel7Ideal := hKernel7Ideal) (hPre_finite_dbias := hPre_finite_dbias)
    ∧ quiescent_Reference7Ideal (hReference7Ideal := hReference7Ideal)
    ∧ quiescent_Reference7Ideal_pre_finite_dbias (hReference7Ideal := hReference7Ideal) (hPre_finite_dbias := hPre_finite_dbias)
    ∧ quiescent_Kernel8 (hKernel8 := hKernel8)
    ∧ quiescent_Kernel8Ideal (hKernel8Ideal := hKernel8Ideal)
    ∧ quiescent_Kernel8Ideal_pre_finite_fwd (hKernel8Ideal := hKernel8Ideal) (hPre_finite_fwd := hPre_finite_fwd)
    ∧ quiescent_Reference8Ideal (hReference8Ideal := hReference8Ideal)
    ∧ quiescent_Reference8Ideal_pre_finite_fwd (hReference8Ideal := hReference8Ideal) (hPre_finite_fwd := hPre_finite_fwd)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_bias (hKernel13Ideal := hKernel13Ideal) (hPre_finite_bias := hPre_finite_bias)
    ∧ quiescent_Reference13Ideal (hReference13Ideal := hReference13Ideal)
    ∧ quiescent_Reference13Ideal_pre_finite_bias (hReference13Ideal := hReference13Ideal) (hPre_finite_bias := hPre_finite_bias)
    ∧ quiescent_Kernel14 (hKernel14 := hKernel14)
    ∧ quiescent_Kernel14Ideal (hKernel14Ideal := hKernel14Ideal)
    ∧ quiescent_Kernel14Ideal_pre_finite_pool_fwd (hKernel14Ideal := hKernel14Ideal) (hPre_finite_pool_fwd := hPre_finite_pool_fwd)
    ∧ quiescent_Reference14Ideal (hReference14Ideal := hReference14Ideal)
    ∧ quiescent_Reference14Ideal_pre_finite_pool_fwd (hReference14Ideal := hReference14Ideal) (hPre_finite_pool_fwd := hPre_finite_pool_fwd)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_pool (hKernel6Ideal := hKernel6Ideal) (hReference6Ideal := hReference6Ideal) (hPre_finite_pool := hPre_finite_pool)
    ∧ preserves_Kernel7_Kernel7Ideal
    ∧ algebraic_Kernel7Ideal_Reference7Ideal_pre_finite_dbias (hKernel7Ideal := hKernel7Ideal) (hReference7Ideal := hReference7Ideal) (hPre_finite_dbias := hPre_finite_dbias)
    ∧ preserves_Kernel8_Kernel8Ideal
    ∧ algebraic_Kernel8Ideal_Reference8Ideal_pre_finite_fwd (hKernel8Ideal := hKernel8Ideal) (hReference8Ideal := hReference8Ideal) (hPre_finite_fwd := hPre_finite_fwd)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite_bias (hKernel13Ideal := hKernel13Ideal) (hReference13Ideal := hReference13Ideal) (hPre_finite_bias := hPre_finite_bias)
    ∧ preserves_Kernel14_Kernel14Ideal
    ∧ algebraic_Kernel14Ideal_Reference14Ideal_pre_finite_pool_fwd (hKernel14Ideal := hKernel14Ideal) (hReference14Ideal := hReference14Ideal) (hPre_finite_pool_fwd := hPre_finite_pool_fwd)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
-- ==== Pre_finite_bias.lean ====
abbrev S16x257 : Shape := ⟨2, ![16, 257]⟩
abbrev S_ : Shape := ⟨0, ![]⟩

class Facts : Prop where
  bcast_S_S16x257 : S_.BroadcastsInDim S16x257 (![] : Fin 0 → Fin S16x257.rank)

variable [Facts]

def fn {F : FTy → Type} [FloatOps F] (main_arg0 : FVec F S16x257 .f32) : IVec S16x257 1 :=
  let main_cst : FVec F S_ .f32 := constant S_ .f32 0xFF800000#32
  let main_v0 : FVec F S16x257 .f32 := broadcastInDim S16x257 ![] bcast_S_S16x257 main_cst
  let main_v1 : IVec S16x257 1 := cmpf .ogt main_arg0 main_v0
  let main_cst_0 : FVec F S_ .f32 := constant S_ .f32 0x7F800000#32
  let main_v2 : FVec F S16x257 .f32 := broadcastInDim S16x257 ![] bcast_S_S16x257 main_cst_0
  let main_v3 : IVec S16x257 1 := cmpf .olt main_arg0 main_v2
  let main_v4 : IVec S16x257 1 := andi main_v1 main_v3
  main_v4
-- ==== Pre_finite_dbias.lean ====
abbrev S16x257 : Shape := ⟨2, ![16, 257]⟩
abbrev S16x256x768 : Shape := ⟨3, ![16, 256, 768]⟩
abbrev S_ : Shape := ⟨0, ![]⟩

class Facts : Prop where
  bcast_S_S16x256x768 : S_.BroadcastsInDim S16x256x768 (![] : Fin 0 → Fin S16x256x768.rank)

variable [Facts]

def fn {F : FTy → Type} [FloatOps F] (main_arg0 : FVec F S16x257 .f32) (main_arg1 : FVec F S16x256x768 .f32) : IVec S16x256x768 1 :=
  let main_cst : FVec F S_ .f32 := constant S_ .f32 0xFF800000#32
  let main_v0 : FVec F S16x256x768 .f32 := broadcastInDim S16x256x768 ![] bcast_S_S16x256x768 main_cst
  let main_v1 : IVec S16x256x768 1 := cmpf .ogt main_arg1 main_v0
  let main_cst_0 : FVec F S_ .f32 := constant S_ .f32 0x7F800000#32
  let main_v2 : FVec F S16x256x768 .f32 := broadcastInDim S16x256x768 ![] bcast_S_S16x256x768 main_cst_0
  let main_v3 : IVec S16x256x768 1 := cmpf .olt main_arg1 main_v2
  let main_v4 : IVec S16x256x768 1 := andi main_v1 main_v3
  main_v4
-- ==== Pre_finite_fwd.lean ====
abbrev S8192x3072 : Shape := ⟨2, ![8192, 3072]⟩
abbrev S16x257 : Shape := ⟨2, ![16, 257]⟩
abbrev S_ : Shape := ⟨0, ![]⟩

class Facts : Prop where
  bcast_S_S8192x3072 : S_.BroadcastsInDim S8192x3072 (![] : Fin 0 → Fin S8192x3072.rank)
  bcast_S_S16x257 : S_.BroadcastsInDim S16x257 (![] : Fin 0 → Fin S16x257.rank)

variable [Facts]

def fn {F : FTy → Type} [FloatOps F] (main_arg0 : FVec F S8192x3072 .bf16) (main_arg1 : FVec F S16x257 .f32) : IVec S8192x3072 1 × IVec S16x257 1 :=
  let main_cst : FVec F S_ .bf16 := constant S_ .bf16 0xFF80#16
  let main_v0 : FVec F S8192x3072 .bf16 := broadcastInDim S8192x3072 ![] bcast_S_S8192x3072 main_cst
  let main_v1 : IVec S8192x3072 1 := cmpf .ogt main_arg0 main_v0
  let main_cst_0 : FVec F S_ .bf16 := constant S_ .bf16 0x7F80#16
  let main_v2 : FVec F S8192x3072 .bf16 := broadcastInDim S8192x3072 ![] bcast_S_S8192x3072 main_cst_0
  let main_v3 : IVec S8192x3072 1 := cmpf .olt main_arg0 main_v2
  let main_v4 : IVec S8192x3072 1 := andi main_v1 main_v3
  let main_cst_1 : FVec F S_ .f32 := constant S_ .f32 0xFF800000#32
  let main_v5 : FVec F S16x257 .f32 := broadcastInDim S16x257 ![] bcast_S_S16x257 main_cst_1
  let main_v6 : IVec S16x257 1 := cmpf .ogt main_arg1 main_v5
  let main_cst_2 : FVec F S_ .f32 := constant S_ .f32 0x7F800000#32
  let main_v7 : FVec F S16x257 .f32 := broadcastInDim S16x257 ![] bcast_S_S16x257 main_cst_2
  let main_v8 : IVec S16x257 1 := cmpf .olt main_arg1 main_v7
  let main_v9 : IVec S16x257 1 := andi main_v6 main_v8
  (main_v4, main_v9)
-- ==== Pre_finite_pool.lean ====
abbrev S8192x2560 : Shape := ⟨2, ![8192, 2560]⟩
abbrev S4x128x128 : Shape := ⟨3, ![4, 128, 128]⟩
abbrev S512 : Shape := ⟨1, ![512]⟩
abbrev S8192x1024 : Shape := ⟨2, ![8192, 1024]⟩
abbrev S8192x512 : Shape := ⟨2, ![8192, 512]⟩
abbrev S_ : Shape := ⟨0, ![]⟩

class Facts : Prop where
  slices_S8192x2560_S8192x512_0_2048 : S8192x2560.Slices ![0, 2048] S8192x512
  slices_S8192x1024_S8192x512_0_512 : S8192x1024.Slices ![0, 512] S8192x512
  bcast_S_S8192x512 : S_.BroadcastsInDim S8192x512 (![] : Fin 0 → Fin S8192x512.rank)
  bcast_S_S4x128x128 : S_.BroadcastsInDim S4x128x128 (![] : Fin 0 → Fin S4x128x128.rank)
  bcast_S_S512 : S_.BroadcastsInDim S512 (![] : Fin 0 → Fin S512.rank)

variable [Facts]

def fn_part1 {F : FTy → Type} [FloatOps F] (main_v1 : FVec F S8192x512 .bf16) (main_v6 : IVec S8192x512 1) (main_v11 : IVec S4x128x128 1) (main_v16 : IVec S512 1) (main_cst_5 : FVec F S_ .bf16) : IVec S8192x512 1 × IVec S4x128x128 1 × IVec S512 1 × IVec S8192x512 1 :=
  let main_v17 : FVec F S8192x512 .bf16 := broadcastInDim S8192x512 ![] bcast_S_S8192x512 main_cst_5
  let main_v18 : IVec S8192x512 1 := cmpf .ogt main_v1 main_v17
  let main_cst_6 : FVec F S_ .bf16 := constant S_ .bf16 0x7F80#16
  let main_v19 : FVec F S8192x512 .bf16 := broadcastInDim S8192x512 ![] bcast_S_S8192x512 main_cst_6
  let main_v20 : IVec S8192x512 1 := cmpf .olt main_v1 main_v19
  let main_v21 : IVec S8192x512 1 := andi main_v18 main_v20
  (main_v6, main_v11, main_v16, main_v21)

def fn {F : FTy → Type} [FloatOps F] (main_arg0 : FVec F S8192x2560 .f32) (main_arg1 : FVec F S4x128x128 .f32) (main_arg2 : FVec F S512 .f32) (main_arg3 : FVec F S8192x1024 .bf16) (main_arg4 : FVec F S8192x2560 .bf16) : IVec S8192x512 1 × IVec S4x128x128 1 × IVec S512 1 × IVec S8192x512 1 :=
  let main_v0 : FVec F S8192x512 .f32 := (extractStridedSlice S8192x512 ![0, 2048] · slices_S8192x2560_S8192x512_0_2048) main_arg0
  let main_v1 : FVec F S8192x512 .bf16 := (extractStridedSlice S8192x512 ![0, 512] · slices_S8192x1024_S8192x512_0_512) main_arg3
  let main_cst : FVec F S_ .f32 := constant S_ .f32 0xFF800000#32
  let main_v2 : FVec F S8192x512 .f32 := broadcastInDim S8192x512 ![] bcast_S_S8192x512 main_cst
  let main_v3 : IVec S8192x512 1 := cmpf .ogt main_v0 main_v2
  let main_cst_0 : FVec F S_ .f32 := constant S_ .f32 0x7F800000#32
  let main_v4 : FVec F S8192x512 .f32 := broadcastInDim S8192x512 ![] bcast_S_S8192x512 main_cst_0
  let main_v5 : IVec S8192x512 1 := cmpf .olt main_v0 main_v4
  let main_v6 : IVec S8192x512 1 := andi main_v3 main_v5
  let main_cst_1 : FVec F S_ .f32 := constant S_ .f32 0xFF800000#32
  let main_v7 : FVec F S4x128x128 .f32 := broadcastInDim S4x128x128 ![] bcast_S_S4x128x128 main_cst_1
  let main_v8 : IVec S4x128x128 1 := cmpf .ogt main_arg1 main_v7
  let main_cst_2 : FVec F S_ .f32 := constant S_ .f32 0x7F800000#32
  let main_v9 : FVec F S4x128x128 .f32 := broadcastInDim S4x128x128 ![] bcast_S_S4x128x128 main_cst_2
  let main_v10 : IVec S4x128x128 1 := cmpf .olt main_arg1 main_v9
  let main_v11 : IVec S4x128x128 1 := andi main_v8 main_v10
  let main_cst_3 : FVec F S_ .f32 := constant S_ .f32 0xFF800000#32
  let main_v12 : FVec F S512 .f32 := broadcastInDim S512 ![] bcast_S_S512 main_cst_3
  let main_v13 : IVec S512 1 := cmpf .ogt main_arg2 main_v12
  let main_cst_4 : FVec F S_ .f32 := constant S_ .f32 0x7F800000#32
  let main_v14 : FVec F S512 .f32 := broadcastInDim S512 ![] bcast_S_S512 main_cst_4
  let main_v15 : IVec S512 1 := cmpf .olt main_arg2 main_v14
  let main_v16 : IVec S512 1 := andi main_v13 main_v15
  let main_cst_5 : FVec F S_ .bf16 := constant S_ .bf16 0xFF80#16
  fn_part1 (F := F) main_v1 main_v6 main_v11 main_v16 main_cst_5
-- ==== Pre_finite_pool_fwd.lean ====
abbrev S8192x2560 : Shape := ⟨2, ![8192, 2560]⟩
abbrev S4x128x128 : Shape := ⟨3, ![4, 128, 128]⟩
abbrev S512 : Shape := ⟨1, ![512]⟩
abbrev S8192x512 : Shape := ⟨2, ![8192, 512]⟩
abbrev S_ : Shape := ⟨0, ![]⟩

class Facts : Prop where
  slices_S8192x2560_S8192x512_0_2048 : S8192x2560.Slices ![0, 2048] S8192x512
  bcast_S_S8192x512 : S_.BroadcastsInDim S8192x512 (![] : Fin 0 → Fin S8192x512.rank)

variable [Facts]

def fn {F : FTy → Type} [FloatOps F] (main_arg0 : FVec F S8192x2560 .f32) (main_arg1 : FVec F S4x128x128 .f32) (main_arg2 : FVec F S512 .f32) : IVec S8192x512 1 :=
  let main_v0 : FVec F S8192x512 .f32 := (extractStridedSlice S8192x512 ![0, 2048] · slices_S8192x2560_S8192x512_0_2048) main_arg0
  let main_cst : FVec F S_ .f32 := constant S_ .f32 0xFF800000#32
  let main_v1 : FVec F S8192x512 .f32 := broadcastInDim S8192x512 ![] bcast_S_S8192x512 main_cst
  let main_v2 : IVec S8192x512 1 := cmpf .ogt main_v0 main_v1
  let main_cst_0 : FVec F S_ .f32 := constant S_ .f32 0x7F800000#32
  let main_v3 : FVec F S8192x512 .f32 := broadcastInDim S8192x512 ![] bcast_S_S8192x512 main_cst_0
  let main_v4 : IVec S8192x512 1 := cmpf .olt main_v0 main_v3
  let main_v5 : IVec S8192x512 1 := andi main_v2 main_v4
  main_v5
-- ==== Kernel.lean ====
abbrev S8192x4096 : Shape := ⟨2, ![8192, 4096]⟩
abbrev S4096x1024 : Shape := ⟨2, ![4096, 1024]⟩
abbrev S8192x1024 : Shape := ⟨2, ![8192, 1024]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S4096x1024, .f32⟩
  | .hbm, ⟨17, _⟩ => ⟨S8192x1024, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8x128, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8x128, .f32⟩
  | .hbm, ⟨72, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel3.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S8192x4096 : Shape := ⟨2, ![8192, 4096]⟩
abbrev S1024x8x512 : Shape := ⟨3, ![1024, 8, 512]⟩
abbrev S8x1024x512 : Shape := ⟨3, ![8, 1024, 512]⟩
abbrev S1x1024 : Shape := ⟨2, ![1, 1024]⟩
abbrev S512x4096 : Shape := ⟨2, ![512, 4096]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩

abbrev nBuf : Space → Nat
  | .hbm => 18
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S8192x4096, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S1024x4096, .bf16⟩
  | .hbm, ⟨11, _⟩ => ⟨S1024x8x512, .bf16⟩
  | .hbm, ⟨12, _⟩ => ⟨S8x1024x512, .bf16⟩
  | .hbm, ⟨13, _⟩ => ⟨S1x1024, .f32⟩
  | .hbm, ⟨14, _⟩ => ⟨S1024x1024, .bf16⟩
  | .hbm, ⟨15, _⟩ => ⟨S8192x1024, .f32⟩
  | .hbm, ⟨16, _⟩ => ⟨S1x1024, .f32⟩
  | .hbm, ⟨17, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S8192x4096, .bf16⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x4096, .f32⟩
  | .hbm, ⟨31, _⟩ => ⟨S8192x4096, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S1x1024, .f32⟩
  | .hbm, ⟨62, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x3072 : Shape := ⟨2, ![1024, 3072]⟩
abbrev S1024x8x384 : Shape := ⟨3, ![1024, 8, 384]⟩
abbrev S8x1024x384 : Shape := ⟨3, ![8, 1024, 384]⟩
abbrev S1x1024 : Shape := ⟨2, ![1, 1024]⟩
abbrev S512x1024 : Shape := ⟨2, ![512, 1024]⟩
abbrev S256x512 : Shape := ⟨2, ![256, 512]⟩
abbrev S1x1024x384 : Shape := ⟨3, ![1, 1024, 384]⟩
abbrev S1024x384 : Shape := ⟨2, ![1024, 384]⟩
abbrev S1x1024x128 : Shape := ⟨3, ![1, 1024, 128]⟩
abbrev S1024x128 : Shape := ⟨2, ![1024, 128]⟩
abbrev S1024x512 : Shape := ⟨2, ![1024, 512]⟩
abbrev S256x1024 : Shape := ⟨2, ![256, 1024]⟩
abbrev S1x1024x256 : Shape := ⟨3, ![1, 1024, 256]⟩
abbrev S1024x256 : Shape := ⟨2, ![1024, 256]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S1024x3072, .bf16⟩
  | .hbm, ⟨8, _⟩ => ⟨S1024x8x384, .bf16⟩
  | .hbm, ⟨9, _⟩ => ⟨S8x1024x384, .bf16⟩
  | .hbm, ⟨10, _⟩ => ⟨S1x1024, .f32⟩
  | .hbm, ⟨11, _⟩ => ⟨S8192x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S8x1024x384, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x3072, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x2560 : Shape := ⟨2, ![1024, 2560]⟩
abbrev S8192x2560 : Shape := ⟨2, ![8192, 2560]⟩
abbrev S8192x8x64x2 : Shape := ⟨4, ![8192, 8, 64, 2]⟩
abbrev S8192x8x2x64 : Shape := ⟨4, ![8192, 8, 2, 64]⟩
abbrev S8192x1536 : Shape := ⟨2, ![8192, 1536]⟩
abbrev S1x1024x2560 : Shape := ⟨3, ![1, 1024, 2560]⟩
abbrev S1x1024x1024 : Shape := ⟨3, ![1, 1024, 1024]⟩
abbrev S1x1024x8x64x2 : Shape := ⟨5, ![1, 1024, 8, 64, 2]⟩
abbrev S1x1024x8x2x64 : Shape := ⟨5, ![1, 1024, 8, 2, 64]⟩
abbrev S1x1024x1536 : Shape := ⟨3, ![1, 1024, 1536]⟩
abbrev S1x1024 : Shape := ⟨2, ![1, 1024]⟩
abbrev S512x2560 : Shape := ⟨2, ![512, 2560]⟩
abbrev S512x1024 : Shape := ⟨2, ![512, 1024]⟩
abbrev S256x512 : Shape := ⟨2, ![256, 512]⟩
abbrev S1x1024x512 : Shape := ⟨3, ![1, 1024, 512]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩

abbrev nBuf : Space → Nat
  | .hbm => 22
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S8192x2560, .bf16⟩
  | .hbm, ⟨4, _⟩ => ⟨S8192x1024, .f32⟩
  | .hbm, ⟨5, _⟩ => ⟨S8192x1024, .bf16⟩
  | .hbm, ⟨6, _⟩ => ⟨S8192x8x64x2, .bf16⟩
  | .hbm, ⟨7, _⟩ => ⟨S8192x8x2x64, .bf16⟩
  | .hbm, ⟨8, _⟩ => ⟨S8192x1024, .bf16⟩
  | .hbm, ⟨9, _⟩ => ⟨S8192x1536, .bf16⟩
  | .hbm, ⟨10, _⟩ => ⟨S8192x2560, .bf16⟩
  | .hbm, ⟨11, _⟩ => ⟨S1024x2560, .bf16⟩
  | .hbm, ⟨12, _⟩ => ⟨S1x1024x2560, .bf16⟩
  | .hbm, ⟨13, _⟩ => ⟨S1x1024x1024, .bf16⟩
  | .hbm, ⟨14, _⟩ => ⟨S1x1024x8x64x2, .bf16⟩
  | .hbm, ⟨15, _⟩ => ⟨S1x1024x8x2x64, .bf16⟩
  | .hbm, ⟨16, _⟩ => ⟨S1x1024x1024, .bf16⟩
  | .hbm, ⟨17, _⟩ => ⟨S1x1024x1536, .bf16⟩
  | .hbm, ⟨18, _⟩ => ⟨S1x1024x2560, .bf16⟩
  | .hbm, ⟨19, _⟩ => ⟨S1x1024, .f32⟩
  | .hbm, ⟨20, _⟩ => ⟨S8192x1024, .f32⟩
  | .hbm, ⟨21, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S1x1024x2560, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8192x1024 : Shape := ⟨2, ![8192, 1024]⟩
abbrev S1024 : Shape := ⟨1, ![1024]⟩
abbrev S1024x2560 : Shape := ⟨2, ![1024, 2560]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S8192x2560, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2560, .f32⟩
  | .hbm, ⟨26, _⟩ => ⟨S8192x2560, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel6.lean ====
abbrev S8192x2560 : Shape := ⟨2, ![8192, 2560]⟩
abbrev S4x128x128 : Shape := ⟨3, ![4, 128, 128]⟩
abbrev S512 : Shape := ⟨1, ![512]⟩
abbrev S8192x1024 : Shape := ⟨2, ![8192, 1024]⟩
abbrev S1x512 : Shape := ⟨2, ![1, 512]⟩
abbrev S512x512 : Shape := ⟨2, ![512, 512]⟩
abbrev S16x512 : Shape := ⟨2, ![16, 512]⟩
abbrev S528x512 : Shape := ⟨2, ![528, 512]⟩
abbrev S512x128 : Shape := ⟨2, ![512, 128]⟩
abbrev S528x128 : Shape := ⟨2, ![528, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 9
  | .vmem => 14
  | .smem => 0
  | _ => 0

abbrev bufTy : (tb : Table) → Fin (tcTables nBuf tb) → BufTy
  | .hbm, ⟨0, _⟩ => ⟨S8192x2560, .f32⟩
  | .hbm, ⟨1, _⟩ => ⟨S4x128x128, .f32⟩
  | .hbm, ⟨2, _⟩ => ⟨S512, .f32⟩
  | .hbm, ⟨3, _⟩ => ⟨S8192x1024, .bf16⟩
  | .hbm, ⟨4, _⟩ => ⟨S8192x2560, .bf16⟩
  | .hbm, ⟨5, _⟩ => ⟨S1x512, .f32⟩
  | .hbm, ⟨6, _⟩ => ⟨S8192x2560, .bf16⟩
  | .hbm, ⟨7, _⟩ => ⟨S4x128x128, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S4x128x128, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S512x512, .bf16⟩
  | .local _ .vmem, ⟨11, _⟩ => ⟨S512x512, .bf16⟩
  | .local _ .vmem, ⟨12, _⟩ => ⟨S4x128x128, .f32⟩
  | .local _ .vmem, ⟨13, _⟩ => ⟨S1x512, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S8192x2560 : Shape := ⟨2, ![8192, 2560]⟩
abbrev S4x128x128 : Shape := ⟨3, ![4, 128, 128]⟩
abbrev S512 : Shape := ⟨1, ![512]⟩
abbrev S8192x1024 : Shape := ⟨2, ![8192, 1024]⟩
abbrev S8192x512 : Shape := ⟨2, ![8192, 512]⟩
abbrev S1x8192x512 : Shape := ⟨3, ![1, 8192, 512]⟩
abbrev S1x8192x4x128 : Shape := ⟨4, ![1, 8192, 4, 128]⟩
abbrev S_ : Shape := ⟨0, ![]⟩
abbrev S8192 : Shape := ⟨1, ![8192]⟩
abbrev S1x8192x1x128 : Shape := ⟨4, ![1, 8192, 1, 128]⟩
abbrev S1x8192x128 : Shape := ⟨3, ![1, 8192, 128]⟩
abbrev S1x2x128 : Shape := ⟨3, ![1, 2, 128]⟩
abbrev S1x8194x128 : Shape := ⟨3, ![1, 8194, 128]⟩
abbrev S1x8192x1 : Shape := ⟨3, ![1, 8192, 1]⟩
abbrev S1x4x128 : Shape := ⟨3, ![1, 4, 128]⟩
abbrev S1x8196x128 : Shape := ⟨3, ![1, 8196, 128]⟩
abbrev S1x8x128 : Shape := ⟨3, ![1, 8, 128]⟩
abbrev S1x8200x128 : Shape := ⟨3, ![1, 8200, 128]⟩
abbrev S1x16x128 : Shape := ⟨3, ![1, 16, 128]⟩
abbrev S1x8208x128 : Shape := ⟨3, ![1, 8208, 128]⟩
abbrev S4x128x1x8192 : Shape := ⟨4, ![4, 128, 1, 8192]⟩
abbrev S1x1x512 : Shape := ⟨3, ![1, 1, 512]⟩
abbrev S1x512 : Shape := ⟨2, ![1, 512]⟩
abbrev S4x1x8192x128 : Shape := ⟨4, ![4, 1, 8192, 128]⟩
abbrev S8192x2048 : Shape := ⟨2, ![8192, 2048]⟩

abbrev nBuf : Space → Nat
  | .hbm => 212
  | .vmem => 0
  | .smem => 0
  | _ => 0

abbrev hbmTy0_0 (i : Nat) : BufTy := match i % 128 with
  | 0 => ⟨S8192x2560, .f32⟩
  | 1 => ⟨S4x128x128, .f32⟩
  | 2 => ⟨S512, .f32⟩
  | 3 => ⟨S8192x1024, .bf16⟩
  | 4 => ⟨S8192x2560, .bf16⟩
  | 5 => ⟨S8192x512, .f32⟩
  | 6 => ⟨S1x8192x512, .f32⟩
  | 7 => ⟨S8192x512, .bf16⟩
  | 8 => ⟨S1x8192x512, .bf16⟩
  | 9 => ⟨S1x8192x512, .f32⟩
  | 10 => ⟨S1x8192x4x128, .f32⟩
  | 11 => ⟨S_, .f32⟩
  | 12 => ⟨S_, .f32⟩
  | 13 => ⟨S1x8192x4x128, .f32⟩
  | 14 => ⟨S8192, .i32⟩
  | 15 => ⟨S1x8192x1x128, .f32⟩
  | 16 => ⟨S1x8192x128, .f32⟩
  | 17 => ⟨S_, .f32⟩
  | 18 => ⟨S1x2x128, .f32⟩
  | 19 => ⟨S1x8194x128, .f32⟩
  | 20 => ⟨S_, .f32⟩
  | 21 => ⟨S1x2x128, .f32⟩
  | 22 => ⟨S1x8192x128, .f32⟩
  | 23 => ⟨S_, .i32⟩
  | 24 => ⟨S8192, .i32⟩
  | 25 => ⟨S8192, .i32⟩
  | 26 => ⟨S_, .i32⟩
  | 27 => ⟨S8192, .i32⟩
  | 28 => ⟨S8192, .i32⟩
  | 29 => ⟨S8192, .f32⟩
  | 30 => ⟨S1x8192x1, .f32⟩
  | 31 => ⟨S1x8192x128, .f32⟩
  | 32 => ⟨S1x8192x128, .f32⟩
  | 33 => ⟨S1x8192x128, .f32⟩
  | 34 => ⟨S1x8192x1x128, .f32⟩
  | 35 => ⟨S1x8192x128, .f32⟩
  | 36 => ⟨S1x8192x128, .f32⟩
  | 37 => ⟨S1x8192x1x128, .f32⟩
  | 38 => ⟨S1x8192x128, .f32⟩
  | 39 => ⟨S_, .f32⟩
  | 40 => ⟨S1x4x128, .f32⟩
  | 41 => ⟨S1x8196x128, .f32⟩
  | 42 => ⟨S_, .f32⟩
  | 43 => ⟨S1x4x128, .f32⟩
  | 44 => ⟨S1x8192x128, .f32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S8192, .f32⟩
  | 52 => ⟨S1x8192x1, .f32⟩
  | 53 => ⟨S1x8192x128, .f32⟩
  | 54 => ⟨S1x8192x128, .f32⟩
  | 55 => ⟨S1x8192x128, .f32⟩
  | 56 => ⟨S1x8192x1x128, .f32⟩
  | 57 => ⟨S1x8192x128, .f32⟩
  | 58 => ⟨S1x8192x128, .f32⟩
  | 59 => ⟨S1x8192x1x128, .f32⟩
  | 60 => ⟨S1x8192x128, .f32⟩
  | 61 => ⟨S_, .f32⟩
  | 62 => ⟨S1x8x128, .f32⟩
  | 63 => ⟨S1x8200x128, .f32⟩
  | 64 => ⟨S_, .f32⟩
  | 65 => ⟨S1x8x128, .f32⟩
  | 66 => ⟨S1x8192x128, .f32⟩
  | 67 => ⟨S_, .i32⟩
  | 68 => ⟨S8192, .i32⟩
  | 69 => ⟨S8192, .i32⟩
  | 70 => ⟨S_, .i32⟩
  | 71 => ⟨S8192, .i32⟩
  | 72 => ⟨S8192, .i32⟩
  | 73 => ⟨S8192, .f32⟩
  | 74 => ⟨S1x8192x1, .f32⟩
  | 75 => ⟨S1x8192x128, .f32⟩
  | 76 => ⟨S1x8192x128, .f32⟩
  | 77 => ⟨S1x8192x128, .f32⟩
  | 78 => ⟨S1x8192x1x128, .f32⟩
  | 79 => ⟨S1x8192x128, .f32⟩
  | 80 => ⟨S1x8192x128, .f32⟩
  | 81 => ⟨S1x8192x1x128, .f32⟩
  | 82 => ⟨S1x8192x128, .f32⟩
  | 83 => ⟨S_, .f32⟩
  | 84 => ⟨S1x16x128, .f32⟩
  | 85 => ⟨S1x8208x128, .f32⟩
  | 86 => ⟨S_, .f32⟩
  | 87 => ⟨S1x16x128, .f32⟩
  | 88 => ⟨S1x8192x128, .f32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S8192, .f32⟩
  | 96 => ⟨S1x8192x1, .f32⟩
  | 97 => ⟨S1x8192x128, .f32⟩
  | 98 => ⟨S1x8192x128, .f32⟩
  | 99 => ⟨S1x8192x128, .f32⟩
  | 100 => ⟨S1x8192x1x128, .f32⟩
  | 101 => ⟨S1x8192x128, .f32⟩
  | 102 => ⟨S1x8192x128, .f32⟩
  | 103 => ⟨S1x8192x1x128, .f32⟩
  | 104 => ⟨S1x8192x1x128, .f32⟩
  | 105 => ⟨S1x8192x1x128, .f32⟩
  | 106 => ⟨S1x8192x1x128, .f32⟩
  | 107 => ⟨S1x8192x4x128, .f32⟩
  | 108 => ⟨S4x128x1x8192, .f32⟩
  | 109 => ⟨S1x8192x4x128, .f32⟩
  | 110 => ⟨S1x8192x512, .f32⟩
  | 111 => ⟨S1x1x512, .f32⟩
  | 112 => ⟨S1x8192x512, .f32⟩
  | 113 => ⟨S1x8192x512, .f32⟩
  | 114 => ⟨S1x8192x512, .f32⟩
  | 115 => ⟨S_, .f32⟩
  | 116 => ⟨S1x512, .f32⟩
  | 117 => ⟨S1x1x512, .f32⟩
  | 118 => ⟨S1x8192x512, .f32⟩
  | 119 => ⟨S1x8192x512, .f32⟩
  | 120 => ⟨S_, .f32⟩
  | 121 => ⟨S512, .f32⟩
  | 122 => ⟨S1x8192x4x128, .f32⟩
  | 123 => ⟨S4x128x1x8192, .f32⟩
  | 124 => ⟨S4x1x8192x128, .f32⟩
  | 125 => ⟨S1x8192x4x128, .f32⟩
  | 126 => ⟨S4x128x128, .f32⟩
  | 127 => ⟨S4x128x128, .f32⟩
  | _ => ⟨S8192x2560, .f32⟩

abbrev hbmTy0_1 (i : Nat) : BufTy := match i % 128 with
  | 0 => ⟨S1x8192x1x128, .f32⟩
  | 1 => ⟨S1x8192x128, .f32⟩
  | 2 => ⟨S1x8192x1x128, .f32⟩
  | 3 => ⟨S1x8192x128, .f32⟩
  | 4 => ⟨S1x8192x1x128, .f32⟩
  | 5 => ⟨S1x8192x128, .f32⟩
  | 6 => ⟨S1x8192x1x128, .f32⟩
  | 7 => ⟨S1x8192x128, .f32⟩
  | 8 => ⟨S1x8192x128, .f32⟩
  | 9 => ⟨S1x8192x1x128, .f32⟩
  | 10 => ⟨S_, .f32⟩
  | 11 => ⟨S1x8192x4x128, .f32⟩
  | 12 => ⟨S1x8192x128, .f32⟩
  | 13 => ⟨S1x8192x128, .f32⟩
  | 14 => ⟨S1x8192x128, .f32⟩
  | 15 => ⟨S_, .f32⟩
  | 16 => ⟨S1x8208x128, .f32⟩
  | 17 => ⟨S1x16x128, .f32⟩
  | 18 => ⟨S1x8192x128, .f32⟩
  | 19 => ⟨S1x8192x128, .f32⟩
  | 20 => ⟨S1x8192x1x128, .f32⟩
  | 21 => ⟨S_, .f32⟩
  | 22 => ⟨S1x8192x4x128, .f32⟩
  | 23 => ⟨S1x8192x128, .f32⟩
  | 24 => ⟨S1x8192x1x128, .f32⟩
  | 25 => ⟨S_, .f32⟩
  | 26 => ⟨S1x8192x4x128, .f32⟩
  | 27 => ⟨S1x8192x4x128, .f32⟩
  | 28 => ⟨S1x8192x128, .f32⟩
  | 29 => ⟨S1x8192x128, .f32⟩
  | 30 => ⟨S1x8192x128, .f32⟩
  | 31 => ⟨S_, .f32⟩
  | 32 => ⟨S1x8200x128, .f32⟩
  | 33 => ⟨S1x8x128, .f32⟩
  | 34 => ⟨S1x8192x128, .f32⟩
  | 35 => ⟨S1x8192x128, .f32⟩
  | 36 => ⟨S1x8192x1x128, .f32⟩
  | 37 => ⟨S_, .f32⟩
  | 38 => ⟨S1x8192x4x128, .f32⟩
  | 39 => ⟨S1x8192x4x128, .f32⟩
  | 40 => ⟨S1x8192x128, .f32⟩
  | 41 => ⟨S1x8192x1x128, .f32⟩
  | 42 => ⟨S_, .f32⟩
  | 43 => ⟨S1x8192x4x128, .f32⟩
  | 44 => ⟨S1x8192x4x128, .f32⟩
  | 45 => ⟨S1x8192x128, .f32⟩
  | 46 => ⟨S1x8192x128, .f32⟩
  | 47 => ⟨S1x8192x128, .f32⟩
  | 48 => ⟨S_, .f32⟩
  | 49 => ⟨S1x8196x128, .f32⟩
  | 50 => ⟨S1x4x128, .f32⟩
  | 51 => ⟨S1x8192x128, .f32⟩
  | 52 => ⟨S1x8192x128, .f32⟩
  | 53 => ⟨S1x8192x1x128, .f32⟩
  | 54 => ⟨S_, .f32⟩
  | 55 => ⟨S1x8192x4x128, .f32⟩
  | 56 => ⟨S1x8192x4x128, .f32⟩
  | 57 => ⟨S1x8192x128, .f32⟩
  | 58 => ⟨S1x8192x1x128, .f32⟩
  | 59 => ⟨S_, .f32⟩
  | 60 => ⟨S1x8192x4x128, .f32⟩
  | 61 => ⟨S1x8192x4x128, .f32⟩
  | 62 => ⟨S1x8192x128, .f32⟩
  | 63 => ⟨S1x8192x128, .f32⟩
  | 64 => ⟨S1x8192x128, .f32⟩
  | 65 => ⟨S_, .f32⟩
  | 66 => ⟨S1x8194x128, .f32⟩
  | 67 => ⟨S1x2x128, .f32⟩
  | 68 => ⟨S1x8192x128, .f32⟩
  | 69 => ⟨S1x8192x128, .f32⟩
  | 70 => ⟨S1x8192x1x128, .f32⟩
  | 71 => ⟨S_, .f32⟩
  | 72 => ⟨S1x8192x4x128, .f32⟩
  | 73 => ⟨S1x8192x4x128, .f32⟩
  | 74 => ⟨S_, .f32⟩
  | 75 => ⟨S_, .f32⟩
  | 76 => ⟨S1x8192x4x128, .f32⟩
  | 77 => ⟨S1x8192x4x128, .f32⟩
  | 78 => ⟨S1x8192x512, .f32⟩
  | 79 => ⟨S8192x2048, .bf16⟩
  | 80 => ⟨S8192x512, .f32⟩
  | 81 => ⟨S8192x512, .bf16⟩
  | 82 => ⟨S8192x2560, .bf16⟩
  | 83 => ⟨S1x512, .f32⟩
  | _ => ⟨S8192x2560, .f32⟩

abbrev hbmTy (i : Nat) : BufTy := match i / 128 with
  | 0 => hbmTy0_0 i
  | 1 => hbmTy0_1 i
  | _ => ⟨S8192x2560, .f32⟩

abbrev bufTy : (tb : Table) → Fin (tcTables nBuf tb) → BufTy
  | .hbm, ⟨i, _⟩ => hbmTy i
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_c_8 : Ref sig .tc := ⟨.hbm, 67, rfl⟩
abbrev main_v50 : Ref sig .tc := ⟨.hbm, 68, rfl⟩
abbrev main_v51 : Ref sig .tc := ⟨.hbm, 69, rfl⟩
abbrev main_c_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_c_12 : Ref sig .tc := ⟨.hbm, 89, rfl⟩
abbrev main_v68 : Ref sig .tc := ⟨.hbm, 90, rfl⟩
abbrev main_v69 : Ref sig .tc := ⟨.hbm, 91, rfl⟩
abbrev main_c_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_14 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_15 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_16 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_17 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_18 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_cst_19 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_cst_20 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_cst_21 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_22 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_23 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_24 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_25 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_26 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_cst_27 : Ref sig .tc := ⟨.hbm, 199, rfl⟩
abbrev main_v163 : Ref sig .tc := ⟨.hbm, 200, rfl⟩
abbrev main_v164 : Ref sig .tc := ⟨.hbm, 201, rfl⟩
abbrev main_call1_cst : Ref sig .tc := ⟨.hbm, 202, rfl⟩
abbrev main_call1_v0 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩

abbrev nD : Nat := 1
abbrev τ : Topo := Topo.v7x

variable {F : FTy → Type} [FloatOps F]
-- ==== Kernel7.lean ====
abbrev S16x257 : Shape := ⟨2, ![16, 257]⟩
abbrev S16x256x768 : Shape := ⟨3, ![16, 256, 768]⟩
abbrev S16x8x384 : Shape := ⟨3, ![16, 8, 384]⟩
abbrev S1x256x768 : Shape := ⟨3, ![1, 256, 768]⟩
abbrev S1x8x384 : Shape := ⟨3, ![1, 8, 384]⟩
abbrev S256x256 : Shape := ⟨2, ![256, 256]⟩
abbrev S256x768 : Shape := ⟨2, ![256, 768]⟩
abbrev S256x1024 : Shape := ⟨2, ![256, 1024]⟩
abbrev S1024 : Shape := ⟨1, ![1024]⟩
abbrev S1x1024 : Shape := ⟨2, ![1, 1024]⟩
abbrev S384x1024 : Shape := ⟨2, ![384, 1024]⟩
abbrev S8x1024 : Shape := ⟨2, ![8, 1024]⟩
abbrev S8x384 : Shape := ⟨2, ![8, 384]⟩

abbrev nBuf : Space → Nat
  | .hbm => 3
  | .vmem => 4
  | .smem => 0
  | _ => 0

abbrev bufTy : (tb : Table) → Fin (tcTables nBuf tb) → BufTy
  | .hbm, ⟨0, _⟩ => ⟨S16x257, .f32⟩
  | .hbm, ⟨1, _⟩ => ⟨S16x256x768, .f32⟩
  | .hbm, ⟨2, _⟩ => ⟨S16x8x384, .f32⟩
  | .local _ .vmem, ⟨0, _⟩ => ⟨S1x256x768, .f32⟩
  | .local _ .vmem, ⟨1, _⟩ => ⟨S1x256x768, .f32⟩
  | .local _ .vmem, ⟨2, _⟩ => ⟨S1x8x384, .f32⟩
  | .local _ .vmem, ⟨3, _⟩ => ⟨S1x8x384, .f32⟩
  | _, _ => ⟨S16x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S16x257 : Shape := ⟨2, ![16, 257]⟩
abbrev S16x256x768 : Shape := ⟨3, ![16, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S256x768x1 : Shape := ⟨3, ![256, 768, 1]⟩
abbrev S16x384 : Shape := ⟨2, ![16, 384]⟩
abbrev S16x1x384 : Shape := ⟨3, ![16, 1, 384]⟩
abbrev S16x8x384 : Shape := ⟨3, ![16, 8, 384]⟩

abbrev nBuf : Space → Nat
  | .hbm => 40
  | .vmem => 0
  | .smem => 0
  | _ => 0

abbrev bufTy : (tb : Table) → Fin (tcTables nBuf tb) → BufTy
  | .hbm, ⟨0, _⟩ => ⟨S16x257, .f32⟩
  | .hbm, ⟨1, _⟩ => ⟨S16x256x768, .f32⟩
  | .hbm, ⟨2, _⟩ => ⟨S256, .i32⟩
  | .hbm, ⟨3, _⟩ => ⟨S256x1, .i32⟩
  | .hbm, ⟨4, _⟩ => ⟨S768, .i32⟩
  | .hbm, ⟨5, _⟩ => ⟨S1x768, .i32⟩
  | .hbm, ⟨6, _⟩ => ⟨S_, .i32⟩
  | .hbm, ⟨7, _⟩ => ⟨S256x1, .i32⟩
  | .hbm, ⟨8, _⟩ => ⟨S256x1, .i32⟩
  | .hbm, ⟨9, _⟩ => ⟨S256x768, .i32⟩
  | .hbm, ⟨10, _⟩ => ⟨S256x768, .i32⟩
  | .hbm, ⟨11, _⟩ => ⟨S256x768, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S256x768, .i32⟩
  | .hbm, ⟨16, _⟩ => ⟨S256x768, .i32⟩
  | .hbm, ⟨17, _⟩ => ⟨S_, .i32⟩
  | .hbm, ⟨18, _⟩ => ⟨S256x768, .i32⟩
  | .hbm, ⟨19, _⟩ => ⟨S256x768, .i32⟩
  | .hbm, ⟨20, _⟩ => ⟨S_, .i32⟩
  | .hbm, ⟨21, _⟩ => ⟨S256x768, .i32⟩
  | .hbm, ⟨22, _⟩ => ⟨S256x768, .i32⟩
  | .hbm, ⟨23, _⟩ => ⟨S_, .i32⟩
  | .hbm, ⟨24, _⟩ => ⟨S256x768, .i32⟩
  | .hbm, ⟨25, _⟩ => ⟨S256x768, .i1⟩
  | .hbm, ⟨26, _⟩ => ⟨S_, .i32⟩
  | .hbm, ⟨27, _⟩ => ⟨S256x768, .i32⟩
  | .hbm, ⟨28, _⟩ => ⟨S256x768, .i32⟩
  | .hbm, ⟨29, _⟩ => ⟨S256x768, .i32⟩
  | .hbm, ⟨30, _⟩ => ⟨S256x768x1, .i32⟩
  | .hbm, ⟨31, _⟩ => ⟨S16x256x768, .f32⟩
  | .hbm, ⟨32, _⟩ => ⟨S_, .f32⟩
  | .hbm, ⟨33, _⟩ => ⟨S16x257, .f32⟩
  | .hbm, ⟨34, _⟩ => ⟨S16x257, .f32⟩
  | .hbm, ⟨35, _⟩ => ⟨S_, .i32⟩
  | .hbm, ⟨36, _⟩ => ⟨S_, .f32⟩
  | .hbm, ⟨37, _⟩ => ⟨S16x384, .f32⟩
  | .hbm, ⟨38, _⟩ => ⟨S16x1x384, .f32⟩
  | .hbm, ⟨39, _⟩ => ⟨S16x8x384, .f32⟩
  | _, _ => ⟨S16x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel8.lean ====
abbrev S8192x3072 : Shape := ⟨2, ![8192, 3072]⟩
abbrev S16x257 : Shape := ⟨2, ![16, 257]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S256x768x1 : Shape := ⟨3, ![256, 768, 1]⟩
abbrev S16x256x768 : Shape := ⟨3, ![16, 256, 768]⟩
abbrev S8192x1024 : Shape := ⟨2, ![8192, 1024]⟩
abbrev S256x512 : Shape := ⟨2, ![256, 512]⟩
abbrev S8x256x768 : Shape := ⟨3, ![8, 256, 768]⟩
abbrev S256x128 : Shape := ⟨2, ![256, 128]⟩
abbrev S768x128 : Shape := ⟨2, ![768, 128]⟩
abbrev S1x256x768 : Shape := ⟨3, ![1, 256, 768]⟩

abbrev nBuf : Space → Nat
  | .hbm => 54
  | .vmem => 18
  | .smem => 0
  | _ => 0

abbrev bufTy : (tb : Table) → Fin (tcTables nBuf tb) → BufTy
  | .hbm, ⟨0, _⟩ => ⟨S8192x3072, .bf16⟩
  | .hbm, ⟨1, _⟩ => ⟨S16x257, .f32⟩
  | .hbm, ⟨2, _⟩ => ⟨S256, .i32⟩
  | .hbm, ⟨3, _⟩ => ⟨S256x1, .i32⟩
  | .hbm, ⟨4, _⟩ => ⟨S768, .i32⟩
  | .hbm, ⟨5, _⟩ => ⟨S1x768, .i32⟩
  | .hbm, ⟨6, _⟩ => ⟨S_, .i32⟩
  | .hbm, ⟨7, _⟩ => ⟨S256x1, .i32⟩
  | .hbm, ⟨8, _⟩ => ⟨S256x1, .i32⟩
  | .hbm, ⟨9, _⟩ => ⟨S256x768, .i32⟩
  | .hbm, ⟨10, _⟩ => ⟨S256x768, .i32⟩
  | .hbm, ⟨11, _⟩ => ⟨S256x768, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S256x768, .i32⟩
  | .hbm, ⟨16, _⟩ => ⟨S256x768, .i32⟩
  | .hbm, ⟨17, _⟩ => ⟨S_, .i32⟩
  | .hbm, ⟨18, _⟩ => ⟨S256x768, .i32⟩
  | .hbm, ⟨19, _⟩ => ⟨S256x768, .i32⟩
  | .hbm, ⟨20, _⟩ => ⟨S_, .i32⟩
  | .hbm, ⟨21, _⟩ => ⟨S256x768, .i32⟩
  | .hbm, ⟨22, _⟩ => ⟨S256x768, .i32⟩
  | .hbm, ⟨23, _⟩ => ⟨S_, .i32⟩
  | .hbm, ⟨24, _⟩ => ⟨S1x768, .i32⟩
  | .hbm, ⟨25, _⟩ => ⟨S1x768, .i32⟩
  | .hbm, ⟨26, _⟩ => ⟨S_, .i32⟩
  | .hbm, ⟨27, _⟩ => ⟨S256x1, .i32⟩
  | .hbm, ⟨28, _⟩ => ⟨S256x1, .i32⟩
  | .hbm, ⟨29, _⟩ => ⟨S256x768, .i32⟩
  | .hbm, ⟨30, _⟩ => ⟨S256x768, .i32⟩
  | .hbm, ⟨31, _⟩ => ⟨S256x768, .i32⟩
  | .hbm, ⟨32, _⟩ => ⟨S_, .i32⟩
  | .hbm, ⟨33, _⟩ => ⟨S256x768, .i32⟩
  | .hbm, ⟨34, _⟩ => ⟨S256x768, .i1⟩
  | .hbm, ⟨35, _⟩ => ⟨S_, .i32⟩
  | .hbm, ⟨36, _⟩ => ⟨S256x768, .i32⟩
  | .hbm, ⟨37, _⟩ => ⟨S256x768, .i1⟩
  | .hbm, ⟨38, _⟩ => ⟨S256x768, .i1⟩
  | .hbm, ⟨39, _⟩ => ⟨S_, .i32⟩
  | .hbm, ⟨40, _⟩ => ⟨S256x768, .i32⟩
  | .hbm, ⟨41, _⟩ => ⟨S256x768, .i1⟩
  | .hbm, ⟨42, _⟩ => ⟨S_, .i32⟩
  | .hbm, ⟨43, _⟩ => ⟨S256x768, .i32⟩
  | .hbm, ⟨44, _⟩ => ⟨S256x768, .i32⟩
  | .hbm, ⟨45, _⟩ => ⟨S256x768, .i32⟩
  | .hbm, ⟨46, _⟩ => ⟨S256x768x1, .i32⟩
  | .hbm, ⟨47, _⟩ => ⟨S16x256x768, .f32⟩
  | .hbm, ⟨48, _⟩ => ⟨S_, .f32⟩
  | .hbm, ⟨49, _⟩ => ⟨S_, .f32⟩
  | .hbm, ⟨50, _⟩ => ⟨S16x256x768, .i1⟩
  | .hbm, ⟨51, _⟩ => ⟨S16x256x768, .f32⟩
  | .hbm, ⟨52, _⟩ => ⟨S16x256x768, .f32⟩
  | .hbm, ⟨53, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S8x256x768, .f32⟩
  | .local _ .vmem, ⟨15, _⟩ => ⟨S8x256x768, .f32⟩
  | .local _ .vmem, ⟨16, _⟩ => ⟨S256x512, .bf16⟩
  | .local _ .vmem, ⟨17, _⟩ => ⟨S256x512, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_v32 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32 : BitVec 32 := 0#32
  let v5 : BitVec 1 := Scalar.cmpi .ne v4 c0_i32
  v5

def k0_cond2 (i : grid0.Coords) : BitVec 1 :=
  let arg1 : BitVec 32 := BitVec.ofNat 32 (i 1).val
  let c2_i32_0 : BitVec 32 := 2#32
  let v6 : BitVec 1 := Scalar.cmpi .sge arg1 c2_i32_0
  let v7 : BitVec 32 := Scalar.extui v6
  let c0_i32_1 : BitVec 32 := 0#32
  let v8 : BitVec 1 := Scalar.cmpi .ne v7 c0_i32_1
  v8

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.subi v0 c0_i32
  let c0_i32_0 : BitVec 32 := 0#32
  let v2 : BitVec 32 := Scalar.maxsi v1 c0_i32_0
  let c0_i32_1 : BitVec 32 := 0#32
  let v3 : BitVec 32 := Scalar.addi c0_i32_1 arg0
  let c0_i32_2 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c2_i32 : BitVec 32 := 2#32
  let v1 : BitVec 32 := Scalar.subi v0 c2_i32
  let c0_i32 : BitVec 32 := 0#32
  let v2 : BitVec 32 := Scalar.maxsi v1 c0_i32
  let c2_i32_0 : BitVec 32 := 2#32
  let v3 : BitVec 32 := Scalar.addi c2_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.subi v0 c0_i32
  let c0_i32_0 : BitVec 32 := 0#32
  let v2 : BitVec 32 := Scalar.maxsi v1 c0_i32_0
  let c2_i32 : BitVec 32 := 2#32
  let v3 : BitVec 32 := Scalar.addi c2_i32 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c2_i32 : BitVec 32 := 2#32
  let v1 : BitVec 32 := Scalar.subi v0 c2_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.subi v0 c0_i32
  let c0_i32_0 : BitVec 32 := 0#32
  let v2 : BitVec 32 := Scalar.maxsi v1 c0_i32_0
  let c4_i32 : BitVec 32 := 4#32
  let v3 : BitVec 32 := Scalar.addi c4_i32 arg0
  let c0_i32_1 : BitVec 32 := 0#32
  ![v2.toNat, v3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel8Ideal.lean ====
variable {F : FTy → Type} [FloatOps F] [Named F]
def κ : String → Option EReal := fun
  | "mask" => some ⊥
  | _ => none
-- ==== Reference8Ideal.lean ====
abbrev S8192x3072 : Shape := ⟨2, ![8192, 3072]⟩
abbrev S16x257 : Shape := ⟨2, ![16, 257]⟩
abbrev S8192x1024 : Shape := ⟨2, ![8192, 1024]⟩
abbrev S8192x16x64 : Shape := ⟨3, ![8192, 16, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S16x8192x8192 : Shape := ⟨3, ![16, 8192, 8192]⟩
abbrev S8192x8192x1 : Shape := ⟨3, ![8192, 8192, 1]⟩
abbrev S16x8192 : Shape := ⟨2, ![16, 8192]⟩
abbrev S16x8192x1 : Shape := ⟨3, ![16, 8192, 1]⟩
abbrev S16x64x8192 : Shape := ⟨3, ![16, 64, 8192]⟩

abbrev nBuf : Space → Nat
  | .hbm => 80
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S16x257, .f32⟩
  | .hbm, ⟨2, _⟩ => ⟨S8192x3072, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x16x64, .f32⟩
  | .hbm, ⟨7, _⟩ => ⟨S8192x16x64, .f32⟩
  | .hbm, ⟨8, _⟩ => ⟨S8192x16x64, .f32⟩
  | .hbm, ⟨9, _⟩ => ⟨S8192, .i32⟩
  | .hbm, ⟨10, _⟩ => ⟨S8192x1, .i32⟩
  | .hbm, ⟨11, _⟩ => ⟨S8192, .i32⟩
  | .hbm, ⟨12, _⟩ => ⟨S1x8192, .i32⟩
  | .hbm, ⟨13, _⟩ => ⟨S8192x8192, .i32⟩
  | .hbm, ⟨14, _⟩ => ⟨S8192x8192, .i32⟩
  | .hbm, ⟨15, _⟩ => ⟨S8192x8192, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S_, .f32⟩
  | .hbm, ⟨28, _⟩ => ⟨S8192x16x64, .f32⟩
  | .hbm, ⟨29, _⟩ => ⟨S8192x16x64, .f32⟩
  | .hbm, ⟨30, _⟩ => ⟨S16x8192x8192, .f32⟩
  | .hbm, ⟨31, _⟩ => ⟨S_, .i32⟩
  | .hbm, ⟨32, _⟩ => ⟨S8192x8192, .i32⟩
  | .hbm, ⟨33, _⟩ => ⟨S8192x8192, .i1⟩
  | .hbm, ⟨34, _⟩ => ⟨S_, .i32⟩
  | .hbm, ⟨35, _⟩ => ⟨S8192x8192, .i32⟩
  | .hbm, ⟨36, _⟩ => ⟨S8192x8192, .i32⟩
  | .hbm, ⟨37, _⟩ => ⟨S8192x8192, .i32⟩
  | .hbm, ⟨38, _⟩ => ⟨S8192x8192x1, .i32⟩
  | .hbm, ⟨39, _⟩ => ⟨S16x8192x8192, .f32⟩
  | .hbm, ⟨40, _⟩ => ⟨S16x8192x8192, .f32⟩
  | .hbm, ⟨41, _⟩ => ⟨S_, .i32⟩
  | .hbm, ⟨42, _⟩ => ⟨S8192x1, .i32⟩
  | .hbm, ⟨43, _⟩ => ⟨S8192x1, .i32⟩
  | .hbm, ⟨44, _⟩ => ⟨S_, .i32⟩
  | .hbm, ⟨45, _⟩ => ⟨S1x8192, .i32⟩
  | .hbm, ⟨46, _⟩ => ⟨S1x8192, .i32⟩
  | .hbm, ⟨47, _⟩ => ⟨S8192x8192, .i32⟩
  | .hbm, ⟨48, _⟩ => ⟨S8192x8192, .i32⟩
  | .hbm, ⟨49, _⟩ => ⟨S8192x8192, .i32⟩
  | .hbm, ⟨50, _⟩ => ⟨S_, .i32⟩
  | .hbm, ⟨51, _⟩ => ⟨S8192x8192, .i32⟩
  | .hbm, ⟨52, _⟩ => ⟨S8192x8192, .i1⟩
  | .hbm, ⟨53, _⟩ => ⟨S_, .i32⟩
  | .hbm, ⟨54, _⟩ => ⟨S8192x8192, .i32⟩
  | .hbm, ⟨55, _⟩ => ⟨S8192x8192, .i1⟩
  | .hbm, ⟨56, _⟩ => ⟨S8192x8192, .i1⟩
  | .hbm, ⟨57, _⟩ => ⟨S_, .f32⟩
  | .hbm, ⟨58, _⟩ => ⟨S_, .f32⟩
  | .hbm, ⟨59, _⟩ => ⟨S16x8192x8192, .i1⟩
  | .hbm, ⟨60, _⟩ => ⟨S16x8192x8192, .f32⟩
  | .hbm, ⟨61, _⟩ => ⟨S16x8192x8192, .f32⟩
  | .hbm, ⟨62, _⟩ => ⟨S_, .f32⟩
  | .hbm, ⟨63, _⟩ => ⟨S16x8192, .f32⟩
  | .hbm, ⟨64, _⟩ => ⟨S_, .f32⟩
  | .hbm, ⟨65, _⟩ => ⟨S16x8192, .f32⟩
  | .hbm, ⟨66, _⟩ => ⟨S16x8192, .f32⟩
  | .hbm, ⟨67, _⟩ => ⟨S16x8192x1, .f32⟩
  | .hbm, ⟨68, _⟩ => ⟨S16x8192x8192, .f32⟩
  | .hbm, ⟨69, _⟩ => ⟨S16x8192x8192, .f32⟩
  | .hbm, ⟨70, _⟩ => ⟨S16x8192x8192, .f32⟩
  | .hbm, ⟨71, _⟩ => ⟨S_, .f32⟩
  | .hbm, ⟨72, _⟩ => ⟨S16x8192, .f32⟩
  | .hbm, ⟨73, _⟩ => ⟨S16x8192x1, .f32⟩
  | .hbm, ⟨74, _⟩ => ⟨S16x8192x8192, .f32⟩
  | .hbm, ⟨75, _⟩ => ⟨S16x8192x8192, .f32⟩
  | .hbm, ⟨76, _⟩ => ⟨S16x64x8192, .f32⟩
  | .hbm, ⟨77, _⟩ => ⟨S8192x16x64, .f32⟩
  | .hbm, ⟨78, _⟩ => ⟨S8192x1024, .f32⟩
  | .hbm, ⟨79, _⟩ => ⟨S8192x1024, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_c_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S1x1024 : Shape := ⟨2, ![1, 1024]⟩
abbrev S1024x8x512 : Shape := ⟨3, ![1024, 8, 512]⟩
abbrev S8x1024x512 : Shape := ⟨3, ![8, 1024, 512]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S1x1024, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S1024x1024, .bf16⟩
  | .hbm, ⟨10, _⟩ => ⟨S8192x1024, .f32⟩
  | .hbm, ⟨11, _⟩ => ⟨S8192x1024, .bf16⟩
  | .hbm, ⟨12, _⟩ => ⟨S8192x4096, .bf16⟩
  | .hbm, ⟨13, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S8x1024x512, .bf16⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x4096, .bf16⟩
  | .local _ .vmem, ⟨12, _⟩ => ⟨S512x4096, .bf16⟩
  | .local _ .vmem, ⟨13, _⟩ => ⟨S512x4096, .bf16⟩
  | .local _ .vmem, ⟨14, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S8192x1024 : Shape := ⟨2, ![8192, 1024]⟩
abbrev S1024x1024 : Shape := ⟨2, ![1024, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x4096, .f32⟩
  | .hbm, ⟨25, _⟩ => ⟨S8192x1024, .bf16⟩
  | .hbm, ⟨26, _⟩ => ⟨S8192x4096, .bf16⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel10.lean ====
abbrev S8192x1024 : Shape := ⟨2, ![8192, 1024]⟩
abbrev S1024 : Shape := ⟨1, ![1024]⟩
abbrev S1024x3072 : Shape := ⟨2, ![1024, 3072]⟩
abbrev S1x1024 : Shape := ⟨2, ![1, 1024]⟩
abbrev S1024x8x384 : Shape := ⟨3, ![1024, 8, 384]⟩
abbrev S8x1024x384 : Shape := ⟨3, ![8, 1024, 384]⟩
abbrev S8192x3072 : Shape := ⟨2, ![8192, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x1024x384 : Shape := ⟨3, ![1, 1024, 384]⟩
abbrev S1024x384 : Shape := ⟨2, ![1024, 384]⟩
abbrev S1024x768 : Shape := ⟨2, ![1024, 768]⟩
abbrev S512x768 : Shape := ⟨2, ![512, 768]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S1024x8x384, .bf16⟩
  | .hbm, ⟨6, _⟩ => ⟨S8x1024x384, .bf16⟩
  | .hbm, ⟨7, _⟩ => ⟨S8192x1024, .bf16⟩
  | .hbm, ⟨8, _⟩ => ⟨S8192x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x384, .bf16⟩
  | .local _ .vmem, ⟨4, _⟩ => ⟨S512x1024, .bf16⟩
  | .local _ .vmem, ⟨5, _⟩ => ⟨S512x1024, .bf16⟩
  | .local _ .vmem, ⟨6, _⟩ => ⟨S512x3072, .bf16⟩
  | .local _ .vmem, ⟨7, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x3072, .f32⟩
  | .hbm, ⟨21, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S1024x2560 : Shape := ⟨2, ![1024, 2560]⟩
abbrev S1x1024 : Shape := ⟨2, ![1, 1024]⟩
abbrev S1x1024x2560 : Shape := ⟨3, ![1, 1024, 2560]⟩
abbrev S1x1024x1024 : Shape := ⟨3, ![1, 1024, 1024]⟩
abbrev S1x1024x8x64x2 : Shape := ⟨5, ![1, 1024, 8, 64, 2]⟩
abbrev S1x1024x8x2x64 : Shape := ⟨5, ![1, 1024, 8, 2, 64]⟩
abbrev S1x1024x1536 : Shape := ⟨3, ![1, 1024, 1536]⟩
abbrev S8192x2560 : Shape := ⟨2, ![8192, 2560]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 14
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S1x1024, .f32⟩
  | .hbm, ⟨4, _⟩ => ⟨S1024x2560, .bf16⟩
  | .hbm, ⟨5, _⟩ => ⟨S1x1024x2560, .bf16⟩
  | .hbm, ⟨6, _⟩ => ⟨S1x1024x1024, .bf16⟩
  | .hbm, ⟨7, _⟩ => ⟨S1x1024x8x64x2, .bf16⟩
  | .hbm, ⟨8, _⟩ => ⟨S1x1024x8x2x64, .bf16⟩
  | .hbm, ⟨9, _⟩ => ⟨S1x1024x1024, .bf16⟩
  | .hbm, ⟨10, _⟩ => ⟨S1x1024x1536, .bf16⟩
  | .hbm, ⟨11, _⟩ => ⟨S1x1024x2560, .bf16⟩
  | .hbm, ⟨12, _⟩ => ⟨S8192x1024, .bf16⟩
  | .hbm, ⟨13, _⟩ => ⟨S8192x2560, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2560, .bf16⟩
  | .local _ .vmem, ⟨4, _⟩ => ⟨S512x1024, .bf16⟩
  | .local _ .vmem, ⟨5, _⟩ => ⟨S512x1024, .bf16⟩
  | .local _ .vmem, ⟨6, _⟩ => ⟨S512x2560, .f32⟩
  | .local _ .vmem, ⟨7, _⟩ => ⟨S512x2560, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8192x1024 : Shape := ⟨2, ![8192, 1024]⟩
abbrev S1024 : Shape := ⟨1, ![1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2560 : Shape := ⟨2, ![8192, 2560]⟩
abbrev S8192x128 : Shape := ⟨2, ![8192, 128]⟩
abbrev S8192x64 : Shape := ⟨2, ![8192, 64]⟩
abbrev S8192x1536 : Shape := ⟨2, ![8192, 1536]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2560, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2560, .f32⟩
  | .hbm, ⟨20, _⟩ => ⟨S8192x128, .f32⟩
  | .hbm, ⟨21, _⟩ => ⟨S8192x64, .f32⟩
  | .hbm, ⟨22, _⟩ => ⟨S8192x64, .f32⟩
  | .hbm, ⟨23, _⟩ => ⟨S8192x128, .f32⟩
  | .hbm, ⟨24, _⟩ => ⟨S8192x128, .f32⟩
  | .hbm, ⟨25, _⟩ => ⟨S8192x64, .f32⟩
  | .hbm, ⟨26, _⟩ => ⟨S8192x64, .f32⟩
  | .hbm, ⟨27, _⟩ => ⟨S8192x128, .f32⟩
  | .hbm, ⟨28, _⟩ => ⟨S8192x128, .f32⟩
  | .hbm, ⟨29, _⟩ => ⟨S8192x64, .f32⟩
  | .hbm, ⟨30, _⟩ => ⟨S8192x64, .f32⟩
  | .hbm, ⟨31, _⟩ => ⟨S8192x128, .f32⟩
  | .hbm, ⟨32, _⟩ => ⟨S8192x128, .f32⟩
  | .hbm, ⟨33, _⟩ => ⟨S8192x64, .f32⟩
  | .hbm, ⟨34, _⟩ => ⟨S8192x64, .f32⟩
  | .hbm, ⟨35, _⟩ => ⟨S8192x128, .f32⟩
  | .hbm, ⟨36, _⟩ => ⟨S8192x128, .f32⟩
  | .hbm, ⟨37, _⟩ => ⟨S8192x64, .f32⟩
  | .hbm, ⟨38, _⟩ => ⟨S8192x64, .f32⟩
  | .hbm, ⟨39, _⟩ => ⟨S8192x128, .f32⟩
  | .hbm, ⟨40, _⟩ => ⟨S8192x128, .f32⟩
  | .hbm, ⟨41, _⟩ => ⟨S8192x64, .f32⟩
  | .hbm, ⟨42, _⟩ => ⟨S8192x64, .f32⟩
  | .hbm, ⟨43, _⟩ => ⟨S8192x128, .f32⟩
  | .hbm, ⟨44, _⟩ => ⟨S8192x128, .f32⟩
  | .hbm, ⟨45, _⟩ => ⟨S8192x64, .f32⟩
  | .hbm, ⟨46, _⟩ => ⟨S8192x64, .f32⟩
  | .hbm, ⟨47, _⟩ => ⟨S8192x128, .f32⟩
  | .hbm, ⟨48, _⟩ => ⟨S8192x128, .f32⟩
  | .hbm, ⟨49, _⟩ => ⟨S8192x64, .f32⟩
  | .hbm, ⟨50, _⟩ => ⟨S8192x64, .f32⟩
  | .hbm, ⟨51, _⟩ => ⟨S8192x128, .f32⟩
  | .hbm, ⟨52, _⟩ => ⟨S8192x1024, .bf16⟩
  | .hbm, ⟨53, _⟩ => ⟨S8192x1536, .f32⟩
  | .hbm, ⟨54, _⟩ => ⟨S8192x2560, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩

abbrev nD : Nat := 1
abbrev τ : Topo := Topo.v7x

variable {F : FTy → Type} [FloatOps F]
-- ==== Kernel12.lean ====
abbrev S8192x4096 : Shape := ⟨2, ![8192, 4096]⟩
abbrev S4096x1024 : Shape := ⟨2, ![4096, 1024]⟩
abbrev S8192x1024 : Shape := ⟨2, ![8192, 1024]⟩
abbrev S512x4096 : Shape := ⟨2, ![512, 4096]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S4096x1024, .bf16⟩
  | .hbm, ⟨4, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S8192x4096, .f32⟩
  | .hbm, ⟨4, _⟩ => ⟨S8192x1024, .f32⟩
  | .hbm, ⟨5, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S16x257 : Shape := ⟨2, ![16, 257]⟩
abbrev S_ : Shape := ⟨0, ![]⟩
abbrev S16x384 : Shape := ⟨2, ![16, 384]⟩
abbrev S16x1x384 : Shape := ⟨3, ![16, 1, 384]⟩
abbrev S16x8x384 : Shape := ⟨3, ![16, 8, 384]⟩
abbrev S16x256x768 : Shape := ⟨3, ![16, 256, 768]⟩
abbrev S1x8x384 : Shape := ⟨3, ![1, 8, 384]⟩
abbrev S1x256x768 : Shape := ⟨3, ![1, 256, 768]⟩
abbrev S384x1024 : Shape := ⟨2, ![384, 1024]⟩
abbrev S8x384 : Shape := ⟨2, ![8, 384]⟩
abbrev S8x1024 : Shape := ⟨2, ![8, 1024]⟩
abbrev S1x1024 : Shape := ⟨2, ![1, 1024]⟩
abbrev S256x1024 : Shape := ⟨2, ![256, 1024]⟩
abbrev S256x768 : Shape := ⟨2, ![256, 768]⟩

abbrev nBuf : Space → Nat
  | .hbm => 7
  | .vmem => 4
  | .smem => 0
  | _ => 0

abbrev bufTy : (tb : Table) → Fin (tcTables nBuf tb) → BufTy
  | .hbm, ⟨0, _⟩ => ⟨S16x257, .f32⟩
  | .hbm, ⟨1, _⟩ => ⟨S_, .i32⟩
  | .hbm, ⟨2, _⟩ => ⟨S_, .f32⟩
  | .hbm, ⟨3, _⟩ => ⟨S16x384, .f32⟩
  | .hbm, ⟨4, _⟩ => ⟨S16x1x384, .f32⟩
  | .hbm, ⟨5, _⟩ => ⟨S16x8x384, .f32⟩
  | .hbm, ⟨6, _⟩ => ⟨S16x256x768, .f32⟩
  | .local _ .vmem, ⟨0, _⟩ => ⟨S1x8x384, .f32⟩
  | .local _ .vmem, ⟨1, _⟩ => ⟨S1x8x384, .f32⟩
  | .local _ .vmem, ⟨2, _⟩ => ⟨S1x256x768, .f32⟩
  | .local _ .vmem, ⟨3, _⟩ => ⟨S1x256x768, .f32⟩
  | _, _ => ⟨S16x257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S16x257 : Shape := ⟨2, ![16, 257]⟩
abbrev S768 : Shape := ⟨1, ![768]⟩
abbrev S1x768 : Shape := ⟨2, ![1, 768]⟩
abbrev S_ : Shape := ⟨0, ![]⟩
abbrev S256 : Shape := ⟨1, ![256]⟩
abbrev S256x1 : Shape := ⟨2, ![256, 1]⟩
abbrev S256x768 : Shape := ⟨2, ![256, 768]⟩
abbrev S256x768x1 : Shape := ⟨3, ![256, 768, 1]⟩
abbrev S16x256x768 : Shape := ⟨3, ![16, 256, 768]⟩

abbrev nBuf : Space → Nat
  | .hbm => 56
  | .vmem => 0
  | .smem => 0
  | _ => 0

abbrev bufTy : (tb : Table) → Fin (tcTables nBuf tb) → BufTy
  | .hbm, ⟨0, _⟩ => ⟨S16x257, .f32⟩
  | .hbm, ⟨1, _⟩ => ⟨S768, .i32⟩
  | .hbm, ⟨2, _⟩ => ⟨S1x768, .i32⟩
  | .hbm, ⟨3, _⟩ => ⟨S_, .i32⟩
  | .hbm, ⟨4, _⟩ => ⟨S1x768, .i32⟩
  | .hbm, ⟨5, _⟩ => ⟨S1x768, .i32⟩
  | .hbm, ⟨6, _⟩ => ⟨S256, .i32⟩
  | .hbm, ⟨7, _⟩ => ⟨S256x1, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S256x768, .i32⟩
  | .hbm, ⟨12, _⟩ => ⟨S256x768, .i32⟩
  | .hbm, ⟨13, _⟩ => ⟨S256x768, .i32⟩
  | .hbm, ⟨14, _⟩ => ⟨S_, .i32⟩
  | .hbm, ⟨15, _⟩ => ⟨S256x768, .i32⟩
  | .hbm, ⟨16, _⟩ => ⟨S256x768, .i1⟩
  | .hbm, ⟨17, _⟩ => ⟨S_, .i32⟩
  | .hbm, ⟨18, _⟩ => ⟨S256x768, .i32⟩
  | .hbm, ⟨19, _⟩ => ⟨S256x768, .i1⟩
  | .hbm, ⟨20, _⟩ => ⟨S256x768, .i1⟩
  | .hbm, ⟨21, _⟩ => ⟨S256, .i32⟩
  | .hbm, ⟨22, _⟩ => ⟨S256x1, .i32⟩
  | .hbm, ⟨23, _⟩ => ⟨S768, .i32⟩
  | .hbm, ⟨24, _⟩ => ⟨S1x768, .i32⟩
  | .hbm, ⟨25, _⟩ => ⟨S_, .i32⟩
  | .hbm, ⟨26, _⟩ => ⟨S256x1, .i32⟩
  | .hbm, ⟨27, _⟩ => ⟨S256x1, .i32⟩
  | .hbm, ⟨28, _⟩ => ⟨S256x768, .i32⟩
  | .hbm, ⟨29, _⟩ => ⟨S256x768, .i32⟩
  | .hbm, ⟨30, _⟩ => ⟨S256x768, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S256x768, .i32⟩
  | .hbm, ⟨35, _⟩ => ⟨S256x768, .i32⟩
  | .hbm, ⟨36, _⟩ => ⟨S_, .i32⟩
  | .hbm, ⟨37, _⟩ => ⟨S256x768, .i32⟩
  | .hbm, ⟨38, _⟩ => ⟨S256x768, .i32⟩
  | .hbm, ⟨39, _⟩ => ⟨S_, .i32⟩
  | .hbm, ⟨40, _⟩ => ⟨S256x768, .i32⟩
  | .hbm, ⟨41, _⟩ => ⟨S256x768, .i32⟩
  | .hbm, ⟨42, _⟩ => ⟨S_, .i32⟩
  | .hbm, ⟨43, _⟩ => ⟨S256x768, .i32⟩
  | .hbm, ⟨44, _⟩ => ⟨S256x768, .i1⟩
  | .hbm, ⟨45, _⟩ => ⟨S_, .i32⟩
  | .hbm, ⟨46, _⟩ => ⟨S256x768, .i32⟩
  | .hbm, ⟨47, _⟩ => ⟨S256x768, .i32⟩
  | .hbm, ⟨48, _⟩ => ⟨S256x768, .i32⟩
  | .hbm, ⟨49, _⟩ => ⟨S256x768x1, .i32⟩
  | .hbm, ⟨50, _⟩ => ⟨S16x256x768, .f32⟩
  | .hbm, ⟨51, _⟩ => ⟨S_, .f32⟩
  | .hbm, ⟨52, _⟩ => ⟨S_, .f32⟩
  | .hbm, ⟨53, _⟩ => ⟨S16x256x768, .i1⟩
  | .hbm, ⟨54, _⟩ => ⟨S16x256x768, .f32⟩
  | .hbm, ⟨55, _⟩ => ⟨S16x256x768, .f32⟩
  | _, _ => ⟨S16x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_c_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_4 : Ref sig .tc := ⟨.hbm, 31, rfl⟩
abbrev main_c_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v25 : Ref sig .tc := ⟨.hbm, 38, rfl⟩
abbrev main_c_6 : Ref sig .tc := ⟨.hbm, 39, rfl⟩
abbrev main_v26 : Ref sig .tc := ⟨.hbm, 40, rfl⟩
abbrev main_v27 : Ref sig .tc := ⟨.hbm, 41, rfl⟩
abbrev main_c_7 : Ref sig .tc := ⟨.hbm, 42, rfl⟩
abbrev main_v28 : Ref sig .tc := ⟨.hbm, 43, rfl⟩
abbrev main_v29 : Ref sig .tc := ⟨.hbm, 44, rfl⟩
abbrev main_c_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel14.lean ====
abbrev S8192x2560 : Shape := ⟨2, ![8192, 2560]⟩
abbrev S4x128x128 : Shape := ⟨3, ![4, 128, 128]⟩
abbrev S512 : Shape := ⟨1, ![512]⟩
abbrev S1x512 : Shape := ⟨2, ![1, 512]⟩
abbrev S8192x512 : Shape := ⟨2, ![8192, 512]⟩
abbrev S512x512 : Shape := ⟨2, ![512, 512]⟩
abbrev S16x512 : Shape := ⟨2, ![16, 512]⟩
abbrev S528x512 : Shape := ⟨2, ![528, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x2560, .f32⟩
  | .hbm, ⟨1, _⟩ => ⟨S4x128x128, .f32⟩
  | .hbm, ⟨2, _⟩ => ⟨S512, .f32⟩
  | .hbm, ⟨3, _⟩ => ⟨S1x512, .f32⟩
  | .hbm, ⟨4, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S4x128x128, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S8192x2560 : Shape := ⟨2, ![8192, 2560]⟩
abbrev S4x128x128 : Shape := ⟨3, ![4, 128, 128]⟩
abbrev S512 : Shape := ⟨1, ![512]⟩
abbrev S8192x512 : Shape := ⟨2, ![8192, 512]⟩
abbrev S1x8192x512 : Shape := ⟨3, ![1, 8192, 512]⟩
abbrev S1x8192x4x128 : Shape := ⟨4, ![1, 8192, 4, 128]⟩
abbrev S_ : Shape := ⟨0, ![]⟩
abbrev S8192 : Shape := ⟨1, ![8192]⟩
abbrev S1x8192x1x128 : Shape := ⟨4, ![1, 8192, 1, 128]⟩
abbrev S1x8192x128 : Shape := ⟨3, ![1, 8192, 128]⟩
abbrev S1x2x128 : Shape := ⟨3, ![1, 2, 128]⟩
abbrev S1x8194x128 : Shape := ⟨3, ![1, 8194, 128]⟩
abbrev S1x8192x1 : Shape := ⟨3, ![1, 8192, 1]⟩
abbrev S1x4x128 : Shape := ⟨3, ![1, 4, 128]⟩
abbrev S1x8196x128 : Shape := ⟨3, ![1, 8196, 128]⟩
abbrev S1x8x128 : Shape := ⟨3, ![1, 8, 128]⟩
abbrev S1x8200x128 : Shape := ⟨3, ![1, 8200, 128]⟩
abbrev S1x16x128 : Shape := ⟨3, ![1, 16, 128]⟩
abbrev S1x8208x128 : Shape := ⟨3, ![1, 8208, 128]⟩
abbrev S4x128x1x8192 : Shape := ⟨4, ![4, 128, 1, 8192]⟩
abbrev S1x1x512 : Shape := ⟨3, ![1, 1, 512]⟩

abbrev nBuf : Space → Nat
  | .hbm => 103
  | .vmem => 0
  | .smem => 0
  | _ => 0

abbrev bufTy : (tb : Table) → Fin (tcTables nBuf tb) → BufTy
  | .hbm, ⟨0, _⟩ => ⟨S8192x2560, .f32⟩
  | .hbm, ⟨1, _⟩ => ⟨S4x128x128, .f32⟩
  | .hbm, ⟨2, _⟩ => ⟨S512, .f32⟩
  | .hbm, ⟨3, _⟩ => ⟨S8192x512, .f32⟩
  | .hbm, ⟨4, _⟩ => ⟨S1x8192x512, .f32⟩
  | .hbm, ⟨5, _⟩ => ⟨S1x8192x4x128, .f32⟩
  | .hbm, ⟨6, _⟩ => ⟨S_, .f32⟩
  | .hbm, ⟨7, _⟩ => ⟨S_, .f32⟩
  | .hbm, ⟨8, _⟩ => ⟨S1x8192x4x128, .f32⟩
  | .hbm, ⟨9, _⟩ => ⟨S8192, .i32⟩
  | .hbm, ⟨10, _⟩ => ⟨S1x8192x1x128, .f32⟩
  | .hbm, ⟨11, _⟩ => ⟨S1x8192x128, .f32⟩
  | .hbm, ⟨12, _⟩ => ⟨S_, .f32⟩
  | .hbm, ⟨13, _⟩ => ⟨S1x2x128, .f32⟩
  | .hbm, ⟨14, _⟩ => ⟨S1x8194x128, .f32⟩
  | .hbm, ⟨15, _⟩ => ⟨S1x8192x128, .f32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .f32⟩
  | .hbm, ⟨23, _⟩ => ⟨S1x8192x1, .f32⟩
  | .hbm, ⟨24, _⟩ => ⟨S1x8192x128, .f32⟩
  | .hbm, ⟨25, _⟩ => ⟨S1x8192x128, .f32⟩
  | .hbm, ⟨26, _⟩ => ⟨S1x8192x128, .f32⟩
  | .hbm, ⟨27, _⟩ => ⟨S1x8192x1x128, .f32⟩
  | .hbm, ⟨28, _⟩ => ⟨S1x8192x128, .f32⟩
  | .hbm, ⟨29, _⟩ => ⟨S1x8192x128, .f32⟩
  | .hbm, ⟨30, _⟩ => ⟨S1x8192x1x128, .f32⟩
  | .hbm, ⟨31, _⟩ => ⟨S1x8192x128, .f32⟩
  | .hbm, ⟨32, _⟩ => ⟨S_, .f32⟩
  | .hbm, ⟨33, _⟩ => ⟨S1x4x128, .f32⟩
  | .hbm, ⟨34, _⟩ => ⟨S1x8196x128, .f32⟩
  | .hbm, ⟨35, _⟩ => ⟨S1x8192x128, .f32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .f32⟩
  | .hbm, ⟨43, _⟩ => ⟨S1x8192x1, .f32⟩
  | .hbm, ⟨44, _⟩ => ⟨S1x8192x128, .f32⟩
  | .hbm, ⟨45, _⟩ => ⟨S1x8192x128, .f32⟩
  | .hbm, ⟨46, _⟩ => ⟨S1x8192x128, .f32⟩
  | .hbm, ⟨47, _⟩ => ⟨S1x8192x1x128, .f32⟩
  | .hbm, ⟨48, _⟩ => ⟨S1x8192x128, .f32⟩
  | .hbm, ⟨49, _⟩ => ⟨S1x8192x128, .f32⟩
  | .hbm, ⟨50, _⟩ => ⟨S1x8192x1x128, .f32⟩
  | .hbm, ⟨51, _⟩ => ⟨S1x8192x128, .f32⟩
  | .hbm, ⟨52, _⟩ => ⟨S_, .f32⟩
  | .hbm, ⟨53, _⟩ => ⟨S1x8x128, .f32⟩
  | .hbm, ⟨54, _⟩ => ⟨S1x8200x128, .f32⟩
  | .hbm, ⟨55, _⟩ => ⟨S1x8192x128, .f32⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S8192, .f32⟩
  | .hbm, ⟨63, _⟩ => ⟨S1x8192x1, .f32⟩
  | .hbm, ⟨64, _⟩ => ⟨S1x8192x128, .f32⟩
  | .hbm, ⟨65, _⟩ => ⟨S1x8192x128, .f32⟩
  | .hbm, ⟨66, _⟩ => ⟨S1x8192x128, .f32⟩
  | .hbm, ⟨67, _⟩ => ⟨S1x8192x1x128, .f32⟩
  | .hbm, ⟨68, _⟩ => ⟨S1x8192x128, .f32⟩
  | .hbm, ⟨69, _⟩ => ⟨S1x8192x128, .f32⟩
  | .hbm, ⟨70, _⟩ => ⟨S1x8192x1x128, .f32⟩
  | .hbm, ⟨71, _⟩ => ⟨S1x8192x128, .f32⟩
  | .hbm, ⟨72, _⟩ => ⟨S_, .f32⟩
  | .hbm, ⟨73, _⟩ => ⟨S1x16x128, .f32⟩
  | .hbm, ⟨74, _⟩ => ⟨S1x8208x128, .f32⟩
  | .hbm, ⟨75, _⟩ => ⟨S1x8192x128, .f32⟩
  | .hbm, ⟨76, _⟩ => ⟨S_, .i32⟩
  | .hbm, ⟨77, _⟩ => ⟨S8192, .i32⟩
  | .hbm, ⟨78, _⟩ => ⟨S8192, .i32⟩
  | .hbm, ⟨79, _⟩ => ⟨S_, .i32⟩
  | .hbm, ⟨80, _⟩ => ⟨S8192, .i32⟩
  | .hbm, ⟨81, _⟩ => ⟨S8192, .i32⟩
  | .hbm, ⟨82, _⟩ => ⟨S8192, .f32⟩
  | .hbm, ⟨83, _⟩ => ⟨S1x8192x1, .f32⟩
  | .hbm, ⟨84, _⟩ => ⟨S1x8192x128, .f32⟩
  | .hbm, ⟨85, _⟩ => ⟨S1x8192x128, .f32⟩
  | .hbm, ⟨86, _⟩ => ⟨S1x8192x128, .f32⟩
  | .hbm, ⟨87, _⟩ => ⟨S1x8192x1x128, .f32⟩
  | .hbm, ⟨88, _⟩ => ⟨S1x8192x128, .f32⟩
  | .hbm, ⟨89, _⟩ => ⟨S1x8192x128, .f32⟩
  | .hbm, ⟨90, _⟩ => ⟨S1x8192x1x128, .f32⟩
  | .hbm, ⟨91, _⟩ => ⟨S1x8192x1x128, .f32⟩
  | .hbm, ⟨92, _⟩ => ⟨S1x8192x1x128, .f32⟩
  | .hbm, ⟨93, _⟩ => ⟨S1x8192x1x128, .f32⟩
  | .hbm, ⟨94, _⟩ => ⟨S1x8192x4x128, .f32⟩
  | .hbm, ⟨95, _⟩ => ⟨S4x128x1x8192, .f32⟩
  | .hbm, ⟨96, _⟩ => ⟨S1x8192x4x128, .f32⟩
  | .hbm, ⟨97, _⟩ => ⟨S1x8192x512, .f32⟩
  | .hbm, ⟨98, _⟩ => ⟨S1x1x512, .f32⟩
  | .hbm, ⟨99, _⟩ => ⟨S1x8192x512, .f32⟩
  | .hbm, ⟨100, _⟩ => ⟨S1x8192x512, .f32⟩
  | .hbm, ⟨101, _⟩ => ⟨S8192x512, .f32⟩
  | .hbm, ⟨102, _⟩ => ⟨S8192x512, .bf16⟩
  | _, _ => ⟨S8192x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_c_8 : Ref sig .tc := ⟨.hbm, 76, rfl⟩
abbrev main_v61 : Ref sig .tc := ⟨.hbm, 77, rfl⟩
abbrev main_v62 : Ref sig .tc := ⟨.hbm, 78, rfl⟩
abbrev main_c_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== Kernel15.lean ====
abbrev S8192x4096 : Shape := ⟨2, ![8192, 4096]⟩
abbrev S8192x1024 : Shape := ⟨2, ![8192, 1024]⟩
abbrev S8x512x1024 : Shape := ⟨3, ![8, 512, 1024]⟩
abbrev S2048x1024 : Shape := ⟨2, ![2048, 1024]⟩
abbrev S2x512x1024 : Shape := ⟨3, ![2, 512, 1024]⟩
abbrev S1024x1024 : Shape := ⟨2, ![1024, 1024]⟩
abbrev S512x1024 : Shape := ⟨2, ![512, 1024]⟩
abbrev S1x512x1024 : Shape := ⟨3, ![1, 512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8x512x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S2x512x1024, .bf16⟩
  | .local _ .vmem, ⟨5, _⟩ => ⟨S2x512x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference15Ideal.lean ====
abbrev S8192x4096 : Shape := ⟨2, ![8192, 4096]⟩
abbrev S8192x1024 : Shape := ⟨2, ![8192, 1024]⟩
abbrev S4096x8192 : Shape := ⟨2, ![4096, 8192]⟩
abbrev S4096x1024 : Shape := ⟨2, ![4096, 1024]⟩
abbrev S8x512x1024 : Shape := ⟨3, ![8, 512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S8192x4096, .f32⟩
  | .hbm, ⟨3, _⟩ => ⟨S4096x8192, .f32⟩
  | .hbm, ⟨4, _⟩ => ⟨S4096x1024, .f32⟩
  | .hbm, ⟨5, _⟩ => ⟨S8x512x1024, .f32⟩
  | .hbm, ⟨6, _⟩ => ⟨S8x512x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S8x512x1024 : Shape := ⟨3, ![8, 512, 1024]⟩
abbrev S4x512x1024 : Shape := ⟨3, ![4, 512, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S8x256x1024, .bf16⟩
  | .local _ .vmem, ⟨5, _⟩ => ⟨S8x256x1024, .bf16⟩
  | .local _ .vmem, ⟨6, _⟩ => ⟨S8x256x1024, .bf16⟩
  | .local _ .vmem, ⟨7, _⟩ => ⟨S8x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference16Ideal.lean ====
abbrev S8x512x1024 : Shape := ⟨3, ![8, 512, 1024]⟩
abbrev S4x512x1024 : Shape := ⟨3, ![4, 512, 1024]⟩
abbrev S8x1x512x1024 : Shape := ⟨4, ![8, 1, 512, 1024]⟩
abbrev S8x4x512x1024 : Shape := ⟨4, ![8, 4, 512, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S8x1x512x1024, .bf16⟩
  | .hbm, ⟨8, _⟩ => ⟨S8x1x512x1024, .bf16⟩
  | .hbm, ⟨9, _⟩ => ⟨S8x1x512x1024, .bf16⟩
  | .hbm, ⟨10, _⟩ => ⟨S8x1x512x1024, .bf16⟩
  | .hbm, ⟨11, _⟩ => ⟨S8x4x512x1024, .bf16⟩
  | .hbm, ⟨12, _⟩ => ⟨S8x4x512x1024, .f32⟩
  | .hbm, ⟨13, _⟩ => ⟨S_, .f32⟩
  | .hbm, ⟨14, _⟩ => ⟨S4x512x1024, .f32⟩
  | .hbm, ⟨15, _⟩ => ⟨S_, .f32⟩
  | .hbm, ⟨16, _⟩ => ⟨S4x512x1024, .f32⟩
  | .hbm, ⟨17, _⟩ => ⟨S4x512x1024, .f32⟩
  | .hbm, ⟨18, _⟩ => ⟨S_, .f32⟩
  | .hbm, ⟨19, _⟩ => ⟨S4x512x1024, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S_, .f32⟩
  | .hbm, ⟨31, _⟩ => ⟨S4x512x1024, .f32⟩
  | .hbm, ⟨32, _⟩ => ⟨S4x512x1024, .f32⟩
  | .hbm, ⟨33, _⟩ => ⟨S_, .f32⟩
  | .hbm, ⟨34, _⟩ => ⟨S4x512x1024, .f32⟩
  | .hbm, ⟨35, _⟩ => ⟨S4x512x1024, .f32⟩
  | .hbm, ⟨36, _⟩ => ⟨S4x512x1024, .f32⟩
  | .hbm, ⟨37, _⟩ => ⟨S_, .f32⟩
  | .hbm, ⟨38, _⟩ => ⟨S4x512x1024, .f32⟩
  | .hbm, ⟨39, _⟩ => ⟨S4x512x1024, .f32⟩
  | .hbm, ⟨40, _⟩ => ⟨S4x512x1024, .f32⟩
  | .hbm, ⟨41, _⟩ => ⟨S_, .f32⟩
  | .hbm, ⟨42, _⟩ => ⟨S4x512x1024, .f32⟩
  | .hbm, ⟨43, _⟩ => ⟨S4x512x1024, .f32⟩
  | .hbm, ⟨44, _⟩ => ⟨S4x512x1024, .f32⟩
  | .hbm, ⟨45, _⟩ => ⟨S_, .f32⟩
  | .hbm, ⟨46, _⟩ => ⟨S4x512x1024, .f32⟩
  | .hbm, ⟨47, _⟩ => ⟨S4x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel17.lean ====
abbrev S2x128x1024 : Shape := ⟨3, ![2, 128, 1024]⟩
abbrev S4x1024x512 : Shape := ⟨3, ![4, 1024, 512]⟩
abbrev S4x512x1024 : Shape := ⟨3, ![4, 512, 1024]⟩
abbrev S2x1024x320 : Shape := ⟨3, ![2, 1024, 320]⟩
abbrev S128x1024 : Shape := ⟨2, ![128, 1024]⟩
abbrev S1024x512 : Shape := ⟨2, ![1024, 512]⟩
abbrev S512x1024 : Shape := ⟨2, ![512, 1024]⟩
abbrev S1024x320 : Shape := ⟨2, ![1024, 320]⟩
abbrev S1x128x1024 : Shape := ⟨3, ![1, 128, 1024]⟩
abbrev S1x1024x512 : Shape := ⟨3, ![1, 1024, 512]⟩
abbrev S1x512x1024 : Shape := ⟨3, ![1, 512, 1024]⟩
abbrev S1x1024x320 : Shape := ⟨3, ![1, 1024, 320]⟩

abbrev nBuf : Space → Nat
  | .hbm => 8
  | .vmem => 8
  | .smem => 0
  | _ => 0

abbrev bufTy : (tb : Table) → Fin (tcTables nBuf tb) → BufTy
  | .hbm, ⟨0, _⟩ => ⟨S2x128x1024, .f32⟩
  | .hbm, ⟨1, _⟩ => ⟨S4x1024x512, .f32⟩
  | .hbm, ⟨2, _⟩ => ⟨S4x512x1024, .f32⟩
  | .hbm, ⟨3, _⟩ => ⟨S2x1024x320, .f32⟩
  | .hbm, ⟨4, _⟩ => ⟨S128x1024, .bf16⟩
  | .hbm, ⟨5, _⟩ => ⟨S1024x512, .bf16⟩
  | .hbm, ⟨6, _⟩ => ⟨S512x1024, .bf16⟩
  | .hbm, ⟨7, _⟩ => ⟨S1024x320, .bf16⟩
  | .local _ .vmem, ⟨0, _⟩ => ⟨S1x128x1024, .f32⟩
  | .local _ .vmem, ⟨1, _⟩ => ⟨S1x1024x512, .f32⟩
  | .local _ .vmem, ⟨2, _⟩ => ⟨S1x512x1024, .f32⟩
  | .local _ .vmem, ⟨3, _⟩ => ⟨S1x1024x320, .f32⟩
  | .local _ .vmem, ⟨4, _⟩ => ⟨S128x1024, .bf16⟩
  | .local _ .vmem, ⟨5, _⟩ => ⟨S1024x512, .bf16⟩
  | .local _ .vmem, ⟨6, _⟩ => ⟨S512x1024, .bf16⟩
  | .local _ .vmem, ⟨7, _⟩ => ⟨S1024x320, .bf16⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x320 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference17Ideal.lean ====
abbrev S2x128x1024 : Shape := ⟨3, ![2, 128, 1024]⟩
abbrev S4x1024x512 : Shape := ⟨3, ![4, 1024, 512]⟩
abbrev S4x512x1024 : Shape := ⟨3, ![4, 512, 1024]⟩
abbrev S2x1024x320 : Shape := ⟨3, ![2, 1024, 320]⟩
abbrev S1x128x1024 : Shape := ⟨3, ![1, 128, 1024]⟩
abbrev S128x1024 : Shape := ⟨2, ![128, 1024]⟩
abbrev S1x1024x512 : Shape := ⟨3, ![1, 1024, 512]⟩
abbrev S1024x512 : Shape := ⟨2, ![1024, 512]⟩
abbrev S1x512x1024 : Shape := ⟨3, ![1, 512, 1024]⟩
abbrev S512x1024 : Shape := ⟨2, ![512, 1024]⟩
abbrev S1x1024x320 : Shape := ⟨3, ![1, 1024, 320]⟩
abbrev S1024x320 : Shape := ⟨2, ![1024, 320]⟩

abbrev nBuf : Space → Nat
  | .hbm => 16
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S4x1024x512, .f32⟩
  | .hbm, ⟨2, _⟩ => ⟨S4x512x1024, .f32⟩
  | .hbm, ⟨3, _⟩ => ⟨S2x1024x320, .f32⟩
  | .hbm, ⟨4, _⟩ => ⟨S1x128x1024, .f32⟩
  | .hbm, ⟨5, _⟩ => ⟨S128x1024, .f32⟩
  | .hbm, ⟨6, _⟩ => ⟨S128x1024, .bf16⟩
  | .hbm, ⟨7, _⟩ => ⟨S1x1024x512, .f32⟩
  | .hbm, ⟨8, _⟩ => ⟨S1024x512, .f32⟩
  | .hbm, ⟨9, _⟩ => ⟨S1024x512, .bf16⟩
  | .hbm, ⟨10, _⟩ => ⟨S1x512x1024, .f32⟩
  | .hbm, ⟨11, _⟩ => ⟨S512x1024, .f32⟩
  | .hbm, ⟨12, _⟩ => ⟨S512x1024, .bf16⟩
  | .hbm, ⟨13, _⟩ => ⟨S1x1024x320, .f32⟩
  | .hbm, ⟨14, _⟩ => ⟨S1024x320, .f32⟩
  | .hbm, ⟨15, _⟩ => ⟨S1024x320, .bf16⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel18.lean ====
abbrev S8192x2560 : Shape := ⟨2, ![8192, 2560]⟩
abbrev S512 : Shape := ⟨1, ![512]⟩
abbrev S8192x1024 : Shape := ⟨2, ![8192, 1024]⟩
abbrev S8192x8x64x2 : Shape := ⟨4, ![8192, 8, 64, 2]⟩
abbrev S8192x8x2x64 : Shape := ⟨4, ![8192, 8, 2, 64]⟩
abbrev S8192x1536 : Shape := ⟨2, ![8192, 1536]⟩
abbrev S_ : Shape := ⟨0, ![]⟩
abbrev S63 : Shape := ⟨1, ![63]⟩
abbrev S1 : Shape := ⟨1, ![1]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S4 : Shape := ⟨1, ![4]⟩
abbrev S64x1 : Shape := ⟨2, ![64, 1]⟩
abbrev S64x64 : Shape := ⟨2, ![64, 64]⟩
abbrev S1x64x64 : Shape := ⟨3, ![1, 64, 64]⟩
abbrev S4x1x1 : Shape := ⟨3, ![4, 1, 1]⟩
abbrev S4x64x64 : Shape := ⟨3, ![4, 64, 64]⟩
abbrev S4x1 : Shape := ⟨2, ![4, 1]⟩
abbrev S4x64 : Shape := ⟨2, ![4, 64]⟩
abbrev S4x64x1 : Shape := ⟨3, ![4, 64, 1]⟩
abbrev S4x64x128 : Shape := ⟨3, ![4, 64, 128]⟩
abbrev S4x128x128 : Shape := ⟨3, ![4, 128, 128]⟩
abbrev S1x512 : Shape := ⟨2, ![1, 512]⟩
abbrev S8192x512 : Shape := ⟨2, ![8192, 512]⟩
abbrev S128x4x128x128 : Shape := ⟨4, ![128, 4, 128, 128]⟩
abbrev S512x512 : Shape := ⟨2, ![512, 512]⟩
abbrev S512x128 : Shape := ⟨2, ![512, 128]⟩
abbrev S8x4x128x128 : Shape := ⟨4, ![8, 4, 128, 128]⟩
abbrev S64x128 : Shape := ⟨2, ![64, 128]⟩
abbrev S1x128x128 : Shape := ⟨3, ![1, 128, 128]⟩
abbrev S128x128 : Shape := ⟨2, ![128, 128]⟩
abbrev S1x1x128x128 : Shape := ⟨4, ![1, 1, 128, 128]⟩
abbrev S1x64x128 : Shape := ⟨3, ![1, 64, 128]⟩
abbrev S512x1 : Shape := ⟨2, ![512, 1]⟩
abbrev S1x128 : Shape := ⟨2, ![1, 128]⟩

abbrev nBuf : Space → Nat
  | .hbm => 102
  | .vmem => 26
  | .smem => 0
  | _ => 0

abbrev bufTy : (tb : Table) → Fin (tcTables nBuf tb) → BufTy
  | .hbm, ⟨0, _⟩ => ⟨S8192x2560, .f32⟩
  | .hbm, ⟨1, _⟩ => ⟨S512, .f32⟩
  | .hbm, ⟨2, _⟩ => ⟨S8192x1024, .f32⟩
  | .hbm, ⟨3, _⟩ => ⟨S8192x8x64x2, .f32⟩
  | .hbm, ⟨4, _⟩ => ⟨S8192x8x2x64, .f32⟩
  | .hbm, ⟨5, _⟩ => ⟨S8192x1024, .f32⟩
  | .hbm, ⟨6, _⟩ => ⟨S8192x1536, .f32⟩
  | .hbm, ⟨7, _⟩ => ⟨S8192x2560, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S63, .f32⟩
  | .hbm, ⟨16, _⟩ => ⟨S_, .f32⟩
  | .hbm, ⟨17, _⟩ => ⟨S63, .f32⟩
  | .hbm, ⟨18, _⟩ => ⟨S63, .f32⟩
  | .hbm, ⟨19, _⟩ => ⟨S1, .f32⟩
  | .hbm, ⟨20, _⟩ => ⟨S_, .f32⟩
  | .hbm, ⟨21, _⟩ => ⟨S63, .f32⟩
  | .hbm, ⟨22, _⟩ => ⟨S63, .f32⟩
  | .hbm, ⟨23, _⟩ => ⟨S63, .f32⟩
  | .hbm, ⟨24, _⟩ => ⟨S63, .f32⟩
  | .hbm, ⟨25, _⟩ => ⟨S1, .f32⟩
  | .hbm, ⟨26, _⟩ => ⟨S63, .f32⟩
  | .hbm, ⟨27, _⟩ => ⟨S63, .f32⟩
  | .hbm, ⟨28, _⟩ => ⟨S63, .f32⟩
  | .hbm, ⟨29, _⟩ => ⟨S1, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S8192, .f32⟩
  | .hbm, ⟨38, _⟩ => ⟨S8192x1, .f32⟩
  | .hbm, ⟨39, _⟩ => ⟨S1x64, .f32⟩
  | .hbm, ⟨40, _⟩ => ⟨S8192x64, .f32⟩
  | .hbm, ⟨41, _⟩ => ⟨S8192x64, .f32⟩
  | .hbm, ⟨42, _⟩ => ⟨S8192x64, .f32⟩
  | .hbm, ⟨43, _⟩ => ⟨S8192x64, .f32⟩
  | .hbm, ⟨44, _⟩ => ⟨S8192x64, .f32⟩
  | .hbm, ⟨45, _⟩ => ⟨S8192x128, .f32⟩
  | .hbm, ⟨46, _⟩ => ⟨S8192x64, .f32⟩
  | .hbm, ⟨47, _⟩ => ⟨S8192x128, .f32⟩
  | .hbm, ⟨48, _⟩ => ⟨S4, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S64, .f32⟩
  | .hbm, ⟨58, _⟩ => ⟨S64x1, .f32⟩
  | .hbm, ⟨59, _⟩ => ⟨S1x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S1x64x64, .f32⟩
  | .hbm, ⟨65, _⟩ => ⟨S4x1x1, .f32⟩
  | .hbm, ⟨66, _⟩ => ⟨S4x64x64, .f32⟩
  | .hbm, ⟨67, _⟩ => ⟨S4x64x64, .f32⟩
  | .hbm, ⟨68, _⟩ => ⟨S4x64x64, .f32⟩
  | .hbm, ⟨69, _⟩ => ⟨S4x64x64, .f32⟩
  | .hbm, ⟨70, _⟩ => ⟨S1x64, .f32⟩
  | .hbm, ⟨71, _⟩ => ⟨S_, .f32⟩
  | .hbm, ⟨72, _⟩ => ⟨S1x64, .f32⟩
  | .hbm, ⟨73, _⟩ => ⟨S1x64, .f32⟩
  | .hbm, ⟨74, _⟩ => ⟨S4x1, .f32⟩
  | .hbm, ⟨75, _⟩ => ⟨S4x64, .f32⟩
  | .hbm, ⟨76, _⟩ => ⟨S4x64, .f32⟩
  | .hbm, ⟨77, _⟩ => ⟨S4x64, .f32⟩
  | .hbm, ⟨78, _⟩ => ⟨S4x64, .f32⟩
  | .hbm, ⟨79, _⟩ => ⟨S1x64, .f32⟩
  | .hbm, ⟨80, _⟩ => ⟨S_, .f32⟩
  | .hbm, ⟨81, _⟩ => ⟨S1x64, .f32⟩
  | .hbm, ⟨82, _⟩ => ⟨S1x64, .f32⟩
  | .hbm, ⟨83, _⟩ => ⟨S4x1, .f32⟩
  | .hbm, ⟨84, _⟩ => ⟨S4x64, .f32⟩
  | .hbm, ⟨85, _⟩ => ⟨S4x64, .f32⟩
  | .hbm, ⟨86, _⟩ => ⟨S4x64, .f32⟩
  | .hbm, ⟨87, _⟩ => ⟨S4x64, .f32⟩
  | .hbm, ⟨88, _⟩ => ⟨S_, .f32⟩
  | .hbm, ⟨89, _⟩ => ⟨S4, .f32⟩
  | .hbm, ⟨90, _⟩ => ⟨S4, .f32⟩
  | .hbm, ⟨91, _⟩ => ⟨S4, .f32⟩
  | .hbm, ⟨92, _⟩ => ⟨S4x64x1, .f32⟩
  | .hbm, ⟨93, _⟩ => ⟨S4x64x128, .f32⟩
  | .hbm, ⟨94, _⟩ => ⟨S4x64x1, .f32⟩
  | .hbm, ⟨95, _⟩ => ⟨S4x64x128, .f32⟩
  | .hbm, ⟨96, _⟩ => ⟨S4x1x1, .f32⟩
  | .hbm, ⟨97, _⟩ => ⟨S4x128x128, .f32⟩
  | .hbm, ⟨98, _⟩ => ⟨S1x512, .f32⟩
  | .hbm, ⟨99, _⟩ => ⟨S8192x512, .f32⟩
  | .hbm, ⟨100, _⟩ => ⟨S128x4x128x128, .f32⟩
  | .hbm, ⟨101, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512, .f32⟩
  | .local _ .vmem, ⟨13, _⟩ => ⟨S4x64x64, .f32⟩
  | .local _ .vmem, ⟨14, _⟩ => ⟨S4x64x128, .f32⟩
  | .local _ .vmem, ⟨15, _⟩ => ⟨S4x64x128, .f32⟩
  | .local _ .vmem, ⟨16, _⟩ => ⟨S4x128x128, .f32⟩
  | .local _ .vmem, ⟨17, _⟩ => ⟨S512x512, .f32⟩
  | .local _ .vmem, ⟨18, _⟩ => ⟨S512x512, .f32⟩
  | .local _ .vmem, ⟨19, _⟩ => ⟨S8x4x128x128, .f32⟩
  | .local _ .vmem, ⟨20, _⟩ => ⟨S8x4x128x128, .f32⟩
  | .local _ .vmem, ⟨21, _⟩ => ⟨S512x512, .bf16⟩
  | .local _ .vmem, ⟨22, _⟩ => ⟨S512x512, .bf16⟩
  | .local _ .vmem, ⟨23, _⟩ => ⟨S4x128x128, .f32⟩
  | .local _ .vmem, ⟨24, _⟩ => ⟨S512x512, .f32⟩
  | .local _ .vmem, ⟨25, _⟩ => ⟨S512x512, .f32⟩
  | _, _ => ⟨S8192x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v6 : Ref sig .tc := ⟨.hbm, 30, rfl⟩
abbrev main_cst_1 : Ref sig .tc := ⟨.hbm, 31, rfl⟩
abbrev main_v7 : Ref sig .tc := ⟨.hbm, 32, rfl⟩
abbrev main_v8 : Ref sig .tc := ⟨.hbm, 33, rfl⟩
abbrev main_cst_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_5 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_6 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_7 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68_0 : Ref sig .tc := ⟨.hbm, 99, rfl⟩
abbrev main_v68_1 : Ref sig .tc := ⟨.hbm, 100, rfl⟩
abbrev main_v68_2 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def k0_mult1 : BitVec 32 :=
  let c0_i32_43 : BitVec 32 := 0#32
  let c64_i32_44 : BitVec 32 := 64#32
  let v87 : BitVec 32 := Scalar.muli c0_i32_43 c64_i32_44
  v87
def k0_off1 (c0_i32_43 : BitVec 32) : Fin 2 → Nat :=
  let c64_i32_44 : BitVec 32 := 64#32
  let v87 : BitVec 32 := Scalar.muli c0_i32_43 c64_i32_44
  let v88 : BitVec 32 := v87
  let v89 : Index := Scalar.indexCast v88
  let c0_45 : Index := 0#32
  ![v89.toNat, 0]
def k0_off2 (c0_i32_43 : BitVec 32) : Fin 2 → Nat :=
  let c64_i32_44 : BitVec 32 := 64#32
  let v87 : BitVec 32 := Scalar.muli c0_i32_43 c64_i32_44
  let v88 : BitVec 32 := v87
  let v133 : Index := Scalar.indexCast v88
  let c128_74 : Index := 128#32
  ![v133.toNat, 128]
def k0_off3 (c0_i32_43 : BitVec 32) : Fin 2 → Nat :=
  let c64_i32_44 : BitVec 32 := 64#32
  let v87 : BitVec 32 := Scalar.muli c0_i32_43 c64_i32_44
  let v88 : BitVec 32 := v87
  let v177 : Index := Scalar.indexCast v88
  let c256_102 : Index := 256#32
  ![v177.toNat, 256]
def k0_off4 (c0_i32_43 : BitVec 32) : Fin 2 → Nat :=
  let c64_i32_44 : BitVec 32 := 64#32
  let v87 : BitVec 32 := Scalar.muli c0_i32_43 c64_i32_44
  let v88 : BitVec 32 := v87
  let v221 : Index := Scalar.indexCast v88
  let c384_130 : Index := 384#32
  ![v221.toNat, 384]
def k0_mult2 : BitVec 32 :=
  let c1_i32 : BitVec 32 := 1#32
  let c64_i32_158 : BitVec 32 := 64#32
  let v265 : BitVec 32 := Scalar.muli c1_i32 c64_i32_158
  v265
def k0_mult3 : BitVec 32 :=
  let c2_i32 : BitVec 32 := 2#32
  let c64_i32_275 : BitVec 32 := 64#32
  let v443 : BitVec 32 := Scalar.muli c2_i32 c64_i32_275
  v443
def k0_mult4 : BitVec 32 :=
  let c3_i32 : BitVec 32 := 3#32
  let c64_i32_392 : BitVec 32 := 64#32
  let v621 : BitVec 32 := Scalar.muli c3_i32 c64_i32_392
  v621
def k0_mult5 : BitVec 32 :=
  let c4_i32 : BitVec 32 := 4#32
  let c64_i32_509 : BitVec 32 := 64#32
  let v799 : BitVec 32 := Scalar.muli c4_i32 c64_i32_509
  v799
def k0_mult6 : BitVec 32 :=
  let c5_i32 : BitVec 32 := 5#32
  let c64_i32_626 : BitVec 32 := 64#32
  let v977 : BitVec 32 := Scalar.muli c5_i32 c64_i32_626
  v977
def k0_mult7 : BitVec 32 :=
  let c6_i32 : BitVec 32 := 6#32
  let c64_i32_743 : BitVec 32 := 64#32
  let v1155 : BitVec 32 := Scalar.muli c6_i32 c64_i32_743
  v1155
def k0_mult8 : BitVec 32 :=
  let c7_i32 : BitVec 32 := 7#32
  let c64_i32_860 : BitVec 32 := 64#32
  let v1333 : BitVec 32 := Scalar.muli c7_i32 c64_i32_860
  v1333
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Proof.Common.lean ====
/-
  READING through rectangles and windows at an index: facts the value proofs share.
-/
module

public import Idealize.ShloMosaic.Lib.Pipeline.Value
public import Idealize.ShloMosaic.Lib.Pointwise

@[expose] public section

namespace Cert.Common

open Idealize.ShloMosaic

/-- Where a rectangle places an index: offset plus stride times the index, on each axis. -/
theorem emb_norm {s : Shape} (r : Rect s) (x : r.shape.Idx) :
    r.emb x = Shape.Idx.norm fun a => ⟨r.off a + r.stride a * (x a).val, r.toLoadRect.coord_lt a (x a).isLt⟩ := rfl

/-- Zero offsets on two axes, however they are spelt. -/
theorem zero2 : (![0, 0] : Fin 2 → Nat) = fun _ => 0 := funext fun a => by fin_cases a <;> rfl

/-- Arrays of two axes that agree at every row and column are equal. -/
theorem ext2 {a b : ℕ} {α : Type} {f g : (⟨2, ![a, b]⟩ : Shape).Idx → α} (h : ∀ r k, f (ix2 r k) = g (ix2 r k)) : f = g := by
  funext i
  have e : i = ix2 (i 0) (i 1) := by
    funext a
    match a with
    | ⟨0, _⟩ => rfl
    | ⟨1, _⟩ => rfl
  rw [e]
  exact h _ _

end Cert.Common
-- ==== Proof.Gate.lean ====
/-
  THE GATE GRADIENT of the feed-forward block: `dz = (dy · w2ᵀ) * 2 max(z, 0)`, which the call `_mm_nt_rows` (with `z`)
  computes in blocks of 512 rows and, inside a block, in four groups of 1024 columns. The reference is jax's own
  derivative of `z ↦ (max(z, 0))² · w2`.
-/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.KernelIdeal.Gate

open Cert.KernelIdeal Cert.KernelIdeal.Gen

/-- The gradient at row `r` and column `l`. -/
def gate (z : FVec Ideal S8192x4096 .bf16) (w : FVec Ideal S4096x1024 .bf16) (dy : FVec Ideal S8192x1024 .f32) :
    FVec Ideal S8192x4096 .bf16 := fun i =>
  (∑ k : Fin 1024, (dy (ix2 (i 0) k) : EReal) * w (ix2 (i 1) k)) *
    ((Ideal.ofBits .f32 0x40000000#32 : EReal) * max (z i) 0)

/-- The same over one block of 512 rows. -/
def gateBlock (a : Vec Ideal S512x1024 .f32) (w : Vec Ideal S4096x1024 .bf16) (z : Vec Ideal S512x4096 .bf16) :
    Vec Ideal S512x4096 .bf16 := fun j =>
  (∑ k : Fin 1024, (a (ix2 (j 0) k) : EReal) * w (ix2 (j 1) k)) *
    ((Ideal.ofBits .f32 0x40000000#32 : EReal) * max (z j) 0)

/-- The body leaves the block's gradient: each of its four stores is the gradient at the store's columns. -/
theorem out_eq (a : Vec Ideal S512x1024 .f32) (w : Vec Ideal S4096x1024 .bf16) (z : Vec Ideal S512x4096 .bf16) :
    out0_3 a w z = gateBlock a w z := by
  funext y
  unfold out0_3
  refine View.canon_apply_of_pieces (gateBlock a w z) _ ?_ y (cover0_3 _ _ _ _ y)
  intro p hp x
  simp only [List.mem_cons, List.not_mem_nil, or_false] at hp
  rcases hp with rfl | rfl | rfl | rfl <;> dsimp only <;>
    pointwise [k0_pay1, k0_pay2, k0_pay3, k0_pay4, k0_pay5, k0_pay6, k0_pay7, gateBlock, Common.emb_norm]

variable (m : (ℓ : Loc nD τ sig) → Buf (Elt Ideal) ℓ) (ρ : Dev nD → PrngReg)

/-- Where the four windows stand at point `t`: block `t` of the rows; the weight whole. -/
theorem index_t : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0))

/-- The result array: the gradient of the launched arguments. -/
abbrev result (c : Dev nD) : Buf (Elt Ideal) ((c : Thread nD τ).loc main_v0) :=
  gate (m ((c : Thread nD τ).loc main_arg0)) (m ((c : Thread nD τ).loc main_arg1)) (m ((c : Thread nD τ).loc main_arg2))

theorem row_lt (t : Fin cfg0.N) (r : Fin 512) : 512 * t.val + r.val < 8192 := by
  have := t.isLt; have : cfg0.N = 16 := N_0; omega

theorem iblk0_apply (c : Dev nD) (t : Fin cfg0.N) (r : Fin 512) (k : Fin 1024) :
    iblk m c 0 t (ix2 r k) = m ((c : Thread nD τ).loc main_arg2) (ix2 ⟨512 * t.val + r.val, row_lt t r⟩ k) := by
  unfold iblk
  rw [View.read_apply]
  show m _ _ = m _ _
  congr 1
  funext a
  apply Fin.ext
  match a with
  | ⟨0, _⟩ => show win0_0.index t 0 * 512 + 1 * r.val = 512 * t.val + r.val; rw [(index_t t).1.1]; omega
  | ⟨1, _⟩ => show win0_0.index t 1 * 1024 + 1 * k.val = k.val; rw [(index_t t).1.2]; omega

theorem iblk1_eq (c : Dev nD) (t : Fin cfg0.N) : iblk m c 1 t = m ((c : Thread nD τ).loc main_arg1) := by
  funext j
  unfold iblk
  rw [View.read_apply]
  show m _ _ = m _ _
  congr 1
  funext a
  apply Fin.ext
  match a with
  | ⟨0, _⟩ => show win0_1.index t 0 * 4096 + 1 * (j 0).val = (j 0).val; rw [(index_t t).2.1.1]; omega
  | ⟨1, _⟩ => show win0_1.index t 1 * 1024 + 1 * (j 1).val = (j 1).val; rw [(index_t t).2.1.2]; omega

theorem iblk2_apply (c : Dev nD) (t : Fin cfg0.N) (r : Fin 512) (k : Fin 4096) :
    iblk m c 2 t (ix2 r k) = m ((c : Thread nD τ).loc main_arg0) (ix2 ⟨512 * t.val + r.val, row_lt t r⟩ k) := by
  unfold iblk
  rw [View.read_apply]
  show m _ _ = m _ _
  congr 1
  funext a
  apply Fin.ext
  match a with
  | ⟨0, _⟩ => show win0_2.index t 0 * 512 + 1 * r.val = 512 * t.val + r.val; rw [(index_t t).2.2.1.1]; omega
  | ⟨1, _⟩ => show win0_2.index t 1 * 4096 + 1 * k.val = k.val; rw [(index_t t).2.2.1.2]; omega

theorem block_eq (c : Dev nD) (t : Fin cfg0.N) (r : Fin 512) (l : Fin 4096) :
    gateBlock (iblk m c 0 t) (iblk m c 1 t) (iblk m c 2 t) (ix2 r l) = result m c (ix2 ⟨512 * t.val + r.val, row_lt t r⟩ l) := by
  unfold gateBlock result gate
  rw [iblk1_eq, iblk2_apply]
  simp only [ix2_0, ix2_1, iblk0_apply]

/-- Point `t` writes back block `t` of the gradient's rows. -/
theorem flushed_eq (c : Dev nD) (t : Fin cfg0.N) (_ : (cfg0.win 3).flush t = true) :
    (dats m 0 c).flushed 3 t = ((cfg0.win 3).blk t).view.read (Elt Ideal) (result m c) := by
  rw [Value.flushed3, out_eq]
  funext j
  rw [View.read_apply]
  have e : ((cfg0.win 3).blk t).view.emb j = ix2 ⟨512 * t.val + (j 0).val, row_lt t (j 0)⟩ (j 1) := by
    funext a
    apply Fin.ext
    match a with
    | ⟨0, _⟩ => show win0_3.index t 0 * 512 + 1 * (j 0).val = 512 * t.val + (j 0).val; rw [(index_t t).2.2.2.1]; omega
    | ⟨1, _⟩ => show win0_3.index t 1 * 4096 + 1 * (j 1).val = (j 1).val; rw [(index_t t).2.2.2.2]; omega
  rw [e]
  refine (congrArg (gateBlock _ _ _) (show _ = ix2 (j 0) (j 1) from by
    funext a; match a with | ⟨0, _⟩ => rfl | ⟨1, _⟩ => rfl)).trans ?_
  exact block_eq m c t (j 0) (j 1)

/-- The sixteen blocks of rows cover the result. -/
theorem final_eq (c : Dev nD) : (dats m 0 c).arrAt 3 cfg0.N = result m c :=
  (dats m 0 c).arrAt_eq_of_cover 3 (result m c) (flushed_eq m c) fun i => by
    have h0 : (i 0 : Nat) < 8192 := (i 0).isLt
    have h1 : (i 1 : Nat) < 4096 := (i 1).isLt
    have hN : cfg0.N = 16 := N_0
    obtain ⟨t, ht⟩ : ∃ t : Fin cfg0.N, t.val = (i 0 : Nat) / 512 := ⟨⟨(i 0 : Nat) / 512, by omega⟩, rfl⟩
    refine ⟨t, (by decide +kernel : ∀ t : Fin grid0.N, (cfg0.win 3).flush t = true) t, ?_⟩
    show i ∈ ((View.whole main_v0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [(index_t t).2.2.2.1]; omega
    | ⟨1, _⟩ => show win0_3.index t 1 * 4096 ≤ (i 1 : Nat) ∧ (i 1 : Nat) < win0_3.index t 1 * 4096 + 4096
                rw [(index_t t).2.2.2.2]; omega

/-- The run: the result at the gradient, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_eq m c), (h c).2⟩) (Value.run_blocks m ρ)

end Cert.KernelIdeal.Gate

namespace Cert.ReferenceIdeal.Gate

open Cert.ReferenceIdeal Cert.ReferenceIdeal.Gen Idealize.ShloMosaic.StableHlo

/-- jax's derivative is the gradient: where `z` is not positive it selects zero, and the gradient's factor
    `max(z, 0)` is zero there. -/
theorem value_eq (z : FVec Ideal S8192x4096 .bf16) (w : FVec Ideal S4096x1024 .bf16) (dy : FVec Ideal S8192x1024 .f32) :
    Read.val_main_v14 (F := Ideal) z w dy = Cert.KernelIdeal.Gate.gate z w dy := by
  rw [← Read.val_main_v14_eq]
  funext i
  pointwise [Cert.KernelIdeal.Gate.gate]
  split
  · rfl
  · next h => rw [max_eq_right (not_lt.mp h)]; simp

/-- The reference's run: the result at the gradient, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = Cert.KernelIdeal.Gate.gate (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((Read.val_main_v14_eq _ _ _).trans (value_eq _ _ _)), (h c).2⟩) (Value.run m ρ)

end Cert.ReferenceIdeal.Gate

namespace Cert.Gate

/-- Equal arguments give equal gradients. -/
theorem algebraic : Cert.algebraic_KernelIdeal_ReferenceIdeal := fun m g m' g' _ hm =>
  ⟨fun c => Cert.KernelIdeal.Gate.result m c, Cert.KernelIdeal.Gate.run m g,
    (θ_run _ _ _).mono (fun _ h c => ⟨(h c).1.trans (by
      obtain ⟨h0, h1, h2⟩ := hm c
      exact congr (congr (congrArg _ h0) h1) h2), (h c).2⟩) (Cert.ReferenceIdeal.Gate.run m' g')⟩

end Cert.Gate
-- ==== Proof.Norm.lean ====
/-
  THE GRADIENT OF THE ROOT-MEAN-SQUARE NORM, one row at a time, over the extended reals. The kernels write it by hand,
  `r (d - xn mean(d xn))` with `xn = x r`; jax's derivative of `x ↦ x r(x)` is `d r + x q + q x` with
  `q = (∑ x d) (-1/2) (r / ms) / n`. The two agree on every row, infinite entries included: a row with an infinite entry
  has `ms = ⊤` and `r = 0`, and both are zero there.
-/
module

public import proofs.«01_k».proof.Defs
public import Idealize.ShloMosaic.Lib.IdealHost
public import Idealize.ShloMosaic.Lib.Pipeline.ValueKit.Acc

@[expose] public section

noncomputable section

open Idealize.ShloMosaic

namespace Cert.Norm

/-! ## The constants -/

theorem ofBits_1024 : Ideal.ofBits .f32 0x44800000#32 = ((1024 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

theorem ofBits_neg_half : Ideal.ofBits .f32 0xBF000000#32 = ((-(1 / 2) : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- `1 / 1024`. -/
theorem ofBits_inv_1024 : Ideal.ofBits .f32 0x3A800000#32 = ((1 / 1024 : ℝ) : EReal) := by
  simp [Ideal.ofBits, Ideal.ieee, -EReal.coe_mul]; norm_num

/-- `1 / 2048`. -/
theorem ofBits_inv_2048 : Ideal.ofBits .f32 0x3A000000#32 = ((1 / 2048 : ℝ) : EReal) := by
  simp [Ideal.ofBits, Ideal.ieee, -EReal.coe_mul]; norm_num

/-! ## Sums -/

/-- A nonnegative real factor goes into a sum of extended reals. -/
theorem coe_mul_sum {ι : Type*} (s : Finset ι) (f : ι → EReal) {a : ℝ} (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- A sum of nonnegative extended reals with an infinite term is infinite. -/
theorem sum_eq_top {ι : Type*} [Fintype ι] (f : ι → EReal) (hf : ∀ i, 0 ≤ f i) (i : ι) (hi : f i = ⊤) : ∑ j, f j = ⊤ :=
  top_le_iff.mp (hi ▸ Finset.single_le_sum (fun j _ => hf j) (Finset.mem_univ i))

theorem mul_self_nonneg (x : EReal) : 0 ≤ x * x := by
  induction x with
  | bot => simp
  | top => simp
  | coe r => rw [← EReal.coe_mul]; exact EReal.coe_nonneg.mpr (_root_.mul_self_nonneg r)

theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-! ## The row -/

section
variable {n : ℕ} (x d : Fin n → EReal)

/-- The row's mean square and the stabiliser. -/
def ms : EReal :=
  Ideal.div (∑ k, x k * x k) (Ideal.ofBits .f32 0x44800000#32) + Ideal.ofBits .f32 0x358637BD#32

/-- The row's factor: one over the root of the mean square. -/
def rs : EReal := Ideal.rsqrt (ms x)

/-- The gradient at `k` as the kernels write it. -/
def grad (k : Fin n) : EReal :=
  rs x * (d k - x k * rs x * Ideal.div (∑ l, d l * (x l * rs x)) (Ideal.ofBits .f32 0x44800000#32))

/-- The factor of `x` in jax's derivative. -/
def jaxQ : EReal :=
  Ideal.div ((∑ l, x l * d l) * (Ideal.ofBits .f32 0xBF000000#32 * Ideal.div (rs x) (ms x))) (Ideal.ofBits .f32 0x44800000#32)

/-- A row is real, or its mean square is infinite. -/
theorem real_or_top : (∃ (y : Fin n → ℝ) (M : ℝ), 0 < M ∧ (∀ k, x k = (y k : EReal)) ∧ ms x = (M : EReal)) ∨ ms x = ⊤ := by
  obtain ⟨e, he, hE⟩ := ofBits_eps
  unfold ms
  rw [ofBits_1024, Ideal.div_coe (by norm_num : (1024 : ℝ) ≠ 0), hE]
  by_cases h : ∃ k, x k = ⊤ ∨ x k = ⊥
  · right
    obtain ⟨k, hk⟩ := h
    rw [sum_eq_top (fun k => x k * x k) (fun k => mul_self_nonneg _) k (by rcases hk with hk | hk <;> simp [hk]),
      EReal.top_mul_coe_of_pos (by norm_num), EReal.top_add_coe]
  · left
    push Not at h
    refine ⟨fun k => (x k).toReal, (∑ k, (x k).toReal * (x k).toReal) * (1 / 1024) + e, ?_, fun k => (EReal.coe_toReal (h k).1 (h k).2).symm, ?_⟩
    · have : 0 ≤ ∑ k, (x k).toReal * (x k).toReal := Finset.sum_nonneg fun k _ => _root_.mul_self_nonneg _
      positivity
    · rw [EReal.coe_add, EReal.coe_mul, coe_sum]
      congr 2
      refine Finset.sum_congr rfl fun k _ => ?_
      rw [EReal.coe_mul, EReal.coe_toReal (h k).1 (h k).2]

theorem rs_of_top (h : ms x = ⊤) : rs x = 0 := by unfold rs; rw [h]; rfl

theorem rs_of_coe {M : ℝ} (hM : 0 < M) (h : ms x = (M : EReal)) : rs x = (((Real.sqrt M)⁻¹ : ℝ) : EReal) := by
  unfold rs
  rw [h, Ideal.rsqrt_coe, if_neg (not_lt.mpr hM.le), if_neg hM.ne']

/-- Twice a real multiple of an extended real, with its sign turned. -/
theorem twice (b : ℝ) (S : EReal) : (b : EReal) * S + (b : EReal) * S = -(((-2 * b : ℝ) : EReal) * S) := by
  induction S with
  | coe s => rw [← EReal.coe_mul, ← EReal.coe_mul, ← EReal.coe_neg, ← EReal.coe_add]; congr 1; ring
  | top =>
    rcases lt_trichotomy b 0 with h | h | h
    · rw [EReal.coe_mul_top_of_neg h, EReal.coe_mul_top_of_pos (by linarith)]; rfl
    · subst h; simp
    · rw [EReal.coe_mul_top_of_pos h, EReal.coe_mul_top_of_neg (by linarith)]; rfl
  | bot =>
    rcases lt_trichotomy b 0 with h | h | h
    · rw [EReal.coe_mul_bot_of_neg h, EReal.coe_mul_bot_of_pos (by linarith)]; rfl
    · subst h; simp
    · rw [EReal.coe_mul_bot_of_pos h, EReal.coe_mul_bot_of_neg (by linarith)]; rfl

/-- The kernels' gradient is jax's. -/
theorem grad_eq (k : Fin n) : grad x d k = d k * rs x + x k * jaxQ x d + jaxQ x d * x k := by
  rcases real_or_top x with ⟨y, M, hM, hx, hms⟩ | h
  · unfold grad jaxQ
    have hr : 0 < (Real.sqrt M)⁻¹ := inv_pos.mpr (Real.sqrt_pos.mpr hM)
    have hr3 : (Real.sqrt M)⁻¹ * (1 / M) = (Real.sqrt M)⁻¹ * (Real.sqrt M)⁻¹ * (Real.sqrt M)⁻¹ := by
      rw [mul_assoc]; congr 1; rw [← mul_inv, Real.mul_self_sqrt hM.le, one_div]
    rw [rs_of_coe x hM hms, hms, ofBits_1024, ofBits_neg_half, Ideal.div_coe hM.ne', Ideal.div_coe (by norm_num : (1024 : ℝ) ≠ 0),
      Ideal.div_coe (by norm_num : (1024 : ℝ) ≠ 0), hx k]
    generalize (Real.sqrt M)⁻¹ = r at *
    have hS : ∑ l, d l * (x l * (r : EReal)) = (r : EReal) * ∑ l, x l * d l := by
      rw [coe_mul_sum _ _ hr.le]
      exact Finset.sum_congr rfl fun l _ => by rw [mul_comm, mul_assoc, mul_left_comm]
    rw [hS]
    generalize ∑ l, x l * d l = S
    rw [sub_eq_add_neg, EReal.left_distrib_of_nonneg_of_ne_top (EReal.coe_nonneg.mpr hr.le) (EReal.coe_ne_top r), add_assoc,
      mul_comm (d k)]
    congr 1
    have e1 : (y k : EReal) * (S * (((-(1 / 2) : ℝ) : EReal) * ((r : EReal) * ((1 / M : ℝ) : EReal))) * ((1 / 1024 : ℝ) : EReal))
        = ((y k * (-(1 / 2)) * (r * (1 / M)) * (1 / 1024) : ℝ) : EReal) * S := by
      simp only [EReal.coe_mul]; ac_rfl
    rw [mul_comm _ (y k : EReal), e1, twice, mul_neg]
    congr 1
    rw [hr3]
    have e2 : (r : EReal) * ((y k : EReal) * (r : EReal) * ((r : EReal) * S * ((1 / 1024 : ℝ) : EReal)))
        = ((y k * (r * r * r) * (1 / 1024) : ℝ) : EReal) * S := by
      simp only [EReal.coe_mul]; ac_rfl
    rw [e2]
    congr 2
    ring
  · unfold grad jaxQ
    rw [rs_of_top x h, h, ofBits_1024, ofBits_neg_half]
    have : Ideal.div 0 ⊤ = 0 := by unfold Ideal.div; rw [if_neg EReal.top_ne_zero, zero_mul]
    simp [this, Ideal.div_coe (by norm_num : (1024 : ℝ) ≠ 0)]

end

/-! ## The loss' constants -/

/-- The error's factor in the loss' gradient: `(0.5 / 1024) * 2` is `1 / 1024`. -/
theorem err_factor (e : EReal) :
    Ideal.div (Ideal.ofBits .f32 0x3F000000#32) (Ideal.ofBits .f32 0x44800000#32) * (Ideal.ofBits .f32 0x40000000#32 * e)
      = e * Ideal.ofBits .f32 0x3A800000#32 := by
  rw [ofBits_1024, Ideal.div_coe (by norm_num : (1024 : ℝ) ≠ 0), ofBits_half, ofBits_two, ofBits_inv_1024, ← mul_assoc, mul_comm _ e,
    ← EReal.coe_mul, ← EReal.coe_mul]
  congr 2
  norm_num

/-- The loss' factor taken into its sum: half the mean over 1024 columns is the sum's 2048th part. -/
theorem half_mean {ι : Type*} (s : Finset ι) (f : ι → EReal) :
    Ideal.ofBits .f32 0x3F000000#32 * ∑ i ∈ s, Ideal.div (f i) (Ideal.ofBits .f32 0x44800000#32)
      = ∑ i ∈ s, Ideal.ofBits .f32 0x3A000000#32 * f i := by
  rw [ofBits_half, coe_mul_sum _ _ (by norm_num)]
  refine Finset.sum_congr rfl fun i _ => ?_
  rw [ofBits_1024, Ideal.div_coe (by norm_num : (1024 : ℝ) ≠ 0), ofBits_inv_2048, mul_comm (f i), ← mul_assoc, ← EReal.coe_mul]
  congr 2
  norm_num

theorem inv_2048_mul_sum {ι : Type*} (s : Finset ι) (f : ι → EReal) :
    Ideal.ofBits .f32 0x3A000000#32 * ∑ i ∈ s, f i = ∑ i ∈ s, Ideal.ofBits .f32 0x3A000000#32 * f i := by
  rw [ofBits_inv_2048, coe_mul_sum _ _ (by norm_num)]

end Cert.Norm
-- ==== Proof.Loss.lean ====
/-
  THE LOSS AND ITS GRADIENTS: the call `_final_loss` computes, in sixteen blocks of 512 rows, the mean-square loss of the
  normalised rows against the targets, the gradient of the rows (block by block) and the gradient of the gain (added up
  over the blocks, like the loss). The reference is jax's own derivative of the loss.
-/
module

public import proofs.«01_k».proof.Proof.Norm
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit.Point
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Loss

/-! ## What is computed, over `n` rows -/

section
variable {n : ℕ} (x : Fin n → Fin 1024 → EReal) (g : Fin 1024 → EReal) (t : Fin n → Fin 1024 → EReal)

/-- The error: the normalised row times the gain, less the target. -/
def err (r : Fin n) (k : Fin 1024) : EReal := x r k * Norm.rs (x r) * g k - t r k

/-- The loss: over 2048, the sum of the squared errors. -/
def loss : EReal := ∑ r, Ideal.ofBits .f32 0x3A000000#32 * ∑ k, err x g t r k * err x g t r k

/-- The cotangent of the normalised row times the gain. -/
def dy (r : Fin n) (k : Fin 1024) : EReal := err x g t r k * Ideal.ofBits .f32 0x3A800000#32

/-- The gradient of the rows. -/
def dx (r : Fin n) (k : Fin 1024) : EReal := Norm.grad (x r) (fun l => dy x g t r l * g l) k

/-- The gradient of the gain. -/
def dg (k : Fin 1024) : EReal := ∑ r, dy x g t r k * (x r k * Norm.rs (x r))

end

end Cert.Loss

namespace Cert.Kernel2Ideal.Loss

open Cert.Kernel2Ideal Cert.Kernel2Ideal.Gen Cert.Loss

/-! ## One block -/

section
variable (x : Vec Ideal S512x1024 .f32) (g : Vec Ideal S1x1024 .f32) (t : Vec Ideal S512x1024 .f32)

theorem pay_loss (a : Vec Ideal S8x128 .f32) (j : S8x128.Idx) : k0_pay8 x g t a j
    = a j + loss (fun r k => x (ix2 r k)) (fun k => g (ix2 0 k)) (fun r k => t (ix2 r k)) := by
  unfold loss
  rw [← Norm.inv_2048_mul_sum]
  pointwise [k0_pay8, k0_pay7, k0_pay6, k0_pay5, err, Norm.rs, Norm.ms]

theorem pay_dg (a : Vec Ideal S1x1024 .f32) (j : S1x1024.Idx) : k0_pay1 (k0_pay10 a) (k0_pay11 x g t) j
    = a j + dg (fun r k => x (ix2 r k)) (fun k => g (ix2 0 k)) (fun r k => t (ix2 r k)) (j 1) := by
  pointwise [k0_pay1, k0_pay11, k0_pay10, k0_pay9, k0_pay7, k0_pay6, k0_pay5, dg, dy, err, Norm.rs, Norm.ms]

theorem pay_dx (j : S512x1024.Idx) : k0_pay2 (k0_pay5 x) (k0_pay6 x) (k0_pay9 x g t) g j
    = dx (fun r k => x (ix2 r k)) (fun k => g (ix2 0 k)) (fun r k => t (ix2 r k)) (j 0) (j 1) := by
  pointwise [k0_pay2, k0_pay9, k0_pay7, k0_pay6, k0_pay5, dx, dy, err, Norm.grad, Norm.rs, Norm.ms]

end

/-! ## The run -/

variable (m : (ℓ : Loc nD τ sig) → Buf (Elt Ideal) ℓ) (ρ : Dev nD → PrngReg)

/-- The launched arguments, as rows and columns. -/
abbrev X (c : Dev nD) (r : Fin 8192) (k : Fin 1024) : EReal := (m ((c : Thread nD τ).loc main_arg0) : FVec Ideal S8192x1024 .f32) (ix2 r k)
abbrev G (c : Dev nD) (k : Fin 1024) : EReal := (m ((c : Thread nD τ).loc main_arg1) : FVec Ideal S1024 .f32) (ix1 k)
abbrev T (c : Dev nD) (r : Fin 8192) (k : Fin 1024) : EReal := (m ((c : Thread nD τ).loc main_arg2) : FVec Ideal S8192x1024 .f32) (ix2 r k)

theorem index_in : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![0, 0])

theorem row_lt (t : Fin cfg0.N) (r : Fin 512) : t.val * 512 + r.val < 8192 := by
  have := t.isLt; have : cfg0.N = 16 := N_0; omega

theorem iblk0_apply (c : Dev nD) (t : Fin cfg0.N) (r : Fin 512) (k : Fin 1024) :
    iblk m c 0 t (ix2 r k) = X m c ⟨t.val * 512 + r.val, row_lt t r⟩ k := by
  blk_point [iblk, V, index_in t]

theorem iblk2_apply (c : Dev nD) (t : Fin cfg0.N) (r : Fin 512) (k : Fin 1024) :
    iblk m c 2 t (ix2 r k) = T m c ⟨t.val * 512 + r.val, row_lt t r⟩ k := by
  blk_point [iblk, V, index_in t]

theorem iblk1_apply (c : Dev nD) (t : Fin cfg0.N) (k : Fin 1024) :
    iblk m c 1 t (ix2 0 k) = G m c k := by
  blk_point [iblk, V, index_in t]

/-- The results, of the launched arguments. -/
abbrev resLoss (c : Dev nD) : Buf (Elt Ideal) ((c : Thread nD τ).loc main_v1_0) := fun _ => loss (X m c) (G m c) (T m c)
abbrev resDx (c : Dev nD) : Buf (Elt Ideal) ((c : Thread nD τ).loc main_v1_1) := fun i => dx (X m c) (G m c) (T m c) (i 0) (i 1)
abbrev resDg (c : Dev nD) : Buf (Elt Ideal) ((c : Thread nD τ).loc main_v1_2) := fun i => dg (X m c) (G m c) (T m c) (i 1)

/-- Row `r` of point `t`'s block, in the array. -/
abbrev rowAt (t : Fin cfg0.N) (r : Fin 512) : Fin 8192 := ⟨t.val * 512 + r.val, row_lt t r⟩

theorem blkX (c : Dev nD) (t : Fin cfg0.N) : (fun (r : Fin 512) (k : Fin 1024) => (iblk m c 0 t (ix2 r k) : EReal)) = fun r => X m c (rowAt t r) :=
  funext fun r => funext fun k => iblk0_apply m c t r k

theorem blkG (c : Dev nD) (t : Fin cfg0.N) : (fun (k : Fin 1024) => (iblk m c 1 t (ix2 0 k) : EReal)) = G m c :=
  funext fun k => iblk1_apply m c t k

theorem blkT (c : Dev nD) (t : Fin cfg0.N) : (fun (r : Fin 512) (k : Fin 1024) => (iblk m c 2 t (ix2 r k) : EReal)) = fun r => T m c (rowAt t r) :=
  funext fun r => funext fun k => iblk2_apply m c t r k

/-- After every point the rows' gradient of the point's block stands in the buffer. -/
theorem outs_dx (c : Dev nD) (t : Fin cfg0.N) (j : S512x1024.Idx) :
    (outsAt0 m c t.val t.isLt).2.1 j = dx (X m c) (G m c) (T m c) (rowAt t (j 0)) (j 1) := by
  by_cases h : t.val % 16 = 0
  · rw [outsAt0_A m c t h]; frame_out; rw [pay_dx, blkX, blkG, blkT]; rfl
  · rw [outsAt0_B m c t h]; frame_out; rw [pay_dx, blkX, blkG, blkT]; rfl

theorem final_dx (c : Dev nD) : (dats m 0 c).arrAt 4 cfg0.N = resDx m c := by
  refine (dats m 0 c).arrAt_eq_of_covers 4 _ (by decide +kernel) fun t hf y => ?_
  blk_simp
  rw [after0_4, outs_dx]
  refine congrArg₂ (dx (X m c) (G m c) (T m c)) (Fin.ext ?_) (Fin.ext ?_)
  · blk_simp [index_in t]
  · blk_simp [index_in t]

/-- The blocks' rows are the array's rows. -/
theorem sum_rows (f : Fin 8192 → EReal) : ∑ t : Fin cfg0.N, ∑ r : Fin 512, f (rowAt t r) = ∑ r, f r :=
  Fin.sum_mul_add_congr fun _ _ _ => rfl

/-- The loss after the last point: every block's part. -/
theorem outs_loss (c : Dev nD) (j : S8x128.Idx) :
    (outsAt0 m c t0_15.val t0_15.isLt).1 j = loss (X m c) (G m c) (T m c) := by
  rw [Pipeline.eq_sum_fin_of_reset_step_apply_last (fun n h => (outsAt0 m c n h).1) 16 (fun _ => (0 : EReal))
    (fun t _ => loss (fun r => X m c (rowAt t r)) (G m c) (fun r => T m c (rowAt t r)))
    (fun t h j => by rw [outsAt0_A m c t h]; frame_out; rw [pay_loss, blkX, blkG, blkT]; pointwise [k0_pay3])
    (fun t h j => by rw [outsAt0_B m c t h]; frame_out; rw [pay_loss, blkX, blkG, blkT])
    (le_of_eq N_0) t0_15 rfl j, zero_add]
  exact sum_rows fun r => Ideal.ofBits .f32 0x3A000000#32 * ∑ k, err (X m c) (G m c) (T m c) r k * err (X m c) (G m c) (T m c) r k

/-- The gain's gradient after the last point: every block's part. -/
theorem outs_dg (c : Dev nD) (j : S1x1024.Idx) :
    (outsAt0 m c t0_15.val t0_15.isLt).2.2 j = dg (X m c) (G m c) (T m c) (j 1) := by
  rw [Pipeline.eq_sum_fin_of_reset_step_apply_last (fun n h => (outsAt0 m c n h).2.2) 16 (fun _ => (0 : EReal))
    (fun t j => dg (fun r => X m c (rowAt t r)) (G m c) (fun r => T m c (rowAt t r)) (j 1))
    (fun t h j => by rw [outsAt0_A m c t h]; frame_out; rw [pay_dg, blkX, blkG, blkT]; pointwise [k0_pay4])
    (fun t h j => by rw [outsAt0_B m c t h]; frame_out; rw [pay_dg, blkX, blkG, blkT])
    (le_of_eq N_0) t0_15 rfl j, zero_add]
  exact sum_rows fun r => dy (X m c) (G m c) (T m c) r (j 1) * (X m c r (j 1) * Norm.rs (X m c r))

theorem final_loss (c : Dev nD) : (dats m 0 c).arrAt 3 cfg0.N = resLoss m c := by
  refine (dats m 0 c).arrAt_eq_of_after_last 3 t0_15 (by decide +kernel) _ fun y => ?_
  blk_simp
  rw [after0_3, outs_loss]

theorem final_dg (c : Dev nD) : (dats m 0 c).arrAt 5 cfg0.N = resDg m c := by
  refine (dats m 0 c).arrAt_eq_of_after_last 5 t0_15 (by decide +kernel) _ fun y => ?_
  blk_simp
  rw [after0_5, outs_dg]

/-- The run: the results at the loss and its gradients, the arguments unchanged. -/
theorem run : θ_run defs (onTc (τ := τ) (main (F := Ideal))) ⟨m, fun _ => 0, ρ⟩ fun r => ∀ c : Dev nD,
      r.2.mem ((c.tc : Thread nD τ).loc main_v1_0) = resLoss m c
      ∧ r.2.mem ((c.tc : Thread nD τ).loc main_v1_1) = resDx m c
      ∧ r.2.mem ((c.tc : Thread nD τ).loc main_v1_2) = resDg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_loss m c), (h c).2.1.trans (final_dx m c), (h c).2.2.1.trans (final_dg m c), (h c).2.2.2⟩)
    (Value.run_blocks m ρ)

end Cert.Kernel2Ideal.Loss

namespace Cert.Reference2Ideal.Loss

open Cert.Reference2Ideal Cert.Reference2Ideal.Gen Cert.Loss Idealize.ShloMosaic.StableHlo

section
variable (x : FVec Ideal S8192x1024 .f32) (g : FVec Ideal S1024 .f32) (t : FVec Ideal S8192x1024 .f32)

theorem loss_eq : Read.val_main_v51 (F := Ideal) x g t
    = fun _ => loss (fun r k => x (ix2 r k)) (fun k => g (ix1 k)) (fun r k => t (ix2 r k)) := by
  rw [← Read.val_main_v51_eq]
  funext i
  unfold loss
  rw [← Norm.half_mean]
  pointwise [err, Norm.rs, Norm.ms]

theorem dg_eq : Read.val_main_v52 (F := Ideal) x g t
    = fun i => dg (fun r k => x (ix2 r k)) (fun k => g (ix1 k)) (fun r k => t (ix2 r k)) (i 1) := by
  rw [← Read.val_main_v52_eq]
  funext i
  pointwise [dg, dy, err, Norm.rs, Norm.ms]
  simp only [Norm.err_factor, Finset.univ_unique, Finset.sum_singleton]
  exact Finset.sum_congr rfl fun r _ => mul_comm _ _

end

theorem dx_eq (m : (ℓ : Loc nD τ sig) → Buf (Elt Ideal) ℓ) (c : Dev nD) (x : FVec Ideal S8192x1024 .f32) (g : FVec Ideal S1024 .f32)
    (t : FVec Ideal S8192x1024 .f32) (hx : m ((c.tc : Thread nD τ).loc main_arg0) = x) (hg : m ((c.tc : Thread nD τ).loc main_arg1) = g)
    (ht : m ((c.tc : Thread nD τ).loc main_arg2) = t) : Value.res_main_v50 m c
    = fun i : S8192x1024.Idx => dx (fun r k => x (ix2 r k)) (fun k => g (ix1 k)) (fun r k => t (ix2 r k)) (i 0) (i 1) := by
  unfold Value.res_main_v50
  rw [hx, hg, ht]
  funext i
  refine Eq.trans ?_ (Norm.grad_eq _ _ _).symm
  pointwise [Norm.jaxQ, dy, err, Norm.rs, Norm.ms]
  simp only [Norm.err_factor, Finset.univ_unique, Finset.sum_singleton]

/-- The reference's run: the results at the loss and its gradients, the arguments unchanged. -/
theorem run (m : (ℓ : Loc nD τ sig) → Buf (Elt Ideal) ℓ) (ρ : Dev nD → PrngReg) (x : Dev nD → FVec Ideal S8192x1024 .f32)
    (g : Dev nD → FVec Ideal S1024 .f32) (t : Dev nD → FVec Ideal S8192x1024 .f32) (hm : ∀ c : Dev nD,
      m ((c.tc : Thread nD τ).loc main_arg0) = x c ∧ m ((c.tc : Thread nD τ).loc main_arg1) = g c ∧ m ((c.tc : Thread nD τ).loc main_arg2) = t c) :
    θ_run defs (onTc (τ := τ) (main (F := Ideal))) ⟨m, fun _ => 0, ρ⟩ fun r => ∀ c : Dev nD,
      r.2.mem ((c.tc : Thread nD τ).loc main_v51)
        = (fun _ => loss (fun r k => x c (ix2 r k)) (fun k => g c (ix1 k)) (fun r k => t c (ix2 r k)) : FVec Ideal S8x128 .f32)
      ∧ r.2.mem ((c.tc : Thread nD τ).loc main_v50)
        = (fun i => dx (fun r k => x c (ix2 r k)) (fun k => g c (ix1 k)) (fun r k => t c (ix2 r k)) (i 0) (i 1) : FVec Ideal S8192x1024 .f32)
      ∧ r.2.mem ((c.tc : Thread nD τ).loc main_v52)
        = (fun i => dg (fun r k => x c (ix2 r k)) (fun k => g c (ix1 k)) (fun r k => t c (ix2 r k)) (i 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨hx, hg, ht⟩ := hm c
    refine ⟨(h c).1.trans ?_, (h c).2.1.trans (dx_eq m c _ _ _ hx hg ht), (h c).2.2.1.trans ?_, (h c).2.2.2⟩
    · refine (Read.val_main_v51_eq _ _ _).trans ?_
      rw [hx, hg, ht]
      exact loss_eq _ _ _
    · refine (Read.val_main_v52_eq _ _ _).trans ?_
      rw [hx, hg, ht]
      exact dg_eq _ _ _) (Value.run m ρ)

end Cert.Reference2Ideal.Loss

namespace Cert.Loss

/-- Equal arguments give equal losses and gradients. -/
theorem algebraic : Cert.algebraic_Kernel2Ideal_Reference2Ideal := fun m g m' g' _ hm =>
  ⟨fun c => Cert.Kernel2Ideal.Loss.resLoss m c, fun c => Cert.Kernel2Ideal.Loss.resDx m c, fun c => Cert.Kernel2Ideal.Loss.resDg m c,
    Cert.Kernel2Ideal.Loss.run m g, Cert.Reference2Ideal.Loss.run m' g' _ _ _ hm⟩

end Cert.Loss
-- ==== Proof.NormBwd.lean ====
/-
  THE NORM'S GRADIENT FUSED WITH A PRODUCT: the call `_mm_nt_normbwd` computes, for rows `x`, a gain `g` and the
  cotangent `dh` of the normalised rows times the gain, the rows' gradient `dx` (on top of a gradient `dr` that comes
  from elsewhere) and the gain's gradient `dg`. Three calls use these two functions.
-/
module

public import proofs.«01_k».proof.Proof.Norm

@[expose] public section

noncomputable section

open Idealize.ShloMosaic

namespace Cert.NormBwd

variable {n : ℕ} (x : Fin n → Fin 1024 → EReal) (g : Fin 1024 → EReal) (dh dr : Fin n → Fin 1024 → EReal)

/-- The gradient of the rows. -/
def dx (r : Fin n) (k : Fin 1024) : EReal := dr r k + Norm.grad (x r) (fun l => dh r l * g l) k

/-- The gradient of the gain. -/
def dg (k : Fin 1024) : EReal := ∑ r, dh r k * (x r k * Norm.rs (x r))

/-- Rows `σ r` of other arrays, equal entry by entry, have equal gradients. -/
theorem dx_congr {n' : ℕ} {x : Fin n → Fin 1024 → EReal} {g : Fin 1024 → EReal} {dh dr : Fin n → Fin 1024 → EReal}
    {x' : Fin n' → Fin 1024 → EReal} {g' : Fin 1024 → EReal} {dh' dr' : Fin n' → Fin 1024 → EReal} (σ : Fin n → Fin n')
    (hx : ∀ r k, x r k = x' (σ r) k) (hg : ∀ k, g k = g' k) (hh : ∀ r k, dh r k = dh' (σ r) k) (hr : ∀ r k, dr r k = dr' (σ r) k)
    (r : Fin n) (k : Fin 1024) : dx x g dh dr r k = dx x' g' dh' dr' (σ r) k := by
  obtain rfl : g = g' := funext hg
  unfold dx
  rw [hr, show x r = x' (σ r) from funext (hx r), show dh r = dh' (σ r) from funext (hh r)]

/-- The gain's gradient over rows `σ r` of other arrays. -/
theorem dg_congr {n' : ℕ} {x dh : Fin n → Fin 1024 → EReal} {x' dh' : Fin n' → Fin 1024 → EReal} (σ : Fin n → Fin n')
    (hx : ∀ r k, x r k = x' (σ r) k) (hh : ∀ r k, dh r k = dh' (σ r) k) (k : Fin 1024) :
    dg x dh k = ∑ r, dh' (σ r) k * (x' (σ r) k * Norm.rs (x' (σ r))) := by
  unfold dg
  refine Finset.sum_congr rfl fun r _ => ?_
  rw [show x r = x' (σ r) from funext (hx r), hh]

/-- Row `r` of the half of a block that begins at row `o`. -/
abbrev half (o : ℕ) (ho : o ≤ 256) (r : Fin 256) : Fin 512 := ⟨o + r.val, by omega⟩

/-- Eight groups of 512 columns are 4096 columns. -/
theorem sum_4096 (f : Fin 4096 → EReal) :
    (∑ s : Fin 8, ∑ k : Fin 512, f ⟨s.val * 512 + k.val, by omega⟩) = ∑ k, f k :=
  Fin.sum_mul_add_congr fun _ _ _ => rfl

/-- Two halves of 256 rows are 512 rows. -/
theorem sum_512 (f : Fin 512 → EReal) :
    (∑ r : Fin 256, f (half 0 (by decide) r)) + (∑ r : Fin 256, f (half 256 (by decide) r)) = ∑ r, f r := by
  have h : (∑ s : Fin 2, ∑ r : Fin 256, f ⟨s.val * 256 + r.val, by omega⟩) = ∑ r, f r :=
    Fin.sum_mul_add_congr fun _ _ _ => rfl
  rw [← h, Fin.sum_univ_two]
  rfl

/-- The gain's gradient over a block's two halves is the gradient over the block's rows. -/
theorem dg_halves (x dh : Fin 512 → Fin 1024 → EReal) {xl dhl xh dhh : Fin 256 → Fin 1024 → EReal}
    (hxl : ∀ r k, xl r k = x (half 0 (by decide) r) k) (hdl : ∀ r k, dhl r k = dh (half 0 (by decide) r) k)
    (hxh : ∀ r k, xh r k = x (half 256 (by decide) r) k) (hdh : ∀ r k, dhh r k = dh (half 256 (by decide) r) k) (k : Fin 1024) :
    dg xl dhl k + dg xh dhh k = dg x dh k := by
  rw [dg_congr _ hxl hdl, dg_congr _ hxh hdh]
  exact sum_512 fun r => dh r k * (x r k * Norm.rs (x r))

/-- Sixteen blocks of 512 rows are 8192 rows. -/
theorem sum_8192 (f : Fin 8192 → EReal) :
    (∑ t : Fin 16, ∑ r : Fin 512, f ⟨t.val * 512 + r.val, by omega⟩) = ∑ r, f r :=
  Fin.sum_mul_add_congr fun _ _ _ => rfl

end Cert.NormBwd
-- ==== Proof.FfnIn.lean ====
/-
  THE FEED-FORWARD INPUT'S GRADIENT: the call `_mm_nt_normbwd` with a product after it. In sixteen blocks of 512 rows,
  each in two halves, it computes `dh = dz · w1ᵀ` (in eight groups of 512 columns), the gradient of the rows through the
  norm, the gradient of the gain (added up over the blocks) and the product of the rows' gradient with the transposed
  weight of the line before.
-/
module

public import proofs.«01_k».proof.Proof.NormBwd
public import proofs.«01_k».proof.Proof.Common
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Point
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.FfnIn

open Cert.Kernel3Ideal Cert.Kernel3Ideal.Gen Cert.NormBwd

/-! ## One half of a block -/

section
variable (z0 z1 z2 z3 z4 z5 z6 z7 : Vec Ideal S256x512 .bf16) (w0 w1 w2 w3 w4 w5 w6 w7 : Vec Ideal S1x1024x512 .bf16)

/-- One group's part of the product. -/
abbrev part (z : Vec Ideal S256x512 .bf16) (w : Vec Ideal S1x1024x512 .bf16) (r : Fin 256) (l : Fin 1024) : EReal :=
  ∑ k : Fin 512, (z (ix2 r k) : EReal) * w (ix3 0 l k)

theorem dh_lo (r : Fin 256) (l : Fin 1024) :
    k0_pay6 (k0_pay4 z0 w0 z1 w1 z2 w2 z3 w3) (k0_pay5 z4 w4) z5 w5 z6 w6 z7 w7 (ix2 r l)
      = part z0 w0 r l + part z1 w1 r l + part z2 w2 r l + part z3 w3 r l + part z4 w4 r l + part z5 w5 r l
        + part z6 w6 r l + part z7 w7 r l := by
  pointwise [k0_pay6, k0_pay5, k0_pay4, part]

theorem dh_hi (r : Fin 256) (l : Fin 1024) :
    k0_pay16 (k0_pay15 (k0_pay13 z0 w0) z1 (k0_pay14 w1) z2 w2 z3 w3 z4 w4 z5 w5 z6 w6) z7 w7 (ix2 r l)
      = part z0 w0 r l + part z1 w1 r l + part z2 w2 r l + part z3 w3 r l + part z4 w4 r l + part z5 w5 r l
        + part z6 w6 r l + part z7 w7 r l := by
  pointwise [k0_pay16, k0_pay15, k0_pay14, k0_pay13, part]

end

section
variable (a b : FVec Ideal S256x1024 .f32) (z : Vec Ideal S256x512 .bf16) (w : Vec Ideal S1x1024x512 .bf16)
  (z1 z2 z3 : Vec Ideal S256x512 .bf16) (w1 w2 w3 : Vec Ideal S1x1024x512 .bf16)
  (x dr : Vec Ideal S256x1024 .f32) (g p : Vec Ideal S1x1024 .f32) (wp : Vec Ideal S1024x1024 .bf16)

theorem dx_lo (j : S256x1024.Idx) : k0_pay11 a (k0_pay8 x) (k0_pay9 x) g dr j
    = dx (fun r k => x (ix2 r k)) (fun k => g (ix2 0 k)) (fun r k => a (ix2 r k)) (fun r k => dr (ix2 r k)) (j 0) (j 1) := by
  pointwise [k0_pay11, k0_pay9, k0_pay8, k0_pay7, dx, Norm.grad, Norm.rs, Norm.ms]

theorem dx_hi (j : S256x1024.Idx) : k0_pay1 dr (k0_pay21 a z w x g) j
    = dx (fun r k => x (ix2 r k)) (fun k => g (ix2 0 k)) (fun r k => k0_pay16 a z w (ix2 r k)) (fun r k => dr (ix2 r k)) (j 0) (j 1) := by
  pointwise [k0_pay1, k0_pay21, k0_pay19, k0_pay18, k0_pay17, dx, Norm.grad, Norm.rs, Norm.ms]

theorem dg_lo (j : S1x1024.Idx) : k0_pay10 a b z1 w1 z2 w2 z3 w3 x p j
    = p j + dg (fun r k => x (ix2 r k)) (fun r k => k0_pay6 a b z1 w1 z2 w2 z3 w3 (ix2 r k)) (j 1) := by
  pointwise [k0_pay10, k0_pay9, k0_pay8, k0_pay7, dg, Norm.rs, Norm.ms]

theorem dg_hi (j : S1x1024.Idx) : k0_pay20 a z w x p j
    = p j + dg (fun r k => x (ix2 r k)) (fun r k => k0_pay16 a z w (ix2 r k)) (j 1) := by
  pointwise [k0_pay20, k0_pay19, k0_pay18, k0_pay17, dg, Norm.rs, Norm.ms]

theorem du_lo (j : S256x1024.Idx) : k0_pay12 a (k0_pay8 x) (k0_pay9 x) g dr wp j
    = ∑ k, k0_pay11 a (k0_pay8 x) (k0_pay9 x) g dr (ix2 (j 0) k) * wp (ix2 (j 1) k) := by
  pointwise [k0_pay12]

theorem du_hi (j : S256x1024.Idx) : k0_pay2 dr (k0_pay21 a z w x g) wp j
    = ∑ k, k0_pay1 dr (k0_pay21 a z w x g) (ix2 (j 0) k) * wp (ix2 (j 1) k) := by
  pointwise [k0_pay2]

end

variable (m : (ℓ : Loc nD τ sig) → Buf (Elt Ideal) ℓ) (ρ : Dev nD → PrngReg)

/-! ## The launched arguments -/

abbrev A0 (c : Dev nD) : FVec Ideal S8192x1024 .bf16 := m ((c : Thread nD τ).loc main_arg0)
abbrev A1 (c : Dev nD) : FVec Ideal S8192x1024 .f32 := m ((c : Thread nD τ).loc main_arg1)
abbrev A2 (c : Dev nD) : FVec Ideal S1024x1024 .f32 := m ((c : Thread nD τ).loc main_arg2)
abbrev A3 (c : Dev nD) : FVec Ideal S1024 .f32 := m ((c : Thread nD τ).loc main_arg3)
abbrev A4 (c : Dev nD) : FVec Ideal S1024x4096 .f32 := m ((c : Thread nD τ).loc main_arg4)
abbrev A5 (c : Dev nD) : FVec Ideal S8192x4096 .bf16 := m ((c : Thread nD τ).loc main_arg5)
abbrev A6 (c : Dev nD) : FVec Ideal S8192x1024 .f32 := m ((c : Thread nD τ).loc main_arg6)

theorem index_in : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![0, 0] ∧ win0_6.index t = ![t.val, 0]
    ∧ win0_7.index t = ![0, 0] ∧ win0_8.index t = ![t.val, 0] :=
  (by decide +kernel : ∀ t : Fin grid0.N, win0_0.index t = ![t.val, 0] ∧ win0_1.index t = ![0, 0, 0] ∧ win0_2.index t = ![t.val, 0]
    ∧ win0_3.index t = ![0, 0] ∧ win0_4.index t = ![t.val, 0] ∧ win0_5.index t = ![0, 0] ∧ win0_6.index t = ![t.val, 0]
    ∧ win0_7.index t = ![0, 0] ∧ win0_8.index t = ![t.val, 0])

theorem row_lt (t : Fin cfg0.N) (r : Fin 512) : t.val * 512 + r.val < 8192 := by
  have := t.isLt; have : cfg0.N = 16 := N_0; omega

/-- Row `r` of point `t`'s block, in the array. -/
abbrev rowAt (t : Fin cfg0.N) (r : Fin 512) : Fin 8192 := ⟨t.val * 512 + r.val, row_lt t r⟩

/-- The rows that are normalised: the line before, `x + u · w`. -/
abbrev X (c : Dev nD) (r : Fin 8192) (k : Fin 1024) : EReal := A1 m c (ix2 r k) + ∑ l : Fin 1024, A0 m c (ix2 r l) * A2 m c (ix2 l k)

theorem iblk0_apply (c : Dev nD) (t : Fin cfg0.N) (r : Fin 512) (k : Fin 4096) :
    iblk m c 0 t (ix2 r k) = A5 m c (ix2 (rowAt t r) k) := by
  blk_point [iblk, V, index_in t]

theorem iblk1_apply (c : Dev nD) (t : Fin cfg0.N) (s : Fin 8) (l : Fin 1024) (k : Fin 512) :
    iblk m c 1 t (ix3 s l k) = A4 m c (ix2 l ⟨s.val * 512 + k.val, by omega⟩) := by
  blk_point [iblk, V, index_in t]

theorem iblk2_apply (c : Dev nD) (t : Fin cfg0.N) (r : Fin 512) (k : Fin 1024) :
    iblk m c 2 t (ix2 r k) = X m c (rowAt t r) k := by
  have e : (win0_2.blk t).view.emb (ix2 r k) = ix2 (rowAt t r) k := by blk_ext [index_in t]
  blk_simp [iblk, index_in t]
  entry_read
  pointwise
  rw [e]
  rfl

theorem iblk3_apply (c : Dev nD) (t : Fin cfg0.N) (k : Fin 1024) :
    iblk m c 3 t (ix2 0 k) = A3 m c (ix1 k) := by
  blk_point [iblk, V, index_in t]

theorem iblk4_apply (c : Dev nD) (t : Fin cfg0.N) (r : Fin 512) (k : Fin 1024) :
    iblk m c 4 t (ix2 r k) = A6 m c (ix2 (rowAt t r) k) := by
  blk_point [iblk, V, index_in t]

theorem iblk5_apply (c : Dev nD) (t : Fin cfg0.N) (j k : Fin 1024) :
    iblk m c 5 t (ix2 j k) = A2 m c (ix2 j k) := by
  blk_point [iblk, V, index_in t]

/-! ## The halves of a point's block -/

abbrev zl (c : Dev nD) (t : Fin cfg0.N) (o p : ℕ) (inb : ∀ a, ![o, p] a + ![256, 512] a ≤ S512x4096.size a) : Vec Ideal S256x512 .bf16 :=
  View.ld (iblk m c 0 t) (Rect.unit (s := S512x4096) ![o, p] ![256, 512] inb)

abbrev wl (c : Dev nD) (t : Fin cfg0.N) (s : ℕ) (inb : ∀ a, ![s, 0, 0] a + ![1, 1024, 512] a ≤ S8x1024x512.size a) : Vec Ideal S1x1024x512 .bf16 :=
  View.ld (iblk m c 1 t) (Rect.unit (s := S8x1024x512) ![s, 0, 0] ![1, 1024, 512] inb)

theorem part_eq (c : Dev nD) (t : Fin cfg0.N) (o p q : ℕ) (s : Fin 8) (ho : o ≤ 256) (hp : p = s.val * 512) (hq : q = s.val) (inb inb')
    (r : Fin 256) (l : Fin 1024) :
    part (zl m c t o p inb) (wl m c t q inb') r l
      = ∑ k : Fin 512, A5 m c (ix2 (rowAt t (half o ho r)) ⟨s.val * 512 + k.val, by omega⟩) * A4 m c (ix2 l ⟨s.val * 512 + k.val, by omega⟩) := by
  subst hp hq
  refine Finset.sum_congr rfl fun k _ => congrArg₂ _ ?_ ?_
  · exact (View.ld_unit_apply_of _ _ _ _ _ (ix2 (half o ho r) ⟨s.val * 512 + k.val, by omega⟩) (by
      intro a; match a with | ⟨0, _⟩ => rfl | ⟨1, _⟩ => rfl)).trans (iblk0_apply m c t _ _)
  · exact (View.ld_unit_apply_of _ _ _ _ _ (ix3 s l k) (by
      intro a; match a with | ⟨0, _⟩ => rfl | ⟨1, _⟩ => exact (Nat.zero_add _).symm | ⟨2, _⟩ => exact (Nat.zero_add _).symm)).trans (iblk1_apply m c t _ _ _)

theorem ld2 (c : Dev nD) (t : Fin cfg0.N) (o : ℕ) (ho : o ≤ 256) (inb) (r : Fin 256) (k : Fin 1024) :
    View.ld (iblk m c 2 t) (Rect.unit (s := S512x1024) ![o, 0] ![256, 1024] inb) (ix2 r k) = X m c (rowAt t (half o ho r)) k :=
  (View.ld_unit_apply_of _ _ _ _ _ (ix2 (half o ho r) k) (by
    intro a; match a with | ⟨0, _⟩ => rfl | ⟨1, _⟩ => exact (Nat.zero_add _).symm)).trans (iblk2_apply m c t _ _)

theorem ld4 (c : Dev nD) (t : Fin cfg0.N) (o : ℕ) (ho : o ≤ 256) (inb) (r : Fin 256) (k : Fin 1024) :
    View.ld (iblk m c 4 t) (Rect.unit (s := S512x1024) ![o, 0] ![256, 1024] inb) (ix2 r k) = A6 m c (ix2 (rowAt t (half o ho r)) k) :=
  (View.ld_unit_apply_of _ _ _ _ _ (ix2 (half o ho r) k) (by
    intro a; match a with | ⟨0, _⟩ => rfl | ⟨1, _⟩ => exact (Nat.zero_add _).symm)).trans (iblk4_apply m c t _ _)

/-- The gain, the cotangent of the normalised rows times the gain, and the gradient that is added. -/
abbrev G (c : Dev nD) (l : Fin 1024) : EReal := A3 m c (ix1 l)
abbrev Dh (c : Dev nD) (r : Fin 8192) (l : Fin 1024) : EReal := ∑ k : Fin 4096, A5 m c (ix2 r k) * A4 m c (ix2 l k)
abbrev Dr (c : Dev nD) (r : Fin 8192) (l : Fin 1024) : EReal := A6 m c (ix2 r l)

theorem dh_sum (c : Dev nD) (r : Fin 8192) (l : Fin 1024) :
    (∑ s : Fin 8, ∑ k : Fin 512, A5 m c (ix2 r ⟨s.val * 512 + k.val, by omega⟩) * A4 m c (ix2 l ⟨s.val * 512 + k.val, by omega⟩)) = Dh m c r l :=
  sum_4096 fun k => A5 m c (ix2 r k) * A4 m c (ix2 l k)

/-- The products the body forms for the first and for the second half. -/
abbrev dhLo (c : Dev nD) (t : Fin cfg0.N) : FVec Ideal S256x1024 .f32 :=
  k0_pay6 (k0_pay4 (zl m c t 0 0 inb_S512x4096_S256x512_0_0) (wl m c t 0 inb_S8x1024x512_S1x1024x512_0_0_0)
    (zl m c t 0 512 inb_S512x4096_S256x512_0_512) (wl m c t 1 inb_S8x1024x512_S1x1024x512_1_0_0) (zl m c t 0 1024 inb_S512x4096_S256x512_0_1024) (wl m c t 2 inb_S8x1024x512_S1x1024x512_2_0_0)
    (zl m c t 0 1536 inb_S512x4096_S256x512_0_1536) (wl m c t 3 inb_S8x1024x512_S1x1024x512_3_0_0)) (k0_pay5 (zl m c t 0 2048 inb_S512x4096_S256x512_0_2048) (wl m c t 4 inb_S8x1024x512_S1x1024x512_4_0_0))
    (zl m c t 0 2560 inb_S512x4096_S256x512_0_2560) (wl m c t 5 inb_S8x1024x512_S1x1024x512_5_0_0) (zl m c t 0 3072 inb_S512x4096_S256x512_0_3072) (wl m c t 6 inb_S8x1024x512_S1x1024x512_6_0_0)
    (zl m c t 0 3584 inb_S512x4096_S256x512_0_3584) (wl m c t 7 inb_S8x1024x512_S1x1024x512_7_0_0)

abbrev dhHi (c : Dev nD) (t : Fin cfg0.N) : FVec Ideal S256x1024 .f32 :=
  k0_pay16 (k0_pay15 (k0_pay13 (zl m c t 256 0 inb_S512x4096_S256x512_256_0) (wl m c t 0 inb_S8x1024x512_S1x1024x512_0_0_0))
    (zl m c t 256 512 inb_S512x4096_S256x512_256_512) (k0_pay14 (wl m c t 1 inb_S8x1024x512_S1x1024x512_1_0_0)) (zl m c t 256 1024 inb_S512x4096_S256x512_256_1024) (wl m c t 2 inb_S8x1024x512_S1x1024x512_2_0_0)
    (zl m c t 256 1536 inb_S512x4096_S256x512_256_1536) (wl m c t 3 inb_S8x1024x512_S1x1024x512_3_0_0) (zl m c t 256 2048 inb_S512x4096_S256x512_256_2048) (wl m c t 4 inb_S8x1024x512_S1x1024x512_4_0_0)
    (zl m c t 256 2560 inb_S512x4096_S256x512_256_2560) (wl m c t 5 inb_S8x1024x512_S1x1024x512_5_0_0) (zl m c t 256 3072 inb_S512x4096_S256x512_256_3072) (wl m c t 6 inb_S8x1024x512_S1x1024x512_6_0_0))
    (zl m c t 256 3584 inb_S512x4096_S256x512_256_3584) (wl m c t 7 inb_S8x1024x512_S1x1024x512_7_0_0)

theorem dhLo_apply (c : Dev nD) (t : Fin cfg0.N) (r : Fin 256) (l : Fin 1024) :
    dhLo m c t (ix2 r l) = Dh m c (rowAt t (half 0 (by decide) r)) l := by
  refine (dh_lo ..).trans ?_
  rw [← dh_sum, Fin.sum_univ_eight]
  iterate 7 refine congrArg₂ HAdd.hAdd ?_ ?_
  exacts [part_eq m c t _ _ _ 0 (by decide) rfl rfl _ _ r l, part_eq m c t _ _ _ 1 (by decide) rfl rfl _ _ r l, part_eq m c t _ _ _ 2 (by decide) rfl rfl _ _ r l, part_eq m c t _ _ _ 3 (by decide) rfl rfl _ _ r l, part_eq m c t _ _ _ 4 (by decide) rfl rfl _ _ r l, part_eq m c t _ _ _ 5 (by decide) rfl rfl _ _ r l, part_eq m c t _ _ _ 6 (by decide) rfl rfl _ _ r l, part_eq m c t _ _ _ 7 (by decide) rfl rfl _ _ r l]

theorem dhHi_apply (c : Dev nD) (t : Fin cfg0.N) (r : Fin 256) (l : Fin 1024) :
    dhHi m c t (ix2 r l) = Dh m c (rowAt t (half 256 (by decide) r)) l := by
  refine (dh_hi ..).trans ?_
  rw [← dh_sum, Fin.sum_univ_eight]
  iterate 7 refine congrArg₂ HAdd.hAdd ?_ ?_
  exacts [part_eq m c t _ _ _ 0 (by decide) rfl rfl _ _ r l, part_eq m c t _ _ _ 1 (by decide) rfl rfl _ _ r l, part_eq m c t _ _ _ 2 (by decide) rfl rfl _ _ r l, part_eq m c t _ _ _ 3 (by decide) rfl rfl _ _ r l, part_eq m c t _ _ _ 4 (by decide) rfl rfl _ _ r l, part_eq m c t _ _ _ 5 (by decide) rfl rfl _ _ r l, part_eq m c t _ _ _ 6 (by decide) rfl rfl _ _ r l, part_eq m c t _ _ _ 7 (by decide) rfl rfl _ _ r l]

theorem dxLo (c : Dev nD) (t : Fin cfg0.N) (inb inb') (r : Fin 256) (k : Fin 1024) :
    dx (fun r k => View.ld (iblk m c 2 t) (Rect.unit (s := S512x1024) ![0, 0] ![256, 1024] inb) (ix2 r k)) (fun k => iblk m c 3 t (ix2 0 k))
      (fun r k => dhLo m c t (ix2 r k)) (fun r k => View.ld (iblk m c 4 t) (Rect.unit (s := S512x1024) ![0, 0] ![256, 1024] inb') (ix2 r k)) r k
      = dx (X m c) (G m c) (Dh m c) (Dr m c) (rowAt t (half 0 (by decide) r)) k :=
  dx_congr (fun r => rowAt t (half 0 (by decide) r)) (ld2 m c t 0 (by decide) _) (iblk3_apply m c t) (dhLo_apply m c t) (ld4 m c t 0 (by decide) _) r k

theorem dxHi (c : Dev nD) (t : Fin cfg0.N) (inb inb') (r : Fin 256) (k : Fin 1024) :
    dx (fun r k => View.ld (iblk m c 2 t) (Rect.unit (s := S512x1024) ![256, 0] ![256, 1024] inb) (ix2 r k)) (fun k => iblk m c 3 t (ix2 0 k))
      (fun r k => dhHi m c t (ix2 r k)) (fun r k => View.ld (iblk m c 4 t) (Rect.unit (s := S512x1024) ![256, 0] ![256, 1024] inb') (ix2 r k)) r k
      = dx (X m c) (G m c) (Dh m c) (Dr m c) (rowAt t (half 256 (by decide) r)) k :=
  dx_congr (fun r => rowAt t (half 256 (by decide) r)) (ld2 m c t 256 (by decide) _) (iblk3_apply m c t) (dhHi_apply m c t) (ld4 m c t 256 (by decide) _) r k

/-! ## The results -/

/-- After every point the rows' gradient of the point's block stands in the buffer. -/
theorem outs_dx (c : Dev nD) (t : Fin cfg0.N) (j : S512x1024.Idx) :
    (outsAt0 m c t.val t.isLt).1 j = dx (X m c) (G m c) (Dh m c) (Dr m c) (rowAt t (j 0)) (j 1) := by
  by_cases h : t.val % 16 = 0
  · rw [outsAt0_A m c t h]; frame_out
    canon_tiles i hi
    · exact (dx_hi _ _ _ _ _ _ i).trans ((dxHi m c t _ _ _ _).trans (congrArg₂ _ (Fin.ext (by simp [hi0])) (Fin.ext hi1.symm)))
    · exact (dx_lo _ _ _ _ i).trans ((dxLo m c t _ _ _ _).trans (congrArg₂ _ (Fin.ext (by simp [hi0])) (Fin.ext hi1.symm)))
  · rw [outsAt0_B m c t h]; frame_out
    canon_tiles i hi
    · exact (dx_hi _ _ _ _ _ _ i).trans ((dxHi m c t _ _ _ _).trans (congrArg₂ _ (Fin.ext (by simp [hi0])) (Fin.ext hi1.symm)))
    · exact (dx_lo _ _ _ _ i).trans ((dxLo m c t _ _ _ _).trans (congrArg₂ _ (Fin.ext (by simp [hi0])) (Fin.ext hi1.symm)))

/-- The rows' gradient times the transposed weight. -/
abbrev du (c : Dev nD) (r : Fin 8192) (j : Fin 1024) : EReal :=
  ∑ k : Fin 1024, dx (X m c) (G m c) (Dh m c) (Dr m c) r k * A2 m c (ix2 j k)

theorem outs_du (c : Dev nD) (t : Fin cfg0.N) (j : S512x1024.Idx) :
    (outsAt0 m c t.val t.isLt).2.2 j = du m c (rowAt t (j 0)) (j 1) := by
  by_cases h : t.val % 16 = 0
  · rw [outsAt0_A m c t h]; frame_out
    canon_tiles i hi
    · exact ((du_hi _ _ _ _ _ _ _ i).trans (Finset.sum_congr rfl fun k _ => congrArg₂ _ ((dx_hi _ _ _ _ _ _ _).trans (dxHi m c t _ _ _ _))
        (iblk5_apply m c t _ _))).trans (congrArg₂ (du m c) (Fin.ext (by simp [hi0])) (Fin.ext hi1.symm))
    · exact ((du_lo _ _ _ _ _ i).trans (Finset.sum_congr rfl fun k _ => congrArg₂ _ ((dx_lo _ _ _ _ _).trans (dxLo m c t _ _ _ _))
        (iblk5_apply m c t _ _))).trans (congrArg₂ (du m c) (Fin.ext (by simp [hi0])) (Fin.ext hi1.symm))
  · rw [outsAt0_B m c t h]; frame_out
    canon_tiles i hi
    · exact ((du_hi _ _ _ _ _ _ _ i).trans (Finset.sum_congr rfl fun k _ => congrArg₂ _ ((dx_hi _ _ _ _ _ _ _).trans (dxHi m c t _ _ _ _))
        (iblk5_apply m c t _ _))).trans (congrArg₂ (du m c) (Fin.ext (by simp [hi0])) (Fin.ext hi1.symm))
    · exact ((du_lo _ _ _ _ _ i).trans (Finset.sum_congr rfl fun k _ => congrArg₂ _ ((dx_lo _ _ _ _ _).trans (dxLo m c t _ _ _ _))
        (iblk5_apply m c t _ _))).trans (congrArg₂ (du m c) (Fin.ext (by simp [hi0])) (Fin.ext hi1.symm))

/-- Both halves' part in the gain's gradient is the block's part. -/
theorem dg_block (c : Dev nD) (t : Fin cfg0.N) (inb inb') (k : Fin 1024) :
    dg (fun r k => View.ld (iblk m c 2 t) (Rect.unit (s := S512x1024) ![0, 0] ![256, 1024] inb) (ix2 r k)) (fun r k => dhLo m c t (ix2 r k)) k
      + dg (fun r k => View.ld (iblk m c 2 t) (Rect.unit (s := S512x1024) ![256, 0] ![256, 1024] inb') (ix2 r k)) (fun r k => dhHi m c t (ix2 r k)) k
      = dg (fun r => X m c (rowAt t r)) (fun r => Dh m c (rowAt t r)) k :=
  dg_halves _ _ (ld2 m c t 0 _ _) (dhLo_apply m c t) (ld2 m c t 256 _ _) (dhHi_apply m c t) k

/-- The gain's gradient after the last point: every block's part. -/
theorem outs_dg (c : Dev nD) (j : S1x1024.Idx) :
    (outsAt0 m c t0_15.val t0_15.isLt).2.1 j = dg (X m c) (Dh m c) (j 1) := by
  rw [Pipeline.eq_sum_fin_of_reset_step_apply_last (fun n h => (outsAt0 m c n h).2.1) 16 (fun _ => (0 : EReal))
    (fun t j => dg (fun r => X m c (rowAt t r)) (fun r => Dh m c (rowAt t r)) (j 1))
    (fun t h j => by rw [outsAt0_A m c t h]; frame_out; rw [dg_hi, dg_lo, add_assoc]; exact congrArg₂ _ (by pointwise [k0_pay3]) (dg_block m c t _ _ _))
    (fun t h j => by rw [outsAt0_B m c t h]; frame_out; rw [dg_hi, dg_lo, add_assoc]; exact congrArg₂ _ rfl (dg_block m c t _ _ _))
    (le_of_eq N_0) t0_15 rfl j, zero_add]
  exact sum_8192 fun r => Dh m c r (j 1) * (X m c r (j 1) * Norm.rs (X m c r))

abbrev resDx (c : Dev nD) : Buf (Elt Ideal) ((c : Thread nD τ).loc main_v8_0) := fun i => dx (X m c) (G m c) (Dh m c) (Dr m c) (i 0) (i 1)
abbrev resDg (c : Dev nD) : Buf (Elt Ideal) ((c : Thread nD τ).loc main_v8_1) := fun i => dg (X m c) (Dh m c) (i 1)
abbrev resDu (c : Dev nD) : Buf (Elt Ideal) ((c : Thread nD τ).loc main_v8_2) := fun i => du m c (i 0) (i 1)

theorem final_dx (c : Dev nD) : (dats m 0 c).arrAt 6 cfg0.N = resDx m c := by
  refine (dats m 0 c).arrAt_eq_of_covers 6 _ (by decide +kernel) fun t hf y => ?_
  blk_simp
  rw [after0_6, outs_dx]
  refine congrArg₂ (dx (X m c) (G m c) (Dh m c) (Dr m c)) (Fin.ext ?_) (Fin.ext ?_) <;> blk_simp [index_in t]

theorem final_dg (c : Dev nD) : (dats m 0 c).arrAt 7 cfg0.N = resDg m c := by
  refine (dats m 0 c).arrAt_eq_of_after_last 7 t0_15 (by decide +kernel) _ fun y => ?_
  blk_simp
  rw [after0_7, outs_dg]

theorem final_du (c : Dev nD) : (dats m 0 c).arrAt 8 cfg0.N = resDu m c := by
  refine (dats m 0 c).arrAt_eq_of_covers 8 _ (by decide +kernel) fun t hf y => ?_
  blk_simp
  rw [after0_8, outs_du]
  refine congrArg₂ (du m c) (Fin.ext ?_) (Fin.ext ?_) <;> blk_simp [index_in t]

/-- The run: the results at the gradients, the arguments unchanged. -/
theorem run : θ_run defs (onTc (τ := τ) (main (F := Ideal))) ⟨m, fun _ => 0, ρ⟩ fun r => ∀ c : Dev nD,
      r.2.mem ((c.tc : Thread nD τ).loc main_v8_0) = resDx m c
      ∧ r.2.mem ((c.tc : Thread nD τ).loc main_v8_1) = resDg m c
      ∧ r.2.mem ((c.tc : Thread nD τ).loc main_v8_2) = resDu m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final_dx m c), (h c).2.1.trans (final_dg m c), (h c).2.2.1.trans (final_du m c), (h c).2.2.2⟩)
    (Value.run_blocks m ρ)

end Cert.Kernel3Ideal.FfnIn

namespace Cert.Reference3Ideal.FfnIn

open Cert.Reference3Ideal Cert.Reference3Ideal.Gen Cert.NormBwd Idealize.ShloMosaic.StableHlo

section
variable (a0 : FVec Ideal S8192x1024 .bf16) (a1 : FVec Ideal S8192x1024 .f32) (a2 : FVec Ideal S1024x1024 .f32) (a3 : FVec Ideal S1024 .f32)
  (a4 : FVec Ideal S1024x4096 .f32) (a5 : FVec Ideal S8192x4096 .bf16) (a6 : FVec Ideal S8192x1024 .f32)

abbrev X (r : Fin 8192) (k : Fin 1024) : EReal := a1 (ix2 r k) + ∑ l : Fin 1024, a0 (ix2 r l) * a2 (ix2 l k)
abbrev Dh (r : Fin 8192) (l : Fin 1024) : EReal := ∑ k : Fin 4096, a5 (ix2 r k) * a4 (ix2 l k)

/-- The gain's gradient. -/
theorem dg_eq : Read.val_main_v45 (F := Ideal) a0 a1 a2 a4 a5 = fun i => dg (X a0 a1 a2) (Dh a4 a5) (i 1) := by
  rw [← Read.val_main_v45_eq]
  funext i
  pointwise [dg, Norm.rs, Norm.ms]
  simp only [Finset.univ_unique, Finset.sum_singleton]
  exact Finset.sum_congr rfl fun r _ => mul_comm _ _

end

/-- The rows' gradient: jax's derivative of the norm is the gradient the kernel writes. -/
theorem dx_eq (m : (ℓ : Loc nD τ sig) → Buf (Elt Ideal) ℓ) (c : Dev nD) (a0 : FVec Ideal S8192x1024 .bf16) (a1 : FVec Ideal S8192x1024 .f32) (a2 : FVec Ideal S1024x1024 .f32) (a3 : FVec Ideal S1024 .f32)
    (a4 : FVec Ideal S1024x4096 .f32) (a5 : FVec Ideal S8192x4096 .bf16) (a6 : FVec Ideal S8192x1024 .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5)
    (h6 : m ((c.tc : Thread nD τ).loc main_arg6) = a6) :
    Value.res_main_v42 m c
      = fun i : S8192x1024.Idx => dx (X a0 a1 a2) (fun k => a3 (ix1 k)) (Dh a4 a5) (fun r k => a6 (ix2 r k)) (i 0) (i 1) := by
  unfold Value.res_main_v42
  rw [h0, h1, h2, h3, h4, h5, h6]
  refine Common.ext2 fun r k => ?_
  refine Eq.trans ?_ (congrArg (a6 (ix2 r k) + ·) (Norm.grad_eq _ _ _).symm)
  pointwise [Norm.jaxQ, Norm.rs, Norm.ms]
  simp only [Finset.univ_unique, Finset.sum_singleton, ← add_assoc]

/-- The product after it. -/
theorem du_eq (m : (ℓ : Loc nD τ sig) → Buf (Elt Ideal) ℓ) (c : Dev nD) (a0 : FVec Ideal S8192x1024 .bf16) (a1 : FVec Ideal S8192x1024 .f32) (a2 : FVec Ideal S1024x1024 .f32) (a3 : FVec Ideal S1024 .f32)
    (a4 : FVec Ideal S1024x4096 .f32) (a5 : FVec Ideal S8192x4096 .bf16) (a6 : FVec Ideal S8192x1024 .f32)
    (h0 : m ((c.tc : Thread nD τ).loc main_arg0) = a0) (h1 : m ((c.tc : Thread nD τ).loc main_arg1) = a1)
    (h2 : m ((c.tc : Thread nD τ).loc main_arg2) = a2) (h3 : m ((c.tc : Thread nD τ).loc main_arg3) = a3)
    (h4 : m ((c.tc : Thread nD τ).loc main_arg4) = a4) (h5 : m ((c.tc : Thread nD τ).loc main_arg5) = a5)
    (h6 : m ((c.tc : Thread nD τ).loc main_arg6) = a6) :
    Value.res_main_v46 m c
      = fun i : S8192x1024.Idx => ∑ k : Fin 1024,
          dx (X a0 a1 a2) (fun k => a3 (ix1 k)) (Dh a4 a5) (fun r k => a6 (ix2 r k)) (i 0) k * a2 (ix2 (i 1) k) := by
  rw [Read.val_main_v46_eq, h0, h1, h2, h3, h4, h5, h6]
  have e := (Read.val_main_v42_eq m c).symm.trans (dx_eq m c a0 a1 a2 a3 a4 a5 a6 h0 h1 h2 h3 h4 h5 h6)
  rw [h0, h1, h2, h3, h4, h5, h6] at e
  unfold Read.val_main_v46 Read.val_main_v44 Read.val_main_v43
  rw [e]
  funext i
  pointwise

/-- The reference's run: the results at the gradients, the arguments unchanged. -/
theorem run (m : (ℓ : Loc nD τ sig) → Buf (Elt Ideal) ℓ) (ρ : Dev nD → PrngReg) (a0 : Dev nD → FVec Ideal S8192x1024 .bf16) (a1 : Dev nD → FVec Ideal S8192x1024 .f32) (a2 : Dev nD → FVec Ideal S1024x1024 .f32) (a3 : Dev nD → FVec Ideal S1024 .f32) (a4 : Dev nD → FVec Ideal S1024x4096 .f32) (a5 : Dev nD → FVec Ideal S8192x4096 .bf16) (a6 : Dev nD → FVec Ideal S8192x1024 .f32)
    (hm : ∀ c : Dev nD, m ((c.tc : Thread nD τ).loc main_arg0) = a0 c
      ∧ m ((c.tc : Thread nD τ).loc main_arg1) = a1 c
      ∧ m ((c.tc : Thread nD τ).loc main_arg2) = a2 c
      ∧ m ((c.tc : Thread nD τ).loc main_arg3) = a3 c
      ∧ m ((c.tc : Thread nD τ).loc main_arg4) = a4 c
      ∧ m ((c.tc : Thread nD τ).loc main_arg5) = a5 c
      ∧ m ((c.tc : Thread nD τ).loc main_arg6) = a6 c) :
    θ_run defs (onTc (τ := τ) (main (F := Ideal))) ⟨m, fun _ => 0, ρ⟩ fun r => ∀ c : Dev nD,
      r.2.mem ((c.tc : Thread nD τ).loc main_v42) = (fun i => dx (X (a0 c) (a1 c) (a2 c)) (fun k => a3 c (ix1 k)) (Dh (a4 c) (a5 c)) (fun r k => a6 c (ix2 r k)) (i 0) (i 1) : FVec Ideal S8192x1024 .f32)
      ∧ r.2.mem ((c.tc : Thread nD τ).loc main_v45) = (fun i => dg (X (a0 c) (a1 c) (a2 c)) (Dh (a4 c) (a5 c)) (i 1) : FVec Ideal S1x1024 .f32)
      ∧ r.2.mem ((c.tc : Thread nD τ).loc main_v46) = (fun i => ∑ k : Fin 1024, dx (X (a0 c) (a1 c) (a2 c)) (fun k => a3 c (ix1 k)) (Dh (a4 c) (a5 c)) (fun r k => a6 c (ix2 r k)) (i 0) k * a2 c (ix2 (i 1) k) : FVec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, h1, h2, h3, h4, h5, h6⟩ := hm c
    refine ⟨(h c).1.trans (dx_eq m c _ _ _ _ _ _ _ h0 h1 h2 h3 h4 h5 h6),
      (h c).2.1.trans ((Read.val_main_v45_eq _ _ _ _ _).trans (by rw [h0, h1, h2, h4, h5]; exact dg_eq _ _ _ _ _)),
      (h c).2.2.1.trans (du_eq m c _ _ _ _ _ _ _ h0 h1 h2 h3 h4 h5 h6), (h c).2.2.2⟩) (Value.run m ρ)

end Cert.Reference3Ideal.FfnIn

namespace Cert.FfnIn

/-- Equal arguments give equal gradients. -/
theorem algebraic : Cert.algebraic_Kernel3Ideal_Reference3Ideal := fun m g m' g' _ hm =>
  ⟨fun c => Cert.Kernel3Ideal.FfnIn.resDx m c, fun c => Cert.Kernel3Ideal.FfnIn.resDg m c, fun c => Cert.Kernel3Ideal.FfnIn.resDu m c,
    Cert.Kernel3Ideal.FfnIn.run m g, Cert.Reference3Ideal.FfnIn.run m' g' _ _ _ _ _ _ _ hm⟩

end Cert.FfnIn
-- ==== Proof.Qkv.lean ====
/-
  THE ATTENTION INPUT'S GRADIENT: the call `_mm_nt_normbwd` for the query, key and value product. The call takes the three
  cotangents one by one and the weight in eight tiles of 384 columns, and forms `dh` in six groups of 512 columns; every
  group's rows of the weight come from two neighbouring tiles.
-/
module

public import proofs.«01_k».proof.Proof.NormBwd
public import proofs.«01_k».proof.Proof.Common
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit.Point
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Qkv

open Cert.Kernel4Ideal

/-- The three cotangents side by side. -/
abbrev cat3 (q k v : FVec Ideal S8192x1024 .bf16) (r : Fin 8192) (x : Fin 3072) : EReal :=
  if h : x.val < 1024 then q (ix2 r ⟨x.val, h⟩)
  else if h : x.val - 1024 < 1024 then k (ix2 r ⟨x.val - 1024, h⟩) else v (ix2 r ⟨x.val - 1024 - 1024, by omega⟩)

/-- Six groups of 512 columns are 3072 columns. -/
theorem sum_3072 (f : Fin 3072 → EReal) :
    (∑ s : Fin 6, ∑ k : Fin 512, f ⟨s.val * 512 + k.val, by omega⟩) = ∑ k, f k :=
  Fin.sum_mul_add_congr fun _ _ _ => rfl

/-- One group's part of the product, the weight's columns from two tiles. -/
abbrev part (n p : ℕ) (h : n + p = 512) (z : Fin 512 → EReal) (a : Fin n → EReal) (b : Fin p → EReal) : EReal :=
  ∑ k : Fin 512, z k * (if h : k.val < n then a ⟨k.val, h⟩ else b ⟨k.val - n, by omega⟩)

/-- A group's part is the product's terms over its 512 columns. -/
theorem part_eq (n p : ℕ) (h : n + p = 512) (s : Fin 6) (Z W : Fin 3072 → EReal) {z : Fin 512 → EReal} {a : Fin n → EReal} {b : Fin p → EReal}
    (hz : ∀ k : Fin 512, z k = Z ⟨s.val * 512 + k.val, by omega⟩)
    (ha : ∀ k : Fin n, a k = W ⟨s.val * 512 + k.val, by omega⟩)
    (hb : ∀ k : Fin p, b k = W ⟨s.val * 512 + n + k.val, by omega⟩) :
    part n p h z a b = ∑ k : Fin 512, Z ⟨s.val * 512 + k.val, by omega⟩ * W ⟨s.val * 512 + k.val, by omega⟩ := by
  refine Finset.sum_congr rfl fun k _ => congrArg₂ _ (hz k) ?_
  by_cases hk : k.val < n
  · rw [dif_pos hk, ha]
  · rw [dif_neg hk, hb]; exact congrArg W (Fin.ext (by show s.val * 512 + n + (k.val - n) = s.val * 512 + k.val; omega))

end Cert.Qkv

namespace Cert.Kernel4Ideal.Qkv

open Cert.Kernel4Ideal Cert.Kernel4Ideal.Gen Cert.NormBwd Cert.Qkv

/-! ## One half of a block -/

section
variable (z0 z1 z2 z3 z4 z5 : Vec Ideal S256x512 .bf16) (a0 : Vec Ideal S1x1024x384 .bf16) (b0 : Vec Ideal S1x1024x128 .bf16) (a1 : Vec Ideal S1x1024x256 .bf16) (b1 : Vec Ideal S1x1024x256 .bf16) (a2 : Vec Ideal S1x1024x128 .bf16) (b2 : Vec Ideal S1x1024x384 .bf16) (a3 : Vec Ideal S1x1024x384 .bf16) (b3 : Vec Ideal S1x1024x128 .bf16) (a4 : Vec Ideal S1x1024x256 .bf16) (b4 : Vec Ideal S1x1024x256 .bf16) (a5 : Vec Ideal S1x1024x128 .bf16) (b5 : Vec Ideal S1x1024x384 .bf16)

theorem dh_lo (r : Fin 256) (l : Fin 1024) :
    k0_pay4 (k0_pay3 z0 a0 b0 z1 a1 b1 z2 a2 b2) z3 a3 b3 z4 a4 b4 z5 a5 b5 (ix2 r l)
      = part 384 128 rfl (fun k => z0 (ix2 r k)) (fun k => a0 (ix3 0 l k)) (fun k => b0 (ix3 0 l k)) + part 256 256 rfl (fun k => z1 (ix2 r k)) (fun k => a1 (ix3 0 l k)) (fun k => b1 (ix3 0 l k)) + part 128 384 rfl (fun k => z2 (ix2 r k)) (fun k => a2 (ix3 0 l k)) (fun k => b2 (ix3 0 l k)) + part 384 128 rfl (fun k => z3 (ix2 r k)) (fun k => a3 (ix3 0 l k)) (fun k => b3 (ix3 0 l k)) + part 256 256 rfl (fun k => z4 (ix2 r k)) (fun k => a4 (ix3 0 l k)) (fun k => b4 (ix3 0 l k)) + part 128 384 rfl (fun k => z5 (ix2 r k)) (fun k => a5 (ix3 0 l k)) (fun k => b5 (ix3 0 l k)) := by
  pointwise [k0_pay4, k0_pay3, part]

theorem dh_hi (r : Fin 256) (l : Fin 1024) :
    k0_pay14 (k0_pay12 (k0_pay11 z0 a0 b0) z1 a1 b1 z2 a2 b2 z3 a3 b3) z4 (k0_pay13 a4) b4 z5 a5 b5 (ix2 r l)
      = part 384 128 rfl (fun k => z0 (ix2 r k)) (fun k => a0 (ix3 0 l k)) (fun k => b0 (ix3 0 l k)) + part 256 256 rfl (fun k => z1 (ix2 r k)) (fun k => a1 (ix3 0 l k)) (fun k => b1 (ix3 0 l k)) + part 128 384 rfl (fun k => z2 (ix2 r k)) (fun k => a2 (ix3 0 l k)) (fun k => b2 (ix3 0 l k)) + part 384 128 rfl (fun k => z3 (ix2 r k)) (fun k => a3 (ix3 0 l k)) (fun k => b3 (ix3 0 l k)) + part 256 256 rfl (fun k => z4 (ix2 r k)) (fun k => a4 (ix3 0 l k)) (fun k => b4 (ix3 0 l k)) + part 128 384 rfl (fun k => z5 (ix2 r k)) (fun k => a5 (ix3 0 l k)) (fun k => b5 (ix3 0 l k)) := by
  pointwise [k0_pay14, k0_pay13, k0_pay12, k0_pay11, part]

end

section
variable (a : FVec Ideal S256x1024 .f32) (z z' : Vec Ideal S256x512 .bf16) (w0 : FVec Ideal S1024x256 .bf16) (w1 : Vec Ideal S1x1024x256 .bf16)
  (w2 : Vec Ideal S1x1024x128 .bf16) (w3 : Vec Ideal S1x1024x384 .bf16)
  (x dr : Vec Ideal S256x1024 .f32) (g p : Vec Ideal S1x1024 .f32)

theorem dx_lo (j : S256x1024.Idx) : k0_pay10 a x (k0_pay5 x) k0_pay6 g dr j
    = dx (fun r k => x (ix2 r k)) (fun k => g (ix2 0 k)) (fun r k => a (ix2 r k)) (fun r k => dr (ix2 r k)) (j 0) (j 1) := by
  pointwise [k0_pay10, k0_pay8, k0_pay7, k0_pay6, k0_pay5, dx, Norm.grad, Norm.rs, Norm.ms]

theorem dx_hi (j : S256x1024.Idx) : k0_pay1 (k0_pay15 x) (k0_pay16 x) (k0_pay18 a z w0 w1 z' w2 w3 g) dr j
    = dx (fun r k => x (ix2 r k)) (fun k => g (ix2 0 k)) (fun r k => k0_pay14 a z w0 w1 z' w2 w3 (ix2 r k)) (fun r k => dr (ix2 r k)) (j 0) (j 1) := by
  pointwise [k0_pay1, k0_pay18, k0_pay16, k0_pay15, dx, Norm.grad, Norm.rs, Norm.ms]

theorem dg_lo (j : S1x1024.Idx) : k0_pay9 a x (k0_pay5 x) k0_pay6 p j
    = p j + dg (fun r k => x (ix2 r k)) (fun r k => a (ix2 r k)) (j 1) := by
  pointwise [k0_pay9, k0_pay8, k0_pay7, k0_pay6, k0_pay5, dg, Norm.rs, Norm.ms]

theorem dg_hi (j : S1x1024.Idx) : k0_pay17 a z w0 w1 z' w2 w3 x p j
    = p j + dg (fun r k => x (ix2 r k)) (fun r k => k0_pay14 a z w0 w1 z' w2 w3 (ix2 r k)) (j 1) := by
  pointwise [k0_pay17, k0_pay16, k0_pay15, dg, Norm.rs, Norm.ms]

end

variable (m : (ℓ : Loc nD τ sig) → Buf (Elt Ideal) ℓ) (ρ : Dev nD → PrngReg)

/-! ## The launched arguments -/

abbrev A0 (c : Dev nD) : FVec Ideal S8192x1024 .f32 := m ((c : Thread nD τ).loc main_arg0)
abbrev A1 (c : Dev nD) : FVec Ideal S1024 .f32 := m ((c : Thread nD τ).loc main_arg1)
abbrev A2 (c : Dev nD) : FVec Ideal S1024x3072 .f32 := m ((c : Thread nD τ).loc main_arg2)
abbrev A3 (c : Dev nD) : FVec Ideal S8192x1024 .bf16 := m ((c : Thread nD τ).loc main_arg3)
abbrev A4 (c : Dev nD) : FVec Ideal S8192x1024 .bf16 := m ((c : Thread nD τ).loc main_arg4)
abbrev A5 (c : Dev nD) : FVec Ideal S8192x1024 .bf16 := m ((c : Thread nD τ).loc main_arg5)
abbrev A6 (c : Dev nD) : FVec Ideal S8192x1024 .f32 := m ((c : Thread nD τ).loc main_arg6)

theorem index_in : ∀ t : Fin cfg0.N, win0_0.index t = ![t.val, 0] ∧ win0_1.index t = ![t.val, 0] ∧ win0_2.index t = ![t.val, 0] ∧ win0_3.index t = ![0, 0, 0] ∧ win0_4.index t = ![t.val, 0] ∧ win0_5.index t = ![0, 0] ∧ win0_6.index t = ![t.val, 0] ∧ win0_7.index t = ![t.val, 0] ∧ win0_8.index t = ![0, 0] :=
  (by decide +kernel : ∀ t : Fin grid0.N, win0_0.index t = ![t.val, 0] ∧ win0_1.index t = ![t.val, 0] ∧ win0_2.index t = ![t.val, 0] ∧ win0_3.index t = ![0, 0, 0] ∧ win0_4.index t = ![t.val, 0] ∧ win0_5.index t = ![0, 0] ∧ win0_6.index t = ![t.val, 0] ∧ win0_7.index t = ![t.val, 0] ∧ win0_8.index t = ![0, 0])

theorem row_lt (t : Fin cfg0.N) (r : Fin 512) : t.val * 512 + r.val < 8192 := by
  have := t.isLt; have : cfg0.N = 16 := N_0; omega

/-- Row `r` of point `t`'s block, in the array. -/
abbrev rowAt (t : Fin cfg0.N) (r : Fin 512) : Fin 8192 := ⟨t.val * 512 + r.val, row_lt t r⟩

theorem iblk0_apply (c : Dev nD) (t : Fin cfg0.N) (r : Fin 512) (k : Fin 1024) :
    iblk m c 0 t (ix2 r k) = A3 m c (ix2 (rowAt t r) k) := by
  blk_point [iblk, V, index_in t]

theorem iblk1_apply (c : Dev nD) (t : Fin cfg0.N) (r : Fin 512) (k : Fin 1024) :
    iblk m c 1 t (ix2 r k) = A4 m c (ix2 (rowAt t r) k) := by
  blk_point [iblk, V, index_in t]

theorem iblk2_apply (c : Dev nD) (t : Fin cfg0.N) (r : Fin 512) (k : Fin 1024) :
    iblk m c 2 t (ix2 r k) = A5 m c (ix2 (rowAt t r) k) := by
  blk_point [iblk, V, index_in t]

theorem iblk4_apply (c : Dev nD) (t : Fin cfg0.N) (r : Fin 512) (k : Fin 1024) :
    iblk m c 4 t (ix2 r k) = A0 m c (ix2 (rowAt t r) k) := by
  blk_point [iblk, V, index_in t]

theorem iblk6_apply (c : Dev nD) (t : Fin cfg0.N) (r : Fin 512) (k : Fin 1024) :
    iblk m c 6 t (ix2 r k) = A6 m c (ix2 (rowAt t r) k) := by
  blk_point [iblk, V, index_in t]

theorem iblk5_apply (c : Dev nD) (t : Fin cfg0.N) (k : Fin 1024) :
    iblk m c 5 t (ix2 0 k) = A1 m c (ix1 k) := by
  blk_point [iblk, V, index_in t]

/-- An entry of the weight in a tile. -/
theorem tile_read (A : FVec Ideal S1024x3072 .f32) (E : S8x1024x384.Idx) (s : Fin 8) (l : Fin 1024) (k : Fin 384) (hE : E = ix3 s l k)
    (p : (E 0).val * 384 + (E 2).val < 3072) :
    A (ix2 (E 1) ⟨_, p⟩) = A (ix2 l ⟨s.val * 384 + k.val, by omega⟩) := by
  subst hE; rfl

theorem iblk3_apply (c : Dev nD) (t : Fin cfg0.N) (s : Fin 8) (l : Fin 1024) (k : Fin 384) :
    iblk m c 3 t (ix3 s l k) = A2 m c (ix2 l ⟨s.val * 384 + k.val, by omega⟩) := by
  have e : (win0_3.blk t).view.emb (ix3 s l k) = ix3 s l k := by blk_ext [index_in t]
  blk_simp [iblk, index_in t]
  entry_read
  pointwise
  exact tile_read (A2 m c) _ s l k e _

/-- The rows, the gain, the cotangent of the normalised rows times the gain, and the gradient that is added. -/
abbrev X (c : Dev nD) (r : Fin 8192) (k : Fin 1024) : EReal := A0 m c (ix2 r k)
abbrev G (c : Dev nD) (l : Fin 1024) : EReal := A1 m c (ix1 l)
abbrev Z (c : Dev nD) (r : Fin 8192) (x : Fin 3072) : EReal := cat3 (A3 m c) (A4 m c) (A5 m c) r x
abbrev W (c : Dev nD) (l : Fin 1024) (x : Fin 3072) : EReal := A2 m c (ix2 l x)
abbrev Dh (c : Dev nD) (r : Fin 8192) (l : Fin 1024) : EReal := ∑ x : Fin 3072, Z m c r x * W m c l x
abbrev Dr (c : Dev nD) (r : Fin 8192) (l : Fin 1024) : EReal := A6 m c (ix2 r l)

/-! ## The halves of a point's block -/

abbrev zl (z : Vec Ideal S512x1024 .bf16) (o p : ℕ) (inb : ∀ a, ![o, p] a + ![256, 512] a ≤ S512x1024.size a) : Vec Ideal S256x512 .bf16 :=
  View.ld z (Rect.unit (s := S512x1024) ![o, p] ![256, 512] inb)

theorem zl_apply (z : Vec Ideal S512x1024 .bf16) (o p : ℕ) (ho : o ≤ 256) (hp : p ≤ 512) (inb) (r : Fin 256) (k : Fin 512) :
    zl z o p inb (ix2 r k) = z (ix2 (half o ho r) ⟨p + k.val, by omega⟩) :=
  View.ld_unit_apply_of _ _ _ _ _ _ (by intro a; match a with | ⟨0, _⟩ => rfl | ⟨1, _⟩ => rfl)

theorem zq (c : Dev nD) (t : Fin cfg0.N) (o p : ℕ) (s : Fin 6) (ho : o ≤ 256) (hp : p ≤ 512) (hs : s.val * 512 = 0 + p) (inb)
    (r : Fin 256) (k : Fin 512) :
    zl (iblk m c 0 t) o p inb (ix2 r k) = Z m c (rowAt t (half o ho r)) ⟨s.val * 512 + k.val, by omega⟩ := by
  refine (zl_apply _ o p ho hp inb r k).trans ?_
  refine (iblk0_apply m c t _ _).trans (Eq.trans ?_ (dif_pos (by show s.val * 512 + k.val < 1024; omega)).symm)
  exact congrArg (fun l => A3 m c (ix2 _ l)) (Fin.ext (by show p + k.val = s.val * 512 + k.val; omega))

theorem zk (c : Dev nD) (t : Fin cfg0.N) (o p : ℕ) (s : Fin 6) (ho : o ≤ 256) (hp : p ≤ 512) (hs : s.val * 512 = 1024 + p) (inb)
    (r : Fin 256) (k : Fin 512) :
    zl (iblk m c 1 t) o p inb (ix2 r k) = Z m c (rowAt t (half o ho r)) ⟨s.val * 512 + k.val, by omega⟩ := by
  refine (zl_apply _ o p ho hp inb r k).trans ?_
  refine (iblk1_apply m c t _ _).trans ?_
  unfold Z cat3
  rw [dif_neg (by show ¬ s.val * 512 + k.val < 1024; omega), dif_pos (by show s.val * 512 + k.val - 1024 < 1024; omega)]
  exact congrArg (fun l => A4 m c (ix2 _ l)) (Fin.ext (by show p + k.val = s.val * 512 + k.val - 1024; omega))

theorem zv (c : Dev nD) (t : Fin cfg0.N) (o p : ℕ) (s : Fin 6) (ho : o ≤ 256) (hp : p ≤ 512) (hs : s.val * 512 = 2048 + p) (inb)
    (r : Fin 256) (k : Fin 512) :
    zl (iblk m c 2 t) o p inb (ix2 r k) = Z m c (rowAt t (half o ho r)) ⟨s.val * 512 + k.val, by omega⟩ := by
  refine (zl_apply _ o p ho hp inb r k).trans ?_
  refine (iblk2_apply m c t _ _).trans ?_
  unfold Z cat3
  rw [dif_neg (by show ¬ s.val * 512 + k.val < 1024; omega), dif_neg (by show ¬ s.val * 512 + k.val - 1024 < 1024; omega)]
  exact congrArg (fun l => A5 m c (ix2 _ l)) (Fin.ext (by show p + k.val = s.val * 512 + k.val - 1024 - 1024; omega))

/-- A part of a tile: columns `p` to `p + n` of tile `a`. -/
theorem wl (c : Dev nD) (t : Fin cfg0.N) (a p n q : ℕ) (ha : a < 8) (hq : q = a * 384 + p) (hn : p + n ≤ 384) (inb) (l : Fin 1024) (k : Fin n) :
    View.ld (iblk m c 3 t) (Rect.unit (s := S8x1024x384) ![a, 0, p] ![1, 1024, n] inb) (ix3 0 l k) = W m c l ⟨q + k.val, by omega⟩ := by
  subst hq
  refine (View.ld_unit_apply_of _ _ _ _ _ (ix3 ⟨a, ha⟩ l ⟨p + k.val, by omega⟩) (by
    intro b; match b with | ⟨0, _⟩ => rfl | ⟨1, _⟩ => exact (Nat.zero_add _).symm | ⟨2, _⟩ => rfl)).trans ((iblk3_apply m c t _ _ _).trans ?_)
  exact congrArg (fun x => A2 m c (ix2 l x)) (Fin.ext (Nat.add_assoc _ _ _).symm)

theorem ld4 (c : Dev nD) (t : Fin cfg0.N) (o : ℕ) (ho : o ≤ 256) (inb) (r : Fin 256) (k : Fin 1024) :
    View.ld (iblk m c 4 t) (Rect.unit (s := S512x1024) ![o, 0] ![256, 1024] inb) (ix2 r k) = X m c (rowAt t (half o ho r)) k :=
  (View.ld_unit_apply_of _ _ _ _ _ (ix2 (half o ho r) k) (by
    intro a; match a with | ⟨0, _⟩ => rfl | ⟨1, _⟩ => exact (Nat.zero_add _).symm)).trans (iblk4_apply m c t _ _)

theorem ld6 (c : Dev nD) (t : Fin cfg0.N) (o : ℕ) (ho : o ≤ 256) (inb) (r : Fin 256) (k : Fin 1024) :
    View.ld (iblk m c 6 t) (Rect.unit (s := S512x1024) ![o, 0] ![256, 1024] inb) (ix2 r k) = Dr m c (rowAt t (half o ho r)) k :=
  (View.ld_unit_apply_of _ _ _ _ _ (ix2 (half o ho r) k) (by
    intro a; match a with | ⟨0, _⟩ => rfl | ⟨1, _⟩ => exact (Nat.zero_add _).symm)).trans (iblk6_apply m c t _ _)

theorem dh_sum (c : Dev nD) (r : Fin 8192) (l : Fin 1024) :
    (∑ s : Fin 6, ∑ k : Fin 512, Z m c r ⟨s.val * 512 + k.val, by omega⟩ * W m c l ⟨s.val * 512 + k.val, by omega⟩) = Dh m c r l :=
  sum_3072 fun x => Z m c r x * W m c l x

/-- The products the body forms for the first and for the second half. -/
abbrev dhLo (c : Dev nD) (t : Fin cfg0.N) : FVec Ideal S256x1024 .f32 :=
  k0_pay4 (k0_pay3 (zl (iblk m c 0 t) 0 0 inb_S512x1024_S256x512_0_0)
      (View.ld (iblk m c 3 t) (Rect.unit (s := S8x1024x384) ![0, 0, 0] ![1, 1024, 384] inb_S8x1024x384_S1x1024x384_0_0_0))
      (View.ld (iblk m c 3 t) (Rect.unit (s := S8x1024x384) ![1, 0, 0] ![1, 1024, 128] inb_S8x1024x384_S1x1024x128_1_0_0))
      (zl (iblk m c 0 t) 0 512 inb_S512x1024_S256x512_0_512)
      (View.ld (iblk m c 3 t) (Rect.unit (s := S8x1024x384) ![1, 0, 128] ![1, 1024, 256] inb_S8x1024x384_S1x1024x256_1_0_128))
      (View.ld (iblk m c 3 t) (Rect.unit (s := S8x1024x384) ![2, 0, 0] ![1, 1024, 256] inb_S8x1024x384_S1x1024x256_2_0_0))
      (zl (iblk m c 1 t) 0 0 inb_S512x1024_S256x512_0_0)
      (View.ld (iblk m c 3 t) (Rect.unit (s := S8x1024x384) ![2, 0, 256] ![1, 1024, 128] inb_S8x1024x384_S1x1024x128_2_0_256))
      (View.ld (iblk m c 3 t) (Rect.unit (s := S8x1024x384) ![3, 0, 0] ![1, 1024, 384] inb_S8x1024x384_S1x1024x384_3_0_0)))
      (zl (iblk m c 1 t) 0 512 inb_S512x1024_S256x512_0_512)
      (View.ld (iblk m c 3 t) (Rect.unit (s := S8x1024x384) ![4, 0, 0] ![1, 1024, 384] inb_S8x1024x384_S1x1024x384_4_0_0))
      (View.ld (iblk m c 3 t) (Rect.unit (s := S8x1024x384) ![5, 0, 0] ![1, 1024, 128] inb_S8x1024x384_S1x1024x128_5_0_0))
      (zl (iblk m c 2 t) 0 0 inb_S512x1024_S256x512_0_0)
      (View.ld (iblk m c 3 t) (Rect.unit (s := S8x1024x384) ![5, 0, 128] ![1, 1024, 256] inb_S8x1024x384_S1x1024x256_5_0_128))
      (View.ld (iblk m c 3 t) (Rect.unit (s := S8x1024x384) ![6, 0, 0] ![1, 1024, 256] inb_S8x1024x384_S1x1024x256_6_0_0))
      (zl (iblk m c 2 t) 0 512 inb_S512x1024_S256x512_0_512)
      (View.ld (iblk m c 3 t) (Rect.unit (s := S8x1024x384) ![6, 0, 256] ![1, 1024, 128] inb_S8x1024x384_S1x1024x128_6_0_256))
      (View.ld (iblk m c 3 t) (Rect.unit (s := S8x1024x384) ![7, 0, 0] ![1, 1024, 384] inb_S8x1024x384_S1x1024x384_7_0_0))

abbrev dhHi (c : Dev nD) (t : Fin cfg0.N) : FVec Ideal S256x1024 .f32 :=
  k0_pay14 (k0_pay12 (k0_pay11 (zl (iblk m c 0 t) 256 0 inb_S512x1024_S256x512_256_0)
      (View.ld (iblk m c 3 t) (Rect.unit (s := S8x1024x384) ![0, 0, 0] ![1, 1024, 384] inb_S8x1024x384_S1x1024x384_0_0_0))
      (View.ld (iblk m c 3 t) (Rect.unit (s := S8x1024x384) ![1, 0, 0] ![1, 1024, 128] inb_S8x1024x384_S1x1024x128_1_0_0)))
      (zl (iblk m c 0 t) 256 512 inb_S512x1024_S256x512_256_512)
      (View.ld (iblk m c 3 t) (Rect.unit (s := S8x1024x384) ![1, 0, 128] ![1, 1024, 256] inb_S8x1024x384_S1x1024x256_1_0_128))
      (View.ld (iblk m c 3 t) (Rect.unit (s := S8x1024x384) ![2, 0, 0] ![1, 1024, 256] inb_S8x1024x384_S1x1024x256_2_0_0))
      (zl (iblk m c 1 t) 256 0 inb_S512x1024_S256x512_256_0)
      (View.ld (iblk m c 3 t) (Rect.unit (s := S8x1024x384) ![2, 0, 256] ![1, 1024, 128] inb_S8x1024x384_S1x1024x128_2_0_256))
      (View.ld (iblk m c 3 t) (Rect.unit (s := S8x1024x384) ![3, 0, 0] ![1, 1024, 384] inb_S8x1024x384_S1x1024x384_3_0_0))
      (zl (iblk m c 1 t) 256 512 inb_S512x1024_S256x512_256_512)
      (View.ld (iblk m c 3 t) (Rect.unit (s := S8x1024x384) ![4, 0, 0] ![1, 1024, 384] inb_S8x1024x384_S1x1024x384_4_0_0))
      (View.ld (iblk m c 3 t) (Rect.unit (s := S8x1024x384) ![5, 0, 0] ![1, 1024, 128] inb_S8x1024x384_S1x1024x128_5_0_0)))
      (zl (iblk m c 2 t) 256 0 inb_S512x1024_S256x512_256_0)
      (k0_pay13 (View.ld (iblk m c 3 t) (Rect.unit (s := S8x1024x384) ![5, 0, 128] ![1, 1024, 256] inb_S8x1024x384_S1x1024x256_5_0_128)))
      (View.ld (iblk m c 3 t) (Rect.unit (s := S8x1024x384) ![6, 0, 0] ![1, 1024, 256] inb_S8x1024x384_S1x1024x256_6_0_0))
      (zl (iblk m c 2 t) 256 512 inb_S512x1024_S256x512_256_512)
      (View.ld (iblk m c 3 t) (Rect.unit (s := S8x1024x384) ![6, 0, 256] ![1, 1024, 128] inb_S8x1024x384_S1x1024x128_6_0_256))
      (View.ld (iblk m c 3 t) (Rect.unit (s := S8x1024x384) ![7, 0, 0] ![1, 1024, 384] inb_S8x1024x384_S1x1024x384_7_0_0))

theorem dhLo_apply (c : Dev nD) (t : Fin cfg0.N) (r : Fin 256) (l : Fin 1024) :
    dhLo m c t (ix2 r l) = Dh m c (rowAt t (half 0 (by decide) r)) l := by
  refine (dh_lo ..).trans ?_
  rw [← dh_sum, Fin.sum_univ_six]
  iterate 5 refine congrArg₂ HAdd.hAdd ?_ ?_
  exacts [part_eq 384 128 rfl 0 (Z m c _) (W m c l) (zq m c t 0 0 0 (by decide) (by decide) rfl _ r)
      (wl m c t 0 0 384 _ (by decide) rfl (by decide) _ l) (wl m c t 1 0 128 _ (by decide) rfl (by decide) _ l),
    part_eq 256 256 rfl 1 (Z m c _) (W m c l) (zq m c t 0 512 1 (by decide) (by decide) rfl _ r)
      (wl m c t 1 128 256 _ (by decide) rfl (by decide) _ l) (wl m c t 2 0 256 _ (by decide) rfl (by decide) _ l),
    part_eq 128 384 rfl 2 (Z m c _) (W m c l) (zk m c t 0 0 2 (by decide) (by decide) rfl _ r)
      (wl m c t 2 256 128 _ (by decide) rfl (by decide) _ l) (wl m c t 3 0 384 _ (by decide) rfl (by decide) _ l),
    part_eq 384 128 rfl 3 (Z m c _) (W m c l) (zk m c t 0 512 3 (by decide) (by decide) rfl _ r)
      (wl m c t 4 0 384 _ (by decide) rfl (by decide) _ l) (wl m c t 5 0 128 _ (by decide) rfl (by decide) _ l),
    part_eq 256 256 rfl 4 (Z m c _) (W m c l) (zv m c t 0 0 4 (by decide) (by decide) rfl _ r)
      (wl m c t 5 128 256 _ (by decide) rfl (by decide) _ l) (wl m c t 6 0 256 _ (by decide) rfl (by decide) _ l),
    part_eq 128 384 rfl 5 (Z m c _) (W m c l) (zv m c t 0 512 5 (by decide) (by decide) rfl _ r)
      (wl m c t 6 256 128 _ (by decide) rfl (by decide) _ l) (wl m c t 7 0 384 _ (by decide) rfl (by decide) _ l)]

theorem dhHi_apply (c : Dev nD) (t : Fin cfg0.N) (r : Fin 256) (l : Fin 1024) :
    dhHi m c t (ix2 r l) = Dh m c (rowAt t (half 256 (by decide) r)) l := by
  refine (dh_hi ..).trans ?_
  rw [← dh_sum, Fin.sum_univ_six]
  iterate 5 refine congrArg₂ HAdd.hAdd ?_ ?_
  exacts [part_eq 384 128 rfl 0 (Z m c _) (W m c l) (zq m c t 256 0 0 (by decide) (by decide) rfl _ r)
      (wl m c t 0 0 384 _ (by decide) rfl (by decide) _ l) (wl m c t 1 0 128 _ (by decide) rfl (by decide) _ l),
    part_eq 256 256 rfl 1 (Z m c _) (W m c l) (zq m c t 256 512 1 (by decide) (by decide) rfl _ r)
      (wl m c t 1 128 256 _ (by decide) rfl (by decide) _ l) (wl m c t 2 0 256 _ (by decide) rfl (by decide) _ l),
    part_eq 128 384 rfl 2 (Z m c _) (W m c l) (zk m c t 256 0 2 (by decide) (by decide) rfl _ r)
      (wl m c t 2 256 128 _ (by decide) rfl (by decide) _ l) (wl m c t 3 0 384 _ (by decide) rfl (by decide) _ l),
    part_eq 384 128 rfl 3 (Z m c _) (W m c l) (zk m c t 256 512 3 (by decide) (by decide) rfl _ r)
      (wl m c t 4 0 384 _ (by decide) rfl (by decide) _ l) (wl m c t 5 0 128 _ (by decide) rfl (by decide) _ l),
    part_eq 256 256 rfl 4 (Z m c _) (W m c l) (zv m c t 256 0 4 (by decide) (by decide) rfl _ r)
      (wl m c t 5 128 256 _ (by decide) rfl (by decide) _ l) (wl m c t 6 0 256 _ (by decide) rfl (by decide) _ l),
    part_eq 128 384 rfl 5 (Z m c _) (W m c l) (zv m c t 256 512 5 (by decide) (by decide) rfl _ r)
      (wl m c t 6 256 128 _ (by decide) rfl (by decide) _ l) (wl m c t 7 0 384 _ (by decide) rfl (by decide) _ l)]

theorem dxLo (c : Dev nD) (t : Fin cfg0.N) (inb inb') (r : Fin 256) (k : Fin 1024) :
    dx (fun r k => View.ld (iblk m c 4 t) (Rect.unit (s := S512x1024) ![0, 0] ![256, 1024] inb) (ix2 r k)) (fun k => iblk m c 5 t (ix2 0 k))
      (fun r k => dhLo m c t (ix2 r k)) (fun r k => View.ld (iblk m c 6 t) (Rect.unit (s := S512x1024) ![0, 0] ![256, 1024] inb') (ix2 r k)) r k
      = dx (X m c) (G m c) (Dh m c) (Dr m c) (rowAt t (half 0 (by decide) r)) k :=
  dx_congr (fun r => rowAt t (half 0 (by decide) r)) (ld4 m c t 0 (by decide) _) (iblk5_apply m c t) (dhLo_apply m c t) (ld6 m c t 0 (by decide) _) r k

theorem dxHi (c : Dev nD) (t : Fin cfg0.N) (inb inb') (r : Fin 256) (k : Fin 1024) :
    dx (fun r k => View.ld (iblk m c 4 t) (Rect.unit (s := S512x1024) ![256, 0] ![256, 1024] inb) (ix2 r k)) (fun k => iblk m c 5 t (ix2 0 k))
      (fun r k => dhHi m c t (ix2 r k)) (fun r k => View.ld (iblk m c 6 t) (Rect.unit (s := S512x1024) ![256, 0] ![256, 1024] inb') (ix2 r k)) r k
      = dx (X m c) (G m c) (Dh m c) (Dr m c) (rowAt t (half 256 (by decide) r)) k :=
  dx_congr (fun r => rowAt t (half 256 (by decide) r)) (ld4 m c t 256 (by decide) _) (iblk5_apply m c t) (dhHi_apply m c t) (ld6 m c t 256 (by decide) _) r k

/-! ## The results -/

/-- After every point the rows' gradient of the point's block stands in the buffer. -/
theorem outs_dx (c : Dev nD) (t : Fin cfg0.N) (j : S512x1024.Idx) :
    (outsAt0 m c t.val t.isLt).1 j = dx (X m c) (G m c) (Dh m c) (Dr m c) (rowAt t (j 0)) (j 1) := by
  by_cases h : t.val % 16 = 0
  · rw [outsAt0_A m c t h]; frame_out
    canon_tiles i hi
    · exact (dx_hi _ _ _ _ _ _ _ _ _ _ i).trans ((dxHi m c t _ _ _ _).trans (congrArg₂ _ (Fin.ext (by simp [hi0])) (Fin.ext hi1.symm)))
    · exact (dx_lo _ _ _ _ i).trans ((dxLo m c t _ _ _ _).trans (congrArg₂ _ (Fin.ext (by simp [hi0])) (Fin.ext hi1.symm)))
  · rw [outsAt0_B m c t h]; frame_out
    canon_tiles i hi
    · exact (dx_hi _ _ _ _ _ _ _ _ _ _ i).trans ((dxHi m c t _ _ _ _).trans (congrArg₂ _ (Fin.ext (by simp [hi0])) (Fin.ext hi1.symm)))
    · exact (dx_lo _ _ _ _ i).trans ((dxLo m c t _ _ _ _).trans (congrArg₂ _ (Fin.ext (by simp [hi0])) (Fin.ext hi1.symm)))

/-- Both halves' part in the gain's gradient is the block's part. -/
theorem dg_block (c : Dev nD) (t : Fin cfg0.N) (inb inb') (k : Fin 1024) :
    dg (fun r k => View.ld (iblk m c 4 t) (Rect.unit (s := S512x1024) ![0, 0] ![256, 1024] inb) (ix2 r k)) (fun r k => dhLo m c t (ix2 r k)) k
      + dg (fun r k => View.ld (iblk m c 4 t) (Rect.unit (s := S512x1024) ![256, 0] ![256, 1024] inb') (ix2 r k)) (fun r k => dhHi m c t (ix2 r k)) k
      = dg (fun r => X m c (rowAt t r)) (fun r => Dh m c (rowAt t r)) k :=
  dg_halves _ _ (ld4 m c t 0 _ _) (dhLo_apply m c t) (ld4 m c t 256 _ _) (dhHi_apply m c t) k

/-- The gain's gradient after the last point: every block's part. -/
theorem outs_dg (c : Dev nD) (j : S1x1024.Idx) :
    (outsAt0 m c t0_15.val t0_15.isLt).2 j = dg (X m c) (Dh m c) (j 1) := by
  rw [Pipeline.eq_sum_fin_of_reset_step_apply_last (fun n h => (outsAt0 m c n h).2) 16 (fun _ => (0 : EReal))
    (fun t j => dg (fun r => X m c (rowAt t r)) (fun r => Dh m c (rowAt t r)) (j 1))
    (fun t h j => by rw [outsAt0_A m c t h]; frame_out; rw [dg_hi, dg_lo, add_assoc]; exact congrArg₂ _ (by pointwise [k0_pay2]) (dg_block m c t _ _ _))
    (fun t h j => by rw [outsAt0_B m c t h]; frame_out; rw [dg_hi, dg_lo, add_assoc]; exact congrArg₂ _ rfl (dg_block m c t _ _ _))
    (le_of_eq N_0) t0_15 rfl j, zero_add]
  exact sum_8192 fun r => Dh m c r (j 1) * (X m c r (j 1) * Norm.rs (X m c r))

abbrev resDx (c : Dev nD) : Buf (Elt Ideal) ((c : Thread nD τ).loc main_v4_0) := fun i => dx (X m c) (G m c) (Dh m c) (Dr m c) (i 0) (i 1)
abbrev resDg (c : Dev nD) : Buf (Elt Ideal) ((c : Thread nD τ).loc main_v4_1) := fun i => dg (X m c) (Dh m c) (i 1)

theorem final_dx (c : Dev nD) : (dats m 0 c).arrAt 7 cfg0.N = resDx m c := by
  refine (dats m 0 c).arrAt_eq_of_covers 7 _ (by decide +kernel) fun t hf y => ?_
  blk_simp
  rw [after0_7, outs_dx]
  refine congrArg₂ (dx (X m c) (G m c) (Dh m c) (Dr m c)) (Fin.ext ?_) (Fin.ext ?_) <;> blk_simp [index_in t]

theorem final_dg (c : Dev nD) : (dats m 0 c).arrAt 8 cfg0.N = resDg m c := by
  refine (dats m 0 c).arrAt_eq_of_after_last 8 t0_15 (by decide +kernel) _ fun y => ?_
  blk_simp
  rw [after0_8, outs_dg]

/-- The run: the results at the gradients, the arguments unchanged. -/
theorem run : θ_run defs (onTc (τ := τ) (main (F := Ideal))) ⟨m, fun _ => 0, ρ⟩ fun r => ∀ c : Dev nD,
      r.2.mem ((c.tc : Thread nD τ).loc main_v4_0) = resDx m c
      ∧ r.2.mem ((c.tc : Thread nD τ).loc main_v4_1) = resDg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final_dx m c), (h c).2.1.trans (final_dg m c), (h c).2.2⟩)
    (Value.run_blocks m ρ)

end Cert.Kernel4Ideal.Qkv

namespace Cert.Reference4Ideal.Qkv

open Cert.Reference4Ideal Cert.Reference4Ideal.Gen Cert.NormBwd Cert.Qkv Idealize.ShloMosaic.StableHlo

abbrev Dh (a2 : FVec Ideal S1024x3072 .f32) (a3 a4 a5 : FVec Ideal S8192x1024 .bf16) (r : Fin 8192) (l : Fin 1024) : EReal :=
  ∑ x : Fin 3072, cat3 a3 a4 a5 r x * a2 (ix2 l x)

/-- The gain's gradient. -/
theorem dg_eq (a0 : FVec Ideal S8192x1024 .f32) (a2 : FVec Ideal S1024x3072 .f32) (a3 a4 a5 : FVec Ideal S8192x1024 .bf16) :
    Read.val_main_v46 (F := Ideal) a0 a2 a3 a4 a5 = fun i => dg (fun r k => a0 (ix2 r k)) (Dh a2 a3 a4 a5) (i 1) := by
  rw [← Read.val_main_v46_eq]
  funext i
  pointwise [dg, Norm.rs, Norm.ms]
  simp only [Finset.univ_unique, Finset.sum_singleton]
  exact Finset.sum_congr rfl fun r _ => mul_comm _ _

/-- The rows' gradient: jax's derivative of the norm is the gradient the kernel writes. -/
theorem dx_eq (m : (ℓ : Loc nD τ sig) → Buf (Elt Ideal) ℓ) (c : Dev nD) (a0 : FVec Ideal S8192x1024 .f32) (a1 : FVec Ideal S1024 .f32) (a2 : FVec Ideal S1024x3072 .f32) (a3 : FVec Ideal S8192x1024 .bf16) (a4 : FVec Ideal S8192x1024 .bf16) (a5 : FVec Ideal S8192x1024 .bf16) (a6 : FVec Ideal S8192x1024 .f32)
    (h0 : m ((c.tc : Thread nD τ).loc main_arg0) = a0) (h1 : m ((c.tc : Thread nD τ).loc main_arg1) = a1) (h2 : m ((c.tc : Thread nD τ).loc main_arg2) = a2) (h3 : m ((c.tc : Thread nD τ).loc main_arg3) = a3) (h4 : m ((c.tc : Thread nD τ).loc main_arg4) = a4) (h5 : m ((c.tc : Thread nD τ).loc main_arg5) = a5) (h6 : m ((c.tc : Thread nD τ).loc main_arg6) = a6) :
    Value.res_main_v45 m c
      = fun i : S8192x1024.Idx => dx (fun r k => a0 (ix2 r k)) (fun k => a1 (ix1 k)) (Dh a2 a3 a4 a5) (fun r k => a6 (ix2 r k)) (i 0) (i 1) := by
  unfold Value.res_main_v45
  rw [h0, h1, h2, h3, h4, h5, h6]
  refine Common.ext2 fun r k => ?_
  refine Eq.trans ?_ (congrArg (a6 (ix2 r k) + ·) (Norm.grad_eq _ _ _).symm)
  pointwise [Norm.jaxQ, Norm.rs, Norm.ms]
  simp only [Finset.univ_unique, Finset.sum_singleton, ← add_assoc]

/-- The reference's run: the results at the gradients, the arguments unchanged. -/
theorem run (m : (ℓ : Loc nD τ sig) → Buf (Elt Ideal) ℓ) (ρ : Dev nD → PrngReg) (a0 : Dev nD → FVec Ideal S8192x1024 .f32) (a1 : Dev nD → FVec Ideal S1024 .f32) (a2 : Dev nD → FVec Ideal S1024x3072 .f32) (a3 : Dev nD → FVec Ideal S8192x1024 .bf16) (a4 : Dev nD → FVec Ideal S8192x1024 .bf16) (a5 : Dev nD → FVec Ideal S8192x1024 .bf16) (a6 : Dev nD → FVec Ideal S8192x1024 .f32)
    (hm : ∀ c : Dev nD, m ((c.tc : Thread nD τ).loc main_arg0) = a0 c
      ∧ m ((c.tc : Thread nD τ).loc main_arg1) = a1 c
      ∧ m ((c.tc : Thread nD τ).loc main_arg2) = a2 c
      ∧ m ((c.tc : Thread nD τ).loc main_arg3) = a3 c
      ∧ m ((c.tc : Thread nD τ).loc main_arg4) = a4 c
      ∧ m ((c.tc : Thread nD τ).loc main_arg5) = a5 c
      ∧ m ((c.tc : Thread nD τ).loc main_arg6) = a6 c) :
    θ_run defs (onTc (τ := τ) (main (F := Ideal))) ⟨m, fun _ => 0, ρ⟩ fun r => ∀ c : Dev nD,
      r.2.mem ((c.tc : Thread nD τ).loc main_v45) = (fun i => dx (fun r k => a0 c (ix2 r k)) (fun k => a1 c (ix1 k)) (Dh (a2 c) (a3 c) (a4 c) (a5 c)) (fun r k => a6 c (ix2 r k)) (i 0) (i 1) : FVec Ideal S8192x1024 .f32)
      ∧ r.2.mem ((c.tc : Thread nD τ).loc main_v46) = (fun i => dg (fun r k => a0 c (ix2 r k)) (Dh (a2 c) (a3 c) (a4 c) (a5 c)) (i 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, h1, h2, h3, h4, h5, h6⟩ := hm c
    refine ⟨(h c).1.trans (dx_eq m c _ _ _ _ _ _ _ h0 h1 h2 h3 h4 h5 h6),
      (h c).2.1.trans ((Read.val_main_v46_eq _ _ _ _ _).trans (by rw [h0, h2, h3, h4, h5]; exact dg_eq _ _ _ _ _)), (h c).2.2⟩) (Value.run m ρ)

end Cert.Reference4Ideal.Qkv

namespace Cert.Qkv

/-- Equal arguments give equal gradients. -/
theorem algebraic : Cert.algebraic_Kernel4Ideal_Reference4Ideal := fun m g m' g' _ hm =>
  ⟨fun c => Cert.Kernel4Ideal.Qkv.resDx m c, fun c => Cert.Kernel4Ideal.Qkv.resDg m c,
    Cert.Kernel4Ideal.Qkv.run m g, Cert.Reference4Ideal.Qkv.run m' g' _ _ _ _ _ _ _ hm⟩

end Cert.Qkv
-- ==== Proof.AbIn.lean ====
/-
  THE MIXER INPUT'S GRADIENT: the call `_mm_nt_normbwd` for the retention block's input product. The call takes the
  product's cotangent and the weight with the columns of every head's pairs split into two halves (the same order for
  both); a sum over the columns does not depend on their order, so `dh = dz · wᵀ`.
-/
module

public import proofs.«01_k».proof.Proof.NormBwd
public import proofs.«01_k».proof.Proof.Common
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit.Point
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AbIn

open Cert.Kernel5Ideal

/-- Where column `k` of the split order stands in the model's order. -/
def src (k : Fin 2560) : Fin 2560 :=
  if k.val < 1024 then ⟨k.val / 128 * 128 + k.val % 64 * 2 + k.val / 64 % 2, by omega⟩ else k

/-- Where column `k` of the model's order stands in the split order. -/
def dst (k : Fin 2560) : Fin 2560 :=
  if k.val < 1024 then ⟨k.val / 128 * 128 + k.val % 2 * 64 + k.val % 128 / 2, by omega⟩ else k

theorem src_val (k : Fin 2560) : (src k).val = if k.val < 1024 then k.val / 128 * 128 + k.val % 64 * 2 + k.val / 64 % 2 else k.val := by
  unfold src; split <;> rfl

theorem dst_src : ∀ k : Fin 2560, dst (src k) = k := by decide +kernel

theorem src_dst : ∀ k : Fin 2560, src (dst k) = k := by decide +kernel

/-- A sum over the columns in the split order is the sum over the columns. -/
theorem sum_src (f : Fin 2560 → EReal) : ∑ k, f (src k) = ∑ k, f k :=
  Function.Bijective.sum_comp ⟨Function.LeftInverse.injective dst_src, Function.RightInverse.surjective src_dst⟩ f

/-- The two halves of the columns, put side by side, read at a column of the split order. -/
theorem split_read2 (A : FVec Ideal S8192x2560 .bf16) (E : S8192x2560.Idx) (r : Fin 8192) (k : Fin 2560) (hE : E = ix2 r k)
    (p : (E 1).val < 1024 → (E 1).val / 128 * 128 + (E 1).val % 64 * 2 + (E 1).val / 64 % 2 < 2560)
    (q : ¬ (E 1).val < 1024 → 1024 + ((E 1).val - 1024) < 2560) :
    (if h : (E 1).val < 1024 then A (ix2 (E 0) ⟨_, p h⟩) else A (ix2 (E 0) ⟨_, q h⟩)) = A (ix2 r (src k)) := by
  subst hE
  by_cases h : k.val < 1024
  · exact (dif_pos h).trans (congrArg (fun l => A (ix2 r l)) (Fin.ext ((src_val k).trans (if_pos h)).symm))
  · exact (dif_neg h).trans (congrArg (fun l => A (ix2 r l)) (Fin.ext (by
      rw [src_val, if_neg h]; show 1024 + (k.val - 1024) = k.val; omega)))

theorem split_read3 (A : FVec Ideal S1024x2560 .f32) (E : S1x1024x2560.Idx) (r : Fin 1024) (k : Fin 2560) (hE : E = ix3 0 r k)
    (p : (E 2).val < 1024 → (E 2).val / 128 * 128 + (E 2).val % 64 * 2 + (E 2).val / 64 % 2 < 2560)
    (q : ¬ (E 2).val < 1024 → 1024 + ((E 2).val - 1024) < 2560) :
    (if h : (E 2).val < 1024 then A (ix2 (E 1) ⟨_, p h⟩) else A (ix2 (E 1) ⟨_, q h⟩)) = A (ix2 r (src k)) := by
  subst hE
  by_cases h : k.val < 1024
  · exact (dif_pos h).trans (congrArg (fun l => A (ix2 r l)) (Fin.ext ((src_val k).trans (if_pos h)).symm))
  · exact (dif_neg h).trans (congrArg (fun l => A (ix2 r l)) (Fin.ext (by
      rw [src_val, if_neg h]; show 1024 + (k.val - 1024) = k.val; omega)))

/-- Five groups of 512 columns are 2560 columns. -/
theorem sum_2560 (f : Fin 2560 → EReal) :
    (∑ s : Fin 5, ∑ k : Fin 512, f ⟨s.val * 512 + k.val, by omega⟩) = ∑ k, f k :=
  Fin.sum_mul_add_congr fun _ _ _ => rfl

end Cert.AbIn

namespace Cert.Kernel5Ideal.AbIn

open Cert.Kernel5Ideal Cert.Kernel5Ideal.Gen Cert.NormBwd Cert.AbIn

/-! ## One half of a block -/

section
variable (z0 z1 z2 z3 z4 : Vec Ideal S256x512 .bf16) (w0 w1 w2 w3 w4 : Vec Ideal S1x1024x512 .bf16)

/-- One group's part of the product. -/
abbrev part (z : Vec Ideal S256x512 .bf16) (w : Vec Ideal S1x1024x512 .bf16) (r : Fin 256) (l : Fin 1024) : EReal :=
  ∑ k : Fin 512, (z (ix2 r k) : EReal) * w (ix3 0 l k)

theorem dh_lo (r : Fin 256) (l : Fin 1024) :
    k0_pay8 (k0_pay6 z0 w0 z1 w1 z2 w2 z3 w3) (k0_pay7 z4) w4 (ix2 r l)
      = part z0 w0 r l + part z1 w1 r l + part z2 w2 r l + part z3 w3 r l + part z4 w4 r l := by
  pointwise [k0_pay8, k0_pay7, k0_pay6, part]

theorem dh_hi (r : Fin 256) (l : Fin 1024) :
    k0_pay13 z0 w0 z1 w1 z2 w2 z3 w3 z4 w4 (ix2 r l)
      = part z0 w0 r l + part z1 w1 r l + part z2 w2 r l + part z3 w3 r l + part z4 w4 r l := by
  pointwise [k0_pay13, part]

end

section
variable (a : FVec Ideal S256x1024 .f32) (z : FVec Ideal S256x512 .bf16) (w : Vec Ideal S1x1024x512 .bf16)
  (x dr : Vec Ideal S256x1024 .f32) (g p : Vec Ideal S1x1024 .f32)

theorem dx_lo (j : S256x1024.Idx) : k0_pay12 a z w x g dr j
    = dx (fun r k => x (ix2 r k)) (fun k => g (ix2 0 k)) (fun r k => k0_pay8 a z w (ix2 r k)) (fun r k => dr (ix2 r k)) (j 0) (j 1) := by
  pointwise [k0_pay12, k0_pay10, k0_pay9, dx, Norm.grad, Norm.rs, Norm.ms]

theorem dx_hi (j : S256x1024.Idx) : k0_pay4 a x g dr j
    = dx (fun r k => x (ix2 r k)) (fun k => g (ix2 0 k)) (fun r k => a (ix2 r k)) (fun r k => dr (ix2 r k)) (j 0) (j 1) := by
  pointwise [k0_pay4, k0_pay2, k0_pay1, dx, Norm.grad, Norm.rs, Norm.ms]

theorem dg_lo (j : S1x1024.Idx) : k0_pay11 a z w x p j
    = p j + dg (fun r k => x (ix2 r k)) (fun r k => k0_pay8 a z w (ix2 r k)) (j 1) := by
  pointwise [k0_pay11, k0_pay10, k0_pay9, dg, Norm.rs, Norm.ms]

theorem dg_hi (j : S1x1024.Idx) : k0_pay3 a x p j
    = p j + dg (fun r k => x (ix2 r k)) (fun r k => a (ix2 r k)) (j 1) := by
  pointwise [k0_pay3, k0_pay2, k0_pay1, dg, Norm.rs, Norm.ms]

end

variable (m : (ℓ : Loc nD τ sig) → Buf (Elt Ideal) ℓ) (ρ : Dev nD → PrngReg)

/-! ## The launched arguments -/

abbrev A0 (c : Dev nD) : FVec Ideal S8192x1024 .f32 := m ((c : Thread nD τ).loc main_arg0)
abbrev A1 (c : Dev nD) : FVec Ideal S1024 .f32 := m ((c : Thread nD τ).loc main_arg1)
abbrev A2 (c : Dev nD) : FVec Ideal S1024x2560 .f32 := m ((c : Thread nD τ).loc main_arg2)
abbrev A3 (c : Dev nD) : FVec Ideal S8192x2560 .bf16 := m ((c : Thread nD τ).loc main_arg3)
abbrev A4 (c : Dev nD) : FVec Ideal S8192x1024 .f32 := m ((c : Thread nD τ).loc main_arg4)

theorem index_in : ∀ t : Fin cfg0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0, 0] ∧ win0_2.index t = ![t.val, 0]
    ∧ win0_3.index t = ![0, 0] ∧ win0_4.index t = ![t.val, 0] ∧ win0_5.index t = ![t.val, 0] ∧ win0_6.index t = ![0, 0])

theorem row_lt (t : Fin cfg0.N) (r : Fin 512) : t.val * 512 + r.val < 8192 := by
  have := t.isLt; have : cfg0.N = 16 := N_0; omega

/-- Row `r` of point `t`'s block, in the array. -/
abbrev rowAt (t : Fin cfg0.N) (r : Fin 512) : Fin 8192 := ⟨t.val * 512 + r.val, row_lt t r⟩

theorem iblk0_apply (c : Dev nD) (t : Fin cfg0.N) (r : Fin 512) (k : Fin 2560) :
    iblk m c 0 t (ix2 r k) = A3 m c (ix2 (rowAt t r) (src k)) := by
  have e : (win0_0.blk t).view.emb (ix2 r k) = ix2 (rowAt t r) k := by blk_ext [index_in t]
  blk_simp [iblk, index_in t]
  entry_read
  pointwise
  exact split_read2 (A3 m c) _ _ _ e _ _

theorem iblk1_apply (c : Dev nD) (t : Fin cfg0.N) (l : Fin 1024) (k : Fin 2560) :
    iblk m c 1 t (ix3 0 l k) = A2 m c (ix2 l (src k)) := by
  have e : (win0_1.blk t).view.emb (ix3 0 l k) = ix3 0 l k := by blk_ext [index_in t]
  blk_simp [iblk, index_in t]
  entry_read
  pointwise
  exact split_read3 (A2 m c) _ _ _ e _ _

theorem iblk2_apply (c : Dev nD) (t : Fin cfg0.N) (r : Fin 512) (k : Fin 1024) :
    iblk m c 2 t (ix2 r k) = A0 m c (ix2 (rowAt t r) k) := by
  blk_point [iblk, V, index_in t]

theorem iblk3_apply (c : Dev nD) (t : Fin cfg0.N) (k : Fin 1024) :
    iblk m c 3 t (ix2 0 k) = A1 m c (ix1 k) := by
  blk_point [iblk, V, index_in t]

theorem iblk4_apply (c : Dev nD) (t : Fin cfg0.N) (r : Fin 512) (k : Fin 1024) :
    iblk m c 4 t (ix2 r k) = A4 m c (ix2 (rowAt t r) k) := by
  blk_point [iblk, V, index_in t]

/-- The rows, the gain, the cotangent of the normalised rows times the gain, and the gradient that is added. -/
abbrev X (c : Dev nD) (r : Fin 8192) (k : Fin 1024) : EReal := A0 m c (ix2 r k)
abbrev G (c : Dev nD) (l : Fin 1024) : EReal := A1 m c (ix1 l)
abbrev Dh (c : Dev nD) (r : Fin 8192) (l : Fin 1024) : EReal := ∑ k : Fin 2560, A3 m c (ix2 r k) * A2 m c (ix2 l k)
abbrev Dr (c : Dev nD) (r : Fin 8192) (l : Fin 1024) : EReal := A4 m c (ix2 r l)

/-! ## The halves of a point's block -/

abbrev zl (c : Dev nD) (t : Fin cfg0.N) (o p : ℕ) (inb : ∀ a, ![o, p] a + ![256, 512] a ≤ S512x2560.size a) : Vec Ideal S256x512 .bf16 :=
  View.ld (iblk m c 0 t) (Rect.unit (s := S512x2560) ![o, p] ![256, 512] inb)

abbrev wl (c : Dev nD) (t : Fin cfg0.N) (p : ℕ) (inb : ∀ a, ![0, 0, p] a + ![1, 1024, 512] a ≤ S1x1024x2560.size a) : Vec Ideal S1x1024x512 .bf16 :=
  View.ld (iblk m c 1 t) (Rect.unit (s := S1x1024x2560) ![0, 0, p] ![1, 1024, 512] inb)

/-- The cotangent times the transposed weight, a term of it. -/
abbrev term (c : Dev nD) (r : Fin 8192) (l : Fin 1024) (k : Fin 2560) : EReal := A3 m c (ix2 r k) * A2 m c (ix2 l k)

theorem part_eq (c : Dev nD) (t : Fin cfg0.N) (o p : ℕ) (s : Fin 5) (ho : o ≤ 256) (hp : p = s.val * 512) (inb inb')
    (r : Fin 256) (l : Fin 1024) :
    part (zl m c t o p inb) (wl m c t p inb') r l
      = ∑ k : Fin 512, term m c (rowAt t (half o ho r)) l (src ⟨s.val * 512 + k.val, by omega⟩) := by
  subst hp
  refine Finset.sum_congr rfl fun k _ => congrArg₂ _ ?_ ?_
  · exact (View.ld_unit_apply_of _ _ _ _ _ (ix2 (half o ho r) ⟨s.val * 512 + k.val, by omega⟩) (by
      intro a; match a with | ⟨0, _⟩ => rfl | ⟨1, _⟩ => rfl)).trans (iblk0_apply m c t _ _)
  · exact (View.ld_unit_apply_of _ _ _ _ _ (ix3 0 l ⟨s.val * 512 + k.val, by omega⟩) (by
      intro a; match a with | ⟨0, _⟩ => rfl | ⟨1, _⟩ => exact (Nat.zero_add _).symm | ⟨2, _⟩ => rfl)).trans (iblk1_apply m c t _ _)

theorem ld2 (c : Dev nD) (t : Fin cfg0.N) (o : ℕ) (ho : o ≤ 256) (inb) (r : Fin 256) (k : Fin 1024) :
    View.ld (iblk m c 2 t) (Rect.unit (s := S512x1024) ![o, 0] ![256, 1024] inb) (ix2 r k) = X m c (rowAt t (half o ho r)) k :=
  (View.ld_unit_apply_of _ _ _ _ _ (ix2 (half o ho r) k) (by
    intro a; match a with | ⟨0, _⟩ => rfl | ⟨1, _⟩ => exact (Nat.zero_add _).symm)).trans (iblk2_apply m c t _ _)

theorem ld4 (c : Dev nD) (t : Fin cfg0.N) (o : ℕ) (ho : o ≤ 256) (inb) (r : Fin 256) (k : Fin 1024) :
    View.ld (iblk m c 4 t) (Rect.unit (s := S512x1024) ![o, 0] ![256, 1024] inb) (ix2 r k) = Dr m c (rowAt t (half o ho r)) k :=
  (View.ld_unit_apply_of _ _ _ _ _ (ix2 (half o ho r) k) (by
    intro a; match a with | ⟨0, _⟩ => rfl | ⟨1, _⟩ => exact (Nat.zero_add _).symm)).trans (iblk4_apply m c t _ _)

theorem dh_sum (c : Dev nD) (r : Fin 8192) (l : Fin 1024) :
    (∑ s : Fin 5, ∑ k : Fin 512, term m c r l (src ⟨s.val * 512 + k.val, by omega⟩)) = Dh m c r l :=
  (sum_2560 fun k => term m c r l (src k)).trans (sum_src (term m c r l))

/-- The products the body forms for the first and for the second half. -/
abbrev dhLo (c : Dev nD) (t : Fin cfg0.N) : FVec Ideal S256x1024 .f32 :=
  k0_pay8 (k0_pay6 (zl m c t 0 0 inb_S512x2560_S256x512_0_0) (wl m c t 0 inb_S1x1024x2560_S1x1024x512_0_0_0)
    (zl m c t 0 512 inb_S512x2560_S256x512_0_512) (wl m c t 512 inb_S1x1024x2560_S1x1024x512_0_0_512) (zl m c t 0 1024 inb_S512x2560_S256x512_0_1024) (wl m c t 1024 inb_S1x1024x2560_S1x1024x512_0_0_1024)
    (zl m c t 0 1536 inb_S512x2560_S256x512_0_1536) (wl m c t 1536 inb_S1x1024x2560_S1x1024x512_0_0_1536)) (k0_pay7 (zl m c t 0 2048 inb_S512x2560_S256x512_0_2048)) (wl m c t 2048 inb_S1x1024x2560_S1x1024x512_0_0_2048)

abbrev dhHi (c : Dev nD) (t : Fin cfg0.N) : FVec Ideal S256x1024 .f32 :=
  k0_pay13 (zl m c t 256 0 inb_S512x2560_S256x512_256_0) (wl m c t 0 inb_S1x1024x2560_S1x1024x512_0_0_0)
    (zl m c t 256 512 inb_S512x2560_S256x512_256_512) (wl m c t 512 inb_S1x1024x2560_S1x1024x512_0_0_512) (zl m c t 256 1024 inb_S512x2560_S256x512_256_1024) (wl m c t 1024 inb_S1x1024x2560_S1x1024x512_0_0_1024)
    (zl m c t 256 1536 inb_S512x2560_S256x512_256_1536) (wl m c t 1536 inb_S1x1024x2560_S1x1024x512_0_0_1536) (zl m c t 256 2048 inb_S512x2560_S256x512_256_2048) (wl m c t 2048 inb_S1x1024x2560_S1x1024x512_0_0_2048)

theorem dhLo_apply (c : Dev nD) (t : Fin cfg0.N) (r : Fin 256) (l : Fin 1024) :
    dhLo m c t (ix2 r l) = Dh m c (rowAt t (half 0 (by decide) r)) l := by
  refine (dh_lo ..).trans ?_
  rw [← dh_sum, Fin.sum_univ_five]
  iterate 4 refine congrArg₂ HAdd.hAdd ?_ ?_
  exacts [part_eq m c t _ _ 0 (by decide) rfl _ _ r l, part_eq m c t _ _ 1 (by decide) rfl _ _ r l, part_eq m c t _ _ 2 (by decide) rfl _ _ r l, part_eq m c t _ _ 3 (by decide) rfl _ _ r l, part_eq m c t _ _ 4 (by decide) rfl _ _ r l]

theorem dhHi_apply (c : Dev nD) (t : Fin cfg0.N) (r : Fin 256) (l : Fin 1024) :
    dhHi m c t (ix2 r l) = Dh m c (rowAt t (half 256 (by decide) r)) l := by
  refine (dh_hi ..).trans ?_
  rw [← dh_sum, Fin.sum_univ_five]
  iterate 4 refine congrArg₂ HAdd.hAdd ?_ ?_
  exacts [part_eq m c t _ _ 0 (by decide) rfl _ _ r l, part_eq m c t _ _ 1 (by decide) rfl _ _ r l, part_eq m c t _ _ 2 (by decide) rfl _ _ r l, part_eq m c t _ _ 3 (by decide) rfl _ _ r l, part_eq m c t _ _ 4 (by decide) rfl _ _ r l]

theorem dxLo (c : Dev nD) (t : Fin cfg0.N) (inb inb') (r : Fin 256) (k : Fin 1024) :
    dx (fun r k => View.ld (iblk m c 2 t) (Rect.unit (s := S512x1024) ![0, 0] ![256, 1024] inb) (ix2 r k)) (fun k => iblk m c 3 t (ix2 0 k))
      (fun r k => dhLo m c t (ix2 r k)) (fun r k => View.ld (iblk m c 4 t) (Rect.unit (s := S512x1024) ![0, 0] ![256, 1024] inb') (ix2 r k)) r k
      = dx (X m c) (G m c) (Dh m c) (Dr m c) (rowAt t (half 0 (by decide) r)) k :=
  dx_congr (fun r => rowAt t (half 0 (by decide) r)) (ld2 m c t 0 (by decide) _) (iblk3_apply m c t) (dhLo_apply m c t) (ld4 m c t 0 (by decide) _) r k

theorem dxHi (c : Dev nD) (t : Fin cfg0.N) (inb inb') (r : Fin 256) (k : Fin 1024) :
    dx (fun r k => View.ld (iblk m c 2 t) (Rect.unit (s := S512x1024) ![256, 0] ![256, 1024] inb) (ix2 r k)) (fun k => iblk m c 3 t (ix2 0 k))
      (fun r k => dhHi m c t (ix2 r k)) (fun r k => View.ld (iblk m c 4 t) (Rect.unit (s := S512x1024) ![256, 0] ![256, 1024] inb') (ix2 r k)) r k
      = dx (X m c) (G m c) (Dh m c) (Dr m c) (rowAt t (half 256 (by decide) r)) k :=
  dx_congr (fun r => rowAt t (half 256 (by decide) r)) (ld2 m c t 256 (by decide) _) (iblk3_apply m c t) (dhHi_apply m c t) (ld4 m c t 256 (by decide) _) r k

/-! ## The results -/

/-- After every point the rows' gradient of the point's block stands in the buffer. -/
theorem outs_dx (c : Dev nD) (t : Fin cfg0.N) (j : S512x1024.Idx) :
    (outsAt0 m c t.val t.isLt).1 j = dx (X m c) (G m c) (Dh m c) (Dr m c) (rowAt t (j 0)) (j 1) := by
  by_cases h : t.val % 16 = 0
  · rw [outsAt0_A m c t h]; frame_out
    canon_tiles i hi
    · exact (dx_hi _ _ _ _ i).trans ((dxHi m c t _ _ _ _).trans (congrArg₂ _ (Fin.ext (by simp [hi0])) (Fin.ext hi1.symm)))
    · exact (dx_lo _ _ _ _ _ _ i).trans ((dxLo m c t _ _ _ _).trans (congrArg₂ _ (Fin.ext (by simp [hi0])) (Fin.ext hi1.symm)))
  · rw [outsAt0_B m c t h]; frame_out
    canon_tiles i hi
    · exact (dx_hi _ _ _ _ i).trans ((dxHi m c t _ _ _ _).trans (congrArg₂ _ (Fin.ext (by simp [hi0])) (Fin.ext hi1.symm)))
    · exact (dx_lo _ _ _ _ _ _ i).trans ((dxLo m c t _ _ _ _).trans (congrArg₂ _ (Fin.ext (by simp [hi0])) (Fin.ext hi1.symm)))

/-- Both halves' part in the gain's gradient is the block's part. -/
theorem dg_block (c : Dev nD) (t : Fin cfg0.N) (inb inb') (k : Fin 1024) :
    dg (fun r k => View.ld (iblk m c 2 t) (Rect.unit (s := S512x1024) ![0, 0] ![256, 1024] inb) (ix2 r k)) (fun r k => dhLo m c t (ix2 r k)) k
      + dg (fun r k => View.ld (iblk m c 2 t) (Rect.unit (s := S512x1024) ![256, 0] ![256, 1024] inb') (ix2 r k)) (fun r k => dhHi m c t (ix2 r k)) k
      = dg (fun r => X m c (rowAt t r)) (fun r => Dh m c (rowAt t r)) k :=
  dg_halves _ _ (ld2 m c t 0 _ _) (dhLo_apply m c t) (ld2 m c t 256 _ _) (dhHi_apply m c t) k

/-- The gain's gradient after the last point: every block's part. -/
theorem outs_dg (c : Dev nD) (j : S1x1024.Idx) :
    (outsAt0 m c t0_15.val t0_15.isLt).2 j = dg (X m c) (Dh m c) (j 1) := by
  rw [Pipeline.eq_sum_fin_of_reset_step_apply_last (fun n h => (outsAt0 m c n h).2) 16 (fun _ => (0 : EReal))
    (fun t j => dg (fun r => X m c (rowAt t r)) (fun r => Dh m c (rowAt t r)) (j 1))
    (fun t h j => by rw [outsAt0_A m c t h]; frame_out; rw [dg_hi, dg_lo, add_assoc]; exact congrArg₂ _ (by pointwise [k0_pay5]) (dg_block m c t _ _ _))
    (fun t h j => by rw [outsAt0_B m c t h]; frame_out; rw [dg_hi, dg_lo, add_assoc]; exact congrArg₂ _ rfl (dg_block m c t _ _ _))
    (le_of_eq N_0) t0_15 rfl j, zero_add]
  exact sum_8192 fun r => Dh m c r (j 1) * (X m c r (j 1) * Norm.rs (X m c r))

abbrev resDx (c : Dev nD) : Buf (Elt Ideal) ((c : Thread nD τ).loc main_v15_0) := fun i => dx (X m c) (G m c) (Dh m c) (Dr m c) (i 0) (i 1)
abbrev resDg (c : Dev nD) : Buf (Elt Ideal) ((c : Thread nD τ).loc main_v15_1) := fun i => dg (X m c) (Dh m c) (i 1)

theorem final_dx (c : Dev nD) : (dats m 0 c).arrAt 5 cfg0.N = resDx m c := by
  refine (dats m 0 c).arrAt_eq_of_covers 5 _ (by decide +kernel) fun t hf y => ?_
  blk_simp
  rw [after0_5, outs_dx]
  refine congrArg₂ (dx (X m c) (G m c) (Dh m c) (Dr m c)) (Fin.ext ?_) (Fin.ext ?_) <;> blk_simp [index_in t]

theorem final_dg (c : Dev nD) : (dats m 0 c).arrAt 6 cfg0.N = resDg m c := by
  refine (dats m 0 c).arrAt_eq_of_after_last 6 t0_15 (by decide +kernel) _ fun y => ?_
  blk_simp
  rw [after0_6, outs_dg]

/-- The run: the results at the gradients, the arguments unchanged. -/
theorem run : θ_run defs (onTc (τ := τ) (main (F := Ideal))) ⟨m, fun _ => 0, ρ⟩ fun r => ∀ c : Dev nD,
      r.2.mem ((c.tc : Thread nD τ).loc main_v15_0) = resDx m c
      ∧ r.2.mem ((c.tc : Thread nD τ).loc main_v15_1) = resDg m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final_dx m c), (h c).2.1.trans (final_dg m c), (h c).2.2⟩)
    (Value.run_blocks m ρ)

end Cert.Kernel5Ideal.AbIn

namespace Cert.Reference5Ideal.AbIn

open Cert.Reference5Ideal Cert.Reference5Ideal.Gen Cert.NormBwd Idealize.ShloMosaic.StableHlo

abbrev Dh (a2 : FVec Ideal S1024x2560 .f32) (a3 : FVec Ideal S8192x2560 .bf16) (r : Fin 8192) (l : Fin 1024) : EReal :=
  ∑ k : Fin 2560, a3 (ix2 r k) * a2 (ix2 l k)

/-- The gain's gradient. -/
theorem dg_eq (a0 : FVec Ideal S8192x1024 .f32) (a2 : FVec Ideal S1024x2560 .f32) (a3 : FVec Ideal S8192x2560 .bf16) :
    Read.val_main_v40 (F := Ideal) a0 a2 a3 = fun i => dg (fun r k => a0 (ix2 r k)) (Dh a2 a3) (i 1) := by
  rw [← Read.val_main_v40_eq]
  funext i
  pointwise [dg, Norm.rs, Norm.ms]
  simp only [Finset.univ_unique, Finset.sum_singleton]
  exact Finset.sum_congr rfl fun r _ => mul_comm _ _

/-- The rows' gradient: jax's derivative of the norm is the gradient the kernel writes. -/
theorem dx_eq (m : (ℓ : Loc nD τ sig) → Buf (Elt Ideal) ℓ) (c : Dev nD) (a0 : FVec Ideal S8192x1024 .f32) (a1 : FVec Ideal S1024 .f32) (a2 : FVec Ideal S1024x2560 .f32) (a3 : FVec Ideal S8192x2560 .bf16) (a4 : FVec Ideal S8192x1024 .f32)
    (h0 : m ((c.tc : Thread nD τ).loc main_arg0) = a0) (h1 : m ((c.tc : Thread nD τ).loc main_arg1) = a1) (h2 : m ((c.tc : Thread nD τ).loc main_arg2) = a2) (h3 : m ((c.tc : Thread nD τ).loc main_arg3) = a3) (h4 : m ((c.tc : Thread nD τ).loc main_arg4) = a4) :
    Value.res_main_v39 m c
      = fun i : S8192x1024.Idx => dx (fun r k => a0 (ix2 r k)) (fun k => a1 (ix1 k)) (Dh a2 a3) (fun r k => a4 (ix2 r k)) (i 0) (i 1) := by
  unfold Value.res_main_v39
  rw [h0, h1, h2, h3, h4]
  refine Common.ext2 fun r k => ?_
  refine Eq.trans ?_ (congrArg (a4 (ix2 r k) + ·) (Norm.grad_eq _ _ _).symm)
  pointwise [Norm.jaxQ, Norm.rs, Norm.ms]
  simp only [Finset.univ_unique, Finset.sum_singleton, ← add_assoc]

/-- The reference's run: the results at the gradients, the arguments unchanged. -/
theorem run (m : (ℓ : Loc nD τ sig) → Buf (Elt Ideal) ℓ) (ρ : Dev nD → PrngReg) (a0 : Dev nD → FVec Ideal S8192x1024 .f32) (a1 : Dev nD → FVec Ideal S1024 .f32) (a2 : Dev nD → FVec Ideal S1024x2560 .f32) (a3 : Dev nD → FVec Ideal S8192x2560 .bf16) (a4 : Dev nD → FVec Ideal S8192x1024 .f32)
    (hm : ∀ c : Dev nD, m ((c.tc : Thread nD τ).loc main_arg0) = a0 c
      ∧ m ((c.tc : Thread nD τ).loc main_arg1) = a1 c
      ∧ m ((c.tc : Thread nD τ).loc main_arg2) = a2 c
      ∧ m ((c.tc : Thread nD τ).loc main_arg3) = a3 c
      ∧ m ((c.tc : Thread nD τ).loc main_arg4) = a4 c) :
    θ_run defs (onTc (τ := τ) (main (F := Ideal))) ⟨m, fun _ => 0, ρ⟩ fun r => ∀ c : Dev nD,
      r.2.mem ((c.tc : Thread nD τ).loc main_v39) = (fun i => dx (fun r k => a0 c (ix2 r k)) (fun k => a1 c (ix1 k)) (Dh (a2 c) (a3 c)) (fun r k => a4 c (ix2 r k)) (i 0) (i 1) : FVec Ideal S8192x1024 .f32)
      ∧ r.2.mem ((c.tc : Thread nD τ).loc main_v40) = (fun i => dg (fun r k => a0 c (ix2 r k)) (Dh (a2 c) (a3 c)) (i 1) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, h3, h4⟩ := hm c
    refine ⟨(h c).1.trans (dx_eq m c _ _ _ _ _ h0 h1 h2 h3 h4),
      (h c).2.1.trans ((Read.val_main_v40_eq _ _ _).trans (by rw [h0, h2, h3]; exact dg_eq _ _ _)), (h c).2.2⟩) (Value.run m ρ)

end Cert.Reference5Ideal.AbIn

namespace Cert.AbIn

/-- Equal arguments give equal gradients. -/
theorem algebraic : Cert.algebraic_Kernel5Ideal_Reference5Ideal := fun m g m' g' _ hm =>
  ⟨fun c => Cert.Kernel5Ideal.AbIn.resDx m c, fun c => Cert.Kernel5Ideal.AbIn.resDg m c,
    Cert.Kernel5Ideal.AbIn.run m g, Cert.Reference5Ideal.AbIn.run m' g' _ _ _ _ _ hm⟩

end Cert.AbIn
-- ==== Proof.Window.lean ====
/-
  WINDOWED SUMS along the rows of a column: the sums that a doubling of shifted copies forms, and the differences of running
  sums that equal them where the column is finite.
-/
module

public import Idealize.ShloMosaic.Lib.Pipeline.Value
public import Idealize.ShloMosaic.Lib.Pointwise

@[expose] public noncomputable section

namespace Cert.Window

open Idealize.ShloMosaic

/-- A column continued by zeros. -/
def ext {N : ℕ} (f : Fin N → EReal) (n : ℕ) : EReal := if h : n < N then f ⟨n, h⟩ else 0

/-- The sum of rows `t`, `t - 1`, … , `t - (w - 1)`, nothing before the first row. -/
def back {N : ℕ} (f : Fin N → EReal) (w t : ℕ) : EReal := ∑ s ∈ Finset.range w, if s ≤ t then ext f (t - s) else 0

/-- The sum of rows `t`, `t + 1`, … , `t + (w - 1)`, nothing past the last row. -/
def ahead {N : ℕ} (f : Fin N → EReal) (w t : ℕ) : EReal := ∑ s ∈ Finset.range w, ext f (t + s)

theorem ext_lt {N : ℕ} (f : Fin N → EReal) (n : Fin N) : ext f n.val = f n := dif_pos n.isLt

theorem ext_ge {N : ℕ} (f : Fin N → EReal) {n : ℕ} (h : N ≤ n) : ext f n = 0 := dif_neg (by omega)

/-! ## Sums formed by doubling -/

/-- A column of 528 rows plus its copy moved down by `n` rows, around the end. -/
def rot (n : ℕ) (X : Fin 528 → EReal) (r : Fin 528) : EReal := X r + X ⟨(r.val + 528 - n) % 528, Nat.mod_lt _ (by decide)⟩

/-- Sums of `k` rows become sums of `2 k` rows, off the rows where the copy wraps around. -/
theorem down_sum (k : ℕ) (X : Fin 528 → EReal) (V : ℕ → EReal)
    (hX : ∀ r : Fin 528, k ≤ r.val + 1 → X r = ∑ s ∈ Finset.range k, V (r.val - s))
    (r : Fin 528) (hr : k + k ≤ r.val + 1) (hp : 0 < k) : rot k X r = ∑ s ∈ Finset.range (k + k), V (r.val - s) := by
  have e : (r.val + 528 - k) % 528 = r.val - k := by
    rw [show r.val + 528 - k = r.val - k + 528 by omega, Nat.add_mod_right, Nat.mod_eq_of_lt (by omega)]
  rw [rot, hX r (by omega), hX _ (by show k ≤ (r.val + 528 - k) % 528 + 1; omega), Finset.sum_range_add]
  refine congrArg _ (Finset.sum_congr rfl fun s _ => congrArg V ?_)
  show (r.val + 528 - k) % 528 - s = _
  omega

/-- Moving down by `528 - k` rows is moving up by `k`. -/
theorem up_sum (n k : ℕ) (hn : n + k = 528) (X : Fin 528 → EReal) (V : ℕ → EReal)
    (hX : ∀ r : Fin 528, r.val + k ≤ 528 → X r = ∑ s ∈ Finset.range k, V (r.val + s))
    (r : Fin 528) (hr : r.val + (k + k) ≤ 528) (hp : 0 < k) : rot n X r = ∑ s ∈ Finset.range (k + k), V (r.val + s) := by
  have e : (r.val + 528 - n) % 528 = r.val + k := by
    rw [show r.val + 528 - n = r.val + k by omega]; exact Nat.mod_eq_of_lt (by omega)
  rw [rot, hX r (by omega), hX _ (by show (r.val + 528 - n) % 528 + k ≤ 528; omega), Finset.sum_range_add]
  refine congrArg _ (Finset.sum_congr rfl fun s _ => congrArg V ?_)
  show (r.val + 528 - n) % 528 + s = _
  omega

variable (X : Fin 528 → EReal) (V : ℕ → EReal) (hX : ∀ r : Fin 528, X r = V r.val)
include hX

theorem down2 (r : Fin 528) (hr : 2 ≤ r.val + 1) : rot 1 X r = ∑ s ∈ Finset.range 2, V (r.val - s) :=
  down_sum 1 X V (fun r _ => by rw [hX, Finset.sum_range_one]; rfl) r hr (by decide)
theorem down4 (r : Fin 528) (hr : 4 ≤ r.val + 1) : rot 2 (rot 1 X) r = ∑ s ∈ Finset.range 4, V (r.val - s) :=
  down_sum 2 _ V (down2 X V hX) r hr (by decide)
theorem down8 (r : Fin 528) (hr : 8 ≤ r.val + 1) : rot 4 (rot 2 (rot 1 X)) r = ∑ s ∈ Finset.range 8, V (r.val - s) :=
  down_sum 4 _ V (down4 X V hX) r hr (by decide)
theorem down16 (r : Fin 528) (hr : 16 ≤ r.val + 1) : rot 8 (rot 4 (rot 2 (rot 1 X))) r = ∑ s ∈ Finset.range 16, V (r.val - s) :=
  down_sum 8 _ V (down8 X V hX) r hr (by decide)

theorem up2 (r : Fin 528) (hr : r.val + 2 ≤ 528) : rot 527 X r = ∑ s ∈ Finset.range 2, V (r.val + s) :=
  up_sum 527 1 rfl X V (fun r _ => by rw [hX, Finset.sum_range_one]; rfl) r hr (by decide)
theorem up4 (r : Fin 528) (hr : r.val + 4 ≤ 528) : rot 526 (rot 527 X) r = ∑ s ∈ Finset.range 4, V (r.val + s) :=
  up_sum 526 2 rfl _ V (up2 X V hX) r hr (by decide)
theorem up8 (r : Fin 528) (hr : r.val + 8 ≤ 528) : rot 524 (rot 526 (rot 527 X)) r = ∑ s ∈ Finset.range 8, V (r.val + s) :=
  up_sum 524 4 rfl _ V (up4 X V hX) r hr (by decide)
theorem up16 (r : Fin 528) (hr : r.val + 16 ≤ 528) : rot 520 (rot 524 (rot 526 (rot 527 X))) r = ∑ s ∈ Finset.range 16, V (r.val + s) :=
  up_sum 520 8 rfl _ V (up8 X V hX) r hr (by decide)

omit hX

/-! ## Differences of running sums -/

theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

theorem coe_ite (p : Prop) [Decidable p] (a : ℝ) : ((if p then a else 0 : ℝ) : EReal) = if p then (a : EReal) else 0 := by
  split <;> simp

/-- A real column continued by zeros. -/
def extR {N : ℕ} (p : Fin N → ℝ) (n : ℕ) : ℝ := if h : n < N then p ⟨n, h⟩ else 0

theorem ext_coe {N : ℕ} (p : Fin N → ℝ) (n : ℕ) : ext (fun i => (p i : EReal)) n = (extR p n : ℝ) := by
  unfold ext extR; split <;> simp

theorem prefix_eq {N : ℕ} (p : Fin N → ℝ) (t : Fin N) :
    (∑ i : Fin N, if i ≤ t then (p i : EReal) else 0) = ((∑ n ∈ Finset.range (t.val + 1), extR p n : ℝ) : EReal) := by
  have e : ∀ i : Fin N, (if i ≤ t then (p i : EReal) else 0) = (((fun n : ℕ => if n ≤ t.val then extR p n else 0) i.val : ℝ) : EReal) := fun i => by
    show _ = ((if i.val ≤ t.val then extR p i.val else 0 : ℝ) : EReal)
    rw [coe_ite, show extR p i.val = p i from dif_pos i.isLt]
    rfl
  rw [Finset.sum_congr rfl fun i _ => e i, ← coe_sum, Fin.sum_univ_eq_sum_range (fun n : ℕ => if n ≤ t.val then extR p n else 0) N, ← Finset.sum_filter]
  refine congrArg _ (Finset.sum_congr (Finset.ext fun n => ?_) fun _ _ => rfl)
  have := t.isLt
  rw [Finset.mem_filter, Finset.mem_range, Finset.mem_range]
  omega

theorem back_coe {N : ℕ} (p : Fin N → ℝ) (w t : ℕ) :
    back (fun i => (p i : EReal)) w t = ((∑ n ∈ Finset.range (t + 1), extR p n - ∑ n ∈ Finset.range (t + 1 - w), extR p n : ℝ) : EReal) := by
  have e : (∑ s ∈ Finset.range w, if s ≤ t then extR p (t - s) else 0) = ∑ n ∈ Finset.range (t + 1), extR p n - ∑ n ∈ Finset.range (t + 1 - w), extR p n := by
    induction w with
    | zero => simp
    | succ w ih =>
      rw [Finset.sum_range_succ, ih]
      by_cases h : w ≤ t
      · rw [if_pos h, show t + 1 - w = t - w + 1 by omega, Finset.sum_range_succ (extR p) (t - w), show t + 1 - (w + 1) = t - w by omega]; ring
      · rw [if_neg h, show t + 1 - w = 0 by omega, show t + 1 - (w + 1) = 0 by omega]; ring
  rw [← e, coe_sum]
  exact Finset.sum_congr rfl fun s _ => by rw [coe_ite, ext_coe]

/-- The running sum minus the running sum `w` rows before is the sum of the last `w` rows. -/
theorem prefix_diff {N : ℕ} (p : Fin N → ℝ) (w : ℕ) (t : Fin N) (hw : 0 < w) :
    (∑ i : Fin N, if i ≤ t then (p i : EReal) else 0)
      - (if t.val < w then 0 else ∑ i : Fin N, if i ≤ (⟨t.val - w, by omega⟩ : Fin N) then (p i : EReal) else 0)
      = back (fun i => (p i : EReal)) w t.val := by
  rw [back_coe, prefix_eq]
  split
  · rw [show t.val + 1 - w = 0 by omega, Finset.sum_range_zero, sub_zero, sub_zero]
  · rw [prefix_eq, ← EReal.coe_sub]
    exact congrArg (fun n => ((∑ n ∈ Finset.range (t.val + 1), extR p n - ∑ k ∈ Finset.range n, extR p k : ℝ) : EReal)) (by show t.val - w + 1 = _; omega)

/-- Sums from row `t` on of the differences between a row and the row `w` later are the sums of `w` rows. -/
theorem suffix_diff {N : ℕ} (p : Fin N → ℝ) (w : ℕ) (t : Fin N) :
    (∑ i : Fin N, if t ≤ i then (p i : EReal) + (if h : i.val + w < N then -(p ⟨i.val + w, h⟩ : EReal) else 0) else 0)
      = ahead (fun i => (p i : EReal)) w t.val := by
  have e : ∀ i : Fin N, (if t ≤ i then (p i : EReal) + (if h : i.val + w < N then -(p ⟨i.val + w, h⟩ : EReal) else 0) else 0)
      = (((fun n : ℕ => if t.val ≤ n then extR p n - extR p (n + w) else 0) i.val : ℝ) : EReal) := fun i => by
    show _ = ((if t.val ≤ i.val then extR p i.val - extR p (i.val + w) else 0 : ℝ) : EReal)
    rw [coe_ite, show extR p i.val = p i from dif_pos i.isLt]
    refine if_congr Iff.rfl ?_ rfl
    unfold extR
    split
    · rw [sub_eq_add_neg, EReal.coe_add, EReal.coe_neg]
    · rw [sub_zero, add_zero]
  rw [Finset.sum_congr rfl fun i _ => e i, ← coe_sum, Fin.sum_univ_eq_sum_range (fun n : ℕ => if t.val ≤ n then extR p n - extR p (n + w) else 0) N, ← Finset.sum_filter]
  have hf : (Finset.range N).filter (t.val ≤ ·) = Finset.Ico t.val N := Finset.ext fun n => by
    rw [Finset.mem_filter, Finset.mem_range, Finset.mem_Ico]; omega
  rw [hf]
  have ht := t.isLt
  have key : ∀ w : ℕ, (∑ n ∈ Finset.Ico t.val N, (extR p n - extR p (n + w))) = ∑ s ∈ Finset.range w, extR p (t.val + s) := fun w => by
    induction w with
    | zero => simp
    | succ w ih =>
      rw [Finset.sum_range_succ, ← ih, ← sub_eq_iff_eq_add', ← Finset.sum_sub_distrib]
      have h1 : ∀ n : ℕ, extR p n - extR p (n + (w + 1)) - (extR p n - extR p (n + w)) = -((fun n => extR p (n + w)) (n + 1) - (fun n => extR p (n + w)) n) := fun n => by
        show _ = -(extR p (n + 1 + w) - extR p (n + w)); rw [show n + (w + 1) = n + 1 + w by omega]; ring
      rw [Finset.sum_congr rfl fun n _ => h1 n, Finset.sum_neg_distrib, Finset.sum_Ico_sub (fun n => extR p (n + w)) ht.le]
      show -(extR p (N + w) - extR p (t.val + w)) = _
      rw [show extR p (N + w) = 0 from dif_neg (by omega)]; ring
  rw [key w, coe_sum]
  exact Finset.sum_congr rfl fun s _ => (ext_coe p _).symm

/-! ## The pool -/

/-- Column `a` of group `g`. -/
def col (g : Fin 4) (a : Fin 128) : Fin 512 := ⟨g.val * 128 + a.val, by omega⟩

/-- The count a mean divides by: the row's number plus one, at most `w`. -/
def cnt (w : BitVec 32) (n : ℕ) : EReal := (FloatOps.sitofp (F := Ideal) .f32 (IntOp.minsi (IntOp.addi (BitVec.ofNat 32 n) 1#32) w) : EReal)

/-- A column from row `b * 512 - 16` on, nothing before its first row. -/
def halo (f : Fin 8192 → EReal) (b n : ℕ) : EReal := if 16 ≤ b * 512 + n then ext f (b * 512 + n - 16) else 0

theorem sum_halo (f : Fin 8192 → EReal) (b w q : ℕ) (hw : w ≤ 16) :
    (∑ s ∈ Finset.range w, halo f b (16 + q - s)) = back f w (b * 512 + q) := by
  refine Finset.sum_congr rfl fun s hs => ?_
  have hs := Finset.mem_range.mp hs
  unfold halo
  rw [show b * 512 + (16 + q - s) - 16 = b * 512 + q - s by omega]
  exact if_congr (by omega) rfl rfl

theorem sum_ahead {N : ℕ} (f : Fin N → EReal) (b w q : ℕ) :
    (∑ s ∈ Finset.range w, ext f (b * 512 + (q + s))) = ahead f w (b * 512 + q) :=
  Finset.sum_congr rfl fun s _ => congrArg _ (Nat.add_assoc _ _ _).symm

/-- The four groups' numbers of rows, as numbers and as words. -/
def wd : Fin 4 → ℕ := ![2, 4, 8, 16]
def wb : Fin 4 → BitVec 32 := ![2#32, 4#32, 8#32, 16#32]

section
variable (P C : Fin 8192 → Fin 512 → EReal) (S : Fin 512 → EReal) (W : Fin 4 → Fin 128 → Fin 128 → EReal)

/-- The pooled rows: the mean over the last rows, less the row. -/
def pooled (g : Fin 4) (a : Fin 128) (n : Fin 8192) : EReal :=
  Ideal.div (back (fun r => P r (col g a)) (wd g) n.val) (cnt (wb g) n.val) - P n (col g a)

/-- The mixed rows' cotangent. -/
def dmix (k : Fin 512) (n : Fin 8192) : EReal := C n k * S k

/-- The pooled rows' cotangent. -/
def dpool (g : Fin 4) (a : Fin 128) (n : Fin 8192) : EReal := ∑ e, dmix C S (col g e) n * W g a e

/-- It over the counts. -/
def quot (g : Fin 4) (a : Fin 128) (n : Fin 8192) : EReal := Ideal.div (dpool C S W g a n) (cnt (wb g) n.val)

/-- The rows' gradient. -/
def dz (g : Fin 4) (a : Fin 128) (n : Fin 8192) : EReal := ahead (quot C S W g a) (wd g) n.val - dpool C S W g a n

/-- The weight's gradient. -/
def dw (g : Fin 4) (a e : Fin 128) : EReal := ∑ n, pooled P g a n * dmix C S (col g e) n

/-- The scale's gradient. -/
def dsc (g : Fin 4) (e : Fin 128) : EReal := ∑ n, C n (col g e) * ∑ a, pooled P g a n * W g a e

theorem dpool_ext (g : Fin 4) (a : Fin 128) (k : ℕ) :
    (∑ e, ext (dmix C S (col g e)) k * W g a e) = ext (dpool C S W g a) k := by
  by_cases h : k < 8192
  · simp only [ext, dif_pos h]; rfl
  · simp only [ext, dif_neg h, zero_mul, Finset.sum_const_zero]

end

/-- A count is a real number other than zero. -/
theorem cnt_real (g : Fin 4) (n : ℕ) (h : n < 2 ^ 31) : ∃ y : ℝ, y ≠ 0 ∧ cnt (wb g) n = (y : EReal) := by
  refine ⟨_, ?_, rfl⟩
  rw [Int.cast_ne_zero]
  have h1 : (BitVec.ofNat 32 n + 1#32).toInt ≠ 0 := fun e => by
    have e1 := congrArg BitVec.toNat (BitVec.eq_of_toInt_eq (e.trans (BitVec.toInt_zero (w := 32)).symm))
    rw [BitVec.toNat_add, BitVec.toNat_ofNat, BitVec.toNat_ofNat, BitVec.toNat_ofNat] at e1
    omega
  have h2 : (wb g).toInt ≠ 0 := (by decide : ∀ g, (wb g).toInt ≠ 0) g
  show (if (BitVec.ofNat 32 n + 1#32).slt (wb g) then BitVec.ofNat 32 n + 1#32 else wb g).toInt ≠ 0
  split
  · exact h1
  · exact h2

theorem quot_ext (C : Fin 8192 → Fin 512 → EReal) (S : Fin 512 → EReal) (W : Fin 4 → Fin 128 → Fin 128 → EReal) (g : Fin 4) (a : Fin 128)
    (k : ℕ) (hk : k < 2 ^ 31) : Ideal.div (ext (dpool C S W g a) k) (cnt (wb g) k) = ext (quot C S W g a) k := by
  by_cases h : k < 8192
  · simp only [ext, dif_pos h]; rfl
  · simp only [ext, dif_neg h]
    obtain ⟨y, hy, e⟩ := cnt_real g k hk
    rw [e, Ideal.div_coe hy, zero_mul]

end Cert.Window
-- ==== Proof.PoolBlock.lean ====
/-
  THE POOL'S GRADIENT, ONE BLOCK: what the body of the call `_pool_bwd` computes at each index, group by group. The means
  over the last 2, 4, 8 and 16 rows are sums of shifted copies over the counts; their gradients are sums over the next rows.
-/
module

public import proofs.«01_k».proof.Defs
public import proofs.«01_k».proof.Proof.Gen.Kernel6Ideal.Value
public import proofs.«01_k».proof.Proof.Window
public import proofs.«01_k».proof.Proof.Common
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.Kernel6Ideal.Pool

open Cert.Kernel6Ideal Cert.Kernel6Ideal.Gen Cert.Window

section
variable (i : grid0.Coords) (h : Vec Ideal S16x512 .f32) (p : Vec Ideal S512x512 .f32)

/-- A block's column with the sixteen rows above it. -/
def vin (k : Fin 512) (r : Fin 528) : EReal :=
  if hr : r.val < 16 then Scalar.select (Scalar.cmpi .sgt (BitVec.ofNat 32 (i 0).val) 0#32) (h (ix2 ⟨r.val, hr⟩ k) : EReal) 0
    else p (ix2 ⟨r.val - 16, by omega⟩ k)

theorem pay4_apply (r : Fin 528) (k : Fin 512) : k0_pay4 i h p (ix2 r k) = rot 1 (vin i h p k) r := by
  pointwise [k0_pay4, rot, vin]

theorem pay5_apply (r : Fin 528) (k : Fin 512) : k0_pay5 i h p (ix2 r k) = rot 2 (rot 1 (vin i h p k)) r := by
  rw [rot]; pointwise [k0_pay5, pay4_apply]

theorem pay6_apply (r : Fin 528) (k : Fin 512) : k0_pay6 i h p (ix2 r k) = rot 4 (rot 2 (rot 1 (vin i h p k))) r := by
  rw [rot]; pointwise [k0_pay6, pay5_apply]

theorem pay7_apply (r : Fin 528) (k : Fin 512) : k0_pay7 i h p (ix2 r k) = rot 8 (rot 4 (rot 2 (rot 1 (vin i h p k)))) r := by
  rw [rot]; pointwise [k0_pay7, pay6_apply]

/-- The word of row `q` of block `b`. -/
theorem row_word (b q : ℕ) : IntOp.addi (Scalar.muli (BitVec.ofNat 32 b) 512#32) (BitVec.ofNat 32 q) = BitVec.ofNat 32 (b * 512 + q) := by
  show BitVec.ofNat 32 b * BitVec.ofNat 32 512 + BitVec.ofNat 32 q = _
  rw [← BitVec.ofNat_mul, ← BitVec.ofNat_add]

/-- Group 0: the mean over the last 2 rows less the row. -/
theorem pooled0_apply (q : Fin 512) (a : Fin 128) : k0_pay9 i h p (ix2 q a)
    = Ideal.div (rot 1 (vin i h p (col 0 a)) ⟨16 + q.val, by omega⟩) (cnt 2#32 ((i 0).val * 512 + q.val)) - p (ix2 q (col 0 a)) := by
  pointwise [k0_pay9, k0_pay8, pay4_apply, cnt, col]
  simp only [row_word]

/-- Group 1: the mean over the last 4 rows less the row. -/
theorem pooled1_apply (q : Fin 512) (a : Fin 128) : k0_pay10 i h p (ix2 q a)
    = Ideal.div (rot 2 (rot 1 (vin i h p (col 1 a))) ⟨16 + q.val, by omega⟩) (cnt 4#32 ((i 0).val * 512 + q.val)) - p (ix2 q (col 1 a)) := by
  pointwise [k0_pay10, k0_pay8, pay5_apply, cnt, col]
  simp only [row_word]

/-- Group 2: the mean over the last 8 rows less the row. -/
theorem pooled2_apply (q : Fin 512) (a : Fin 128) : k0_pay12 p (k0_pay6 i h p) (k0_pay8 i) k0_pay11 (ix2 q a)
    = Ideal.div (rot 4 (rot 2 (rot 1 (vin i h p (col 2 a)))) ⟨16 + q.val, by omega⟩) (cnt 8#32 ((i 0).val * 512 + q.val)) - p (ix2 q (col 2 a)) := by
  pointwise [k0_pay12, k0_pay8, k0_pay11, pay6_apply, cnt, col]
  simp only [row_word]

/-- Group 3: the mean over the last 16 rows less the row. -/
theorem pooled3_apply (q : Fin 512) (a : Fin 128) : k0_pay13 p (k0_pay7 i h p) (k0_pay8 i) (ix2 q a)
    = Ideal.div (rot 8 (rot 4 (rot 2 (rot 1 (vin i h p (col 3 a))))) ⟨16 + q.val, by omega⟩) (cnt 16#32 ((i 0).val * 512 + q.val)) - p (ix2 q (col 3 a)) := by
  pointwise [k0_pay13, k0_pay8, pay7_apply, cnt, col]
  simp only [row_word]

end

section
variable (b : BitVec 32) (d : Vec Ideal S512x512 .bf16) (n : Vec Ideal S16x512 .bf16) (s : Vec Ideal S1x512 .f32)

/-- A block's column of the mixed rows' cotangent with the sixteen rows below it. -/
theorem pay15_apply (r : Fin 528) (k : Fin 512) : k0_pay15 b d n s (ix2 r k)
    = if hr : r.val < 512 then (d (ix2 ⟨r.val, hr⟩ k) : EReal) * s (ix2 0 k)
      else Scalar.select (Scalar.cmpi .slt b 15#32) (n (ix2 ⟨r.val - 512, by omega⟩ k) : EReal) 0 * s (ix2 0 k) := by
  pointwise [k0_pay15, k0_pay14]

end

section
variable (t : ℕ) (dm : FVec Ideal S528x512 .f32) (w : Vec Ideal S1x128x128 .f32) (x : FVec Ideal S512x128 .f32) (d : Vec Ideal S512x512 .bf16)

/-- The pooled rows' cotangent: the mixed rows' cotangent times the transposed weight. -/
def dpoolB (g : Fin 4) (a : Fin 128) (r : Fin 528) : EReal := ∑ e : Fin 128, (dm (ix2 r (col g e)) : EReal) * w (ix3 0 a e)

/-- Three doublings of a column of 528 rows, the first 512 rows, less another column's. -/
def tail8 (x y : FVec Ideal S528x128 .f32) : FVec Ideal S512x128 .f32 :=
  have v1 := addf x (dynamicRotate 0 527#32 none x rotates_S528x128_d0)
  have v2 := addf v1 (dynamicRotate 0 526#32 none v1 rotates_S528x128_d0)
  have v3 := addf v2 (dynamicRotate 0 524#32 none v2 rotates_S528x128_d0)
  subf (extractStridedSlice S512x128 ![0, 0] v3 slices_S528x128_o0_0_S512x128) (extractStridedSlice S512x128 ![0, 0] y slices_S528x128_o0_0_S512x128)

theorem tail8_apply (x y : FVec Ideal S528x128 .f32) (q : Fin 512) (a : Fin 128) : tail8 x y (ix2 q a)
    = rot 524 (rot 526 (rot 527 (fun r => x (ix2 r a)))) ⟨q.val, by omega⟩ - y (ix2 ⟨q.val, by omega⟩ a) := by
  pointwise [tail8, rot]

theorem pay1_apply (x y : FVec Ideal S528x128 .f32) (q : Fin 512) (a : Fin 128) : k0_pay1 y x (ix2 q a)
    = rot 520 (rot 524 (rot 526 (fun r => x (ix2 r a)))) ⟨q.val, by omega⟩ - y (ix2 ⟨q.val, by omega⟩ a) := by
  pointwise [k0_pay1, rot]

/-- The product with the transposed weight, and it over the counts, of group 2 and of group 3. -/
def prod2 : FVec Ideal S528x128 .f32 :=
  matmul dot_S528x128_S128x128_S528x128_1_1_0_0_n_n none (truncf .bf16 (extractStridedSlice S528x128 ![0, 256] dm slices_S528x512_o0_256_S528x128) bitsLt_bf16_f32) (k0_pay29 w) (constant S528x128 .f32 0x00000000#32)

theorem prod2_apply (r : Fin 528) (a : Fin 128) : prod2 dm w (ix2 r a) = dpoolB dm w 2 a r := by
  pointwise [prod2, k0_pay29, dpoolB, col]

def quot2 : FVec Ideal S528x128 .f32 :=
  divf (prod2 dm w) (sitofp .f32 (minsi (addi (k0_pay16 (BitVec.ofNat 32 t)) (broadcast S528x128 1#32)) (broadcast S528x128 8#32)))

theorem quot2_apply (r : Fin 528) (a : Fin 128) : quot2 t dm w (ix2 r a) = Ideal.div (dpoolB dm w 2 a r) (cnt 8#32 (t * 512 + r.val)) := by
  rw [← prod2_apply, cnt, ← row_word]
  pointwise [quot2, k0_pay16, cnt]

theorem pay39_apply (r : Fin 528) (a : Fin 128) : k0_pay39 dm w (ix2 r a) = dpoolB dm w 3 a r := by
  pointwise [k0_pay39, k0_pay35, dpoolB, col]

theorem pay40_apply (r : Fin 528) (a : Fin 128) : k0_pay40 dm (k0_pay16 (BitVec.ofNat 32 t)) w (ix2 r a)
    = rot 527 (fun r => Ideal.div (dpoolB dm w 3 a r) (cnt 16#32 (t * 512 + r.val))) r := by
  pointwise [k0_pay40, k0_pay16, pay39_apply, cnt, rot]
  simp only [row_word]

/-- Group 0: the pooled row's gradient, a sum over the next 2 rows. -/
theorem dz0_apply (q : Fin 512) (a : Fin 128) : k0_pay23 dm (k0_pay16 (BitVec.ofNat 32 t)) (k0_pay17 w) (ix2 q a)
    = rot 527 (fun r => Ideal.div (dpoolB dm w 0 a r) (cnt 2#32 (t * 512 + r.val))) ⟨q.val, by omega⟩ - dpoolB dm w 0 a ⟨q.val, by omega⟩ := by
  pointwise [k0_pay23, k0_pay16, k0_pay17, cnt, col, dpoolB, rot]
  simp only [row_word]

/-- Group 0: the weight's gradient, the block's part added. -/
theorem dw0_apply (v : Vec Ideal S1x128x128 .f32) (a e : Fin 128) : k0_pay22 dm (k0_pay18 x) v (ix3 0 a e)
    = v (ix3 0 a e) + ∑ q : Fin 512, (x (ix2 q a) : EReal) * dm (ix2 ⟨q.val, by omega⟩ (col 0 e)) := by
  pointwise [k0_pay22, k0_pay18, col]

/-- Group 0: the scale's gradient, the block's part added. -/
theorem dsc0_apply (v : Vec Ideal S1x128 .f32) (e : Fin 128) : k0_pay21 (k0_pay17 w) (k0_pay18 x) (k0_pay19 v) (k0_pay20 d) (constant S512x128 .f32 0#32) (ix2 0 e)
    = v (ix2 0 e) + ∑ q : Fin 512, (d (ix2 q (col 0 e)) : EReal) * ∑ a : Fin 128, (x (ix2 q a) : EReal) * w (ix3 0 a e) := by
  pointwise [k0_pay21, k0_pay17, k0_pay18, k0_pay19, k0_pay20, k0_pay14, col]

/-- Group 1: the pooled row's gradient, a sum over the next 4 rows. -/
theorem dz1_apply (q : Fin 512) (a : Fin 128) : k0_pay28 dm (k0_pay16 (BitVec.ofNat 32 t)) (k0_pay24 w) (ix2 q a)
    = rot 526 (rot 527 (fun r => Ideal.div (dpoolB dm w 1 a r) (cnt 4#32 (t * 512 + r.val)))) ⟨q.val, by omega⟩ - dpoolB dm w 1 a ⟨q.val, by omega⟩ := by
  pointwise [k0_pay28, k0_pay16, k0_pay24, cnt, col, dpoolB, rot]
  simp only [row_word]

/-- Group 1: the weight's gradient, the block's part added. -/
theorem dw1_apply (v : Vec Ideal S1x128x128 .f32) (a e : Fin 128) : k0_pay27 dm (k0_pay25 x) v (ix3 0 a e)
    = v (ix3 0 a e) + ∑ q : Fin 512, (x (ix2 q a) : EReal) * dm (ix2 ⟨q.val, by omega⟩ (col 1 e)) := by
  pointwise [k0_pay27, k0_pay25, col]

/-- Group 1: the scale's gradient, the block's part added. -/
theorem dsc1_apply (v : Vec Ideal S1x128 .f32) (e : Fin 128) : k0_pay26 (k0_pay14 d) (k0_pay24 w) (k0_pay25 x) v (ix2 0 e)
    = v (ix2 0 e) + ∑ q : Fin 512, (d (ix2 q (col 1 e)) : EReal) * ∑ a : Fin 128, (x (ix2 q a) : EReal) * w (ix3 0 a e) := by
  pointwise [k0_pay26, k0_pay14, k0_pay24, k0_pay25, col]

/-- Group 2: the pooled row's gradient, a sum over the next 8 rows. -/
theorem dz2_apply (q : Fin 512) (a : Fin 128) : k0_pay34 (k0_pay33 dm (k0_pay16 (BitVec.ofNat 32 t)) w) (ix2 q a)
    = rot 524 (rot 526 (rot 527 (fun r => Ideal.div (dpoolB dm w 2 a r) (cnt 8#32 (t * 512 + r.val))))) ⟨q.val, by omega⟩ - dpoolB dm w 2 a ⟨q.val, by omega⟩ :=
  (tail8_apply (quot2 t dm w) (prod2 dm w) q a).trans (by simp only [quot2_apply, prod2_apply])

/-- Group 2: the weight's gradient, the block's part added. -/
theorem dw2_apply (v : Vec Ideal S1x128x128 .f32) (a e : Fin 128) : k0_pay32 x dm v (ix3 0 a e)
    = v (ix3 0 a e) + ∑ q : Fin 512, (x (ix2 q a) : EReal) * dm (ix2 ⟨q.val, by omega⟩ (col 2 e)) := by
  pointwise [k0_pay32, k0_pay30, col]

/-- Group 2: the scale's gradient, the block's part added. -/
theorem dsc2_apply (v : Vec Ideal S1x128 .f32) (e : Fin 128) : k0_pay31 x (k0_pay14 d) w v (ix2 0 e)
    = v (ix2 0 e) + ∑ q : Fin 512, (d (ix2 q (col 2 e)) : EReal) * ∑ a : Fin 128, (x (ix2 q a) : EReal) * w (ix3 0 a e) := by
  pointwise [k0_pay31, k0_pay14, k0_pay29, k0_pay30, col]

/-- Group 3: the pooled row's gradient, a sum over the next 16 rows. -/
theorem dz3_apply (q : Fin 512) (a : Fin 128) : k0_pay1 (k0_pay39 dm w) (k0_pay40 dm (k0_pay16 (BitVec.ofNat 32 t)) w) (ix2 q a)
    = rot 520 (rot 524 (rot 526 (rot 527 (fun r => Ideal.div (dpoolB dm w 3 a r) (cnt 16#32 (t * 512 + r.val)))))) ⟨q.val, by omega⟩ - dpoolB dm w 3 a ⟨q.val, by omega⟩ :=
  (pay1_apply _ _ q a).trans (by simp only [pay39_apply, pay40_apply])

/-- Group 3: the weight's gradient, the block's part added. -/
theorem dw3_apply (v : Vec Ideal S1x128x128 .f32) (a e : Fin 128) : k0_pay38 x dm v (ix3 0 a e)
    = v (ix3 0 a e) + ∑ q : Fin 512, (x (ix2 q a) : EReal) * dm (ix2 ⟨q.val, by omega⟩ (col 3 e)) := by
  pointwise [k0_pay38, k0_pay36, col]

/-- Group 3: the scale's gradient, the block's part added. -/
theorem dsc3_apply (v : Vec Ideal S1x128 .f32) (e : Fin 128) : k0_pay37 x (k0_pay14 d) w v (ix2 0 e)
    = v (ix2 0 e) + ∑ q : Fin 512, (d (ix2 q (col 3 e)) : EReal) * ∑ a : Fin 128, (x (ix2 q a) : EReal) * w (ix3 0 a e) := by
  pointwise [k0_pay37, k0_pay14, k0_pay35, k0_pay36, col]

end

end Cert.Kernel6Ideal.Pool
-- ==== Proof.PoolRun.lean ====
/-
  THE POOL'S GRADIENT, THE RUN: the call `_pool_bwd` reads a block of 512 rows with the sixteen rows before it and the
  sixteen cotangent rows after it; it leaves the block's rows' gradient and adds the block's part in the gradients of the
  weight and of the scale, over sixteen blocks.
-/
module

public import proofs.«01_k».proof.Proof.PoolBlock
public import Idealize.ShloMosaic.Lib.Pipeline.ReadBack
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.Kernel6Ideal.Pool

open Cert.Kernel6Ideal Cert.Kernel6Ideal.Gen Cert.Window

variable (m : (ℓ : Loc nD τ sig) → Buf (Elt Ideal) ℓ) (ρ : Dev nD → PrngReg)

/-! ## The launched arguments -/

abbrev A0 (c : Dev nD) : FVec Ideal S8192x2560 .f32 := m ((c : Thread nD τ).loc main_arg0)
abbrev A1 (c : Dev nD) : FVec Ideal S4x128x128 .f32 := m ((c : Thread nD τ).loc main_arg1)
abbrev A2 (c : Dev nD) : FVec Ideal S512 .f32 := m ((c : Thread nD τ).loc main_arg2)
abbrev A3 (c : Dev nD) : FVec Ideal S8192x1024 .bf16 := m ((c : Thread nD τ).loc main_arg3)
abbrev A4 (c : Dev nD) : FVec Ideal S8192x2560 .bf16 := m ((c : Thread nD τ).loc main_arg4)

/-- The pool's columns, the cotangent's, the scale and the weight. -/
abbrev P (c : Dev nD) (n : Fin 8192) (k : Fin 512) : EReal := A0 m c (ix2 n ⟨2048 + k.val, by omega⟩)
abbrev C (c : Dev nD) (n : Fin 8192) (k : Fin 512) : EReal := A3 m c (ix2 n ⟨512 + k.val, by omega⟩)
abbrev S (c : Dev nD) (k : Fin 512) : EReal := A2 m c (ix1 k)
abbrev W (c : Dev nD) (g : Fin 4) (a e : Fin 128) : EReal := A1 m c (ix3 g a e)

theorem index_in : ∀ t : Fin cfg0.N, win0_0.index t = ![t.val, 4] ∧ win0_1.index t = ![t.val * 32 - 1, 4] ∧ win0_2.index t = ![0, 0, 0]
    ∧ win0_3.index t = ![0, 0] ∧ win0_4.index t = ![t.val, 1] ∧ win0_5.index t = ![min ((t.val + 1) * 32) 511, 1] ∧ win0_6.index t = ![t.val, 4]
    ∧ win0_7.index t = ![0, 0, 0] ∧ win0_8.index t = ![0, 0] :=
  (by decide +kernel : ∀ t : Fin grid0.N, win0_0.index t = ![t.val, 4] ∧ win0_1.index t = ![t.val * 32 - 1, 4] ∧ win0_2.index t = ![0, 0, 0]
    ∧ win0_3.index t = ![0, 0] ∧ win0_4.index t = ![t.val, 1] ∧ win0_5.index t = ![min ((t.val + 1) * 32) 511, 1] ∧ win0_6.index t = ![t.val, 4]
    ∧ win0_7.index t = ![0, 0, 0] ∧ win0_8.index t = ![0, 0])

theorem coord : ∀ t : Fin cfg0.N, (grid0.coords t 0).val = t.val :=
  (by decide +kernel : ∀ t : Fin grid0.N, (grid0.coords t 0).val = t.val)

theorem t_lt (t : Fin cfg0.N) : t.val < 16 := by
  have := t.isLt; have : cfg0.N = 16 := N_0; omega

/-- Row `r` of point `t`'s block, in the array. -/
abbrev rowAt (t : Fin cfg0.N) (r : Fin 512) : Fin 8192 := ⟨t.val * 512 + r.val, by have := t_lt t; omega⟩

theorem iblk0_apply (c : Dev nD) (t : Fin cfg0.N) (r k : Fin 512) :
    iblk m c 0 t (ix2 r k) = P m c (rowAt t r) k := by
  blk_point [iblk, V, index_in t]

theorem iblk1_apply (c : Dev nD) (t : Fin cfg0.N) (r : Fin 16) (k : Fin 512) :
    iblk m c 1 t (ix2 r k) = P m c ⟨(t.val * 32 - 1) * 16 + r.val, by have := t_lt t; omega⟩ k := by
  blk_point [iblk, V, index_in t]

theorem iblk2_apply (c : Dev nD) (t : Fin cfg0.N) (g : Fin 4) (a e : Fin 128) :
    iblk m c 2 t (ix3 g a e) = W m c g a e := by
  blk_point [iblk, V, index_in t]

theorem iblk3_apply (c : Dev nD) (t : Fin cfg0.N) (k : Fin 512) :
    iblk m c 3 t (ix2 0 k) = S m c k := by
  blk_point [iblk, V, index_in t]

theorem iblk4_apply (c : Dev nD) (t : Fin cfg0.N) (r k : Fin 512) :
    iblk m c 4 t (ix2 r k) = C m c (rowAt t r) k := by
  blk_point [iblk, V, index_in t]

theorem iblk5_apply (c : Dev nD) (t : Fin cfg0.N) (r : Fin 16) (k : Fin 512) :
    iblk m c 5 t (ix2 r k) = C m c ⟨min ((t.val + 1) * 32) 511 * 16 + r.val, by have := t_lt t; omega⟩ k := by
  blk_point [iblk, V, index_in t]

/-- Loads of one group's weight. -/
theorem ldW (c : Dev nD) (t : Fin cfg0.N) (o : ℕ) (g : Fin 4) (ho : o = g.val) (inb : ∀ a, ![o, 0, 0] a + ![1, 128, 128] a ≤ S4x128x128.size a) (a e : Fin 128) :
    View.ld (iblk m c 2 t) (Rect.unit (s := S4x128x128) ![o, 0, 0] ![1, 128, 128] inb) (ix3 0 a e) = W m c g a e :=
  (View.ld_unit_apply_of _ _ _ _ _ (ix3 g a e) (by
    subst ho; intro a; match a with | ⟨0, _⟩ => rfl | ⟨1, _⟩ => exact (Nat.zero_add _).symm | ⟨2, _⟩ => exact (Nat.zero_add _).symm)).trans (iblk2_apply m c t _ _ _)

/-! ## The pooled rows -/

theorem gt_zero : ∀ t : Fin 16, Scalar.cmpi .sgt (BitVec.ofNat 32 t.val) 0#32 = if 0 < t.val then 1#1 else 0#1 := by decide

theorem lt_last : ∀ t : Fin 16, Scalar.cmpi .slt (BitVec.ofNat 32 t.val) 15#32 = if t.val < 15 then 1#1 else 0#1 := by decide

theorem vin_eq (c : Dev nD) (t : Fin cfg0.N) (k : Fin 512) (r : Fin 528) :
    vin (grid0.coords t) (iblk m c 1 t) (iblk m c 0 t) k r = halo (fun n => P m c n k) t.val r.val := by
  have ht := t_lt t
  unfold vin halo
  rw [coord, gt_zero ⟨t.val, ht⟩]
  by_cases hr : r.val < 16
  · rw [dif_pos hr, iblk1_apply]
    by_cases h0 : 0 < t.val
    · rw [if_pos h0, if_pos (by omega)]
      refine Eq.trans ?_ (ext_lt (fun n => P m c n k) ⟨t.val * 512 + r.val - 16, by omega⟩).symm
      exact congrArg (fun n => P m c n k) (Fin.ext (by show (t.val * 32 - 1) * 16 + r.val = t.val * 512 + r.val - 16; omega))
    · rw [if_neg h0, if_neg (by omega)]; rfl
  · rw [dif_neg hr, iblk0_apply, if_pos (by omega)]
    refine Eq.trans ?_ (ext_lt (fun n => P m c n k) ⟨t.val * 512 + r.val - 16, by omega⟩).symm
    exact congrArg (fun n => P m c n k) (Fin.ext (by show t.val * 512 + (r.val - 16) = t.val * 512 + r.val - 16; omega))

/-- Group 0's pooled rows of a block. -/
abbrev pool0 (c : Dev nD) (t : Fin cfg0.N) : FVec Ideal S512x128 .f32 := k0_pay9 (grid0.coords t) (iblk m c 1 t) (iblk m c 0 t)

theorem pool0_eq (c : Dev nD) (t : Fin cfg0.N) (q : Fin 512) (a : Fin 128) : pool0 m c t (ix2 q a) = pooled (P m c) 0 a (rowAt t q) := by
  refine (pooled0_apply _ _ _ _ _).trans ?_
  rw [down2 _ _ (vin_eq m c t (col 0 a)) _ (by show 2 ≤ 16 + q.val + 1; omega), iblk0_apply, coord]
  exact congrArg₂ (fun x y => Ideal.div x _ - y) (sum_halo _ _ _ _ (by decide)) rfl

/-- Group 1's pooled rows of a block. -/
abbrev pool1 (c : Dev nD) (t : Fin cfg0.N) : FVec Ideal S512x128 .f32 := k0_pay10 (grid0.coords t) (iblk m c 1 t) (iblk m c 0 t)

theorem pool1_eq (c : Dev nD) (t : Fin cfg0.N) (q : Fin 512) (a : Fin 128) : pool1 m c t (ix2 q a) = pooled (P m c) 1 a (rowAt t q) := by
  refine (pooled1_apply _ _ _ _ _).trans ?_
  rw [down4 _ _ (vin_eq m c t (col 1 a)) _ (by show 4 ≤ 16 + q.val + 1; omega), iblk0_apply, coord]
  exact congrArg₂ (fun x y => Ideal.div x _ - y) (sum_halo _ _ _ _ (by decide)) rfl

/-- Group 2's pooled rows of a block. -/
abbrev pool2 (c : Dev nD) (t : Fin cfg0.N) : FVec Ideal S512x128 .f32 := k0_pay12 (iblk m c 0 t) (k0_pay6 (grid0.coords t) (iblk m c 1 t) (iblk m c 0 t)) (k0_pay8 (grid0.coords t)) k0_pay11

theorem pool2_eq (c : Dev nD) (t : Fin cfg0.N) (q : Fin 512) (a : Fin 128) : pool2 m c t (ix2 q a) = pooled (P m c) 2 a (rowAt t q) := by
  refine (pooled2_apply _ _ _ _ _).trans ?_
  rw [down8 _ _ (vin_eq m c t (col 2 a)) _ (by show 8 ≤ 16 + q.val + 1; omega), iblk0_apply, coord]
  exact congrArg₂ (fun x y => Ideal.div x _ - y) (sum_halo _ _ _ _ (by decide)) rfl

/-- Group 3's pooled rows of a block. -/
abbrev pool3 (c : Dev nD) (t : Fin cfg0.N) : FVec Ideal S512x128 .f32 := k0_pay13 (iblk m c 0 t) (k0_pay7 (grid0.coords t) (iblk m c 1 t) (iblk m c 0 t)) (k0_pay8 (grid0.coords t))

theorem pool3_eq (c : Dev nD) (t : Fin cfg0.N) (q : Fin 512) (a : Fin 128) : pool3 m c t (ix2 q a) = pooled (P m c) 3 a (rowAt t q) := by
  refine (pooled3_apply _ _ _ _ _).trans ?_
  rw [down16 _ _ (vin_eq m c t (col 3 a)) _ (by show 16 ≤ 16 + q.val + 1; omega), iblk0_apply, coord]
  exact congrArg₂ (fun x y => Ideal.div x _ - y) (sum_halo _ _ _ _ (by decide)) rfl

/-! ## The mixed rows' cotangent -/

abbrev mix (c : Dev nD) (t : Fin cfg0.N) : FVec Ideal S528x512 .f32 := k0_pay15 (BitVec.ofNat 32 (grid0.coords t 0).val) (iblk m c 4 t) (iblk m c 5 t) (iblk m c 3 t)

theorem mix_eq (c : Dev nD) (t : Fin cfg0.N) (r : Fin 528) (k : Fin 512) :
    mix m c t (ix2 r k) = ext (dmix (C m c) (S m c) k) (t.val * 512 + r.val) := by
  have ht := t_lt t
  refine (pay15_apply _ _ _ _ _ _).trans ?_
  rw [coord, lt_last ⟨t.val, ht⟩, iblk3_apply]
  by_cases hr : r.val < 512
  · rw [dif_pos hr, iblk4_apply]
    exact (ext_lt (dmix (C m c) (S m c) k) ⟨t.val * 512 + r.val, by omega⟩).symm
  · rw [dif_neg hr, iblk5_apply]
    by_cases h0 : t.val < 15
    · rw [if_pos h0]
      refine Eq.trans ?_ (ext_lt (dmix (C m c) (S m c) k) ⟨t.val * 512 + r.val, by omega⟩).symm
      exact congrArg (fun n => dmix (C m c) (S m c) k n) (Fin.ext (by show min ((t.val + 1) * 32) 511 * 16 + (r.val - 512) = t.val * 512 + r.val; omega))
    · rw [if_neg h0, ext_ge _ (by omega)]; exact zero_mul _

theorem mix_lt (c : Dev nD) (t : Fin cfg0.N) (q : Fin 512) (k : Fin 512) :
    mix m c t (ix2 ⟨q.val, by omega⟩ k) = dmix (C m c) (S m c) k (rowAt t q) :=
  (mix_eq m c t _ k).trans (ext_lt _ (rowAt t q))

theorem dpoolB_eq (c : Dev nD) (t : Fin cfg0.N) (o : ℕ) (g : Fin 4) (ho : o = g.val) (inb) (a : Fin 128) (r : Fin 528) :
    dpoolB (mix m c t) (View.ld (iblk m c 2 t) (Rect.unit (s := S4x128x128) ![o, 0, 0] ![1, 128, 128] inb)) g a r
      = ext (dpool (C m c) (S m c) (W m c) g a) (t.val * 512 + r.val) := by
  rw [← dpool_ext]
  exact Finset.sum_congr rfl fun e _ => congrArg₂ _ (mix_eq m c t r _) (ldW m c t o g ho inb a e)

theorem quotB_eq (c : Dev nD) (t : Fin cfg0.N) (o : ℕ) (g : Fin 4) (ho : o = g.val) (inb) (a : Fin 128) (r : Fin 528) :
    Ideal.div (dpoolB (mix m c t) (View.ld (iblk m c 2 t) (Rect.unit (s := S4x128x128) ![o, 0, 0] ![1, 128, 128] inb)) g a r)
      (cnt (wb g) ((grid0.coords t 0).val * 512 + r.val)) = ext (quot (C m c) (S m c) (W m c) g a) (t.val * 512 + r.val) := by
  rw [dpoolB_eq m c t o g ho, coord]
  exact quot_ext _ _ _ _ _ _ (by have := t_lt t; omega)

/-- Group 0's weight, as loaded. -/
abbrev wt0 (c : Dev nD) (t : Fin cfg0.N) : Vec Ideal S1x128x128 .f32 :=
  View.ld (iblk m c 2 t) (Rect.unit (s := S4x128x128) ![0, 0, 0] ![1, 128, 128] inb_S4x128x128_S1x128x128_0_0_0)

theorem dz0_eq (c : Dev nD) (t : Fin cfg0.N) (q : Fin 512) (a : Fin 128) :
    k0_pay23 (mix m c t) (k0_pay16 (BitVec.ofNat 32 (grid0.coords t 0).val)) (k0_pay17 (wt0 m c t)) (ix2 q a)
      = dz (C m c) (S m c) (W m c) 0 a (rowAt t q) := by
  refine (dz0_apply _ _ _ _ _).trans ?_
  exact congrArg₂ HSub.hSub
    ((up2 _ (fun k => ext (quot (C m c) (S m c) (W m c) 0 a) (t.val * 512 + k)) (quotB_eq m c t 0 0 rfl _ a) _ (by show q.val + 2 ≤ 528; omega)).trans (sum_ahead _ _ _ _))
    ((dpoolB_eq m c t 0 0 rfl _ a _).trans (ext_lt _ (rowAt t q)))

/-- Group 1's weight, as loaded. -/
abbrev wt1 (c : Dev nD) (t : Fin cfg0.N) : Vec Ideal S1x128x128 .f32 :=
  View.ld (iblk m c 2 t) (Rect.unit (s := S4x128x128) ![1, 0, 0] ![1, 128, 128] inb_S4x128x128_S1x128x128_1_0_0)

theorem dz1_eq (c : Dev nD) (t : Fin cfg0.N) (q : Fin 512) (a : Fin 128) :
    k0_pay28 (mix m c t) (k0_pay16 (BitVec.ofNat 32 (grid0.coords t 0).val)) (k0_pay24 (wt1 m c t)) (ix2 q a)
      = dz (C m c) (S m c) (W m c) 1 a (rowAt t q) := by
  refine (dz1_apply _ _ _ _ _).trans ?_
  exact congrArg₂ HSub.hSub
    ((up4 _ (fun k => ext (quot (C m c) (S m c) (W m c) 1 a) (t.val * 512 + k)) (quotB_eq m c t 1 1 rfl _ a) _ (by show q.val + 4 ≤ 528; omega)).trans (sum_ahead _ _ _ _))
    ((dpoolB_eq m c t 1 1 rfl _ a _).trans (ext_lt _ (rowAt t q)))

/-- Group 2's weight, as loaded. -/
abbrev wt2 (c : Dev nD) (t : Fin cfg0.N) : Vec Ideal S1x128x128 .f32 :=
  View.ld (iblk m c 2 t) (Rect.unit (s := S4x128x128) ![2, 0, 0] ![1, 128, 128] inb_S4x128x128_S1x128x128_2_0_0)

theorem dz2_eq (c : Dev nD) (t : Fin cfg0.N) (q : Fin 512) (a : Fin 128) :
    k0_pay34 (k0_pay33 (mix m c t) (k0_pay16 (BitVec.ofNat 32 (grid0.coords t 0).val)) (wt2 m c t)) (ix2 q a)
      = dz (C m c) (S m c) (W m c) 2 a (rowAt t q) := by
  refine (dz2_apply _ _ _ _ _).trans ?_
  exact congrArg₂ HSub.hSub
    ((up8 _ (fun k => ext (quot (C m c) (S m c) (W m c) 2 a) (t.val * 512 + k)) (quotB_eq m c t 2 2 rfl _ a) _ (by show q.val + 8 ≤ 528; omega)).trans (sum_ahead _ _ _ _))
    ((dpoolB_eq m c t 2 2 rfl _ a _).trans (ext_lt _ (rowAt t q)))

/-- Group 3's weight, as loaded. -/
abbrev wt3 (c : Dev nD) (t : Fin cfg0.N) : Vec Ideal S1x128x128 .f32 :=
  View.ld (iblk m c 2 t) (Rect.unit (s := S4x128x128) ![3, 0, 0] ![1, 128, 128] inb_S4x128x128_S1x128x128_3_0_0)

theorem dz3_eq (c : Dev nD) (t : Fin cfg0.N) (q : Fin 512) (a : Fin 128) :
    k0_pay1 (k0_pay39 (mix m c t) (wt3 m c t)) (k0_pay40 (mix m c t) (k0_pay16 (BitVec.ofNat 32 (grid0.coords t 0).val)) (wt3 m c t)) (ix2 q a)
      = dz (C m c) (S m c) (W m c) 3 a (rowAt t q) := by
  refine (dz3_apply _ _ _ _ _).trans ?_
  exact congrArg₂ HSub.hSub
    ((up16 _ (fun k => ext (quot (C m c) (S m c) (W m c) 3 a) (t.val * 512 + k)) (quotB_eq m c t 3 3 rfl _ a) _ (by show q.val + 16 ≤ 528; omega)).trans (sum_ahead _ _ _ _))
    ((dpoolB_eq m c t 3 3 rfl _ a _).trans (ext_lt _ (rowAt t q)))

/-- A block's part in the weight's and in the scale's gradient. -/
def dwB (c : Dev nD) (t : Fin cfg0.N) (g : Fin 4) (a e : Fin 128) : EReal :=
  ∑ q : Fin 512, pooled (P m c) g a (rowAt t q) * dmix (C m c) (S m c) (col g e) (rowAt t q)

def dscB (c : Dev nD) (t : Fin cfg0.N) (g : Fin 4) (e : Fin 128) : EReal :=
  ∑ q : Fin 512, C m c (rowAt t q) (col g e) * ∑ a, pooled (P m c) g a (rowAt t q) * W m c g a e

theorem dw0_eq (c : Dev nD) (t : Fin cfg0.N) (v : Vec Ideal S1x128x128 .f32) (a e : Fin 128) :
    k0_pay22 (mix m c t) (k0_pay18 (pool0 m c t)) v (ix3 0 a e) = v (ix3 0 a e) + dwB m c t 0 a e :=
  (dw0_apply _ _ _ _ _).trans (congrArg _ (Finset.sum_congr rfl fun q _ => congrArg₂ _ (pool0_eq m c t q a) (mix_lt m c t q _)))

theorem dsc0_eq (c : Dev nD) (t : Fin cfg0.N) (v : Vec Ideal S1x128 .f32) (e : Fin 128) :
    k0_pay21 (k0_pay17 (wt0 m c t)) (k0_pay18 (pool0 m c t)) (k0_pay19 v) (k0_pay20 (iblk m c 4 t)) (constant S512x128 .f32 0#32) (ix2 0 e) = v (ix2 0 e) + dscB m c t 0 e :=
  (dsc0_apply _ _ _ _ _).trans (congrArg _ (Finset.sum_congr rfl fun q _ => congrArg₂ _ (iblk4_apply m c t q _)
    (Finset.sum_congr rfl fun a _ => congrArg₂ _ (pool0_eq m c t q a) (ldW m c t 0 0 rfl _ a e))))

theorem dw1_eq (c : Dev nD) (t : Fin cfg0.N) (v : Vec Ideal S1x128x128 .f32) (a e : Fin 128) :
    k0_pay27 (mix m c t) (k0_pay25 (pool1 m c t)) v (ix3 0 a e) = v (ix3 0 a e) + dwB m c t 1 a e :=
  (dw1_apply _ _ _ _ _).trans (congrArg _ (Finset.sum_congr rfl fun q _ => congrArg₂ _ (pool1_eq m c t q a) (mix_lt m c t q _)))

theorem dsc1_eq (c : Dev nD) (t : Fin cfg0.N) (v : Vec Ideal S1x128 .f32) (e : Fin 128) :
    k0_pay26 (k0_pay14 (iblk m c 4 t)) (k0_pay24 (wt1 m c t)) (k0_pay25 (pool1 m c t)) v (ix2 0 e) = v (ix2 0 e) + dscB m c t 1 e :=
  (dsc1_apply _ _ _ _ _).trans (congrArg _ (Finset.sum_congr rfl fun q _ => congrArg₂ _ (iblk4_apply m c t q _)
    (Finset.sum_congr rfl fun a _ => congrArg₂ _ (pool1_eq m c t q a) (ldW m c t 1 1 rfl _ a e))))

theorem dw2_eq (c : Dev nD) (t : Fin cfg0.N) (v : Vec Ideal S1x128x128 .f32) (a e : Fin 128) :
    k0_pay32 (pool2 m c t) (mix m c t) v (ix3 0 a e) = v (ix3 0 a e) + dwB m c t 2 a e :=
  (dw2_apply _ _ _ _ _).trans (congrArg _ (Finset.sum_congr rfl fun q _ => congrArg₂ _ (pool2_eq m c t q a) (mix_lt m c t q _)))

theorem dsc2_eq (c : Dev nD) (t : Fin cfg0.N) (v : Vec Ideal S1x128 .f32) (e : Fin 128) :
    k0_pay31 (pool2 m c t) (k0_pay14 (iblk m c 4 t)) (wt2 m c t) v (ix2 0 e) = v (ix2 0 e) + dscB m c t 2 e :=
  (dsc2_apply _ _ _ _ _).trans (congrArg _ (Finset.sum_congr rfl fun q _ => congrArg₂ _ (iblk4_apply m c t q _)
    (Finset.sum_congr rfl fun a _ => congrArg₂ _ (pool2_eq m c t q a) (ldW m c t 2 2 rfl _ a e))))

theorem dw3_eq (c : Dev nD) (t : Fin cfg0.N) (v : Vec Ideal S1x128x128 .f32) (a e : Fin 128) :
    k0_pay38 (pool3 m c t) (mix m c t) v (ix3 0 a e) = v (ix3 0 a e) + dwB m c t 3 a e :=
  (dw3_apply _ _ _ _ _).trans (congrArg _ (Finset.sum_congr rfl fun q _ => congrArg₂ _ (pool3_eq m c t q a) (mix_lt m c t q _)))

theorem dsc3_eq (c : Dev nD) (t : Fin cfg0.N) (v : Vec Ideal S1x128 .f32) (e : Fin 128) :
    k0_pay37 (pool3 m c t) (k0_pay14 (iblk m c 4 t)) (wt3 m c t) v (ix2 0 e) = v (ix2 0 e) + dscB m c t 3 e :=
  (dsc3_apply _ _ _ _ _).trans (congrArg _ (Finset.sum_congr rfl fun q _ => congrArg₂ _ (iblk4_apply m c t q _)
    (Finset.sum_congr rfl fun a _ => congrArg₂ _ (pool3_eq m c t q a) (ldW m c t 3 3 rfl _ a e))))

/-! ## The results -/

/-- A column's group and its place in the group. -/
def grp (k : Fin 512) : Fin 4 := ⟨k.val / 128, by omega⟩
def lane (k : Fin 512) : Fin 128 := ⟨k.val % 128, by omega⟩

theorem grp_col (g : Fin 4) (a : Fin 128) : grp (col g a) = g := Fin.ext (by show (g.val * 128 + a.val) / 128 = g.val; omega)
theorem lane_col (g : Fin 4) (a : Fin 128) : lane (col g a) = a := Fin.ext (by show (g.val * 128 + a.val) % 128 = a.val; omega)
theorem col_eq (k : Fin 512) : col (grp k) (lane k) = k := Fin.ext (by show k.val / 128 * 128 + k.val % 128 = k.val; omega)

/-- A function of the group and of the place in the group, at the column that holds them. -/
theorem at_col {α : Type} (f : Fin 4 → Fin 128 → α) (k : Fin 512) (o : ℕ) (g : Fin 4) (ho : o = g.val * 128) (a : Fin 128) (h : k.val = o + a.val) :
    f g a = f (grp k) (lane k) := by
  rw [show k = col g a from Fin.ext (by rw [h, ho]; rfl), grp_col, lane_col]

theorem two_axes (i : S512x128.Idx) : i = ix2 (i 0 : Fin 512) (i 1 : Fin 128) := by
  funext a
  match a with
  | ⟨0, _⟩ => rfl
  | ⟨1, _⟩ => rfl

/-- The tile of the rows' gradient that group `g` stores, at the block's index. -/
theorem dz_tile (c : Dev nD) (t : Fin cfg0.N) (j : S512x512.Idx) (i : S512x128.Idx) (x : Vec Ideal S512x128 .bf16) (o : ℕ) (g : Fin 4) (ho : o = g.val * 128)
    (hv : ∀ (q : Fin 512) (a : Fin 128), x (ix2 q a) = dz (C m c) (S m c) (W m c) g a (rowAt t q)) (h0 : (j 0).val = (i 0).val) (h1 : (j 1).val = o + (i 1).val) :
    x i = dz (C m c) (S m c) (W m c) (grp (j 1)) (lane (j 1)) (rowAt t (j 0)) :=
  ((congrArg x (two_axes i)).trans (hv _ _)).trans ((at_col (fun g a => dz (C m c) (S m c) (W m c) g a (rowAt t (i 0))) (j 1) o g ho (i 1) h1).trans
    (congrArg _ (Fin.ext (by show t.val * 512 + (i 0).val = t.val * 512 + (j 0).val; omega))))

theorem outs_dz_A (c : Dev nD) (t : Fin cfg0.N) (h : t.val % 16 = 0) (j : S512x512.Idx) :
    (outsAt0 m c t.val t.isLt).1 j = dz (C m c) (S m c) (W m c) (grp (j 1)) (lane (j 1)) (rowAt t (j 0)) := by
  rw [outsAt0_A m c t h]; frame_out
  canon_tiles i hi
  · exact dz_tile m c t j i _ 384 3 rfl (dz3_eq m c t) hi0 hi1
  · exact dz_tile m c t j i _ 256 2 rfl (dz2_eq m c t) hi0 hi1
  · exact dz_tile m c t j i _ 128 1 rfl (dz1_eq m c t) hi0 hi1
  · exact dz_tile m c t j i _ 0 0 rfl (dz0_eq m c t) hi0 (hi1.trans (Nat.zero_add _).symm)

theorem outs_dz_B (c : Dev nD) (t : Fin cfg0.N) (h : ¬ t.val % 16 = 0) (j : S512x512.Idx) :
    (outsAt0 m c t.val t.isLt).1 j = dz (C m c) (S m c) (W m c) (grp (j 1)) (lane (j 1)) (rowAt t (j 0)) := by
  rw [outsAt0_B m c t h]; frame_out
  canon_tiles i hi
  · exact dz_tile m c t j i _ 384 3 rfl (dz3_eq m c t) hi0 hi1
  · exact dz_tile m c t j i _ 256 2 rfl (dz2_eq m c t) hi0 hi1
  · exact dz_tile m c t j i _ 128 1 rfl (dz1_eq m c t) hi0 hi1
  · exact dz_tile m c t j i _ 0 0 rfl (dz0_eq m c t) hi0 (hi1.trans (Nat.zero_add _).symm)

/-- After every point the rows' gradient of the point's block stands in the buffer. -/
theorem outs_dz (c : Dev nD) (t : Fin cfg0.N) (j : S512x512.Idx) :
    (outsAt0 m c t.val t.isLt).1 j = dz (C m c) (S m c) (W m c) (grp (j 1)) (lane (j 1)) (rowAt t (j 0)) := by
  by_cases h : t.val % 16 = 0
  · exact outs_dz_A m c t h j
  · exact outs_dz_B m c t h j

/-- Indices of arrays whose first axis has one place. -/
theorem one_row (i : S1x128.Idx) : i = ix2 0 (i 1 : Fin 128) := by
  funext a
  match a with
  | ⟨0, _⟩ => exact Fin.ext (Nat.lt_one_iff.mp (i 0).isLt)
  | ⟨1, _⟩ => rfl

theorem one_page (i : S1x128x128.Idx) : i = ix3 0 (i 1 : Fin 128) (i 2 : Fin 128) := by
  funext a
  match a with
  | ⟨0, _⟩ => exact Fin.ext (Nat.lt_one_iff.mp (i 0).isLt)
  | ⟨1, _⟩ => rfl
  | ⟨2, _⟩ => rfl

/-- A load of one group's part of the scale's gradient. -/
theorem ld_dsc (v : Vec Ideal S1x512 .f32) (o : ℕ) (inb : ∀ a, ![0, o] a + ![1, 128] a ≤ S1x512.size a) (i : S1x128.Idx) (j : S1x512.Idx) (h1 : (j 1).val = o + (i 1).val) :
    View.ld v (Rect.unit (s := S1x512) ![0, o] ![1, 128] inb) i = v j :=
  View.ld_unit_apply_of _ _ _ _ _ j (by
    intro a; match a with
    | ⟨0, _⟩ => exact ((Nat.lt_one_iff.mp (j 0).isLt).trans (Nat.lt_one_iff.mp (i 0).isLt).symm).trans (Nat.zero_add _).symm
    | ⟨1, _⟩ => exact h1)

/-- A load of one group's part of the weight's gradient. -/
theorem ld_dw (v : Vec Ideal S4x128x128 .f32) (o : ℕ) (inb : ∀ a, ![o, 0, 0] a + ![1, 128, 128] a ≤ S4x128x128.size a) (i : S1x128x128.Idx) (j : S4x128x128.Idx)
    (h0 : (j 0).val = o + (i 0).val) (h1 : (j 1).val = (i 1).val) (h2 : (j 2).val = (i 2).val) :
    View.ld v (Rect.unit (s := S4x128x128) ![o, 0, 0] ![1, 128, 128] inb) i = v j :=
  View.ld_unit_apply_of _ _ _ _ _ j (by
    intro a; match a with
    | ⟨0, _⟩ => exact h0
    | ⟨1, _⟩ => exact h1.trans (Nat.zero_add _).symm
    | ⟨2, _⟩ => exact h2.trans (Nat.zero_add _).symm)

theorem dsc_tile (c : Dev nD) (t : Fin cfg0.N) (p : Vec Ideal S1x512 .f32) (j : S1x512.Idx) (i : S1x128.Idx) (x v : Vec Ideal S1x128 .f32) (o : ℕ) (g : Fin 4) (ho : o = g.val * 128)
    (hv : ∀ e : Fin 128, x (ix2 0 e) = v (ix2 0 e) + dscB m c t g e) (h1 : (j 1).val = o + (i 1).val) (hl : v i = p j) :
    x i = p j + dscB m c t (grp (j 1)) (lane (j 1)) := by
  refine ((congrArg x (one_row i)).trans (hv _)).trans ?_
  rw [← hl]
  refine congrArg₂ HAdd.hAdd (congrArg v (one_row i).symm) ?_
  exact (at_col (dscB m c t) (j 1) o g ho (i 1) h1)

theorem dw_tile (c : Dev nD) (t : Fin cfg0.N) (p : Vec Ideal S4x128x128 .f32) (j : S4x128x128.Idx) (i : S1x128x128.Idx) (x v : Vec Ideal S1x128x128 .f32) (g : Fin 4)
    (hv : ∀ a e : Fin 128, x (ix3 0 a e) = v (ix3 0 a e) + dwB m c t g a e) (h0 : (j 0).val = g.val + (i 0).val) (h1 : (j 1).val = (i 1).val) (h2 : (j 2).val = (i 2).val) (hl : v i = p j) :
    x i = p j + dwB m c t (j 0) (j 1) (j 2) := by
  have e0 : (i 0).val = 0 := Nat.lt_one_iff.mp (i 0).isLt
  refine ((congrArg x (one_page i)).trans (hv _ _)).trans ?_
  rw [← hl, show j 0 = g from Fin.ext (by omega), show j 1 = i 1 from Fin.ext h1, show j 2 = i 2 from Fin.ext h2]
  exact congrArg₂ HAdd.hAdd (congrArg v (one_page i).symm) rfl

/-- A later point adds the block's part to the scale's gradient. -/
theorem outs_dsc_B (c : Dev nD) (t : Fin cfg0.N) (h : ¬ t.val % 16 = 0) (j : S1x512.Idx) :
    (outsAt0 m c t.val t.isLt).2.2 j = (outsAt0 m c (t.val - 1) (Nat.lt_of_le_of_lt (Nat.sub_le _ _) t.isLt)).2.2 j + dscB m c t (grp (j 1)) (lane (j 1)) := by
  rw [outsAt0_B m c t h]; frame_out
  canon_tiles i hi
  · exact dsc_tile m c t _ j i _ _ 384 3 rfl (dsc3_eq m c t _) hi1 (ld_dsc _ _ _ i j hi1)
  · exact dsc_tile m c t _ j i _ _ 256 2 rfl (dsc2_eq m c t _) hi1 (ld_dsc _ _ _ i j hi1)
  · exact dsc_tile m c t _ j i _ _ 128 1 rfl (dsc1_eq m c t _) hi1 (ld_dsc _ _ _ i j hi1)
  · exact dsc_tile m c t _ j i _ _ 0 0 rfl (dsc0_eq m c t _) (hi1.trans (Nat.zero_add _).symm) (ld_dsc _ _ _ i j (hi1.trans (Nat.zero_add _).symm))

/-- A later point adds the block's part to the weight's gradient. -/
theorem outs_dw_B (c : Dev nD) (t : Fin cfg0.N) (h : ¬ t.val % 16 = 0) (j : S4x128x128.Idx) :
    (outsAt0 m c t.val t.isLt).2.1 j = (outsAt0 m c (t.val - 1) (Nat.lt_of_le_of_lt (Nat.sub_le _ _) t.isLt)).2.1 j + dwB m c t (j 0) (j 1) (j 2) := by
  rw [outsAt0_B m c t h]; frame_out
  canon_tiles i hi
  · exact dw_tile m c t _ j i _ _ 3 (dw3_eq m c t _) hi0 hi1 hi2 (ld_dw _ _ _ i j hi0 hi1 hi2)
  · exact dw_tile m c t _ j i _ _ 2 (dw2_eq m c t _) hi0 hi1 hi2 (ld_dw _ _ _ i j hi0 hi1 hi2)
  · exact dw_tile m c t _ j i _ _ 1 (dw1_eq m c t _) hi0 hi1 hi2 (ld_dw _ _ _ i j hi0 hi1 hi2)
  · exact dw_tile m c t _ j i _ _ 0 (dw0_eq m c t _) (hi0.trans (Nat.zero_add _).symm) hi1 hi2 (ld_dw _ _ _ i j (hi0.trans (Nat.zero_add _).symm) hi1 hi2)

/-- The first point leaves the block's part of the scale's gradient. -/
theorem outs_dsc_A (c : Dev nD) (t : Fin cfg0.N) (h : t.val % 16 = 0) (j : S1x512.Idx) :
    (outsAt0 m c t.val t.isLt).2.2 j = (k0_pay3 (F := Ideal) j : EReal) + dscB m c t (grp (j 1)) (lane (j 1)) := by
  rw [outsAt0_A m c t h]
  frame_out [↓View.readCov_skip, ↓View.readCov_fill]
  refine View.canon_append_of_piecesOf (Val := Elt Ideal) (e := .f32) (fun j : S1x512.Idx => (k0_pay3 (F := Ideal) j : EReal) + dscB m c t (grp (j 1)) (lane (j 1)))
    [_] [_, _, _, _] ⟨fun i => ?_, fun i => ?_, fun i => ?_, fun i => ?_, trivial⟩ j ?_
  · have e : ∀ i : S1x128.Idx, 384 + 1 * (i 1).val = 384 + (i 1).val := fun i => by rw [Nat.one_mul]
    exact dsc_tile m c t _ _ i _ _ 384 3 rfl (dsc3_eq m c t _) (e i) (ld_dsc _ _ _ i _ (e i))
  · have e : ∀ i : S1x128.Idx, 256 + 1 * (i 1).val = 256 + (i 1).val := fun i => by rw [Nat.one_mul]
    exact dsc_tile m c t _ _ i _ _ 256 2 rfl (dsc2_eq m c t _) (e i) (ld_dsc _ _ _ i _ (e i))
  · have e : ∀ i : S1x128.Idx, 128 + 1 * (i 1).val = 128 + (i 1).val := fun i => by rw [Nat.one_mul]
    exact dsc_tile m c t _ _ i _ _ 128 1 rfl (dsc1_eq m c t _) (e i) (ld_dsc _ _ _ i _ (e i))
  · have e : ∀ i : S1x128.Idx, 0 + 1 * (i 1).val = 0 + (i 1).val := fun i => by rw [Nat.one_mul]
    exact dsc_tile m c t _ _ i _ _ 0 0 rfl (dsc0_eq m c t _) (e i) (ld_dsc _ _ _ i _ (e i))
  · exact View.cover_of_tiled_head _ _ _ (by rfl) j

/-- The first point leaves the block's part of the weight's gradient. -/
theorem outs_dw_A (c : Dev nD) (t : Fin cfg0.N) (h : t.val % 16 = 0) (j : S4x128x128.Idx) :
    (outsAt0 m c t.val t.isLt).2.1 j = (k0_pay2 (F := Ideal) j : EReal) + dwB m c t (j 0) (j 1) (j 2) := by
  rw [outsAt0_A m c t h]
  frame_out [↓View.readCov_skip, ↓View.readCov_fill]
  refine View.canon_append_of_piecesOf (Val := Elt Ideal) (e := .f32) (fun j : S4x128x128.Idx => (k0_pay2 (F := Ideal) j : EReal) + dwB m c t (j 0) (j 1) (j 2))
    [_] [_, _, _, _] ⟨fun i => ?_, fun i => ?_, fun i => ?_, fun i => ?_, trivial⟩ j ?_
  · have e : ∀ (o : ℕ) (n : ℕ), o + 1 * n = o + n := fun o n => by rw [Nat.one_mul]
    exact dw_tile m c t _ _ i _ _ 3 (dw3_eq m c t _) (e _ _) ((e 0 _).trans (Nat.zero_add _)) ((e 0 _).trans (Nat.zero_add _))
      (ld_dw _ _ _ i _ (e _ _) ((e 0 _).trans (Nat.zero_add _)) ((e 0 _).trans (Nat.zero_add _)))
  · have e : ∀ (o : ℕ) (n : ℕ), o + 1 * n = o + n := fun o n => by rw [Nat.one_mul]
    exact dw_tile m c t _ _ i _ _ 2 (dw2_eq m c t _) (e _ _) ((e 0 _).trans (Nat.zero_add _)) ((e 0 _).trans (Nat.zero_add _))
      (ld_dw _ _ _ i _ (e _ _) ((e 0 _).trans (Nat.zero_add _)) ((e 0 _).trans (Nat.zero_add _)))
  · have e : ∀ (o : ℕ) (n : ℕ), o + 1 * n = o + n := fun o n => by rw [Nat.one_mul]
    exact dw_tile m c t _ _ i _ _ 1 (dw1_eq m c t _) (e _ _) ((e 0 _).trans (Nat.zero_add _)) ((e 0 _).trans (Nat.zero_add _))
      (ld_dw _ _ _ i _ (e _ _) ((e 0 _).trans (Nat.zero_add _)) ((e 0 _).trans (Nat.zero_add _)))
  · have e : ∀ (o : ℕ) (n : ℕ), o + 1 * n = o + n := fun o n => by rw [Nat.one_mul]
    exact dw_tile m c t _ _ i _ _ 0 (dw0_eq m c t _) (e _ _) ((e 0 _).trans (Nat.zero_add _)) ((e 0 _).trans (Nat.zero_add _))
      (ld_dw _ _ _ i _ (e _ _) ((e 0 _).trans (Nat.zero_add _)) ((e 0 _).trans (Nat.zero_add _)))
  · exact View.cover_of_tiled_head _ _ _ (by rfl) j

/-- The blocks' rows are the array's rows. -/
theorem sum_rows (f : Fin 8192 → EReal) : ∑ t : Fin cfg0.N, ∑ r : Fin 512, f (rowAt t r) = ∑ r, f r :=
  Fin.sum_mul_add_congr fun _ _ _ => rfl

/-- The scale's gradient after the last point: every block's part. -/
theorem outs_dsc (c : Dev nD) (j : S1x512.Idx) :
    (outsAt0 m c t0_15.val t0_15.isLt).2.2 j = dsc (P m c) (C m c) (W m c) (grp (j 1)) (lane (j 1)) := by
  rw [Pipeline.eq_sum_fin_of_reset_step_apply_last (fun n h => (outsAt0 m c n h).2.2) 16 (fun _ => (0 : EReal))
    (fun t j => dscB m c t (grp (j 1)) (lane (j 1)))
    (fun t h j => by rw [outs_dsc_A m c t h]; exact congrArg₂ HAdd.hAdd (by pointwise [k0_pay3]) rfl)
    (fun t h j => outs_dsc_B m c t h j)
    (le_of_eq N_0) t0_15 rfl j, zero_add]
  exact sum_rows fun n => C m c n (col (grp (j 1)) (lane (j 1))) * ∑ a, pooled (P m c) (grp (j 1)) a n * W m c (grp (j 1)) a (lane (j 1))

/-- The weight's gradient after the last point: every block's part. -/
theorem outs_dw (c : Dev nD) (j : S4x128x128.Idx) :
    (outsAt0 m c t0_15.val t0_15.isLt).2.1 j = dw (P m c) (C m c) (S m c) (j 0) (j 1) (j 2) := by
  rw [Pipeline.eq_sum_fin_of_reset_step_apply_last (fun n h => (outsAt0 m c n h).2.1) 16 (fun _ => (0 : EReal))
    (fun t j => dwB m c t (j 0) (j 1) (j 2))
    (fun t h j => by rw [outs_dw_A m c t h]; exact congrArg₂ HAdd.hAdd (by pointwise [k0_pay2]) rfl)
    (fun t h j => outs_dw_B m c t h j)
    (le_of_eq N_0) t0_15 rfl j, zero_add]
  exact sum_rows fun n => pooled (P m c) (j 0) (j 1) n * dmix (C m c) (S m c) (col (j 0) (j 2)) n

/-! ## The arrays -/

/-- The results, of the launched arguments: the first 2048 columns of the first are the argument's. -/
abbrev resDz (c : Dev nD) : Buf (Elt Ideal) ((c : Thread nD τ).loc main_v1_0) := fun i : S8192x2560.Idx =>
  if (i 1).val < 2048 then A4 m c i else dz (C m c) (S m c) (W m c) (grp ⟨(i 1).val - 2048, by have := (i 1).isLt; change _ < 2560 at this; omega⟩) (lane ⟨(i 1).val - 2048, by have := (i 1).isLt; change _ < 2560 at this; omega⟩) (i 0)
abbrev resDw (c : Dev nD) : Buf (Elt Ideal) ((c : Thread nD τ).loc main_v1_1) := fun i => dw (P m c) (C m c) (S m c) (i 0) (i 1) (i 2)
abbrev resDsc (c : Dev nD) : Buf (Elt Ideal) ((c : Thread nD τ).loc main_v1_2) := fun i => dsc (P m c) (C m c) (W m c) (grp (i 1)) (lane (i 1))

theorem final_dw (c : Dev nD) : (dats m 0 c).arrAt 7 cfg0.N = resDw m c := by
  refine (dats m 0 c).arrAt_eq_of_after_last 7 t0_15 (by decide +kernel) _ fun y => ?_
  blk_simp
  rw [after0_7, outs_dw]

theorem final_dsc (c : Dev nD) : (dats m 0 c).arrAt 8 cfg0.N = resDsc m c := by
  refine (dats m 0 c).arrAt_eq_of_after_last 8 t0_15 (by decide +kernel) _ fun y => ?_
  blk_simp
  rw [after0_8, outs_dsc]

/-- The first result past column 2048. -/
theorem resDz_read (c : Dev nD) (E : S8192x2560.Idx) (n : Fin 8192) (k : Fin 512) (hE : E = ix2 n (⟨2048 + k.val, by omega⟩ : Fin 2560)) :
    (resDz m c : FVec Ideal S8192x2560 .bf16) E = dz (C m c) (S m c) (W m c) (grp k) (lane k) n := by
  subst hE
  refine (if_neg (by show ¬ 2048 + k.val < 2048; omega)).trans ?_
  refine congrArg (fun l => dz (C m c) (S m c) (W m c) (grp l) (lane l) n) (Fin.ext ?_)
  show 2048 + k.val - 2048 = k.val
  omega

theorem final_dz (c : Dev nD) : (dats m 0 c).arrAt 6 cfg0.N = resDz m c := by
  refine (dats m 0 c).arrAt_eq_of_coversWhere_of_agree 6 _ (fun β => 4 ≤ β (1 : Fin 2)) (by decide +kernel) (fun t hf y => ?_) (fun j hj => ?_)
  · blk_simp
    rw [after0_6, outs_dz]
    have e : (win0_6.blk t).view.emb y = ix2 (rowAt t (y 0)) (⟨2048 + (y 1).val, by have := (y 1).isLt; change _ < 512 at this; omega⟩ : Fin 2560) := by blk_ext [index_in t]
    exact (resDz_read m c _ _ _ e).symm
  · blk_simp [Pipeline.Window.cell_apply] at hj
    have hj : (j 1).val < 2048 := by omega
    refine Eq.trans (b := A4 m c j) ?_ (if_pos hj).symm
    rfl

/-- The run: the results at the gradients, the arguments unchanged. -/
theorem run : θ_run defs (onTc (τ := τ) (main (F := Ideal))) ⟨m, fun _ => 0, ρ⟩ fun r => ∀ c : Dev nD,
      r.2.mem ((c.tc : Thread nD τ).loc main_v1_0) = resDz m c
      ∧ r.2.mem ((c.tc : Thread nD τ).loc main_v1_1) = resDw m c
      ∧ r.2.mem ((c.tc : Thread nD τ).loc main_v1_2) = resDsc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final_dz m c), (h c).2.1.trans (final_dw m c), (h c).2.2.1.trans (final_dsc m c), (h c).2.2.2⟩)
    (Value.run_blocks m ρ)

end Cert.Kernel6Ideal.Pool
-- ==== Proof.PoolRef.lean ====
/-
  THE POOL'S REFERENCE read at an index: its running sums as sums over the rows before or after, its windowed means as
  differences of them.
-/
module

public import proofs.«01_k».proof.Proof.Gen.Reference6Ideal.Run
public import proofs.«01_k».proof.Proof.Gen.Reference6Ideal.Read
public import proofs.«01_k».proof.Proof.Window
public import proofs.«01_k».proof.Proof.Common

@[expose] public noncomputable section

namespace Cert.Reference6Ideal.Pool

open Cert.Reference6Ideal Cert.Reference6Ideal.Gen Cert.Reference6Ideal.Read Cert.Window Idealize.ShloMosaic Idealize.ShloMosaic.StableHlo

/-! ## Running sums -/

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

abbrev Win (N : ℕ) : Shape := ⟨4, ![1, N, 1, 1]⟩
abbrev Arr (N : ℕ) : Shape := ⟨4, ![1, N, 4, 128]⟩

/-- A window of whole height and one column has one position a row. -/
def rows (N : ℕ) : (Win N).Idx ≃ Fin N where
  toFun k := k 1
  invFun i := ix4 0 i 0 0
  left_inv k := by
    funext a
    match a with
    | ⟨0, _⟩ => exact Fin.ext (by have := (k 0).isLt; change _ < 1 at this; show 0 = (k 0).val; omega)
    | ⟨1, _⟩ => rfl
    | ⟨2, _⟩ => exact Fin.ext (by have := (k 2).isLt; change _ < 1 at this; show 0 = (k 2).val; omega)
    | ⟨3, _⟩ => exact Fin.ext (by have := (k 3).isLt; change _ < 1 at this; show 0 = (k 3).val; omega)
  right_inv _ := rfl

theorem sum_win (N : ℕ) (G : (Win N).Idx → EReal) : ∑ n : Fin (Win N).numel, G ((Win N).rowMajor.symm n) = ∑ i : Fin N, G (ix4 0 i 0 0) :=
  (Equiv.sum_comp (Win N).rowMajor.symm G).trans (Equiv.sum_comp (rows N).symm G).symm

/-- A window sum with zero beyond the array, as a sum over the window's rows. -/
theorem window_sum {N : ℕ} (lo hi : Fin 4 → ℕ) (x : (Arr N).Idx → EReal) (v : S_.Idx → EReal) (hv : ∀ i, v i = 0)
    (h : (Arr N).ReduceWindows (![1, N, 1, 1] : Fin 4 → ℕ) ![1, 1, 1, 1] lo hi (Arr N)) (hu : 0 < S_.numel) (j : (Arr N).Idx) :
    Host.reduceWindow (fun a b : EReal => a + b) ![1, N, 1, 1] ![1, 1, 1, 1] lo hi x v h hu j
      = ∑ i : Fin N, if hin : ∀ b : Fin 4, lo b ≤ (j b).val * (![1, 1, 1, 1] : Fin 4 → ℕ) b + ((ix4 0 i 0 0 : (Win N).Idx) b).val
          ∧ (j b).val * (![1, 1, 1, 1] : Fin 4 → ℕ) b + ((ix4 0 i 0 0 : (Win N).Idx) b).val - lo b < (Arr N).size b then x (fun b => ⟨_, (hin b).2⟩) else 0 := by
  unfold Host.reduceWindow
  dsimp only
  rw [hv]
  refine (foldl_add _ _ _).trans ?_
  rw [zero_add, ← Fin.sum_univ_def]
  refine Eq.trans (Finset.sum_congr rfl fun n _ => dite_congr rfl (fun _ => rfl) fun _ => rfl) (sum_win N (fun k => if hin : ∀ b : Fin 4, lo b ≤ (j b).val * (![1, 1, 1, 1] : Fin 4 → ℕ) b + (k b).val
          ∧ (j b).val * (![1, 1, 1, 1] : Fin 4 → ℕ) b + (k b).val - lo b < (Arr N).size b then x (fun b => ⟨_, (hin b).2⟩) else 0))

/-- Through windows that end at this row: the rows up to it. -/
theorem sum_upto {M N : ℕ} (hN : M + 1 = N) (x : (Arr N).Idx → EReal) (v : S_.Idx → EReal) (hv : ∀ i, v i = 0)
    (h : (Arr N).ReduceWindows (![1, N, 1, 1] : Fin 4 → ℕ) ![1, 1, 1, 1] ![0, M, 0, 0] ![0, 0, 0, 0] (Arr N))
    (hu : 0 < S_.numel) (t : Fin N) (g : Fin 4) (a : Fin 128) :
    Host.reduceWindow (fun a b : EReal => a + b) ![1, N, 1, 1] ![1, 1, 1, 1] ![0, M, 0, 0] ![0, 0, 0, 0] x v h hu (ix4 0 t g a)
      = ∑ i : Fin N, if i ≤ t then x (ix4 0 i g a) else 0 := by
  subst hN
  refine (window_sum _ _ x v hv h hu _).trans ?_
  refine Fintype.sum_equiv (Equiv.addRight (t + 1)) _ _ fun i => ?_
  have hi := i.isLt
  have ht := t.isLt
  have e : (Equiv.addRight (t + 1) i).val = (i.val + t.val + 1) % (M + 1) := by
    show ((i + (t + 1) : Fin (M + 1))).val = _
    rw [← add_assoc, Fin.val_add, Fin.val_add, Nat.mod_add_mod, Fin.val_one', Nat.add_mod_mod]
  by_cases hp : M ≤ t.val + i.val
  · have e' : (Equiv.addRight (t + 1) i).val = t.val + i.val - M := by
      rw [e, Nat.mod_eq_sub_mod (by omega), Nat.mod_eq_of_lt (by omega)]; omega
    rw [if_pos (Fin.le_def.2 (show (Equiv.addRight (t + 1) i).val ≤ t.val by omega))]
    refine (dif_pos fun b => ?_).trans (congrArg x (funext fun b => Fin.ext ?_))
    · match b with
      | ⟨0, _⟩ => exact ⟨by show 0 ≤ _; omega, by show 0 * 1 + 0 - 0 < 1; omega⟩
      | ⟨1, _⟩ => exact ⟨by show M ≤ t.val * 1 + i.val; omega, by show t.val * 1 + i.val - M < M + 1; omega⟩
      | ⟨2, _⟩ => exact ⟨by show 0 ≤ _; omega, by show g.val * 1 + 0 - 0 < 4; omega⟩
      | ⟨3, _⟩ => exact ⟨by show 0 ≤ _; omega, by show a.val * 1 + 0 - 0 < 128; omega⟩
    · match b with
      | ⟨0, _⟩ => rfl
      | ⟨1, _⟩ => show t.val * 1 + i.val - M = (Equiv.addRight (t + 1) i).val; omega
      | ⟨2, _⟩ => show g.val * 1 + 0 - 0 = g.val; omega
      | ⟨3, _⟩ => show a.val * 1 + 0 - 0 = a.val; omega
  · rw [if_neg (fun h => absurd (Fin.le_def.1 h) (show ¬ (Equiv.addRight (t + 1) i).val ≤ t.val by rw [e, Nat.mod_eq_of_lt (by omega)]; omega))]
    exact dif_neg fun hin => hp (by have := (hin 1).1; change M ≤ t.val * 1 + i.val at this; omega)

/-- Through windows that start at this row: the rows from it on. -/
theorem sum_from {M N : ℕ} (hN : M + 1 = N) (x : (Arr N).Idx → EReal) (v : S_.Idx → EReal) (hv : ∀ i, v i = 0)
    (h : (Arr N).ReduceWindows (![1, N, 1, 1] : Fin 4 → ℕ) ![1, 1, 1, 1] ![0, 0, 0, 0] ![0, M, 0, 0] (Arr N))
    (hu : 0 < S_.numel) (t : Fin N) (g : Fin 4) (a : Fin 128) :
    Host.reduceWindow (fun a b : EReal => a + b) ![1, N, 1, 1] ![1, 1, 1, 1] ![0, 0, 0, 0] ![0, M, 0, 0] x v h hu (ix4 0 t g a)
      = ∑ i : Fin N, if t ≤ i then x (ix4 0 i g a) else 0 := by
  subst hN
  refine (window_sum _ _ x v hv h hu _).trans ?_
  refine Fintype.sum_equiv (Equiv.addRight t) _ _ fun i => ?_
  have hi := i.isLt
  have ht := t.isLt
  have e : (Equiv.addRight t i).val = (i.val + t.val) % (M + 1) := by
    show ((i + t : Fin (M + 1))).val = _
    rw [Fin.val_add]
  by_cases hp : t.val + i.val < M + 1
  · have e' : (Equiv.addRight t i).val = t.val + i.val := by rw [e, Nat.mod_eq_of_lt (by omega)]; omega
    rw [if_pos (Fin.le_def.2 (show t.val ≤ (Equiv.addRight t i).val by omega))]
    refine (dif_pos fun b => ?_).trans (congrArg x (funext fun b => Fin.ext ?_))
    · match b with
      | ⟨0, _⟩ => exact ⟨by show 0 ≤ _; omega, by show 0 * 1 + 0 - 0 < 1; omega⟩
      | ⟨1, _⟩ => exact ⟨by show 0 ≤ _; omega, by show t.val * 1 + i.val - 0 < M + 1; omega⟩
      | ⟨2, _⟩ => exact ⟨by show 0 ≤ _; omega, by show g.val * 1 + 0 - 0 < 4; omega⟩
      | ⟨3, _⟩ => exact ⟨by show 0 ≤ _; omega, by show a.val * 1 + 0 - 0 < 128; omega⟩
    · match b with
      | ⟨0, _⟩ => rfl
      | ⟨1, _⟩ => show t.val * 1 + i.val - 0 = (Equiv.addRight t i).val; omega
      | ⟨2, _⟩ => show g.val * 1 + 0 - 0 = g.val; omega
      | ⟨3, _⟩ => show a.val * 1 + 0 - 0 = a.val; omega
  · rw [if_neg (fun h => absurd (Fin.le_def.1 h) (show ¬ t.val ≤ (Equiv.addRight t i).val by
      rw [e, Nat.mod_eq_sub_mod (by omega), Nat.mod_eq_of_lt (by omega)]; omega))]
    exact dif_neg fun hin => hp (by have := (hin 1).2; change t.val * 1 + i.val - 0 < M + 1 at this; omega)

variable (x0 : FVec Ideal S8192x2560 .f32) (x1 : FVec Ideal S4x128x128 .f32) (x2 : FVec Ideal S512 .f32) (x3 : FVec Ideal S8192x1024 .bf16)

/-- The pool's columns, the cotangent's, the scale and the weight. -/
abbrev P (n : Fin 8192) (k : Fin 512) : EReal := x0 (ix2 n ⟨2048 + k.val, by omega⟩)
abbrev C (n : Fin 8192) (k : Fin 512) : EReal := x3 (ix2 n ⟨512 + k.val, by omega⟩)
abbrev S (k : Fin 512) : EReal := x2 (ix1 k)
abbrev W (g : Fin 4) (a e : Fin 128) : EReal := x1 (ix3 g a e)

theorem p_apply (n : Fin 8192) (g : Fin 4) (a : Fin 128) : val_main_v5 (F := Ideal) x0 (ix4 0 n g a) = P x0 n (col g a) := by
  pointwise [val_main_v5, val_main_v1, val_main_v0, col]

/-- The running sum of a column's rows. -/
theorem sum_apply (n : Fin 8192) (g : Fin 4) (a : Fin 128) :
    val_main_v6 (F := Ideal) x0 (ix4 0 n g a) = ∑ i : Fin 8192, if i ≤ n then P x0 i (col g a) else 0 := by
  unfold val_main_v6 Host.reduceWindowAdd
  rw [Ideal.hostReduceWindowAdd_def]
  unfold Ideal.hostReduceWindowAdd
  have hz : val_main_call0_v0 (F := Ideal) (Shape.Idx.first h_S_) = 0 := by pointwise [val_main_call0_v0, val_main_call0_cst]
  refine (sum_upto (M := 8191) (N := 8192) (by norm_num) (val_main_v5 (F := Ideal) x0) _ (fun _ => hz) _ _ n g a).trans
    (Finset.sum_congr rfl fun i _ => ?_)
  rw [p_apply]

theorem back_eq (hP : ∀ n k, ∃ r : ℝ, P x0 n k = (r : EReal)) (k : Fin 512) (w : ℕ) (hw : 0 < w) (n : Fin 8192) :
    (∑ i : Fin 8192, if i ≤ n then P x0 i k else 0)
      - (if h : n.val < w then 0 else ∑ i : Fin 8192, if i ≤ (⟨n.val - w, by omega⟩ : Fin 8192) then P x0 i k else 0)
      = back (fun r => P x0 r k) w n.val := by
  choose p hp using hP
  simp only [hp]
  exact prefix_diff (fun r => p r k) w n hw

theorem pooled0 (hP : ∀ n k, ∃ r : ℝ, P x0 n k = (r : EReal)) (n : Fin 8192) (a : Fin 128) :
    val_main_v25 (F := Ideal) x0 (ix3 0 n a) = pooled (P x0) 0 a n := by
  refine Eq.trans ?_ (congrArg (fun b => Ideal.div b (cnt (wb 0) n.val) - P x0 n (col 0 a)) (back_eq x0 hP (col 0 a) 2 (by norm_num) n))
  pointwise [val_main_v25, val_main_v22, val_main_v20, val_main_v9, val_main_v8, val_main_v13, val_main_v11, val_main_v10, val_main_cst, val_main_v21, val_main_v19, val_main_v18, val_main_v17, val_main_v15, val_main_v7, val_main_v14, val_main_c, val_main_v16, val_main_c_1, val_main_v24, val_main_v23]
  simp only [sum_apply, p_apply]
  rfl

theorem pooled1 (hP : ∀ n k, ∃ r : ℝ, P x0 n k = (r : EReal)) (n : Fin 8192) (a : Fin 128) :
    val_main_v43 (F := Ideal) x0 (ix3 0 n a) = pooled (P x0) 1 a n := by
  refine Eq.trans ?_ (congrArg (fun b => Ideal.div b (cnt (wb 1) n.val) - P x0 n (col 1 a)) (back_eq x0 hP (col 1 a) 4 (by norm_num) n))
  pointwise [val_main_v43, val_main_v40, val_main_v38, val_main_v27, val_main_v26, val_main_v31, val_main_v29, val_main_v28, val_main_cst_2, val_main_v39, val_main_v37, val_main_v36, val_main_v35, val_main_v33, val_main_v7, val_main_v32, val_main_c_4, val_main_v34, val_main_c_5, val_main_v42, val_main_v41]
  simp only [sum_apply, p_apply]
  rfl

theorem pooled2 (hP : ∀ n k, ∃ r : ℝ, P x0 n k = (r : EReal)) (n : Fin 8192) (a : Fin 128) :
    val_main_v61 (F := Ideal) x0 (ix3 0 n a) = pooled (P x0) 2 a n := by
  refine Eq.trans ?_ (congrArg (fun b => Ideal.div b (cnt (wb 2) n.val) - P x0 n (col 2 a)) (back_eq x0 hP (col 2 a) 8 (by norm_num) n))
  pointwise [val_main_v61, val_main_v58, val_main_v56, val_main_v45, val_main_v44, val_main_v49, val_main_v47, val_main_v46, val_main_cst_6, val_main_v57, val_main_v55, val_main_v54, val_main_v53, val_main_v51, val_main_v7, val_main_v50, val_main_c_8, val_main_v52, val_main_c_9, val_main_v60, val_main_v59]
  simp only [sum_apply, p_apply]
  rfl

theorem pooled3 (hP : ∀ n k, ∃ r : ℝ, P x0 n k = (r : EReal)) (n : Fin 8192) (a : Fin 128) :
    val_main_v79 (F := Ideal) x0 (ix3 0 n a) = pooled (P x0) 3 a n := by
  refine Eq.trans ?_ (congrArg (fun b => Ideal.div b (cnt (wb 3) n.val) - P x0 n (col 3 a)) (back_eq x0 hP (col 3 a) 16 (by norm_num) n))
  pointwise [val_main_v79, val_main_v76, val_main_v74, val_main_v63, val_main_v62, val_main_v67, val_main_v65, val_main_v64, val_main_cst_10, val_main_v75, val_main_v73, val_main_v72, val_main_v71, val_main_v69, val_main_v7, val_main_v68, val_main_c_12, val_main_v70, val_main_c_13, val_main_v78, val_main_v77]
  simp only [sum_apply, p_apply]
  rfl

theorem pooled_apply (hP : ∀ n k, ∃ r : ℝ, P x0 n k = (r : EReal)) (n : Fin 8192) (g : Fin 4) (a : Fin 128) :
    val_main_v84 (F := Ideal) x0 (ix4 0 n g a) = pooled (P x0) g a n := by
  match g with
  | 0 =>
    refine Eq.trans ?_ (pooled0 x0 hP n a)
    pointwise [val_main_v84, val_main_v80, val_main_v81, val_main_v82, val_main_v83]
  | 1 =>
    refine Eq.trans ?_ (pooled1 x0 hP n a)
    pointwise [val_main_v84, val_main_v80, val_main_v81, val_main_v82, val_main_v83]
  | 2 =>
    refine Eq.trans ?_ (pooled2 x0 hP n a)
    pointwise [val_main_v84, val_main_v80, val_main_v81, val_main_v82, val_main_v83]
  | 3 =>
    refine Eq.trans ?_ (pooled3 x0 hP n a)
    pointwise [val_main_v84, val_main_v80, val_main_v81, val_main_v82, val_main_v83]

/-! ## The gradients -/

theorem ct_apply (n : Fin 8192) (k : Fin 512) : val_main_v4 (F := Ideal) x3 (ix3 0 n k) = C x3 n k := by
  pointwise [val_main_v4, val_main_v3, val_main_v2]

theorem mixed_apply (hP : ∀ n k, ∃ r : ℝ, P x0 n k = (r : EReal)) (n : Fin 8192) (g : Fin 4) (e : Fin 128) :
    val_main_v87 (F := Ideal) x0 x1 (ix3 0 n (col g e)) = ∑ a, pooled (P x0) g a n * W x1 g a e := by
  have h : val_main_v87 (F := Ideal) x0 x1 (ix3 0 n (col g e)) = val_main_v85 (F := Ideal) x0 x1 (ix4 g e 0 n) := by
    pointwise [val_main_v87, val_main_v86, col]
  refine h.trans ?_
  pointwise [val_main_v85]
  simp only [pooled_apply x0 hP]
  exact Finset.sum_congr rfl fun a _ => mul_comm _ _

/-- A sum over two axes of one place each. -/
theorem sum_one (x : FVec Ideal S1x1x512 .f32) (k : Fin 512) : Ideal.hostReduceAdd reducesTo_S1x1x512_S512_d0_1 x 0 (ix1 k) = x (ix3 0 0 k) := by
  have hd : ∀ i : S1x1x512.Idx, reducesTo_S1x1x512_S512_d0_1.drop i = ix1 (i 2) := fun i => by
    funext b
    match b with
    | ⟨0, _⟩ => exact Fin.ext (Shape.ReducesTo.drop_apply_val reducesTo_S1x1x512_S512_d0_1 i 0)
  unfold Ideal.hostReduceAdd
  rw [zero_add]
  refine Finset.sum_eq_single (ix3 0 0 k) (fun i hi hne => absurd ?_ hne) fun hn => absurd ?_ hn
  swap
  · rw [Finset.mem_filter]
    exact ⟨Finset.mem_univ _, hd _⟩
  have e : i 2 = k := congrFun ((hd i).symm.trans (Finset.mem_filter.1 hi).2) 0
  funext b
  match b with
  | ⟨0, _⟩ => exact Fin.ext (by have := (i 0).isLt; change _ < 1 at this; show (i 0).val = 0; omega)
  | ⟨1, _⟩ => exact Fin.ext (by have := (i 1).isLt; change _ < 1 at this; show (i 1).val = 0; omega)
  | ⟨2, _⟩ => exact e

/-- The scale's gradient. -/
theorem dsc_apply (hP : ∀ n k, ∃ r : ℝ, P x0 n k = (r : EReal)) (g : Fin 4) (e : Fin 128) :
    val_main_v172 (F := Ideal) x0 x1 x3 (ix2 0 (col g e)) = dsc (P x0) (C x3) (W x1) g e := by
  have h : val_main_v172 (F := Ideal) x0 x1 x3 (ix2 0 (col g e)) = val_main_v93 (F := Ideal) x0 x1 x3 (ix3 0 0 (col g e)) := by
    have h1 : val_main_v172 (F := Ideal) x0 x1 x3 (ix2 0 (col g e)) = val_main_v96 (F := Ideal) x0 x1 x3 (ix1 (col g e)) := by
      pointwise [val_main_v172]
    refine h1.trans ?_
    unfold val_main_v96
    refine Eq.trans ?_ (sum_one _ _)
    have hz : val_main_cst_15 (F := Ideal) (Shape.Idx.first h_S_) = 0 := by pointwise [val_main_cst_15]
    exact congrArg (fun v => Ideal.hostReduceAdd reducesTo_S1x1x512_S512_d0_1 (val_main_v93 (F := Ideal) x0 x1 x3) v (ix1 (col g e))) hz
  refine h.trans ?_
  pointwise [val_main_v93, val_main_v92, val_main_cst_14, val_main_v91]
  simp only [ct_apply, mixed_apply x0 x1 hP]
  exact Finset.sum_congr rfl fun a _ => mul_comm _ _

theorem dmix_apply (n : Fin 8192) (g : Fin 4) (e : Fin 128) :
    val_main_v98 (F := Ideal) x2 x3 (ix4 g e 0 n) = dmix (C x3) (S x2) (col g e) n := by
  have h : val_main_v98 (F := Ideal) x2 x3 (ix4 g e 0 n) = val_main_v95 (F := Ideal) x2 x3 (ix3 0 n (col g e)) := by
    pointwise [val_main_v98, val_main_v97, col]
  refine h.trans ?_
  pointwise [val_main_v95, val_main_v94, val_main_v88]
  rw [ct_apply]
  rfl

/-- The weight's gradient. -/
theorem dw_apply (hP : ∀ n k, ∃ r : ℝ, P x0 n k = (r : EReal)) (g : Fin 4) (a e : Fin 128) :
    val_main_v102 (F := Ideal) x0 x2 x3 (ix3 g a e) = dw (P x0) (C x3) (S x2) g a e := by
  pointwise [val_main_v102, val_main_v101]
  simp only [Finset.univ_unique, Finset.sum_singleton, Fin.default_eq_zero, pooled_apply x0 hP, dmix_apply]
  exact Finset.sum_congr rfl fun a _ => mul_comm _ _

theorem dpool_apply (n : Fin 8192) (g : Fin 4) (a : Fin 128) :
    val_main_v100 (F := Ideal) x1 x2 x3 (ix4 0 n g a) = dpool (C x3) (S x2) (W x1) g a n := by
  pointwise [val_main_v100, val_main_v99]
  simp only [dmix_apply]
  rfl

theorem step0 (n : Fin 8192) (a : Fin 128) :
    val_main_v164 (F := Ideal) x1 x2 x3 (ix4 0 n 0 a) = quot (C x3) (S x2) (W x1) 0 a n
      + (if h : 2 + n.val < 8192 then -quot (C x3) (S x2) (W x1) 0 a ⟨2 + n.val, h⟩ else 0) := by
  pointwise [val_main_v164, val_main_v150, val_main_v136, val_main_v122, val_main_v121, val_main_v120, val_main_v115, val_main_v110, val_main_v109, val_main_v114, val_main_v73, val_main_v72, val_main_v71, val_main_v69, val_main_v7, val_main_v68, val_main_c_12, val_main_v70, val_main_c_13, val_main_v119, val_main_v117, val_main_v116, val_main_cst_17, val_main_cst_18, val_main_v135, val_main_v134, val_main_v133, val_main_v128, val_main_v108, val_main_v107, val_main_v127, val_main_v55, val_main_v54, val_main_v53, val_main_v51, val_main_v50, val_main_c_8, val_main_v52, val_main_c_9, val_main_v132, val_main_v130, val_main_v129, val_main_cst_20, val_main_cst_21, val_main_v149, val_main_v148, val_main_v147, val_main_v142, val_main_v106, val_main_v105, val_main_v141, val_main_v37, val_main_v36, val_main_v35, val_main_v33, val_main_v32, val_main_c_4, val_main_v34, val_main_c_5, val_main_v146, val_main_v144, val_main_v143, val_main_cst_23, val_main_cst_24, val_main_v163, val_main_v162, val_main_v161, val_main_v156, val_main_v104, val_main_v103, val_main_v155, val_main_v19, val_main_v18, val_main_v17, val_main_v15, val_main_v14, val_main_c, val_main_v16, val_main_c_1, val_main_v160, val_main_v158, val_main_v157, val_main_cst_26, val_main_cst_27]
  simp only [dpool_apply]
  rfl

theorem direct0 (n : Fin 8192) (a : Fin 128) :
    val_main_v154 (F := Ideal) x1 x2 x3 (ix4 0 n 0 a) = -dpool (C x3) (S x2) (W x1) 0 a n := by
  pointwise [val_main_v154, val_main_v140, val_main_v126, val_main_v113, val_main_v112, val_main_v111, val_main_v110, val_main_v109, val_main_cst_16, val_main_v125, val_main_v124, val_main_v123, val_main_v108, val_main_v107, val_main_cst_19, val_main_v139, val_main_v138, val_main_v137, val_main_v106, val_main_v105, val_main_cst_22, val_main_v153, val_main_v152, val_main_v151, val_main_v104, val_main_v103, val_main_cst_25]
  simp only [dpool_apply]

theorem step1 (n : Fin 8192) (a : Fin 128) :
    val_main_v164 (F := Ideal) x1 x2 x3 (ix4 0 n 1 a) = quot (C x3) (S x2) (W x1) 1 a n
      + (if h : 4 + n.val < 8192 then -quot (C x3) (S x2) (W x1) 1 a ⟨4 + n.val, h⟩ else 0) := by
  pointwise [val_main_v164, val_main_v150, val_main_v136, val_main_v122, val_main_v121, val_main_v120, val_main_v115, val_main_v110, val_main_v109, val_main_v114, val_main_v73, val_main_v72, val_main_v71, val_main_v69, val_main_v7, val_main_v68, val_main_c_12, val_main_v70, val_main_c_13, val_main_v119, val_main_v117, val_main_v116, val_main_cst_17, val_main_cst_18, val_main_v135, val_main_v134, val_main_v133, val_main_v128, val_main_v108, val_main_v107, val_main_v127, val_main_v55, val_main_v54, val_main_v53, val_main_v51, val_main_v50, val_main_c_8, val_main_v52, val_main_c_9, val_main_v132, val_main_v130, val_main_v129, val_main_cst_20, val_main_cst_21, val_main_v149, val_main_v148, val_main_v147, val_main_v142, val_main_v106, val_main_v105, val_main_v141, val_main_v37, val_main_v36, val_main_v35, val_main_v33, val_main_v32, val_main_c_4, val_main_v34, val_main_c_5, val_main_v146, val_main_v144, val_main_v143, val_main_cst_23, val_main_cst_24, val_main_v163, val_main_v162, val_main_v161, val_main_v156, val_main_v104, val_main_v103, val_main_v155, val_main_v19, val_main_v18, val_main_v17, val_main_v15, val_main_v14, val_main_c, val_main_v16, val_main_c_1, val_main_v160, val_main_v158, val_main_v157, val_main_cst_26, val_main_cst_27]
  simp only [dpool_apply]
  rfl

theorem direct1 (n : Fin 8192) (a : Fin 128) :
    val_main_v154 (F := Ideal) x1 x2 x3 (ix4 0 n 1 a) = -dpool (C x3) (S x2) (W x1) 1 a n := by
  pointwise [val_main_v154, val_main_v140, val_main_v126, val_main_v113, val_main_v112, val_main_v111, val_main_v110, val_main_v109, val_main_cst_16, val_main_v125, val_main_v124, val_main_v123, val_main_v108, val_main_v107, val_main_cst_19, val_main_v139, val_main_v138, val_main_v137, val_main_v106, val_main_v105, val_main_cst_22, val_main_v153, val_main_v152, val_main_v151, val_main_v104, val_main_v103, val_main_cst_25]
  simp only [dpool_apply]

theorem step2 (n : Fin 8192) (a : Fin 128) :
    val_main_v164 (F := Ideal) x1 x2 x3 (ix4 0 n 2 a) = quot (C x3) (S x2) (W x1) 2 a n
      + (if h : 8 + n.val < 8192 then -quot (C x3) (S x2) (W x1) 2 a ⟨8 + n.val, h⟩ else 0) := by
  pointwise [val_main_v164, val_main_v150, val_main_v136, val_main_v122, val_main_v121, val_main_v120, val_main_v115, val_main_v110, val_main_v109, val_main_v114, val_main_v73, val_main_v72, val_main_v71, val_main_v69, val_main_v7, val_main_v68, val_main_c_12, val_main_v70, val_main_c_13, val_main_v119, val_main_v117, val_main_v116, val_main_cst_17, val_main_cst_18, val_main_v135, val_main_v134, val_main_v133, val_main_v128, val_main_v108, val_main_v107, val_main_v127, val_main_v55, val_main_v54, val_main_v53, val_main_v51, val_main_v50, val_main_c_8, val_main_v52, val_main_c_9, val_main_v132, val_main_v130, val_main_v129, val_main_cst_20, val_main_cst_21, val_main_v149, val_main_v148, val_main_v147, val_main_v142, val_main_v106, val_main_v105, val_main_v141, val_main_v37, val_main_v36, val_main_v35, val_main_v33, val_main_v32, val_main_c_4, val_main_v34, val_main_c_5, val_main_v146, val_main_v144, val_main_v143, val_main_cst_23, val_main_cst_24, val_main_v163, val_main_v162, val_main_v161, val_main_v156, val_main_v104, val_main_v103, val_main_v155, val_main_v19, val_main_v18, val_main_v17, val_main_v15, val_main_v14, val_main_c, val_main_v16, val_main_c_1, val_main_v160, val_main_v158, val_main_v157, val_main_cst_26, val_main_cst_27]
  simp only [dpool_apply]
  rfl

theorem direct2 (n : Fin 8192) (a : Fin 128) :
    val_main_v154 (F := Ideal) x1 x2 x3 (ix4 0 n 2 a) = -dpool (C x3) (S x2) (W x1) 2 a n := by
  pointwise [val_main_v154, val_main_v140, val_main_v126, val_main_v113, val_main_v112, val_main_v111, val_main_v110, val_main_v109, val_main_cst_16, val_main_v125, val_main_v124, val_main_v123, val_main_v108, val_main_v107, val_main_cst_19, val_main_v139, val_main_v138, val_main_v137, val_main_v106, val_main_v105, val_main_cst_22, val_main_v153, val_main_v152, val_main_v151, val_main_v104, val_main_v103, val_main_cst_25]
  simp only [dpool_apply]

theorem step3 (n : Fin 8192) (a : Fin 128) :
    val_main_v164 (F := Ideal) x1 x2 x3 (ix4 0 n 3 a) = quot (C x3) (S x2) (W x1) 3 a n
      + (if h : 16 + n.val < 8192 then -quot (C x3) (S x2) (W x1) 3 a ⟨16 + n.val, h⟩ else 0) := by
  pointwise [val_main_v164, val_main_v150, val_main_v136, val_main_v122, val_main_v121, val_main_v120, val_main_v115, val_main_v110, val_main_v109, val_main_v114, val_main_v73, val_main_v72, val_main_v71, val_main_v69, val_main_v7, val_main_v68, val_main_c_12, val_main_v70, val_main_c_13, val_main_v119, val_main_v117, val_main_v116, val_main_cst_17, val_main_cst_18, val_main_v135, val_main_v134, val_main_v133, val_main_v128, val_main_v108, val_main_v107, val_main_v127, val_main_v55, val_main_v54, val_main_v53, val_main_v51, val_main_v50, val_main_c_8, val_main_v52, val_main_c_9, val_main_v132, val_main_v130, val_main_v129, val_main_cst_20, val_main_cst_21, val_main_v149, val_main_v148, val_main_v147, val_main_v142, val_main_v106, val_main_v105, val_main_v141, val_main_v37, val_main_v36, val_main_v35, val_main_v33, val_main_v32, val_main_c_4, val_main_v34, val_main_c_5, val_main_v146, val_main_v144, val_main_v143, val_main_cst_23, val_main_cst_24, val_main_v163, val_main_v162, val_main_v161, val_main_v156, val_main_v104, val_main_v103, val_main_v155, val_main_v19, val_main_v18, val_main_v17, val_main_v15, val_main_v14, val_main_c, val_main_v16, val_main_c_1, val_main_v160, val_main_v158, val_main_v157, val_main_cst_26, val_main_cst_27]
  simp only [dpool_apply]
  rfl

theorem direct3 (n : Fin 8192) (a : Fin 128) :
    val_main_v154 (F := Ideal) x1 x2 x3 (ix4 0 n 3 a) = -dpool (C x3) (S x2) (W x1) 3 a n := by
  pointwise [val_main_v154, val_main_v140, val_main_v126, val_main_v113, val_main_v112, val_main_v111, val_main_v110, val_main_v109, val_main_cst_16, val_main_v125, val_main_v124, val_main_v123, val_main_v108, val_main_v107, val_main_cst_19, val_main_v139, val_main_v138, val_main_v137, val_main_v106, val_main_v105, val_main_cst_22, val_main_v153, val_main_v152, val_main_v151, val_main_v104, val_main_v103, val_main_cst_25]
  simp only [dpool_apply]

theorem step (n : Fin 8192) (g : Fin 4) (a : Fin 128) :
    val_main_v164 (F := Ideal) x1 x2 x3 (ix4 0 n g a) = quot (C x3) (S x2) (W x1) g a n
      + (if h : wd g + n.val < 8192 then -quot (C x3) (S x2) (W x1) g a ⟨wd g + n.val, h⟩ else 0) := by
  match g with
  | 0 => exact step0 x1 x2 x3 n a
  | 1 => exact step1 x1 x2 x3 n a
  | 2 => exact step2 x1 x2 x3 n a
  | 3 => exact step3 x1 x2 x3 n a

theorem direct (n : Fin 8192) (g : Fin 4) (a : Fin 128) :
    val_main_v154 (F := Ideal) x1 x2 x3 (ix4 0 n g a) = -dpool (C x3) (S x2) (W x1) g a n := by
  match g with
  | 0 => exact direct0 x1 x2 x3 n a
  | 1 => exact direct1 x1 x2 x3 n a
  | 2 => exact direct2 x1 x2 x3 n a
  | 3 => exact direct3 x1 x2 x3 n a

/-- A finite cotangent, scale and weight give a finite cotangent of the pooled values' means. -/
theorem quot_real (hC : ∀ n k, ∃ r : ℝ, C x3 n k = (r : EReal)) (hS : ∀ k, ∃ r : ℝ, S x2 k = (r : EReal)) (hW : ∀ g a e, ∃ r : ℝ, W x1 g a e = (r : EReal))
    (g : Fin 4) (a : Fin 128) (n : Fin 8192) : ∃ r : ℝ, quot (C x3) (S x2) (W x1) g a n = (r : EReal) := by
  choose c hc using hC
  choose s hs using hS
  choose w hw using hW
  obtain ⟨y, hy, e⟩ := cnt_real g n.val (by have := n.isLt; omega)
  refine ⟨(∑ l : Fin 128, c n (col g l) * s (col g l) * w g a l) * (1 / y), ?_⟩
  rw [quot, e, Ideal.div_coe hy, EReal.coe_mul, coe_sum, dpool]
  refine congrArg (· * _) (Finset.sum_congr rfl fun l _ => ?_)
  rw [dmix, hc, hs, hw, EReal.coe_mul, EReal.coe_mul]

/-- The pooled columns' gradient. -/
theorem dz_apply (hC : ∀ n k, ∃ r : ℝ, C x3 n k = (r : EReal)) (hS : ∀ k, ∃ r : ℝ, S x2 k = (r : EReal)) (hW : ∀ g a e, ∃ r : ℝ, W x1 g a e = (r : EReal))
    (n : Fin 8192) (g : Fin 4) (a : Fin 128) :
    val_main_v166 (F := Ideal) x1 x2 x3 (ix4 0 n g a) = dz (C x3) (S x2) (W x1) g a n := by
  have hz : val_main_call1_v0 (F := Ideal) (Shape.Idx.first h_S_) = 0 := by pointwise [val_main_call1_v0, val_main_call1_cst]
  have h : val_main_v165 (F := Ideal) x1 x2 x3 (ix4 0 n g a) = ahead (quot (C x3) (S x2) (W x1) g a) (wd g) n.val := by
    unfold val_main_v165 Host.reduceWindowAdd
    rw [Ideal.hostReduceWindowAdd_def]
    unfold Ideal.hostReduceWindowAdd
    refine (sum_from (M := 8191) (N := 8192) (by norm_num) (val_main_v164 (F := Ideal) x1 x2 x3) _ (fun _ => hz) _ _ n g a).trans ?_
    simp only [step, Nat.add_comm (wd g)]
    choose q hq using quot_real x1 x2 x3 hC hS hW g a
    simp only [hq]
    exact (suffix_diff q (wd g) n).trans (congrArg (fun f => ahead f (wd g) n.val) (funext fun i => (hq i).symm))
  refine (congrArg₂ (fun x y : EReal => x + y) (direct x1 x2 x3 n g a) h).trans ?_
  rw [dz, add_comm, sub_eq_add_neg]

end Cert.Reference6Ideal.Pool
-- ==== Proof.Pool.lean ====
/-
  THE MULTI-SCALE POOL'S GRADIENTS: the kernel's and the reference's are the same sums where the arguments are finite.
-/
module

public import proofs.«01_k».proof.Defs
public import proofs.«01_k».proof.Proof.PoolRun
public import proofs.«01_k».proof.Proof.PoolRef

@[expose] public noncomputable section

namespace Cert.Reference6Ideal.Pool

open Cert.Reference6Ideal Cert.Reference6Ideal.Gen Cert.Reference6Ideal.Read Cert.Window Idealize.ShloMosaic Idealize.ShloMosaic.StableHlo
open Cert.Kernel6Ideal.Pool (grp lane col_eq)

/-- Every entry that the gradients read is a real number. -/
structure Finite (x0 : FVec Ideal S8192x2560 .f32) (x1 : FVec Ideal S4x128x128 .f32) (x2 : FVec Ideal S512 .f32) (x3 : FVec Ideal S8192x1024 .bf16) : Prop where
  P : ∀ n k, ∃ r : ℝ, P x0 n k = (r : EReal)
  W : ∀ g a e, ∃ r : ℝ, W x1 g a e = (r : EReal)
  S : ∀ k, ∃ r : ℝ, S x2 k = (r : EReal)
  C : ∀ n k, ∃ r : ℝ, C x3 n k = (r : EReal)

variable {x0 : FVec Ideal S8192x2560 .f32} {x1 : FVec Ideal S4x128x128 .f32} {x2 : FVec Ideal S512 .f32} {x3 : FVec Ideal S8192x1024 .bf16}

theorem dw_eq (h : Finite x0 x1 x2 x3) : val_main_v102 (F := Ideal) x0 x2 x3 = fun i : S4x128x128.Idx => dw (P x0) (C x3) (S x2) (i 0) (i 1) (i 2) := by
  funext i
  have e : i = ix3 (i 0) (i 1) (i 2) := by
    funext b
    match b with
    | ⟨0, _⟩ => rfl
    | ⟨1, _⟩ => rfl
    | ⟨2, _⟩ => rfl
  exact (congrArg _ e).trans (dw_apply x0 x2 x3 h.P _ _ _)

theorem dsc_eq (h : Finite x0 x1 x2 x3) : val_main_v172 (F := Ideal) x0 x1 x3
    = fun i : S1x512.Idx => dsc (P x0) (C x3) (W x1) (grp (i 1)) (lane (i 1)) := by
  refine Common.ext2 fun r k => ?_
  have e : (ix2 r k : S1x512.Idx) = ix2 0 (col (grp k) (lane k)) := by
    rw [col_eq, show r = 0 from Fin.ext (by omega)]
  exact (congrArg _ e).trans (dsc_apply x0 x1 x3 h.P _ _)

theorem dz_eq (h : Finite x0 x1 x2 x3) (x4 : FVec Ideal S8192x2560 .bf16) : val_main_v171 (F := Ideal) x1 x2 x3 x4
    = fun i : S8192x2560.Idx => if (i 1).val < 2048 then x4 i else dz (C x3) (S x2) (W x1)
        (grp ⟨(i 1).val - 2048, by have := (i 1).isLt; change _ < 2560 at this; omega⟩) (lane ⟨(i 1).val - 2048, by have := (i 1).isLt; change _ < 2560 at this; omega⟩) (i 0) := by
  refine Common.ext2 fun n k => ?_
  by_cases hk : k.val < 2048
  · refine Eq.trans ?_ (if_pos hk).symm
    pointwise [val_main_v171, val_main_v168]
    simp only [hk]
    rfl
  · refine Eq.trans ?_ (if_neg hk).symm
    have hl := k.isLt
    refine Eq.trans ?_ (dz_apply x1 x2 x3 h.C h.S h.W n (grp ⟨k.val - 2048, by omega⟩) (lane ⟨k.val - 2048, by omega⟩))
    pointwise [val_main_v171, val_main_v170, val_main_v169, val_main_v167, grp, lane]
    simp only [hk]
    rfl

/-- The reference's run where its arguments are finite: the results at the gradients, the arguments unchanged. -/
theorem run (m : (ℓ : Loc nD τ sig) → Buf (Elt Ideal) ℓ) (ρ : Dev nD → PrngReg) (a0 : Dev nD → FVec Ideal S8192x2560 .f32) (a1 : Dev nD → FVec Ideal S4x128x128 .f32) (a2 : Dev nD → FVec Ideal S512 .f32) (a3 : Dev nD → FVec Ideal S8192x1024 .bf16) (a4 : Dev nD → FVec Ideal S8192x2560 .bf16)
    (hf : ∀ c, Finite (a0 c) (a1 c) (a2 c) (a3 c))
    (hm : ∀ c : Dev nD, m ((c.tc : Thread nD τ).loc main_arg0) = a0 c
      ∧ m ((c.tc : Thread nD τ).loc main_arg1) = a1 c
      ∧ m ((c.tc : Thread nD τ).loc main_arg2) = a2 c
      ∧ m ((c.tc : Thread nD τ).loc main_arg3) = a3 c
      ∧ m ((c.tc : Thread nD τ).loc main_arg4) = a4 c) :
    θ_run defs (onTc (τ := τ) (main (F := Ideal))) ⟨m, fun _ => 0, ρ⟩ fun r => ∀ c : Dev nD,
      r.2.mem ((c.tc : Thread nD τ).loc main_v171) = (fun i => if (i 1).val < 2048 then a4 c i else dz (C (a3 c)) (S (a2 c)) (W (a1 c))
        (grp ⟨(i 1).val - 2048, by have := (i 1).isLt; change _ < 2560 at this; omega⟩) (lane ⟨(i 1).val - 2048, by have := (i 1).isLt; change _ < 2560 at this; omega⟩) (i 0) : FVec Ideal S8192x2560 .bf16)
      ∧ r.2.mem ((c.tc : Thread nD τ).loc main_v102) = (fun i => dw (P (a0 c)) (C (a3 c)) (S (a2 c)) (i 0) (i 1) (i 2) : FVec Ideal S4x128x128 .f32)
      ∧ r.2.mem ((c.tc : Thread nD τ).loc main_v172) = (fun i => dsc (P (a0 c)) (C (a3 c)) (W (a1 c)) (grp (i 1)) (lane (i 1)) : FVec Ideal S1x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => by
    obtain ⟨h0, h1, h2, h3, h4⟩ := hm c
    refine ⟨(h c).1.trans ((Read.val_main_v171_eq _).trans ((congr (congr (congr (congrArg (val_main_v171 (F := Ideal)) h1) h2) h3) h4).trans (dz_eq (hf c) _))),
      (h c).2.1.trans ((Read.val_main_v102_eq _).trans ((congr (congr (congrArg (val_main_v102 (F := Ideal)) h0) h2) h3).trans (dw_eq (hf c)))),
      (h c).2.2.1.trans ((Read.val_main_v172_eq _).trans ((congr (congr (congrArg (val_main_v172 (F := Ideal)) h0) h1) h3).trans (dsc_eq (hf c)))), (h c).2.2.2⟩) (Value.run m ρ)

end Cert.Reference6Ideal.Pool

namespace Cert.Pool

open Cert.Window Cert.Pre_finite_pool Idealize.ShloMosaic Idealize.ShloMosaic.StableHlo

/-- The shape conditions of the precondition's operations. -/
theorem pre_facts : Cert.Pre_finite_pool.Facts :=
  ⟨by decide +kernel, by decide +kernel, by decide +kernel, by decide +kernel, by decide +kernel⟩

/-- A number strictly between the infinities is real. -/
theorem real_of_bits {x lo hi : EReal} (hlo : lo = ⊥) (hhi : hi = ⊤)
    (h : IntOp.andi (Ideal.cmp .ogt x lo) (Ideal.cmp .olt x hi) = 1#1) : ∃ r : ℝ, x = (r : EReal) := by
  subst hlo hhi
  induction x using EReal.rec with
  | bot => exact absurd h (by simp [Ideal.cmp, IntOp.andi])
  | coe r => exact ⟨r, rfl⟩
  | top => exact absurd h (by simp [Ideal.cmp, IntOp.andi])

theorem bot_f32 : Ideal.ofBits .f32 0xFF800000#32 = ⊥ := by simp [Ideal.ofBits, Ideal.ieee]
theorem top_f32 : Ideal.ofBits .f32 0x7F800000#32 = ⊤ := by simp [Ideal.ofBits, Ideal.ieee]
theorem bot_bf16 : Ideal.ofBits .bf16 0xFF80#16 = ⊥ := by simp [Ideal.ofBits, Ideal.ieee]
theorem top_bf16 : Ideal.ofBits .bf16 0x7F80#16 = ⊤ := by simp [Ideal.ofBits, Ideal.ieee]

/-- The precondition makes every entry that the gradients read a real number. -/
theorem finite_of_pre [Cert.Pre_finite_pool.Facts] (a0 : FVec Ideal S8192x2560 .f32) (a1 : FVec Ideal S4x128x128 .f32) (a2 : FVec Ideal S512 .f32) (a3 : FVec Ideal S8192x1024 .bf16) (a4 : FVec Ideal S8192x2560 .bf16)
    (h : (fn (F := Ideal) a0 a1 a2 a3 a4).1 = (fun _ => 1#1) ∧ (fn (F := Ideal) a0 a1 a2 a3 a4).2.1 = (fun _ => 1#1)
      ∧ (fn (F := Ideal) a0 a1 a2 a3 a4).2.2.1 = (fun _ => 1#1) ∧ (fn (F := Ideal) a0 a1 a2 a3 a4).2.2.2 = fun _ => 1#1) :
    Cert.Reference6Ideal.Pool.Finite a0 a1 a2 a3 where
  P n k := by
    refine real_of_bits bot_f32 top_f32 (Eq.trans ?_ (congrFun h.1 (ix2 n k)))
    pointwise [fn, fn_part1, Cert.Reference6Ideal.Pool.P]
  W g a e := real_of_bits bot_f32 top_f32 (congrFun h.2.1 (ix3 g a e))
  S k := real_of_bits bot_f32 top_f32 (congrFun h.2.2.1 (ix1 k))
  C n k := by
    refine real_of_bits bot_bf16 top_bf16 (Eq.trans ?_ (congrFun h.2.2.2 (ix2 n k)))
    pointwise [fn, fn_part1, Cert.Reference6Ideal.Pool.C]

/-- Equal finite arguments give equal gradients of the pool. -/
theorem algebraic [Cert.Pre_finite_pool.Facts] : Cert.algebraic_Kernel6Ideal_Reference6Ideal_pre_finite_pool := fun m g m' g' h hm =>
  ⟨fun c => Cert.Kernel6Ideal.Pool.resDz m c, fun c => Cert.Kernel6Ideal.Pool.resDw m c, fun c => Cert.Kernel6Ideal.Pool.resDsc m c,
    Cert.Kernel6Ideal.Pool.run m g, Cert.Reference6Ideal.Pool.run m' g' _ _ _ _ _ (fun c => finite_of_pre _ _ _ _ _ (h c)) hm⟩

end Cert.Pool
-- ==== Proof.Dbias.lean ====
/-
  THE RELATIVE BIAS'S GRADIENT: entry `r` of a head's table gathers the tile's gradient over the pairs of a query and a
  key whose clipped offset is `r`. The call `_attn_dbias` sums the tile's diagonals first, then the diagonals of each entry.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Common
public import proofs.«01_k».proof.Proof.Pool
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.Dbias

/-- The table entry of a pair of a query `q` and a key `k` that stand `c = k + 255 - q` apart. -/
def entry (c : ℕ) : ℕ := min 256 (895 - c)

/-- The gradient of entry `r`: the tile's gradient over the pairs that read it. -/
def grad (d : Fin 256 → Fin 768 → EReal) (r : ℕ) : EReal := ∑ q : Fin 256, ∑ k : Fin 768, if entry (k.val + 255 - q.val) = r then d q k else 0

/-- A word clipped to 128 either side of zero, counted from the lower end. -/
def clipWord (w : BitVec 32) : BitVec 32 := IntOp.addi (IntOp.minsi 128#32 (IntOp.maxsi 4294967168#32 w)) 128#32

theorem clip_word : ∀ c : Fin 1024, clipWord (IntOp.subi 512#32 (IntOp.subi (BitVec.ofNat 32 c.val) 255#32)) = BitVec.ofNat 32 (entry c.val) := by
  decide +kernel

/-- The kernel's entry of diagonal `c`; the last diagonal has no pair. -/
theorem diag_word : ∀ c : Fin 1024, Scalar.select
    (IntOp.andi (IntOp.cmpi CmpIPredicate.sge (IntOp.subi (BitVec.ofNat 32 c.val) 255#32) 0#32)
      (IntOp.cmpi CmpIPredicate.slt (IntOp.subi (BitVec.ofNat 32 c.val) 255#32) 768#32))
    (clipWord (IntOp.subi 512#32 (IntOp.subi (BitVec.ofNat 32 c.val) 255#32))) 256#32
    = BitVec.ofNat 32 (if c.val = 1023 then 256 else entry c.val) := by
  decide +kernel

/-- A table entry is no negative word. -/
theorem entry_word : ∀ c : Fin 1024, Scalar.select (IntOp.cmpi CmpIPredicate.slt (BitVec.ofNat 32 (entry c.val)) 0#32)
    (IntOp.addi (BitVec.ofNat 32 (entry c.val)) 257#32) (BitVec.ofNat 32 (entry c.val)) = BitVec.ofNat 32 (entry c.val) := by
  decide +kernel

theorem entry_int : ∀ c : Fin 1024, (BitVec.ofNat 32 (entry c.val)).toInt = (entry c.val : ℤ) := by
  decide +kernel

theorem word_inj {a b : ℕ} (ha : a < 2 ^ 32) (hb : b < 2 ^ 32) : BitVec.ofNat 32 a = BitVec.ofNat 32 b ↔ a = b := by
  refine ⟨fun h => ?_, fun h => h ▸ rfl⟩
  have := congrArg BitVec.toNat h
  rwa [BitVec.toNat_ofNat, BitVec.toNat_ofNat, Nat.mod_eq_of_lt ha, Nat.mod_eq_of_lt hb] at this

/-- The number of a truth value. -/
theorem ind (a b : BitVec 32) : (FloatOps.sitofp (F := Ideal) .f32 (BitVec.setWidth 32 (IntOp.cmpi .eq a b)) : EReal) = if a = b then 1 else 0 := by
  by_cases h : a = b
  · have e : BitVec.setWidth 32 (IntOp.cmpi .eq a b) = 1#32 := by simp [IntOp.cmpi, h]
    rw [e, if_pos h]
    show (((1#32 : BitVec 32).toInt : ℝ) : EReal) = 1
    simp
  · have e : BitVec.setWidth 32 (IntOp.cmpi .eq a b) = 0#32 := by
      have e : (a == b) = false := by simpa using h
      simp [IntOp.cmpi, e]
    rw [e, if_neg h]
    show (((0#32 : BitVec 32).toInt : ℝ) : EReal) = 0
    simp

theorem self_sub {x : EReal} (h : ∃ r : ℝ, x = (r : EReal)) : x - x = 0 := by
  obtain ⟨r, rfl⟩ := h
  rw [← EReal.coe_sub, sub_self, EReal.coe_zero]

end Cert.Dbias

namespace Cert.Kernel7Ideal.Dbias

open Cert.Kernel7Ideal Cert.Kernel7Ideal.Gen Cert.Dbias

variable {x : Vec Ideal S1x256x768 .f32} (hx : ∀ q k, ∃ r : ℝ, (x (ix3 0 q k) : EReal) = r)

/-- A row of the tile's gradient, continued by zeros. -/
def row (x : Vec Ideal S1x256x768 .f32) (q : Fin 256) (n : ℕ) : EReal := if h : n < 768 then x (ix3 0 q ⟨n, h⟩) else 0

include hx in
theorem row_real (q : Fin 256) (n : ℕ) : ∃ r : ℝ, row x q n = r := by
  unfold row
  split
  · exact hx _ _
  · exact ⟨0, rfl⟩

/-- The sum of diagonal `c` of the tile's gradient. -/
def diag (x : Vec Ideal S1x256x768 .f32) (c : ℕ) : EReal := ∑ q : Fin 256, ∑ k : Fin 768, if k.val + 255 = c + q.val then (x (ix3 0 q k) : EReal) else 0

/-- The tile's rows upside down, each moved by its number: the column sums are the diagonals' sums. -/
theorem roll (c : Fin 1024) : ∑ r : Fin 256, row x ⟨255 - r.val, by omega⟩ ((c.val + 1024 - r.val % 1024) % 1024) = diag x c.val := by
  unfold diag
  refine Fintype.sum_equiv Fin.revPerm _ _ fun r => ?_
  have hr := r.isLt
  have hc := c.isLt
  have e : (Fin.revPerm r : Fin 256) = ⟨255 - r.val, by omega⟩ := Fin.ext (by simp [Fin.revPerm, Fin.val_rev])
  rw [e]
  unfold row
  split
  · rename_i h
    rw [Finset.sum_eq_single_of_mem (⟨(c.val + 1024 - r.val % 1024) % 1024, h⟩ : Fin 768) (Finset.mem_univ _), if_pos (by simp only; omega)]
    intro k _ hk
    refine if_neg fun h' => hk (Fin.ext ?_)
    simp only at h' ⊢
    omega
  · rename_i h
    refine (Finset.sum_eq_zero fun k _ => if_neg ?_).symm
    have := k.isLt
    simp only
    omega

theorem flip_word (r q : Fin 256) : IntOp.addi (BitVec.ofNat 32 r.val) (BitVec.ofNat 32 q.val) = 255#32 ↔ q = ⟨255 - r.val, by omega⟩ := by
  have hr := r.isLt
  have hq := q.isLt
  show BitVec.ofNat 32 r.val + BitVec.ofNat 32 q.val = _ ↔ _
  rw [← BitVec.ofNat_add, word_inj (by omega) (by omega), Fin.ext_iff]
  simp only
  omega

include hx in
theorem pay2_apply (c : Fin 1024) : k0_pay2 x (ix2 0 c) = diag x c.val := by
  rw [← roll]
  pointwise [k0_pay2]
  refine Finset.sum_congr rfl fun r _ => ?_
  simp only [ind, flip_word]
  have z : ∀ q : Fin 256, row x q ((c.val + 1024 - r.val % 1024) % 1024) - row x q ((c.val + 1024 - r.val % 1024) % 1024) = 0 := fun q => self_sub (row_real hx _ _)
  unfold row at z ⊢
  simp only [z, sub_zero, mul_zero, Finset.sum_const_zero, add_zero, ite_mul, one_mul, zero_mul, Finset.sum_ite_eq', Finset.mem_univ, if_true]

/-- The table entry of diagonal `c` in the kernel's one-hot product. -/
def entryK (c : ℕ) : ℕ := if c = 1023 then 256 else entry c

theorem entryK_word (c : Fin 1024) (r : Fin 384) : BitVec.ofNat 32 (if c.val = 1023 then 256 else entry c.val) = BitVec.ofNat 32 r.val ↔ entryK c.val = r.val := by
  have hr := r.isLt
  refine word_inj ?_ (by omega)
  unfold entry
  split <;> omega

theorem pay1_apply {v : FVec Ideal S1x1024 .f32} (hv : ∀ c, ∃ r : ℝ, (v (ix2 0 c) : EReal) = r) (a : Fin 8) (r : Fin 384) :
    k0_pay1 v (iota .tc S384x1024 32 [0] iota_S384x1024_d0_w32) k0_pay4 128#32 k0_pay5 (ix3 0 a r) = ∑ c : Fin 1024, if entryK c.val = r.val then (v (ix2 0 c) : EReal) else 0 := by
  have z : ∀ c : Fin 1024, (v (ix2 0 c) : EReal) - v (ix2 0 c) = 0 := fun c => self_sub (hv c)
  have e := fun c => diag_word c
  unfold clipWord at e
  pointwise [k0_pay1, k0_pay4, k0_pay5, k0_pay3]
  simp only [z, sub_zero, zero_mul, Finset.sum_const_zero, add_zero, e, ind, entryK_word, mul_ite, mul_one, mul_zero, ite_self, Finset.sum_const_zero, add_zero]

include hx in
theorem diag_real (c : ℕ) : ∃ r : ℝ, diag x c = r := by
  choose f hf using hx
  refine ⟨∑ q, ∑ k : Fin 768, if k.val + 255 = c + q.val then f q k else 0, ?_⟩
  unfold diag
  rw [Window.coe_sum]
  refine Finset.sum_congr rfl fun q _ => ?_
  rw [Window.coe_sum]
  refine Finset.sum_congr rfl fun k _ => ?_
  rw [Window.coe_ite, hf]

/-- Summing the diagonals of an entry is summing its pairs. -/
theorem diag_sum (r : ℕ) : (∑ c : Fin 1024, if entryK c.val = r then diag x c.val else 0) = grad (fun q k => x (ix3 0 q k)) r := by
  have e : ∀ c : Fin 1024, (if entryK c.val = r then diag x c.val else 0)
      = ∑ q : Fin 256, ∑ k : Fin 768, if k.val + 255 = c.val + q.val then (if entryK c.val = r then (x (ix3 0 q k) : EReal) else 0) else 0 := fun c => by
    unfold diag
    by_cases h : entryK c.val = r
    · simp only [if_pos h]
    · simp only [if_neg h, ite_self, Finset.sum_const_zero]
  rw [Finset.sum_congr rfl fun c _ => e c, Finset.sum_comm]
  refine Finset.sum_congr rfl fun q _ => ?_
  rw [Finset.sum_comm]
  refine Finset.sum_congr rfl fun k _ => ?_
  have hq := q.isLt
  have hk := k.isLt
  rw [Finset.sum_eq_single_of_mem (⟨k.val + 255 - q.val, by omega⟩ : Fin 1024) (Finset.mem_univ _), if_pos (by simp only; omega)]
  · have : entryK (k.val + 255 - q.val) = entry (k.val + 255 - q.val) := if_neg (by omega)
    simp only [this]
  · intro c _ hc
    refine if_neg fun h' => hc (Fin.ext ?_)
    simp only
    omega

include hx in
/-- The body leaves the gradient of the head's table in each of its eight rows. -/
theorem out_apply (a : Fin 8) (r : Fin 384) : out0_1 x (ix3 0 a r) = grad (fun q k => x (ix3 0 q k)) r.val := by
  rw [← diag_sum]
  unfold out0_1
  frame_out
  refine (pay1_apply (fun c => ?_) a r).trans (Finset.sum_congr rfl fun c _ => ?_)
  · rw [pay2_apply hx]; exact diag_real hx _
  · rw [pay2_apply hx]

variable (m : (ℓ : Loc nD τ sig) → Buf (Elt Ideal) ℓ) (ρ : Dev nD → PrngReg)

/-- Where the two windows stand at point `t`: head `t`. -/
theorem index_t : ∀ t : Fin cfg0.N, (win0_0.index t 0 = t.val ∧ win0_0.index t 1 = 0 ∧ win0_0.index t 2 = 0)
    ∧ (win0_1.index t 0 = t.val ∧ win0_1.index t 1 = 0 ∧ win0_1.index t 2 = 0) :=
  (by decide +kernel : ∀ t : Fin grid0.N, (win0_0.index t 0 = t.val ∧ win0_0.index t 1 = 0 ∧ win0_0.index t 2 = 0)
    ∧ (win0_1.index t 0 = t.val ∧ win0_1.index t 1 = 0 ∧ win0_1.index t 2 = 0))

theorem head_lt (t : Fin cfg0.N) : t.val < 16 := by
  have := t.isLt; have : cfg0.N = 16 := N_0; omega

/-- The launched tile's gradient at head `h`. -/
def tile (c : Dev nD) (h : Fin 16) (q : Fin 256) (k : Fin 768) : EReal := (m ((c : Thread nD τ).loc main_arg1) : FVec Ideal S16x256x768 .f32) (ix3 h q k)

theorem iblk_apply (c : Dev nD) (t : Fin cfg0.N) (q : Fin 256) (k : Fin 768) :
    iblk m c 0 t (ix3 0 q k) = tile m c ⟨t.val, head_lt t⟩ q k := by
  unfold iblk
  rw [View.read_apply]
  show m _ _ = m _ _
  congr 1
  funext a
  apply Fin.ext
  match a with
  | ⟨0, _⟩ => show win0_0.index t 0 * 1 + 1 * 0 = t.val; rw [(index_t t).1.1]; omega
  | ⟨1, _⟩ => show win0_0.index t 1 * 256 + 1 * q.val = q.val; rw [(index_t t).1.2.1]; omega
  | ⟨2, _⟩ => show win0_0.index t 2 * 768 + 1 * k.val = k.val; rw [(index_t t).1.2.2]; omega

/-- The result array: each head's gradient, in each of eight rows. -/
abbrev result (c : Dev nD) : Buf (Elt Ideal) ((c : Thread nD τ).loc main_v0) :=
  fun i : S16x8x384.Idx => grad (tile m c (i 0)) (i 2).val

/-- Every entry of the tile's gradient is a real number. -/
abbrev Finite (c : Dev nD) : Prop := ∀ h q k, ∃ r : ℝ, tile m c h q k = (r : EReal)

/-- The sixteen heads' blocks make up the result. -/
theorem final_eq (c : Dev nD) (hf : Finite m c) : (dats m 0 c).arrAt 1 cfg0.N = result m c :=
  (dats m 0 c).arrAt_eq_of_covers 1 (result m c) (by decide +kernel) fun t _ y => by
    blk_simp
    rw [after0_1]
    refine (congrArg (out0_1 _) (eq_ix3 _)).trans ((congrArg (fun a => out0_1 _ (ix3 a _ _)) (Subsingleton.elim _ 0)).trans ((out_apply (fun q k => ?_) _ _).trans ?_))
    · rw [iblk_apply]; exact hf _ _ _
    · simp only [iblk_apply]
      refine congrArg₂ (fun h r => grad (tile m c h) r) (Fin.ext ?_) ?_ <;> blk_simp [(index_t t).2.1, (index_t t).2.2.2]

/-- The run where the tile's gradient is finite: the result at the gradient, the arguments unchanged. -/
theorem run (hf : ∀ c, Finite m c) : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_eq m c (hf c)), (h c).2⟩) (Value.run_blocks m ρ)

end Cert.Kernel7Ideal.Dbias

namespace Cert.Reference7Ideal.Dbias

open Cert.Reference7Ideal Cert.Reference7Ideal.Gen Cert.Reference7Ideal.Read Cert.Dbias Idealize.ShloMosaic.StableHlo

/-- The word of a pair's offset depends on the distance alone. -/
theorem offset_word (q : Fin 256) (k : Fin 768) : IntOp.subi (IntOp.addi (BitVec.ofNat 32 q.val) 512#32) (BitVec.ofNat 32 k.val)
    = IntOp.subi 512#32 (IntOp.subi (BitVec.ofNat 32 (k.val + 255 - q.val)) 255#32) := by
  have hq := q.isLt
  have hk := k.isLt
  have e : BitVec.ofNat 32 (k.val + 255 - q.val) = BitVec.ofNat 32 k.val + 255#32 - BitVec.ofNat 32 q.val := by
    apply BitVec.eq_of_toNat_eq
    simp only [BitVec.toNat_sub, BitVec.toNat_add, BitVec.toNat_ofNat]
    omega
  rw [e]
  show BitVec.ofNat 32 q.val + 512#32 - BitVec.ofNat 32 k.val = 512#32 - (BitVec.ofNat 32 k.val + 255#32 - BitVec.ofNat 32 q.val - 255#32)
  generalize BitVec.ofNat 32 q.val = a
  generalize BitVec.ofNat 32 k.val = b
  generalize 512#32 = u
  generalize 255#32 = v
  bv_omega

/-- The reference's index word of a pair. -/
theorem word_apply (q : Fin 256) (k : Fin 768) : val_main_v17 (F := Ideal) (ix3 q k 0) = BitVec.ofNat 32 (entry (k.val + 255 - q.val)) := by
  have hq := q.isLt
  have hk := k.isLt
  have e := clip_word ⟨k.val + 255 - q.val, by omega⟩
  have e' := entry_word ⟨k.val + 255 - q.val, by omega⟩
  simp only at e e'
  rw [← e', ← e, ← offset_word]
  unfold clipWord
  pointwise [val_main_v17, val_main_v16, val_main_v15, val_main_v14, val_main_v13, val_main_v12, val_main_v11, val_main_v10, val_main_v9, val_main_call0_v4, val_main_call0_v3, val_main_call0_v2, val_main_call0_v1, val_main_call0_v0, val_main_v8, val_main_v7, val_main_v6, val_main_v5, val_main_v4, val_main_v3, val_main_v2, val_main_v1, val_main_v0, val_main_c, val_main_c_0, val_main_c_1, val_main_c_2, val_main_c_3, val_main_c_4]
  rfl

/-- An update lands at an index when start and window add up to it on every axis. -/
theorem resultIdx_eq {s si u : Shape} {w : ℕ} (d : ScatterDims s si u) (j : u.Idx) (idx : IVec si w) (i : s.Idx) :
    d.resultIdx? j idx = some i ↔ ∀ a, d.start j idx a + (d.window j a : ℤ) = ((i a).val : ℤ) := by
  unfold ScatterDims.resultIdx?
  constructor
  · intro e
    split at e
    · rename_i h
      intro a
      have e1 := congrArg Fin.val (congrFun (Option.some_inj.1 e) a)
      simp only at e1
      have := h a
      omega
    · exact absurd e (by simp)
  · intro e
    rw [dif_pos fun a => by have := (i a).isLt; have := e a; omega, Option.some_inj]
    funext a
    apply Fin.ext
    have := e a
    simp only
    omega

/-- The column where an update starts: its pair's index word. -/
theorem start_apply (h : Fin 16) (q : Fin 256) (k : Fin 768) (y : IVec S256x768x1 32) :
    scatter_S16x257_S256x768x1_S16x256x768_0_1_1_2.start (ix3 h q k : S16x256x768.Idx) y 1 = (y (ix3 q k 0)).toInt := by
  show (y _).toInt = _
  congr 2
  funext a
  match a with
  | ⟨0, _⟩ => rfl
  | ⟨1, _⟩ => rfl
  | ⟨2, _⟩ => rfl

/-- Where the scatter puts the gradient of a pair. -/
theorem lands (h : Fin 16) (q : Fin 256) (k : Fin 768) (h' : Fin 16) (r : Fin 257) :
    scatter_S16x257_S256x768x1_S16x256x768_0_1_1_2.resultIdx? (ix3 h q k : S16x256x768.Idx) (val_main_v17 (F := Ideal)) = some (ix2 h' r : S16x257.Idx)
      ↔ h = h' ∧ entry (k.val + 255 - q.val) = r.val := by
  have hk := k.isLt
  have hq := q.isLt
  have w0 : scatter_S16x257_S256x768x1_S16x256x768_0_1_1_2.window (ix3 h q k : S16x256x768.Idx) 0 = h.val := rfl
  have w1 : scatter_S16x257_S256x768x1_S16x256x768_0_1_1_2.window (ix3 h q k : S16x256x768.Idx) 1 = 0 := rfl
  have s0 : scatter_S16x257_S256x768x1_S16x256x768_0_1_1_2.start (ix3 h q k : S16x256x768.Idx) (val_main_v17 (F := Ideal)) 0 = 0 := rfl
  have s1 : scatter_S16x257_S256x768x1_S16x256x768_0_1_1_2.start (ix3 h q k : S16x256x768.Idx) (val_main_v17 (F := Ideal)) 1 = (entry (k.val + 255 - q.val) : ℤ) :=
    (start_apply h q k _).trans ((congrArg BitVec.toInt (word_apply q k)).trans (entry_int ⟨k.val + 255 - q.val, by omega⟩))
  have two : ∀ p : Fin S16x257.rank → Prop, (∀ a, p a) ↔ p 0 ∧ p 1 := fun _ => Fin.forall_fin_two
  rw [resultIdx_eq, two, s0, w0, s1, w1, ix2_0, ix2_1]
  generalize entry (k.val + 255 - q.val) = n
  rw [Fin.ext_iff]
  omega

variable (x1 : FVec Ideal S16x256x768 .f32)

theorem scatter_apply (h : Fin 16) (r : Fin 257) : val_main_v20 (F := Ideal) x1 (ix2 h r) = grad (fun q k => x1 (ix3 h q k)) r.val := by
  show (val_main_v19 (F := Ideal) (ix2 h r) : EReal) + ∑ j ∈ Finset.univ.filter (fun j => scatter_S16x257_S256x768x1_S16x256x768_0_1_1_2.resultIdx? j (val_main_v17 (F := Ideal)) = some (ix2 h r)), (x1 j : EReal) = _
  have z : (val_main_v19 (F := Ideal) (ix2 h r) : EReal) = 0 := by
    pointwise [val_main_v19, val_main_cst]
  rw [z, zero_add, Finset.sum_filter, sum_idx3]
  simp only [lands]
  rw [Finset.sum_eq_single_of_mem h (Finset.mem_univ _) fun h' _ hh => ?_]
  · unfold grad
    simp only [true_and]
  · simp only [hh, false_and, if_false, Finset.sum_const_zero]

/-- The reference's result: the gradient of the head's table, zero past the table's end, in each of eight rows. -/
theorem out_apply (h : Fin 16) (a : Fin 8) (r : Fin 384) : val_main_v23 (F := Ideal) x1 (ix3 h a r) = grad (fun q k => x1 (ix3 h q k)) r.val := by
  pointwise [val_main_v23, val_main_v22, val_main_v21]
  split
  · exact scatter_apply x1 h _
  · rename_i hr
    refine Eq.trans ?_ (Finset.sum_eq_zero fun q _ => Finset.sum_eq_zero fun k _ => if_neg ?_).symm
    · show (((0#32 : BitVec 32).toInt : ℝ) : EReal) = 0
      simp
    · unfold entry
      omega

theorem value_eq : val_main_v23 (F := Ideal) x1 = fun i : S16x8x384.Idx => grad (fun q k => x1 (ix3 (i 0) q k)) (i 2).val := by
  funext i
  exact (congrArg _ (eq_ix3 i)).trans (out_apply x1 _ _ _)

/-- The reference's run: the result at the gradient, the arguments unchanged. -/
theorem run (m : (ℓ : Loc nD τ sig) → Buf (Elt Ideal) ℓ) (ρ : Dev nD → PrngReg) (a1 : Dev nD → FVec Ideal S16x256x768 .f32)
    (hm : ∀ c : Dev nD, m ((c.tc : Thread nD τ).loc main_arg1) = a1 c) :
    θ_run defs (onTc (τ := τ) (main (F := Ideal))) ⟨m, fun _ => 0, ρ⟩ fun r => ∀ c : Dev nD,
      r.2.mem ((c.tc : Thread nD τ).loc main_v23) = (fun i => grad (fun q k => a1 c (ix3 (i 0) q k)) (i 2).val : FVec Ideal S16x8x384 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((Read.val_main_v23_eq _).trans ((congrArg (val_main_v23 (F := Ideal)) (hm c)).trans (value_eq _))), (h c).2⟩)
    (Value.run m ρ)

end Cert.Reference7Ideal.Dbias

namespace Cert.Dbias

/-- The shape conditions of the precondition's operations. -/
theorem pre_facts : Cert.Pre_finite_dbias.Facts :=
  ⟨by decide +kernel⟩

/-- Equal finite arguments give equal gradients of the table. -/
theorem algebraic [Cert.Pre_finite_dbias.Facts] : Cert.algebraic_Kernel7Ideal_Reference7Ideal_pre_finite_dbias := fun m g m' g' h hm =>
  ⟨fun c => Cert.Kernel7Ideal.Dbias.result m c,
    Cert.Kernel7Ideal.Dbias.run m g fun c n q k => Cert.Pool.real_of_bits Cert.Pool.bot_f32 Cert.Pool.top_f32 (congrFun (h c) (ix3 n q k)),
    Cert.Reference7Ideal.Dbias.run m' g' _ fun c => (hm c).2⟩

end Cert.Dbias
-- ==== Proof.AttnMath.lean ====
/-
  SOFTMAX OVER A WINDOW: where the masked entries hold minus infinity, the attention over a window of keys is the
  attention over all of them.
-/
module

public import proofs.«01_k».proof.Proof.Window
public import proofs.«01_k».proof.Proof.Dbias

@[expose] public section

set_option maxRecDepth 16384

noncomputable section

open Idealize.ShloMosaic

namespace Cert.Attn

/-- The greatest of the scores. -/
def top {ι : Type} [Fintype ι] (s : ι → EReal) : EReal := Finset.univ.fold max ⊥ s

/-- The weighted mean of the values, the weights' sum divided out before or after. -/
def mean {ι : Type} [Fintype ι] (s v : ι → EReal) : EReal := ∑ i, Ideal.div (Ideal.exp (s i - top s)) (∑ j, Ideal.exp (s j - top s)) * v i
def mean' {ι : Type} [Fintype ι] (s v : ι → EReal) : EReal := (∑ i, Ideal.exp (s i - top s) * v i) * Ideal.div 1 (∑ j, Ideal.exp (s j - top s))

/-- A score is minus infinity or a real number. -/
def Score (x : EReal) : Prop := x = ⊥ ∨ ∃ r : ℝ, x = (r : EReal)

theorem le_top {ι : Type} [Fintype ι] (s : ι → EReal) (i : ι) : s i ≤ top s :=
  (Finset.le_fold_max _).2 (.inr ⟨i, Finset.mem_univ _, le_rfl⟩)

/-- The greatest score is a real number where one of them is. -/
theorem top_real {ι : Type} [Fintype ι] {s : ι → EReal} (hs : ∀ i, Score (s i)) (h : ∃ i, ∃ r : ℝ, s i = (r : EReal)) : ∃ r : ℝ, top s = (r : EReal) := by
  obtain ⟨i, r, e⟩ := h
  have h1 : top s ≠ ⊥ := fun h' => by
    have := le_top s i
    rw [h', e, le_bot_iff] at this
    exact EReal.coe_ne_bot _ this
  have h2 : top s < ⊤ := (Finset.fold_max_lt _).2 ⟨bot_lt_top, fun j _ => by
    rcases hs j with h | ⟨r, h⟩
    · rw [h]; exact bot_lt_top
    · rw [h]; exact EReal.coe_lt_top _⟩
  exact ⟨(top s).toReal, (EReal.coe_toReal h2.ne h1).symm⟩

/-- The weight of a score. -/
def weight (t : ℝ) (x : EReal) : ℝ := (Ideal.exp (x - t)).toReal

theorem weight_bot (t : ℝ) : weight t ⊥ = 0 := by
  unfold weight
  rw [EReal.bot_sub, Ideal.exp_bot, EReal.toReal_zero]

theorem weight_coe (t r : ℝ) : weight t r = Real.exp (r - t) := by
  unfold weight
  rw [← EReal.coe_sub, Ideal.exp_coe, EReal.toReal_coe]

theorem exp_weight (t : ℝ) {x : EReal} (h : Score x) : Ideal.exp (x - t) = (weight t x : EReal) := by
  rcases h with rfl | ⟨r, rfl⟩
  · rw [weight_bot, EReal.bot_sub, Ideal.exp_bot, EReal.coe_zero]
  · rw [weight_coe, ← EReal.coe_sub, Ideal.exp_coe]

theorem weight_nonneg (t : ℝ) {x : EReal} (h : Score x) : 0 ≤ weight t x := by
  rcases h with rfl | ⟨r, rfl⟩
  · rw [weight_bot]
  · rw [weight_coe]; exact (Real.exp_pos _).le

theorem weights_pos {ι : Type} [Fintype ι] {s : ι → EReal} (t : ℝ) (hs : ∀ i, Score (s i)) (h : ∃ i, ∃ r : ℝ, s i = (r : EReal)) : 0 < ∑ i, weight t (s i) := by
  obtain ⟨i, r, e⟩ := h
  refine Finset.sum_pos' (fun j _ => weight_nonneg t (hs j)) ⟨i, Finset.mem_univ _, ?_⟩
  rw [e, weight_coe]
  exact Real.exp_pos _

/-- Both forms of the mean, in real numbers. -/
theorem mean'_real {ι : Type} [Fintype ι] {s v : ι → EReal} {t : ℝ} (ht : top s = t) (hs : ∀ i, Score (s i)) (h : ∃ i, ∃ r : ℝ, s i = (r : EReal))
    (f : ι → ℝ) (hv : ∀ i, v i = (f i : EReal)) : mean' s v = (((∑ i, weight t (s i) * f i) * (1 / ∑ i, weight t (s i)) : ℝ) : EReal) := by
  unfold mean'
  rw [ht]
  simp only [fun i => exp_weight t (hs i), hv, ← EReal.coe_mul, ← Window.coe_sum]
  rw [Ideal.div_coe (weights_pos t hs h).ne', one_mul, ← EReal.coe_mul]

theorem mean_real {ι : Type} [Fintype ι] {s v : ι → EReal} {t : ℝ} (ht : top s = t) (hs : ∀ i, Score (s i)) (h : ∃ i, ∃ r : ℝ, s i = (r : EReal))
    (f : ι → ℝ) (hv : ∀ i, v i = (f i : EReal)) : mean s v = (((∑ i, weight t (s i) * f i) * (1 / ∑ i, weight t (s i)) : ℝ) : EReal) := by
  unfold mean
  rw [ht]
  simp only [fun i => exp_weight t (hs i), hv, ← Window.coe_sum]
  simp only [Ideal.div_coe (weights_pos t hs h).ne', ← EReal.coe_mul, ← Window.coe_sum]
  rw [Finset.sum_mul]
  congr 1
  exact Finset.sum_congr rfl fun i _ => by ring

/-- Summing over a window is summing over the whole range, when nothing is left outside either. -/
theorem band_sum {N b : ℕ} (f : Fin 768 → ℝ) (g : Fin N → ℝ)
    (h1 : ∀ (k : Fin 768) (m : Fin N), k.val + b = m.val + 512 → g m = f k)
    (h2 : ∀ m : Fin N, (∀ k : Fin 768, k.val + b ≠ m.val + 512) → g m = 0)
    (h3 : ∀ k : Fin 768, (∀ m : Fin N, k.val + b ≠ m.val + 512) → f k = 0) : ∑ m, g m = ∑ k, f k := by
  classical
  have e : ∀ m : Fin N, g m = ∑ k : Fin 768, if k.val + b = m.val + 512 then f k else 0 := fun m => by
    by_cases h : ∃ k : Fin 768, k.val + b = m.val + 512
    · obtain ⟨k, hk⟩ := h
      rw [Finset.sum_eq_single_of_mem k (Finset.mem_univ _) fun j _ hj => if_neg fun h' => hj (Fin.ext (by omega)), if_pos hk, h1 k m hk]
    · rw [h2 m fun k hk => h ⟨k, hk⟩, Finset.sum_eq_zero fun k _ => if_neg fun hk => h ⟨k, hk⟩]
  rw [Finset.sum_congr rfl fun m _ => e m, Finset.sum_comm]
  refine Finset.sum_congr rfl fun k _ => ?_
  by_cases h : ∃ m : Fin N, k.val + b = m.val + 512
  · obtain ⟨m, hm⟩ := h
    rw [Finset.sum_eq_single_of_mem m (Finset.mem_univ _) fun j _ hj => if_neg fun h' => hj (Fin.ext (by omega)), if_pos hm]
  · rw [h3 k fun m hm => h ⟨m, hm⟩]
    simp only [ite_self, Finset.sum_const_zero]

/-- The attention over the window is the attention over the whole range. -/
theorem band_mean {N b : ℕ} {sk vk : Fin 768 → EReal} {sr vr : Fin N → EReal}
    (h1 : ∀ (k : Fin 768) (m : Fin N), k.val + b = m.val + 512 → sr m = sk k ∧ vr m = vk k)
    (h2 : ∀ m : Fin N, (∀ k : Fin 768, k.val + b ≠ m.val + 512) → sr m = ⊥)
    (h3 : ∀ k : Fin 768, (∀ m : Fin N, k.val + b ≠ m.val + 512) → sk k = ⊥)
    (hs : ∀ k, Score (sk k)) (h : ∃ k, ∃ m : Fin N, k.val + b = m.val + 512 ∧ ∃ r : ℝ, sk k = (r : EReal))
    (hvk : ∀ k, ∃ r : ℝ, vk k = (r : EReal)) (hvr : ∀ m, ∃ r : ℝ, vr m = (r : EReal)) : mean' sk vk = mean sr vr := by
  have hr : ∀ m, Score (sr m) := fun m => by
    by_cases h : ∃ k : Fin 768, k.val + b = m.val + 512
    · obtain ⟨k, hk⟩ := h
      rw [(h1 k m hk).1]
      exact hs k
    · exact .inl (h2 m fun k hk => h ⟨k, hk⟩)
  obtain ⟨k, m, hkm, r, e⟩ := h
  have hk' : ∃ k, ∃ r : ℝ, sk k = (r : EReal) := ⟨k, r, e⟩
  have hr' : ∃ m, ∃ r : ℝ, sr m = (r : EReal) := ⟨m, r, (h1 k m hkm).1.trans e⟩
  have et : top sr = top sk := by
    refine le_antisymm ((Finset.fold_max_le _).2 ⟨bot_le, fun m _ => ?_⟩) ((Finset.fold_max_le _).2 ⟨bot_le, fun k _ => ?_⟩)
    · by_cases h : ∃ k : Fin 768, k.val + b = m.val + 512
      · obtain ⟨k, hk⟩ := h
        rw [(h1 k m hk).1]
        exact le_top sk k
      · rw [h2 m fun k hk => h ⟨k, hk⟩]
        exact bot_le
    · by_cases h : ∃ m : Fin N, k.val + b = m.val + 512
      · obtain ⟨m, hm⟩ := h
        rw [← (h1 k m hm).1]
        exact le_top sr m
      · rw [h3 k fun m hm => h ⟨m, hm⟩]
        exact bot_le
  obtain ⟨t, ht⟩ := top_real hs hk'
  choose f hf using hvk
  choose g hg using hvr
  rw [mean'_real ht hs hk' f hf, mean_real (et.trans ht) hr hr' g hg]
  have e1 : ∑ m, weight t (sr m) = ∑ k, weight t (sk k) :=
    band_sum _ _ (fun k m h => by rw [(h1 k m h).1]) (fun m h => by rw [h2 m h, weight_bot]) (fun k h => by rw [h3 k h, weight_bot])
  have e2 : ∑ m, weight t (sr m) * g m = ∑ k, weight t (sk k) * f k :=
    band_sum _ _ (fun k m h => by
        have : (g m : EReal) = f k := by rw [← hg, ← hf, (h1 k m h).2]
        rw [(h1 k m h).1, EReal.coe_eq_coe_iff.1 this])
      (fun m h => by rw [h2 m h, weight_bot, zero_mul]) (fun k h => by rw [h3 k h, weight_bot, zero_mul])
  rw [e1, e2]

/-! ## Words -/

/-- The table entry of query `n` and key `m`. -/
def rel (n m : ℕ) : ℕ := min 256 (n + 128 - m)

/-- Whether query `n` sees key `m`: the key's chunk is the query's or one of the eight before it. -/
def sees (n m : ℕ) : Prop := m / 64 ≤ n / 64 ∧ n / 64 ≤ m / 64 + 8

instance (n m : ℕ) : Decidable (sees n m) := by unfold sees; infer_instance

theorem rel_word : ∀ a b : Fin 128, Dbias.clipWord (IntOp.subi (BitVec.ofNat 32 (128 * a.val + b.val)) 8192#32) = BitVec.ofNat 32 (rel (128 * a.val + b.val) 8192) := by
  decide +kernel

theorem chunk_word : ∀ a : Fin 128, ∀ b : Fin 64, IntOp.divsi .host (BitVec.ofNat 32 (64 * a.val + b.val)) 64#32 = BitVec.ofNat 32 a.val := by
  decide +kernel

theorem sees_word : ∀ a c : Fin 128, IntOp.andi (IntOp.cmpi CmpIPredicate.sge (IntOp.subi (BitVec.ofNat 32 a.val) (BitVec.ofNat 32 c.val)) 0#32)
    (IntOp.cmpi CmpIPredicate.sle (IntOp.subi (BitVec.ofNat 32 a.val) (BitVec.ofNat 32 c.val)) 8#32) = if c.val ≤ a.val ∧ a.val ≤ c.val + 8 then 1#1 else 0#1 := by
  decide +kernel

/-- A table entry is no negative word. -/
theorem rel_nonneg : ∀ r : Fin 257, Scalar.select (IntOp.cmpi CmpIPredicate.slt (BitVec.ofNat 32 r.val) 0#32)
    (IntOp.addi (BitVec.ofNat 32 r.val) 257#32) (BitVec.ofNat 32 r.val) = BitVec.ofNat 32 r.val := by
  decide +kernel

theorem rel_int : ∀ r : Fin 257, (BitVec.ofNat 32 r.val).toInt = (r.val : ℤ) := by
  decide +kernel

theorem rel_lt (n m : ℕ) : rel n m < 257 := by unfold rel; omega

/-- The table's word of a query and a key of the whole sequence. -/
theorem seq_word (n m : Fin 8192) : Dbias.clipWord (IntOp.subi (BitVec.ofNat 32 n.val) (BitVec.ofNat 32 m.val)) = BitVec.ofNat 32 (rel n.val m.val) := by
  have hn := n.isLt
  have hm := m.isLt
  have e := rel_word ⟨(n.val + 8192 - m.val) / 128, by omega⟩ ⟨(n.val + 8192 - m.val) % 128, by omega⟩
  simp only [Nat.div_add_mod] at e
  have e1 : IntOp.subi (BitVec.ofNat 32 (n.val + 8192 - m.val)) 8192#32 = IntOp.subi (BitVec.ofNat 32 n.val) (BitVec.ofNat 32 m.val) := by
    show BitVec.ofNat 32 (n.val + 8192 - m.val) - 8192#32 = BitVec.ofNat 32 n.val - BitVec.ofNat 32 m.val
    apply BitVec.eq_of_toNat_eq
    simp only [BitVec.toNat_sub, BitVec.toNat_ofNat]
    omega
  have e2 : rel (n.val + 8192 - m.val) 8192 = rel n.val m.val := by unfold rel; omega
  rw [← e1, e, e2]

/-- The word that says whether a query sees a key. -/
theorem seen_word (n m : Fin 8192) : IntOp.andi
    (IntOp.cmpi CmpIPredicate.sge (IntOp.subi (IntOp.divsi .host (BitVec.ofNat 32 n.val) 64#32) (IntOp.divsi .host (BitVec.ofNat 32 m.val) 64#32)) 0#32)
    (IntOp.cmpi CmpIPredicate.sle (IntOp.subi (IntOp.divsi .host (BitVec.ofNat 32 n.val) 64#32) (IntOp.divsi .host (BitVec.ofNat 32 m.val) 64#32)) 8#32)
    = if sees n.val m.val then 1#1 else 0#1 := by
  have hn := n.isLt
  have hm := m.isLt
  have en := chunk_word ⟨n.val / 64, by omega⟩ ⟨n.val % 64, by omega⟩
  have em := chunk_word ⟨m.val / 64, by omega⟩ ⟨m.val % 64, by omega⟩
  simp only [Nat.div_add_mod] at en em
  rw [en, em]
  exact sees_word ⟨n.val / 64, by omega⟩ ⟨m.val / 64, by omega⟩

theorem select_ite (p : Prop) [Decidable p] (x y : EReal) : (Scalar.select (if p then 1#1 else 0#1 : BitVec 1) x y : EReal) = if p then x else y := by
  by_cases h : p
  · rw [if_pos h, if_pos h]; rfl
  · rw [if_neg h, if_neg h]; rfl

/-! ## The attention -/

/-- The scores' scale. -/
def scale : EReal := Ideal.ofBits .f32 0x3E000000#32

/-- The score of query `n` and key `m` at head `h`. -/
def score (z : Fin 8192 → Fin 3072 → EReal) (b : Fin 16 → Fin 257 → EReal) (h : Fin 16) (n m : Fin 8192) : EReal :=
  if sees n.val m.val then (∑ d : Fin 64, z n ⟨h.val * 64 + d.val, by omega⟩ * scale * z m ⟨1024 + (h.val * 64 + d.val), by omega⟩) + b h ⟨rel n.val m.val, rel_lt _ _⟩ else ⊥

/-- The attention's result at token `n` and column `c`. -/
def attend (z : Fin 8192 → Fin 3072 → EReal) (b : Fin 16 → Fin 257 → EReal) (n : Fin 8192) (c : Fin 1024) : EReal :=
  mean (score z b ⟨c.val / 64, by omega⟩ n) fun m => z m ⟨2048 + c.val, by omega⟩

end Cert.Attn
-- ==== Proof.AttnBlock.lean ====
/-
  THE ATTENTION'S BODY: a tile of 256 queries against a window of 768 keys, two heads in each 128 columns.
-/
module

public import proofs.«01_k».proof.Defs
public import proofs.«01_k».proof.Proof.Gen.Kernel8Ideal.Value
public import proofs.«01_k».proof.Proof.Common
public import proofs.«01_k».proof.Proof.AttnMath
public import Idealize.ShloMosaic.Lib.Pipeline.ValueKit.Point

@[expose] public section

set_option maxRecDepth 16384

noncomputable section

open Idealize.ShloMosaic Idealize.ShloMosaic.TcCoe Idealize.SL.Sem

namespace Cert.Kernel8Ideal.Attn

open Cert.Kernel8Ideal Cert.Kernel8Ideal.Gen

/-- One head's scores: the products over the head's half of the columns, the relative bias added. -/
def scores (s : IVec S256x128 1) (q : FVec Ideal S256x128 .bf16) (k : FVec Ideal S768x128 .bf16) (b : Vec Ideal S1x256x768 .f32) : FVec Ideal S256x768 .f32 :=
  addf (matmul dot_S256x128_S768x128_S256x768_1_1_0_0_n_n none
      (select s (mulf q (broadcast S256x128 (Scalar.ofBits .bf16 0x3E00#16))) (broadcast S256x128 (Scalar.sitofp .bf16 0#32)))
      k (constant S256x768 .f32 0x00000000#32))
    (shapeCast S256x768 b shapeCasts_S1x256x768_S256x768)

/-- The scores with the keys before the sequence's start masked. -/
def masked (w : BitVec 32) (s : FVec Ideal S256x768 .f32) : FVec Ideal S256x768 .f32 :=
  select (cmpi .sge (addi (broadcast S256x768 (Scalar.muli (Scalar.subi w 2#32) 256#32)) (iota .tc S256x768 32 [1] iota_S256x768_d1_w32)) (broadcast S256x768 0#32)) s
    (broadcast S256x768 (Named.named (F := Ideal) κ "mask" (φ := .f32) 0xF149F2CA#32))

/-- The unnormalised weights. -/
def weights (s : FVec Ideal S256x768 .f32) : FVec Ideal S256x768 .f32 :=
  exp (subf s (broadcastTo S256x768 (shapeCast S256x1 (multiReduction .maximumf [1] S256 s 0xFF800000#32 reduces_S256x768_S256 (.inl rfl) rfl) shapeCasts_S256_S256x1) broadcasts_S256x1_S256x768))

/-- The weighted values, divided by the weights' sum. -/
def mix (e : FVec Ideal S256x768 .f32) (v : FVec Ideal S768x128 .bf16) : FVec Ideal S256x128 .f32 :=
  mulf (matmul dot_S256x768_S768x128_S256x128_1_0_0_1_n_n none (truncf .bf16 e bitsLt_bf16_f32) v (constant S256x128 .f32 0x00000000#32))
    (broadcastTo S256x128 (divf (broadcast S256x1 (Scalar.ofBits .f32 0x3F800000#32))
      (shapeCast S256x1 (multiReduction .add [1] S256 e 0x00000000#32 reduces_S256x768_S256 (.inl rfl) rfl) shapeCasts_S256_S256x1)) broadcasts_S256x1_S256x128)

/-- Two heads side by side. -/
def pair (s0 s1 : FVec Ideal S256x768 .f32) (v : FVec Ideal S768x128 .bf16) : FVec Ideal S256x128 .bf16 :=
  truncf .bf16 (select k0_pay1 (mix (weights s0) v) (mix (weights s1) v)) bitsLt_bf16_f32

/-- Three blocks of rows, one below the other. -/
def stack (a b c : Vec Ideal S256x128 .bf16) : FVec Ideal S768x128 .bf16 :=
  concatenate S768x128 0 [⟨S256x128, a⟩, ⟨S256x128, b⟩, ⟨S256x128, c⟩] concatenates_S256x128_S256x128_S256x128_S768x128_d0

theorem scores_apply (s : IVec S256x128 1) (q : FVec Ideal S256x128 .bf16) (k : FVec Ideal S768x128 .bf16) (b : Vec Ideal S1x256x768 .f32) (r : Fin 256) (j : Fin 768) :
    scores s q k b (ix2 r j)
      = ∑ x : Fin 128, Scalar.select (s (ix2 r x)) (q (ix2 r x) * Ideal.ofBits FTy.bf16 15872#16) (((0#32 : BitVec 32).toInt : ℝ) : EReal) * k (ix2 j x) + b (ix3 0 r j) := by
  pointwise [scores]

theorem first_apply (r : Fin 256) (j : Fin 128) : k0_pay1 (ix2 r j) = IntOp.cmpi CmpIPredicate.slt (BitVec.ofNat 32 j.val) 64#32 := by
  pointwise [k0_pay1]

theorem masked_apply (w : BitVec 32) (s : FVec Ideal S256x768 .f32) (r : Fin 256) (j : Fin 768) :
    masked w s (ix2 r j) = Scalar.select (IntOp.cmpi .sge (IntOp.addi (Scalar.muli (Scalar.subi w 2#32) 256#32) (BitVec.ofNat 32 j.val)) 0#32) (s (ix2 r j)) ⊥ := by
  rw [← (IdealRules.named_const.ideal_named_scalar _ _ _ _ rfl : Named.named (F := Ideal) κ "mask" (φ := .f32) 0xF149F2CA#32 = ⊥)]
  pointwise [masked]

theorem weights_apply (s : FVec Ideal S256x768 .f32) (r : Fin 256) (j : Fin 768) :
    weights s (ix2 r j) = Ideal.exp (s (ix2 r j) - Cert.Attn.top fun x => s (ix2 r x)) := by
  rw [Cert.Attn.top, ← Cert.Pool.bot_f32]
  pointwise [weights]

theorem mix_apply (s : FVec Ideal S256x768 .f32) (v : FVec Ideal S768x128 .bf16) (r : Fin 256) (j : Fin 128) :
    mix s v (ix2 r j) = (∑ x : Fin 768, s (ix2 r x) * v (ix2 x j)) * Ideal.div 1 (∑ x : Fin 768, s (ix2 r x)) := by
  pointwise [mix]

theorem stack_apply (a b c : Vec Ideal S256x128 .bf16) (r : Fin 768) (j : Fin 128) :
    stack a b c (ix2 r j) = if h : r.val < 256 then a (ix2 ⟨r.val, h⟩ j) else if h' : r.val - 256 < 256 then b (ix2 ⟨r.val - 256, h'⟩ j)
      else c (ix2 ⟨r.val - 256 - 256, by omega⟩ j) := by
  pointwise [stack]

/-- The columns of the second head. -/
abbrev second : IVec S256x128 1 := xori k0_pay1 (constantI S256x128 1 1#1)

theorem first_word : ∀ j : Fin 128, IntOp.cmpi CmpIPredicate.slt (BitVec.ofNat 32 j.val) 64#32 = if j.val < 64 then 1#1 else 0#1 := by decide +kernel

theorem first_eq (r : Fin 256) (j : Fin 128) : k0_pay1 (ix2 r j) = if j.val < 64 then 1#1 else 0#1 := (first_apply r j).trans (first_word j)

theorem second_eq (r : Fin 256) (j : Fin 128) : second (ix2 r j) = if j.val < 64 then 0#1 else 1#1 := by
  refine (congrArg (fun w : BitVec 1 => w ^^^ 1#1) (first_eq r j)).trans ?_
  split <;> rfl

theorem zero_int : ((((0#32 : BitVec 32).toInt : ℝ)) : EReal) = 0 := by simp

theorem scale_bf16 : Ideal.ofBits FTy.bf16 15872#16 = Cert.Attn.scale := by
  simp [Cert.Attn.scale, Ideal.ofBits, Ideal.ieee, -EReal.coe_mul]
  norm_num

theorem sum_first (f : Fin 128 → EReal) (h : ∀ x : Fin 128, 64 ≤ x.val → f x = 0) : ∑ x, f x = ∑ d : Fin 64, f ⟨d.val, by omega⟩ := by
  refine (Fin.sum_univ_add (a := 64) (b := 64) f).trans ?_
  refine (congrArg (_ + ·) (Finset.sum_eq_zero fun i _ => h _ (by simp))).trans ((add_zero _).trans rfl)

theorem sum_second (f : Fin 128 → EReal) (h : ∀ x : Fin 128, x.val < 64 → f x = 0) : ∑ x, f x = ∑ d : Fin 64, f ⟨64 + d.val, by omega⟩ := by
  refine (Fin.sum_univ_add (a := 64) (b := 64) f).trans ?_
  refine (congrArg (· + _) (Finset.sum_eq_zero fun i _ => h _ (by simp))).trans ((zero_add _).trans rfl)

theorem scores_first (q : FVec Ideal S256x128 .bf16) (k : FVec Ideal S768x128 .bf16) (b : Vec Ideal S1x256x768 .f32) (r : Fin 256) (j : Fin 768) :
    scores k0_pay1 q k b (ix2 r j)
      = ∑ d : Fin 64, q (ix2 r ⟨d.val, by omega⟩) * Cert.Attn.scale * k (ix2 j ⟨d.val, by omega⟩) + b (ix3 0 r j) := by
  rw [scores_apply, sum_first _ fun x hx => by rw [first_eq, if_neg (by omega)]; exact (congrArg (· * _) zero_int).trans (zero_mul _)]
  refine congrArg (· + _) (Finset.sum_congr rfl fun d _ => ?_)
  rw [first_eq, if_pos d.isLt, scale_bf16]
  rfl

theorem scores_second (q : FVec Ideal S256x128 .bf16) (k : FVec Ideal S768x128 .bf16) (b : Vec Ideal S1x256x768 .f32) (r : Fin 256) (j : Fin 768) :
    scores second q k b (ix2 r j)
      = ∑ d : Fin 64, q (ix2 r ⟨64 + d.val, by omega⟩) * Cert.Attn.scale * k (ix2 j ⟨64 + d.val, by omega⟩) + b (ix3 0 r j) := by
  rw [scores_apply, sum_second _ fun x hx => by rw [second_eq, if_pos hx]; exact (congrArg (· * _) zero_int).trans (zero_mul _)]
  refine congrArg (· + _) (Finset.sum_congr rfl fun d _ => ?_)
  rw [second_eq, if_neg (by simp), scale_bf16]
  rfl

theorem pair_apply (s0 s1 : FVec Ideal S256x768 .f32) (v : FVec Ideal S768x128 .bf16) (r : Fin 256) (j : Fin 128) :
    pair s0 s1 v (ix2 r j) = if j.val < 64 then Cert.Attn.mean' (fun k => s0 (ix2 r k)) (fun k => v (ix2 k j)) else Cert.Attn.mean' (fun k => s1 (ix2 r k)) (fun k => v (ix2 k j)) := by
  have e : ∀ s : FVec Ideal S256x768 .f32, mix (weights s) v (ix2 r j) = Cert.Attn.mean' (fun k => s (ix2 r k)) (fun k => v (ix2 k j)) := fun s => by
    rw [mix_apply]
    simp only [weights_apply]
    rfl
  rw [← e s0, ← e s1]
  refine (congrArg (fun w => Scalar.select w (mix (weights s0) v (ix2 r j)) (mix (weights s1) v (ix2 r j))) (first_eq r j)).trans ?_
  split <;> rfl

/-- A column of the window: three blocks of rows. -/
def window (a b c : Vec Ideal S256x512 .bf16) (k : Fin 768) (x : Fin 512) : EReal :=
  if h : k.val < 256 then a (ix2 ⟨k.val, h⟩ x) else if h' : k.val - 256 < 256 then b (ix2 ⟨k.val - 256, h'⟩ x)
    else c (ix2 ⟨k.val - 256 - 256, by omega⟩ x)

/-- The block's score of row `r` and the window's row `k` under head `h`. -/
def blockScore (q k0 k1 k2 : Vec Ideal S256x512 .bf16) (b : Vec Ideal S8x256x768 .f32) (h : Fin 8) (r : Fin 256) (k : Fin 768) : EReal :=
  ∑ d : Fin 64, (q (ix2 r ⟨h.val * 64 + d.val, by omega⟩) : EReal) * Cert.Attn.scale * window k0 k1 k2 k ⟨h.val * 64 + d.val, by omega⟩ + b (ix3 h r k)

theorem stack_cols (p : Fin 4) (x0 x1 x2 : Vec Ideal S256x512 .bf16) (a b c : Vec Ideal S256x128 .bf16)
    (ha : ∀ r j, a (ix2 r j) = x0 (ix2 r ⟨p.val * 128 + j.val, by omega⟩)) (hb : ∀ r j, b (ix2 r j) = x1 (ix2 r ⟨p.val * 128 + j.val, by omega⟩))
    (hc : ∀ r j, c (ix2 r j) = x2 (ix2 r ⟨p.val * 128 + j.val, by omega⟩)) (k : Fin 768) (j : Fin 128) :
    stack a b c (ix2 k j) = window x0 x1 x2 k ⟨p.val * 128 + j.val, by omega⟩ := by
  rw [stack_apply]
  simp only [ha, hb, hc]
  rfl

/-- One piece of the block: 128 columns, two heads. `f` is the mask or nothing. -/
theorem tile_apply (p : Fin 4) (f : FVec Ideal S256x768 .f32 → FVec Ideal S256x768 .f32) (F : Fin 768 → EReal → EReal)
    (hf : ∀ s r k, f s (ix2 r k) = F k (s (ix2 r k)))
    (q k0 k1 k2 v0 v1 v2 : Vec Ideal S256x512 .bf16) (b : Vec Ideal S8x256x768 .f32)
    (q' k0' k1' k2' v0' v1' v2' : Vec Ideal S256x128 .bf16) (b0 b1 : Vec Ideal S1x256x768 .f32)
    (hq : ∀ r j, q' (ix2 r j) = q (ix2 r ⟨p.val * 128 + j.val, by omega⟩))
    (hk0 : ∀ r j, k0' (ix2 r j) = k0 (ix2 r ⟨p.val * 128 + j.val, by omega⟩)) (hk1 : ∀ r j, k1' (ix2 r j) = k1 (ix2 r ⟨p.val * 128 + j.val, by omega⟩))
    (hk2 : ∀ r j, k2' (ix2 r j) = k2 (ix2 r ⟨p.val * 128 + j.val, by omega⟩))
    (hv0 : ∀ r j, v0' (ix2 r j) = v0 (ix2 r ⟨p.val * 128 + j.val, by omega⟩)) (hv1 : ∀ r j, v1' (ix2 r j) = v1 (ix2 r ⟨p.val * 128 + j.val, by omega⟩))
    (hv2 : ∀ r j, v2' (ix2 r j) = v2 (ix2 r ⟨p.val * 128 + j.val, by omega⟩))
    (hb0 : ∀ r k, b0 (ix3 0 r k) = b (ix3 ⟨2 * p.val, by omega⟩ r k)) (hb1 : ∀ r k, b1 (ix3 0 r k) = b (ix3 ⟨2 * p.val + 1, by omega⟩ r k))
    (r : Fin 256) (j : Fin 128) (C : Fin 512) (hC : C.val = p.val * 128 + j.val) :
    pair (f (scores k0_pay1 q' (stack k0' k1' k2') b0)) (f (scores second q' (stack k0' k1' k2') b1)) (stack v0' v1' v2') (ix2 r j)
      = Cert.Attn.mean' (fun k => F k (blockScore q k0 k1 k2 b ⟨C.val / 64, by omega⟩ r k)) (fun k => window v0 v1 v2 k C) := by
  obtain ⟨C, lt⟩ := C
  change C = _ at hC
  subst hC
  rw [pair_apply]
  simp only [hf, stack_cols p v0 v1 v2 _ _ _ hv0 hv1 hv2, scores_first, scores_second, stack_cols p k0 k1 k2 _ _ _ hk0 hk1 hk2, hq, hb0, hb1]
  split
  · refine congrArg (fun s => Cert.Attn.mean' s _) (funext fun k => congrArg (F k) ?_)
    rw [show (⟨(p.val * 128 + j.val) / 64, by omega⟩ : Fin 8) = ⟨2 * p.val, by omega⟩ from Fin.ext (by show (p.val * 128 + j.val) / 64 = 2 * p.val; omega)]
    refine congrArg (· + _) (Finset.sum_congr rfl fun d _ => ?_)
    rw [show (⟨p.val * 128 + d.val, by omega⟩ : Fin 512) = ⟨2 * p.val * 64 + d.val, by omega⟩ from Fin.ext (by show p.val * 128 + d.val = 2 * p.val * 64 + d.val; omega)]
  · refine congrArg (fun s => Cert.Attn.mean' s _) (funext fun k => congrArg (F k) ?_)
    rw [show (⟨(p.val * 128 + j.val) / 64, by omega⟩ : Fin 8) = ⟨2 * p.val + 1, by omega⟩ from Fin.ext (by show (p.val * 128 + j.val) / 64 = 2 * p.val + 1; omega)]
    refine congrArg (· + _) (Finset.sum_congr rfl fun d _ => ?_)
    rw [show (⟨p.val * 128 + (64 + d.val), by omega⟩ : Fin 512) = ⟨(2 * p.val + 1) * 64 + d.val, by omega⟩ from Fin.ext (by show p.val * 128 + (64 + d.val) = (2 * p.val + 1) * 64 + d.val; omega)]

end Cert.Kernel8Ideal.Attn
-- ==== Proof.AttnHost.lean ====
/-
  THE ATTENTION'S BIAS TILE: what the host computes before the launch, read at an index.
-/
module

public import proofs.«01_k».proof.Proof.AttnBlock
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel8Ideal.Attn

open Cert.Kernel8Ideal Cert.Kernel8Ideal.Gen Cert.Attn

variable (m : ∀ ℓ : Loc nD τ sig, Buf (Elt Ideal) ℓ)

/-- The tile's query and key numbers, the distance of a pair and its clipped value. -/
def queries : IVec S256x1 32 := broadcastInDim S256x1 ![0] bcast_S256_S256x1_0 (iotaInDim S256 32 0)
def keys : IVec S1x768 32 := broadcastInDim S1x768 ![1] bcast_S768_S1x768_1 (iotaInDim S768 32 0)
def far : IVec S256x768 32 :=
  subi (broadcastInDim S256x768 ![0, 1] bcast_S256x1_S256x768_0_1 (addi queries (broadcastInDim S256x1 ![] bcast_S_S256x1 (constantI S_ 32 512#32))))
    (broadcastInDim S256x768 ![0, 1] bcast_S1x768_S256x768_0_1 keys)
def clipped : IVec S256x768 32 :=
  addi (minsi (broadcastInDim S256x768 ![] bcast_S_S256x768 (constantI S_ 32 128#32)) (maxsi (broadcastInDim S256x768 ![] bcast_S_S256x768 (constantI S_ 32 4294967168#32)) far))
    (broadcastInDim S256x768 ![] bcast_S_S256x768 (constantI S_ 32 128#32))

/-- The table's entry of a pair. -/
def columns : IVec S256x768x1 32 :=
  broadcastInDim S256x768x1 ![0, 1] bcast_S256x768_S256x768x1_0_1
    (select (cmpi .slt clipped (broadcastInDim S256x768 ![] bcast_S_S256x768 (constantI S_ 32 0#32)))
      (addi clipped (broadcastInDim S256x768 ![] bcast_S_S256x768 (constantI S_ 32 257#32))) clipped)

/-- How many chunks a key of the window lies before its last, and which pairs are seen. -/
def chunks : IVec S256x768 32 :=
  subi (broadcastInDim S256x768 ![0, 1] bcast_S1x768_S256x768_0_1 (Host.divsi keys (broadcastInDim S1x768 ![] bcast_S_S1x768 (constantI S_ 32 64#32))))
    (broadcastInDim S256x768 ![0, 1] bcast_S256x1_S256x768_0_1 (Host.divsi queries (broadcastInDim S256x1 ![] bcast_S_S256x1 (constantI S_ 32 64#32))))
def seen : IVec S256x768 1 :=
  andi (cmpi .sge chunks (broadcastInDim S256x768 ![] bcast_S_S256x768 (constantI S_ 32 0#32)))
    (cmpi .sle chunks (broadcastInDim S256x768 ![] bcast_S_S256x768 (constantI S_ 32 8#32)))

/-- The bias of each head's tile. -/
def biasTile (x : FVec Ideal S16x257 .f32) : FVec Ideal S16x256x768 .f32 :=
  select (broadcastInDim S16x256x768 ![1, 2] bcast_S256x768_S16x256x768_1_2 seen)
    (Host.gather gather_S16x257_S256x768x1_S16x256x768_0_1_n_n_1_2_161 x columns)
    (broadcastInDim S16x256x768 ![] bcast_S_S16x256x768 (constant S_ .f32 0xFF800000#32))

theorem tile_eq (c : Dev nD) : V m c main_v31 = biasTile (m ((c : Thread nD τ).loc main_arg1)) := by
  show StableHlo.after [hostOps0, hostOps0_1, hostOps0_2, hostOps0_3].flatten (fun b => m (c, b)) (Proc.tc.devRef main_v31) = _
  simp only [hostOps0, hostOps0_1, hostOps0_2, hostOps0_3, List.flatten_cons, List.flatten_nil, List.cons_append, List.nil_append, List.append_nil]
  after_reads_simp
  simp only [StableHlo.TRef.toBuf, StableHlo.TRef.ofBuf, cast_eq, id_eq]
  rfl

theorem far_word (q : Fin 256) (k : Fin 768) : clipped (ix2 q k) = BitVec.ofNat 32 (rel (q.val + 512) k.val) := by
  rw [← seq_word ⟨q.val + 512, by omega⟩ ⟨k.val, by omega⟩]
  unfold Dbias.clipWord
  have e : IntOp.addi (BitVec.ofNat 32 q.val) 512#32 = BitVec.ofNat 32 (q.val + 512) := (BitVec.ofNat_add ..).symm
  rw [← e]
  pointwise [clipped, far, queries, keys]

theorem columns_apply (q : Fin 256) (k : Fin 768) : columns (ix3 q k 0) = BitVec.ofNat 32 (rel (q.val + 512) k.val) := by
  have e := rel_nonneg ⟨rel (q.val + 512) k.val, rel_lt _ _⟩
  simp only at e
  rw [← e, ← far_word]
  pointwise [columns]

theorem seen_apply (q : Fin 256) (k : Fin 768) : seen (ix2 q k) = if sees k.val q.val then 1#1 else 0#1 := by
  rw [← seen_word ⟨k.val, by omega⟩ ⟨q.val, by omega⟩]
  pointwise [seen, chunks, keys, queries]

theorem reads_row (h : Fin 16) (q : Fin 256) (k : Fin 768) (y : IVec S256x768x1 32) :
    (gather_S16x257_S256x768x1_S16x256x768_0_1_n_n_1_2_161.operandIdx (ix3 h q k : S16x256x768.Idx) y 0).val = h.val := by
  show 0 + 0 + h.val = h.val
  omega

theorem reads_col (h : Fin 16) (q : Fin 256) (k : Fin 768) (y : IVec S256x768x1 32) :
    (gather_S16x257_S256x768x1_S16x256x768_0_1_n_n_1_2_161.operandIdx (ix3 h q k : S16x256x768.Idx) y 1).val = min (y (ix3 q k 0)).toInt.toNat 256 := by
  show min (y _).toInt.toNat 256 + 0 + 0 = _
  refine congrArg (fun w : BitVec 32 => min w.toInt.toNat 256) (congrArg y ?_)
  funext a
  match a with
  | ⟨0, _⟩ => rfl
  | ⟨1, _⟩ => rfl
  | ⟨2, _⟩ => rfl

/-- The bias of a pair of the tile: the table's entry where the key is seen. -/
theorem biasTile_apply (x : FVec Ideal S16x257 .f32) (h : Fin 16) (q : Fin 256) (k : Fin 768) :
    biasTile x (ix3 h q k) = if sees k.val q.val then x (ix2 h ⟨rel (q.val + 512) k.val, rel_lt _ _⟩) else (⊥ : EReal) := by
  have two : ∀ p : Fin S16x257.rank → Prop, (∀ a, p a) ↔ p 0 ∧ p 1 := fun _ => Fin.forall_fin_two
  have e := rel_int ⟨rel (q.val + 512) k.val, rel_lt _ _⟩
  have l := rel_lt (q.val + 512) k.val
  have g : Host.gather gather_S16x257_S256x768x1_S16x256x768_0_1_n_n_1_2_161 x columns (ix3 h q k) = x (ix2 h ⟨rel (q.val + 512) k.val, l⟩) := by
    show x _ = x _
    congr 1
    refine funext ((two _).2 ⟨Fin.ext ?_, Fin.ext ?_⟩)
    · rw [reads_row]; rfl
    · rw [reads_col, columns_apply, e]
      show min ((rel (q.val + 512) k.val : ℤ).toNat) 256 = rel (q.val + 512) k.val
      omega
  refine (congrArg₂ (fun w y => (Scalar.select w y (Ideal.ofBits .f32 0xFF800000#32) : EReal)) (seen_apply q k) g).trans ?_
  rw [select_ite, Pool.bot_f32]

end Cert.Kernel8Ideal.Attn
-- ==== Proof.AttnRef.lean ====
/-
  THE ATTENTION OVER THE WHOLE SEQUENCE, read at an index of its result.
-/
module

public import proofs.«01_k».proof.Defs
public import proofs.«01_k».proof.Proof.Gen.Reference8Ideal.Run
public import proofs.«01_k».proof.Proof.Gen.Reference8Ideal.Read
public import proofs.«01_k».proof.Proof.AttnMath
public import Idealize.ShloMosaic.Lib.Pipeline.ValueKit.Point

@[expose] public section

set_option maxRecDepth 16384

noncomputable section

open Idealize.ShloMosaic Idealize.ShloMosaic.TcCoe Idealize.SL.Sem

namespace Cert.Reference8Ideal.Attn

open Cert.Reference8Ideal Cert.Reference8Ideal.Gen Cert.Reference8Ideal.Read Idealize.ShloMosaic.StableHlo

open Cert.Attn

variable (x0 : FVec Ideal S8192x3072 .bf16) (x1 : FVec Ideal S16x257 .f32)

/-- The launched queries, keys and values, and the launched table. -/
def Z (n : Fin 8192) (k : Fin 3072) : EReal := x0 (ix2 n k)
def B (h : Fin 16) (r : Fin 257) : EReal := x1 (ix2 h r)

/-- The reference's index word of a pair. -/
theorem word_apply (n m : Fin 8192) : val_main_v25 (F := Ideal) (ix3 n m 0) = BitVec.ofNat 32 (rel n.val m.val) := by
  have e := rel_nonneg ⟨rel n.val m.val, rel_lt _ _⟩
  simp only at e
  rw [← e, ← seq_word]
  unfold Dbias.clipWord
  pointwise [val_main_v25, val_main_v24, val_main_v23, val_main_v22, val_main_v21, val_main_v20, val_main_v16, val_main_v15, val_main_v14, val_main_v13, val_main_v12, val_main_v11, val_main_v10, val_main_v9, val_main_v8, val_main_v7, val_main_c, val_main_c_0, val_main_c_1, val_main_c_2, val_main_c_3, val_main_call0_v4, val_main_call0_v3, val_main_call0_v2, val_main_call0_v1, val_main_call0_v0]
  rfl

/-- The row and the column that the gather reads. -/
theorem reads_row (h : Fin 16) (n m : Fin 8192) (y : IVec S8192x8192x1 32) :
    (gather_S16x257_S8192x8192x1_S16x8192x8192_0_1_n_n_1_2_161.operandIdx (ix3 h n m : S16x8192x8192.Idx) y 0).val = h.val := by
  show 0 + 0 + h.val = h.val
  omega

theorem reads_col (h : Fin 16) (n m : Fin 8192) (y : IVec S8192x8192x1 32) :
    (gather_S16x257_S8192x8192x1_S16x8192x8192_0_1_n_n_1_2_161.operandIdx (ix3 h n m : S16x8192x8192.Idx) y 1).val = min (y (ix3 n m 0)).toInt.toNat 256 := by
  show min (y _).toInt.toNat 256 + 0 + 0 = _
  refine congrArg (fun w : BitVec 32 => min w.toInt.toNat 256) (congrArg y ?_)
  funext a
  match a with
  | ⟨0, _⟩ => rfl
  | ⟨1, _⟩ => rfl
  | ⟨2, _⟩ => rfl

/-- The relative bias of a pair. -/
theorem bias_apply (h : Fin 16) (n m : Fin 8192) : val_main_v26 (F := Ideal) x1 (ix3 h n m) = B x1 h ⟨rel n.val m.val, rel_lt _ _⟩ := by
  show x1 _ = x1 _
  congr 1
  have two : ∀ p : Fin S16x257.rank → Prop, (∀ a, p a) ↔ p 0 ∧ p 1 := fun _ => Fin.forall_fin_two
  have e := rel_int ⟨rel n.val m.val, rel_lt _ _⟩
  have l := rel_lt n.val m.val
  refine funext ((two _).2 ⟨Fin.ext ?_, Fin.ext ?_⟩)
  · rw [reads_row]; rfl
  · rw [reads_col, word_apply, e]
    show min ((rel n.val m.val : ℤ).toNat) 256 = rel n.val m.val
    omega

/-- The products of the queries and the keys. -/
theorem dot_apply (h : Fin 16) (n m : Fin 8192) : val_main_v19 (F := Ideal) x0 (ix3 h n m)
    = ∑ d : Fin 64, Z x0 n ⟨h.val * 64 + d.val, by omega⟩ * scale * Z x0 m ⟨1024 + (h.val * 64 + d.val), by omega⟩ := by
  rw [val_main_v19_apply]
  refine Finset.sum_congr rfl fun d _ => ?_
  rw [val_main_v18_apply, val_main_v4_apply, val_main_v1_apply, val_main_v0_apply, val_main_v5_apply, val_main_v2_apply, val_main_v0_apply, val_main_v17_apply, val_main_cst_apply]
  show x0 _ * scale * x0 _ = x0 _ * scale * x0 _
  have := n.isLt
  have := m.isLt
  have := h.isLt
  have := d.isLt
  congr 2
  · congr 1
    refine (eq_ix2 _).trans (congrArg₂ ix2 (Fin.ext ?_) (Fin.ext ?_))
    · show ((n.val * 16 + h.val) * 64 + d.val) / 1024 = n.val
      omega
    · show ((n.val * 16 + h.val) * 64 + d.val) % 1024 = h.val * 64 + d.val
      omega
  · refine (eq_ix2 _).trans (congrArg₂ ix2 (Fin.ext ?_) (Fin.ext ?_))
    · show ((m.val * 16 + h.val) * 64 + d.val) / 1024 = m.val
      omega
    · show 1024 + ((m.val * 16 + h.val) * 64 + d.val) % 1024 = 1024 + (h.val * 64 + d.val)
      omega

theorem score_apply (h : Fin 16) (n m : Fin 8192) : val_main_v40 (F := Ideal) x0 x1 (ix3 h n m) = score (Z x0) (B x1) h n m := by
  pointwise [val_main_v40, val_main_call1_v1, val_main_call1_v2, val_main_call1_v0, val_main_cst_8, val_main_v39, val_main_v38, val_main_v37, val_main_v36, val_main_v35, val_main_c_7, val_main_c_6, val_main_c_5, val_main_c_4, val_main_v34, val_main_v33, val_main_v32, val_main_v31, val_main_v30, val_main_v29, val_main_v28, val_main_v27, val_main_v10, val_main_v9, val_main_v8, val_main_v7]
  rw [seen_word, select_ite, dot_apply, bias_apply]
  unfold score
  refine if_congr Iff.rfl rfl ?_
  exact Pool.bot_f32

/-- The greatest score of a query: the reduction's and the greater of it and minus infinity. -/
theorem greatest (y : FVec Ideal S16x8192x8192 .f32) (z : FVec Ideal S_ .f32) (hz : z (Shape.Idx.first h_S_) = (⊥ : EReal)) (h : Fin 16) (n : Fin 8192) :
    Host.reduce FloatOps.maximumf y z reducesTo_S16x8192x8192_S16x8192_d2 h_S_ (ix2 h n) = top fun m => (y (ix3 h n m) : EReal) := by
  pointwise
  rw [hz]
  rfl

theorem top_apply (h : Fin 16) (n m : Fin 8192) : val_main_v45 (F := Ideal) x0 x1 (ix3 h n m) = top (score (Z x0) (B x1) h n) := by
  rw [val_main_v45_apply, val_main_v44_apply, val_main_v43_apply, val_main_v42_apply, val_main_cst_10_apply]
  have e : idx_main_v44 (idx_main_v45 (ix3 h n m)) = ix2 h n := eq_ix2 _
  rw [e]
  have g : val_main_v41 (F := Ideal) x0 x1 (ix2 h n) = top fun m => (val_main_v40 (F := Ideal) x0 x1 (ix3 h n m) : EReal) := greatest _ _ Pool.bot_f32 h n
  rw [g]
  show max (Ideal.ofBits .f32 0xFF800000#32) _ = _
  rw [Pool.bot_f32, max_eq_right bot_le]
  exact congrArg top (funext fun m => score_apply x0 x1 h n m)

theorem exp_apply (h : Fin 16) (n m : Fin 8192) : val_main_v47 (F := Ideal) x0 x1 (ix3 h n m) = Ideal.exp (score (Z x0) (B x1) h n m - top (score (Z x0) (B x1) h n)) := by
  rw [val_main_v47_apply, val_main_v46_apply, score_apply, top_apply]
  rfl

theorem weight_apply (h : Fin 16) (n m : Fin 8192) : val_main_v51 (F := Ideal) x0 x1 (ix3 h n m)
    = Ideal.div (Ideal.exp (score (Z x0) (B x1) h n m - top (score (Z x0) (B x1) h n))) (∑ j, Ideal.exp (score (Z x0) (B x1) h n j - top (score (Z x0) (B x1) h n))) := by
  rw [val_main_v51_apply, exp_apply, val_main_v50_apply, val_main_v49_apply, val_main_v48_apply, val_main_cst_11_apply]
  have e : ∀ k, idx_main_v48 (idx_main_v49 (idx_main_v50 (ix3 h n m))) k = ix3 h n k := fun k => eq_ix3 _
  have z : (FloatOps.ofBits .f32 0x00000000#32 : Ideal .f32) = (0 : EReal) := by simp
  simp only [e, exp_apply]
  rw [z, zero_add]
  rfl

/-- The reference's result. -/
theorem out_apply (n : Fin 8192) (c : Fin 1024) : val_main_v55 (F := Ideal) x0 x1 (ix2 n c) = attend (Z x0) (B x1) n c := by
  have hn := n.isLt
  have hc := c.isLt
  have e : idx_main_v53 (idx_main_v54 (ix2 n c)) = ix3 ⟨c.val / 64, by omega⟩ ⟨c.val % 64, by omega⟩ n := by
    refine (eq_ix3 _).trans ?_
    congr 1
    · refine Fin.ext ?_
      show (n.val * 1024 + c.val) / 64 % 16 = c.val / 64
      omega
    · refine Fin.ext ?_
      show (n.val * 1024 + c.val) % 64 = c.val % 64
      omega
    · refine Fin.ext ?_
      show (n.val * 1024 + c.val) / 1024 = n.val
      omega
  rw [val_main_v55_apply, val_main_v54_apply, val_main_v53_apply, e, val_main_v52_apply]
  unfold attend mean
  refine Finset.sum_congr rfl fun m _ => ?_
  have e' : ridx_main_v52 (ix3 ⟨c.val / 64, by omega⟩ ⟨c.val % 64, by omega⟩ n) m = ix3 ⟨c.val / 64, by omega⟩ n m := eq_ix3 _
  rw [e', weight_apply, mul_comm, val_main_v6_apply, val_main_v3_apply, val_main_v0_apply]
  congr 1
  have hm := m.isLt
  show x0 _ = x0 _
  congr 1
  refine (eq_ix2 _).trans (congrArg₂ ix2 (Fin.ext ?_) (Fin.ext ?_))
  · show ((m.val * 16 + c.val / 64) * 64 + c.val % 64) / 1024 = m.val
    omega
  · show 2048 + ((m.val * 16 + c.val / 64) * 64 + c.val % 64) % 1024 = 2048 + c.val
    omega

/-- The reference's run: the result at the attention, the arguments unchanged. -/
theorem run (m : (ℓ : Loc nD τ sig) → Buf (Elt Ideal) ℓ) (ρ : Dev nD → PrngReg) (a0 : Dev nD → FVec Ideal S8192x3072 .bf16) (a1 : Dev nD → FVec Ideal S16x257 .f32)
    (h0 : ∀ c : Dev nD, m ((c.tc : Thread nD τ).loc main_arg0) = a0 c) (h1 : ∀ c : Dev nD, m ((c.tc : Thread nD τ).loc main_arg1) = a1 c) :
    θ_run defs (onTc (τ := τ) (main (F := Ideal))) ⟨m, fun _ => 0, ρ⟩ fun r => ∀ c : Dev nD,
      r.2.mem ((c.tc : Thread nD τ).loc main_v55) = (fun i => attend (Z (a0 c)) (B (a1 c)) (i 0) (i 1) : FVec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((Read.val_main_v55_eq _ _).trans ((congrArg₂ (val_main_v55 (F := Ideal)) (h0 c) (h1 c)).trans (Common.ext2 fun n k => out_apply _ _ n k))), (h c).2⟩)
    (Value.run m ρ)

end Cert.Reference8Ideal.Attn
-- ==== Proof.AttnRun.lean ====
/-
  THE ATTENTION'S LAUNCH: what each grid point reads and leaves in its block.
-/
module

public import proofs.«01_k».proof.Proof.AttnBlock
public import proofs.«01_k».proof.Proof.AttnHost
public import proofs.«01_k».proof.Proof.AttnRef

@[expose] public section

set_option maxRecDepth 16384

noncomputable section

open Idealize.ShloMosaic Idealize.ShloMosaic.TcCoe Idealize.SL.Sem
open Idealize.ShloMosaic.Pipeline (Dat)

namespace Cert.Kernel8Ideal.Attn

open Cert.Kernel8Ideal Cert.Kernel8Ideal.Gen Cert.Attn

variable (m : ∀ ℓ : Loc nD τ sig, Buf (Elt Ideal) ℓ)

/-- A load of 128 columns. -/
theorem ld_cols (v : Vec Ideal S256x512 .bf16) (p : Fin 4) (o : ℕ) (ho : o = p.val * 128) (inb) (r : Fin 256) (j : Fin 128) :
    View.ld v (Rect.unit (s := S256x512) ![0, o] ![256, 128] inb) (ix2 r j) = v (ix2 r ⟨p.val * 128 + j.val, by omega⟩) :=
  View.ld_unit_apply_of _ _ _ _ _ (ix2 r ⟨p.val * 128 + j.val, by omega⟩) (by
    subst ho; intro a; match a with | ⟨0, _⟩ => exact (Nat.zero_add _).symm | ⟨1, _⟩ => rfl)

/-- A load of one head's tile. -/
theorem ld_head (v : Vec Ideal S8x256x768 .f32) (h : Fin 8) (o : ℕ) (ho : o = h.val) (inb) (r : Fin 256) (k : Fin 768) :
    View.ld v (Rect.unit (s := S8x256x768) ![o, 0, 0] ![1, 256, 768] inb) (ix3 0 r k) = v (ix3 h r k) :=
  View.ld_unit_apply_of _ _ _ _ _ (ix3 h r k) (by
    subst ho; intro a; match a with | ⟨0, _⟩ => rfl | ⟨1, _⟩ => exact (Nat.zero_add _).symm | ⟨2, _⟩ => exact (Nat.zero_add _).symm)

/-- What a point leaves at row `r` and column `C` of its block. -/
def blockOut (F : Fin 768 → EReal → EReal) (q k0 k1 k2 v0 v1 v2 : Vec Ideal S256x512 .bf16) (b : Vec Ideal S8x256x768 .f32) (r : Fin 256) (C : Fin 512) : EReal :=
  Cert.Attn.mean' (fun k => F k (blockScore q k0 k1 k2 b ⟨C.val / 64, by omega⟩ r k)) (fun k => window v0 v1 v2 k C)

theorem piece (f : FVec Ideal S256x768 .f32 → FVec Ideal S256x768 .f32) (F : Fin 768 → EReal → EReal) (hf : ∀ s r k, f s (ix2 r k) = F k (s (ix2 r k)))
    (p : Fin 4) (o : ℕ) (ho : o = p.val * 128) (a a' : ℕ) (ha : a = 2 * p.val) (ha' : a' = 2 * p.val + 1)
    (q k0 k1 k2 v0 v1 v2 : Vec Ideal S256x512 .bf16) (b : Vec Ideal S8x256x768 .f32) (inb inb0 inb1) (i : S256x128.Idx) (j : S256x512.Idx)
    (h0 : (j 0).val = (i 0).val) (h1 : (j 1).val = o + (i 1).val) :
    pair (f (scores k0_pay1 (View.ld q (Rect.unit (s := S256x512) ![0, o] ![256, 128] inb))
            (stack (View.ld k0 (Rect.unit (s := S256x512) ![0, o] ![256, 128] inb)) (View.ld k1 (Rect.unit (s := S256x512) ![0, o] ![256, 128] inb)) (View.ld k2 (Rect.unit (s := S256x512) ![0, o] ![256, 128] inb)))
            (View.ld b (Rect.unit (s := S8x256x768) ![a, 0, 0] ![1, 256, 768] inb0))))
        (f (scores second (View.ld q (Rect.unit (s := S256x512) ![0, o] ![256, 128] inb))
            (stack (View.ld k0 (Rect.unit (s := S256x512) ![0, o] ![256, 128] inb)) (View.ld k1 (Rect.unit (s := S256x512) ![0, o] ![256, 128] inb)) (View.ld k2 (Rect.unit (s := S256x512) ![0, o] ![256, 128] inb)))
            (View.ld b (Rect.unit (s := S8x256x768) ![a', 0, 0] ![1, 256, 768] inb1))))
        (stack (View.ld v0 (Rect.unit (s := S256x512) ![0, o] ![256, 128] inb)) (View.ld v1 (Rect.unit (s := S256x512) ![0, o] ![256, 128] inb)) (View.ld v2 (Rect.unit (s := S256x512) ![0, o] ![256, 128] inb))) i
      = blockOut F q k0 k1 k2 v0 v1 v2 b (j 0) (j 1) := by
  rw [eq_ix2 i]
  refine (tile_apply p f F hf q k0 k1 k2 v0 v1 v2 b _ _ _ _ _ _ _ _ _ (ld_cols q p o ho inb) (ld_cols k0 p o ho inb) (ld_cols k1 p o ho inb) (ld_cols k2 p o ho inb)
    (ld_cols v0 p o ho inb) (ld_cols v1 p o ho inb) (ld_cols v2 p o ho inb) (ld_head b ⟨2 * p.val, by omega⟩ a ha inb0) (ld_head b ⟨2 * p.val + 1, by omega⟩ a' ha' inb1)
    (i 0) (i 1) (j 1) (by omega)).trans ?_
  rw [show i 0 = j 0 from Fin.ext h0.symm]
  rfl

/-- The mask of grid row `w`. -/
def cut (w : BitVec 32) (k : Fin 768) (x : EReal) : EReal :=
  Scalar.select (IntOp.cmpi .sge (IntOp.addi (Scalar.muli (Scalar.subi w 2#32) 256#32) (BitVec.ofNat 32 k.val)) 0#32) x ⊥

theorem cut_masked (w : BitVec 32) (s : FVec Ideal S256x768 .f32) (r : Fin 256) (k : Fin 768) : masked w s (ix2 r k) = cut w k (s (ix2 r k)) :=
  masked_apply w s r k

theorem outs_A (c : Dev nD) (t : Fin cfg0.N) (h : t.val % 32 ≤ 1) (j : S256x512.Idx) :
    outsAt0 m c t.val t.isLt j = (blockOut (cut (BitVec.ofNat 32 (grid0.coords t 1).val)) (iblk m c 0 t) (iblk m c 1 t) (iblk m c 2 t) (iblk m c 3 t) (iblk m c 4 t) (iblk m c 5 t) (iblk m c 6 t) (iblk m c 7 t) (j 0) (j 1) : EReal) := by
  rw [outsAt0_A m c t h (by omega)]; frame_out
  canon_tiles i hi
  · exact piece (masked _) _ (cut_masked _) 3 384 rfl 6 7 rfl rfl _ _ _ _ _ _ _ _ _ _ _ i j hi0 hi1
  · exact piece (masked _) _ (cut_masked _) 2 256 rfl 4 5 rfl rfl _ _ _ _ _ _ _ _ _ _ _ i j hi0 hi1
  · exact piece (masked _) _ (cut_masked _) 1 128 rfl 2 3 rfl rfl _ _ _ _ _ _ _ _ _ _ _ i j hi0 hi1
  · exact piece (masked _) _ (cut_masked _) 0 0 rfl 0 1 rfl rfl _ _ _ _ _ _ _ _ _ _ _ i j hi0 (hi1.trans (Nat.zero_add _).symm)

theorem outs_B (c : Dev nD) (t : Fin cfg0.N) (h : ¬ t.val % 32 ≤ 1) (j : S256x512.Idx) :
    outsAt0 m c t.val t.isLt j = (blockOut (fun _ x => x) (iblk m c 0 t) (iblk m c 1 t) (iblk m c 2 t) (iblk m c 3 t) (iblk m c 4 t) (iblk m c 5 t) (iblk m c 6 t) (iblk m c 7 t) (j 0) (j 1) : EReal) := by
  rw [outsAt0_B m c t h (by omega)]; frame_out
  canon_tiles i hi
  · exact piece (fun s => s) _ (fun _ _ _ => rfl) 3 384 rfl 6 7 rfl rfl _ _ _ _ _ _ _ _ _ _ _ i j hi0 hi1
  · exact piece (fun s => s) _ (fun _ _ _ => rfl) 2 256 rfl 4 5 rfl rfl _ _ _ _ _ _ _ _ _ _ _ i j hi0 hi1
  · exact piece (fun s => s) _ (fun _ _ _ => rfl) 1 128 rfl 2 3 rfl rfl _ _ _ _ _ _ _ _ _ _ _ i j hi0 hi1
  · exact piece (fun s => s) _ (fun _ _ _ => rfl) 0 0 rfl 0 1 rfl rfl _ _ _ _ _ _ _ _ _ _ _ i j hi0 (hi1.trans (Nat.zero_add _).symm)

theorem index_in : ∀ t : Fin cfg0.N, win0_0.index t = ![t.val % 32, t.val / 32] ∧ win0_1.index t = ![t.val % 32 - 2, 2 + t.val / 32]
    ∧ win0_2.index t = ![t.val % 32 - 1, 2 + t.val / 32] ∧ win0_3.index t = ![t.val % 32, 2 + t.val / 32]
    ∧ win0_4.index t = ![t.val % 32 - 2, 4 + t.val / 32] ∧ win0_5.index t = ![t.val % 32 - 1, 4 + t.val / 32] ∧ win0_6.index t = ![t.val % 32, 4 + t.val / 32]
    ∧ win0_7.index t = ![t.val / 32, 0, 0] ∧ win0_8.index t = ![t.val % 32, t.val / 32] :=
  (by decide +kernel : ∀ t : Fin grid0.N, win0_0.index t = ![t.val % 32, t.val / 32] ∧ win0_1.index t = ![t.val % 32 - 2, 2 + t.val / 32]
    ∧ win0_2.index t = ![t.val % 32 - 1, 2 + t.val / 32] ∧ win0_3.index t = ![t.val % 32, 2 + t.val / 32]
    ∧ win0_4.index t = ![t.val % 32 - 2, 4 + t.val / 32] ∧ win0_5.index t = ![t.val % 32 - 1, 4 + t.val / 32] ∧ win0_6.index t = ![t.val % 32, 4 + t.val / 32]
    ∧ win0_7.index t = ![t.val / 32, 0, 0] ∧ win0_8.index t = ![t.val % 32, t.val / 32])

theorem coord : ∀ t : Fin cfg0.N, (grid0.coords t 1).val = t.val % 32 :=
  (by decide +kernel : ∀ t : Fin grid0.N, (grid0.coords t 1).val = t.val % 32)

theorem t_lt (t : Fin cfg0.N) : t.val < 64 := by
  have := t.isLt; have : cfg0.N = 64 := N_0; omega

/-- The launched queries, keys and values, and the launched table. -/
def Z (c : Dev nD) (n : Fin 8192) (k : Fin 3072) : EReal := (m ((c : Thread nD τ).loc main_arg0) : FVec Ideal S8192x3072 .bf16) (ix2 n k)
def B (c : Dev nD) (h : Fin 16) (r : Fin 257) : EReal := (m ((c : Thread nD τ).loc main_arg1) : FVec Ideal S16x257 .f32) (ix2 h r)

theorem iblk0_apply (c : Dev nD) (t : Fin cfg0.N) (r : Fin 256) (k : Fin 512) :
    iblk m c 0 t (ix2 r k) = Z m c ⟨t.val % 32 * 256 + r.val, by omega⟩ ⟨t.val / 32 * 512 + k.val, by have := t_lt t; omega⟩ := by
  blk_point [iblk, V, index_in t, Z]

theorem iblk1_apply (c : Dev nD) (t : Fin cfg0.N) (r : Fin 256) (k : Fin 512) :
    iblk m c 1 t (ix2 r k) = Z m c ⟨(t.val % 32 - 2) * 256 + r.val, by omega⟩ ⟨(2 + t.val / 32) * 512 + k.val, by have := t_lt t; omega⟩ := by
  blk_point [iblk, V, index_in t, Z]

theorem iblk2_apply (c : Dev nD) (t : Fin cfg0.N) (r : Fin 256) (k : Fin 512) :
    iblk m c 2 t (ix2 r k) = Z m c ⟨(t.val % 32 - 1) * 256 + r.val, by omega⟩ ⟨(2 + t.val / 32) * 512 + k.val, by have := t_lt t; omega⟩ := by
  blk_point [iblk, V, index_in t, Z]

theorem iblk3_apply (c : Dev nD) (t : Fin cfg0.N) (r : Fin 256) (k : Fin 512) :
    iblk m c 3 t (ix2 r k) = Z m c ⟨t.val % 32 * 256 + r.val, by omega⟩ ⟨(2 + t.val / 32) * 512 + k.val, by have := t_lt t; omega⟩ := by
  blk_point [iblk, V, index_in t, Z]

theorem iblk4_apply (c : Dev nD) (t : Fin cfg0.N) (r : Fin 256) (k : Fin 512) :
    iblk m c 4 t (ix2 r k) = Z m c ⟨(t.val % 32 - 2) * 256 + r.val, by omega⟩ ⟨(4 + t.val / 32) * 512 + k.val, by have := t_lt t; omega⟩ := by
  blk_point [iblk, V, index_in t, Z]

theorem iblk5_apply (c : Dev nD) (t : Fin cfg0.N) (r : Fin 256) (k : Fin 512) :
    iblk m c 5 t (ix2 r k) = Z m c ⟨(t.val % 32 - 1) * 256 + r.val, by omega⟩ ⟨(4 + t.val / 32) * 512 + k.val, by have := t_lt t; omega⟩ := by
  blk_point [iblk, V, index_in t, Z]

theorem iblk6_apply (c : Dev nD) (t : Fin cfg0.N) (r : Fin 256) (k : Fin 512) :
    iblk m c 6 t (ix2 r k) = Z m c ⟨t.val % 32 * 256 + r.val, by omega⟩ ⟨(4 + t.val / 32) * 512 + k.val, by have := t_lt t; omega⟩ := by
  blk_point [iblk, V, index_in t, Z]

theorem iblk7_apply (c : Dev nD) (t : Fin cfg0.N) (h : Fin 8) (r : Fin 256) (k : Fin 768) :
    iblk m c 7 t (ix3 h r k) = if sees k.val r.val then B m c ⟨t.val / 32 * 8 + h.val, by have := t_lt t; omega⟩ ⟨rel (r.val + 512) k.val, rel_lt _ _⟩ else (⊥ : EReal) := by
  have e : (win0_7.blk t).view.emb (ix3 h r k) = ix3 ⟨t.val / 32 * 8 + h.val, by have := t_lt t; omega⟩ r k := by blk_ext [index_in t]
  unfold iblk
  rw [View.read_apply]
  show V m c main_v31 ((win0_7.blk t).view.emb (ix3 h r k)) = _
  rw [tile_eq, e]
  exact biasTile_apply _ _ _ _

/-- Every launched entry is a real number. -/
abbrev Finite (c : Dev nD) : Prop := (∀ n k, ∃ r : ℝ, Z m c n k = (r : EReal)) ∧ ∀ h k, ∃ r : ℝ, B m c h k = (r : EReal)

theorem scale_real : scale = ((1 / 8 : ℝ) : EReal) := by
  simp [scale, Ideal.ofBits, Ideal.ieee, -EReal.coe_mul]
  norm_num

/-- A score of a seen key is a real number. -/
theorem score_real {z : Fin 8192 → Fin 3072 → EReal} {b : Fin 16 → Fin 257 → EReal} (hz : ∀ n k, ∃ r : ℝ, z n k = (r : EReal)) (hb : ∀ h k, ∃ r : ℝ, b h k = (r : EReal))
    (h : Fin 16) (n k : Fin 8192) (hs : sees n.val k.val) : ∃ r : ℝ, score z b h n k = (r : EReal) := by
  choose z' hz using hz
  choose b' hb using hb
  unfold score
  rw [if_pos hs, scale_real]
  simp only [hz, hb, ← EReal.coe_mul, ← Window.coe_sum, ← EReal.coe_add]
  exact ⟨_, rfl⟩

theorem score_score {z : Fin 8192 → Fin 3072 → EReal} {b : Fin 16 → Fin 257 → EReal} (hz : ∀ n k, ∃ r : ℝ, z n k = (r : EReal)) (hb : ∀ h k, ∃ r : ℝ, b h k = (r : EReal))
    (h : Fin 16) (n k : Fin 8192) : Score (score z b h n k) := by
  by_cases hs : sees n.val k.val
  · exact Or.inr (score_real hz hb h n k hs)
  · exact Or.inl (if_neg hs)

section
variable (c : Dev nD) (t : Fin cfg0.N)

/-- Row `r` of the point's block, column `C` of its group, and the window's row `k`, in the arrays. -/
abbrev rowAt (r : Fin 256) : Fin 8192 := ⟨t.val % 32 * 256 + r.val, by omega⟩
abbrev colAt (C : Fin 512) : Fin 1024 := ⟨t.val / 32 * 512 + C.val, by have := t_lt t; omega⟩
abbrev keyAt (k : Fin 768) : Fin 8192 := ⟨t.val % 32 * 256 + k.val - 512, by omega⟩

theorem keys_apply (k : Fin 768) (hk : 512 ≤ t.val % 32 * 256 + k.val) (x : Fin 512) :
    window (iblk m c 1 t) (iblk m c 2 t) (iblk m c 3 t) k x = Z m c (keyAt t k) ⟨(2 + t.val / 32) * 512 + x.val, by have := t_lt t; omega⟩ := by
  unfold window
  split
  · rw [iblk1_apply]
    exact congrArg (fun n => Z m c n _) (Fin.ext (by show (t.val % 32 - 2) * 256 + k.val = t.val % 32 * 256 + k.val - 512; omega))
  · split
    · rw [iblk2_apply]
      exact congrArg (fun n => Z m c n _) (Fin.ext (by show (t.val % 32 - 1) * 256 + (k.val - 256) = t.val % 32 * 256 + k.val - 512; omega))
    · rw [iblk3_apply]
      exact congrArg (fun n => Z m c n _) (Fin.ext (by show t.val % 32 * 256 + (k.val - 256 - 256) = t.val % 32 * 256 + k.val - 512; omega))

theorem values_apply (k : Fin 768) (hk : 512 ≤ t.val % 32 * 256 + k.val) (x : Fin 512) :
    window (iblk m c 4 t) (iblk m c 5 t) (iblk m c 6 t) k x = Z m c (keyAt t k) ⟨(4 + t.val / 32) * 512 + x.val, by have := t_lt t; omega⟩ := by
  unfold window
  split
  · rw [iblk4_apply]
    exact congrArg (fun n => Z m c n _) (Fin.ext (by show (t.val % 32 - 2) * 256 + k.val = t.val % 32 * 256 + k.val - 512; omega))
  · split
    · rw [iblk5_apply]
      exact congrArg (fun n => Z m c n _) (Fin.ext (by show (t.val % 32 - 1) * 256 + (k.val - 256) = t.val % 32 * 256 + k.val - 512; omega))
    · rw [iblk6_apply]
      exact congrArg (fun n => Z m c n _) (Fin.ext (by show t.val % 32 * 256 + (k.val - 256 - 256) = t.val % 32 * 256 + k.val - 512; omega))

theorem values_real (hf : Finite m c) (k : Fin 768) (x : Fin 512) : ∃ r : ℝ, window (iblk m c 4 t) (iblk m c 5 t) (iblk m c 6 t) k x = (r : EReal) := by
  unfold window
  split
  · rw [iblk4_apply]; exact hf.1 _ _
  · split
    · rw [iblk5_apply]; exact hf.1 _ _
    · rw [iblk6_apply]; exact hf.1 _ _

theorem blockScore_eq (r : Fin 256) (C : Fin 512) (k : Fin 768) (hk : 512 ≤ t.val % 32 * 256 + k.val) :
    blockScore (iblk m c 0 t) (iblk m c 1 t) (iblk m c 2 t) (iblk m c 3 t) (iblk m c 7 t) ⟨C.val / 64, by omega⟩ r k
      = score (Z m c) (B m c) ⟨(colAt t C).val / 64, by have := (colAt t C).isLt; omega⟩ (rowAt t r) (keyAt t k) := by
  have ht := t_lt t
  have hs : sees k.val r.val ↔ sees (rowAt t r).val (keyAt t k).val := by
    show (r.val / 64 ≤ k.val / 64 ∧ k.val / 64 ≤ r.val / 64 + 8)
      ↔ ((t.val % 32 * 256 + k.val - 512) / 64 ≤ (t.val % 32 * 256 + r.val) / 64 ∧ (t.val % 32 * 256 + r.val) / 64 ≤ (t.val % 32 * 256 + k.val - 512) / 64 + 8)
    omega
  have eh : (t.val / 32 * 512 + C.val) / 64 = t.val / 32 * 8 + C.val / 64 := by omega
  unfold blockScore score
  rw [iblk7_apply]
  by_cases h : sees k.val r.val
  · rw [if_pos h, if_pos (hs.mp h)]
    refine congrArg₂ (· + ·) (Finset.sum_congr rfl fun d _ => ?_) ?_
    · rw [iblk0_apply, keys_apply m c t k hk]
      refine congrArg₂ (fun x y => Z m c _ x * scale * Z m c _ y) (Fin.ext ?_) (Fin.ext ?_)
      · show t.val / 32 * 512 + (C.val / 64 * 64 + d.val) = (t.val / 32 * 512 + C.val) / 64 * 64 + d.val
        omega
      · show (2 + t.val / 32) * 512 + (C.val / 64 * 64 + d.val) = 1024 + ((t.val / 32 * 512 + C.val) / 64 * 64 + d.val)
        omega
    · refine congrArg₂ (B m c) (Fin.ext eh.symm) (Fin.ext ?_)
      show min 256 (r.val + 512 + 128 - k.val) = min 256 (t.val % 32 * 256 + r.val + 128 - (t.val % 32 * 256 + k.val - 512))
      omega
  · rw [if_neg h, if_neg (fun x => h (hs.mpr x)), EReal.add_bot]

/-- The point's block is the attention's. -/
theorem block_eq (hf : Finite m c) (F : Fin 768 → EReal → EReal) (hF : ∀ k x, F k x = if 512 ≤ t.val % 32 * 256 + k.val then x else ⊥) (r : Fin 256) (C : Fin 512) :
    blockOut F (iblk m c 0 t) (iblk m c 1 t) (iblk m c 2 t) (iblk m c 3 t) (iblk m c 4 t) (iblk m c 5 t) (iblk m c 6 t) (iblk m c 7 t) r C
      = attend (Z m c) (B m c) (rowAt t r) (colAt t C) := by
  have ht := t_lt t
  have at_key : ∀ (k : Fin 768) (n : Fin 8192), k.val + t.val % 32 * 256 = n.val + 512 → n = keyAt t k := fun k n e => Fin.ext (by
    show n.val = t.val % 32 * 256 + k.val - 512; omega)
  unfold blockOut attend
  refine band_mean (b := t.val % 32 * 256) (fun k n e => ⟨?_, ?_⟩) (fun n e => ?_) (fun k e => ?_) (fun k => ?_) ⟨⟨r.val + 512, by omega⟩, rowAt t r, ?_, ?_⟩ (fun k => ?_) fun n => hf.1 _ _
  · rw [hF, if_pos (by omega), blockScore_eq m c t r C k (by omega), at_key k n e]
  · rw [values_apply m c t k (by omega), at_key k n e]
    refine congrArg (Z m c _) (Fin.ext ?_)
    show 2048 + (t.val / 32 * 512 + C.val) = (4 + t.val / 32) * 512 + C.val
    omega
  · refine if_neg fun hs => ?_
    obtain ⟨h1, h2⟩ : n.val / 64 ≤ (t.val % 32 * 256 + r.val) / 64 ∧ (t.val % 32 * 256 + r.val) / 64 ≤ n.val / 64 + 8 := hs
    refine e ⟨n.val + 512 - t.val % 32 * 256, by omega⟩ ?_
    show n.val + 512 - t.val % 32 * 256 + t.val % 32 * 256 = n.val + 512
    omega
  · rw [hF]
    refine if_neg fun hk => e (keyAt t k) ?_
    show k.val + t.val % 32 * 256 = t.val % 32 * 256 + k.val - 512 + 512
    omega
  · rw [hF]
    split
    · rw [blockScore_eq m c t r C k (by assumption)]
      exact score_score hf.1 hf.2 _ _ _
    · exact Or.inl rfl
  · show r.val + 512 + t.val % 32 * 256 = t.val % 32 * 256 + r.val + 512
    omega
  · rw [hF, if_pos (by show 512 ≤ t.val % 32 * 256 + (r.val + 512); omega), blockScore_eq m c t r C _ (by show 512 ≤ t.val % 32 * 256 + (r.val + 512); omega)]
    refine score_real hf.1 hf.2 _ _ _ ?_
    show (t.val % 32 * 256 + (r.val + 512) - 512) / 64 ≤ (t.val % 32 * 256 + r.val) / 64 ∧ (t.val % 32 * 256 + r.val) / 64 ≤ (t.val % 32 * 256 + (r.val + 512) - 512) / 64 + 8
    omega
  · exact values_real m c t hf k C

end

theorem cut_word : ∀ i : Fin 2, ∀ k : Fin 768, IntOp.cmpi .sge (IntOp.addi (Scalar.muli (Scalar.subi (BitVec.ofNat 32 i.val) 2#32) 256#32) (BitVec.ofNat 32 k.val)) 0#32
    = if 512 ≤ i.val * 256 + k.val then 1#1 else 0#1 := by
  decide +kernel

theorem outs (c : Dev nD) (hf : Finite m c) (t : Fin cfg0.N) (j : S256x512.Idx) :
    outsAt0 m c t.val t.isLt j = (attend (Z m c) (B m c) (rowAt t (j 0)) (colAt t (j 1)) : EReal) := by
  by_cases h : t.val % 32 ≤ 1
  · rw [outs_A m c t h, coord]
    refine block_eq m c t hf _ (fun k x => ?_) _ _
    unfold cut
    rw [cut_word ⟨t.val % 32, by omega⟩ k, select_ite]
  · rw [outs_B m c t h]
    exact block_eq m c t hf _ (fun k x => (if_pos (by omega)).symm) _ _

/-- The result array. -/
abbrev result (c : Dev nD) : Buf (Elt Ideal) ((c : Thread nD τ).loc main_v32) :=
  fun i : S8192x1024.Idx => attend (Z m c) (B m c) (i 0) (i 1)

theorem final_eq (c : Dev nD) (hf : Finite m c) : (dats m 0 c).arrAt 8 cfg0.N = result m c :=
  (dats m 0 c).arrAt_eq_of_covers 8 (result m c) (by decide +kernel) fun t _ y => by
    blk_simp
    rw [after0_8, outs m c hf]
    refine congrArg₂ (attend (Z m c) (B m c)) (Fin.ext ?_) (Fin.ext ?_) <;> blk_simp [index_in t]

/-- The kernel's run: the result at the attention, the arguments unchanged. -/
theorem run (ρ : Dev nD → PrngReg) (hf : ∀ c, Finite m c) :
    θ_run defs (onTc (τ := τ) (main (F := Ideal))) ⟨m, fun _ => 0, ρ⟩ fun r => ∀ c : Dev nD,
      r.2.mem ((c.tc : Thread nD τ).loc main_v32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_eq m c (hf c)), (h c).2⟩) (Value.run_blocks m ρ)

end Cert.Kernel8Ideal.Attn
-- ==== Proof.Attn.lean ====
/-
  THE ATTENTION: the call `_attn_fwd` over windows of 768 keys computes the attention over the whole sequence.
-/
module

public import proofs.«01_k».proof.Proof.AttnRun
public import proofs.«01_k».proof.Proof.Pool

@[expose] public section

noncomputable section

open Idealize.ShloMosaic Idealize.ShloMosaic.TcCoe Idealize.SL.Sem

namespace Cert.Attn

/-- The mask's number stands for minus infinity. -/
theorem preserves : Cert.preserves_Kernel8_Kernel8Ideal :=
  IdealRules.named_const.statement Cert.Kernel8Ideal.κ "mask" .f32 0xF149F2CA#32 ⊥ rfl

/-- The shape conditions of the precondition's operations. -/
theorem pre_facts : Cert.Pre_finite_fwd.Facts :=
  ⟨by decide +kernel, by decide +kernel⟩

/-- Equal finite arguments give equal attentions. -/
theorem algebraic [Cert.Pre_finite_fwd.Facts] : Cert.algebraic_Kernel8Ideal_Reference8Ideal_pre_finite_fwd := fun m g m' g' h hm =>
  ⟨fun c => Cert.Kernel8Ideal.Attn.result m c,
    Cert.Kernel8Ideal.Attn.run m g fun c => ⟨fun n k => Cert.Pool.real_of_bits Cert.Pool.bot_bf16 Cert.Pool.top_bf16 (congrFun (h c).1 (ix2 n k)),
      fun n k => Cert.Pool.real_of_bits Cert.Pool.bot_f32 Cert.Pool.top_f32 (congrFun (h c).2 (ix2 n k))⟩,
    Cert.Reference8Ideal.Attn.run m' g' _ _ (fun c => (hm c).1) fun c => (hm c).2⟩

end Cert.Attn
-- ==== Proof.NormFwd.lean ====
/-
  THE NORMALISED ROWS: each row times its factor times the gain, which the forward calls with a norm compute before their
  product.
-/
module

public import proofs.«01_k».proof.Proof.Norm

@[expose] public noncomputable section

namespace Cert.NormFwd

open Idealize.ShloMosaic

variable {ρ : Type}

/-- Row `r` of `X`, normalised, at column `k`. -/
def normed (X : ρ → Fin 1024 → EReal) (g : Fin 1024 → EReal) (r : ρ) (k : Fin 1024) : EReal := X r k * Norm.rs (X r) * g k

/-- The product with a weight behind it. -/
def prod {n : ℕ} (X : ρ → Fin 1024 → EReal) (g : Fin 1024 → EReal) (w : Fin 1024 → Fin n → EReal) (r : ρ) (j : Fin n) : EReal :=
  ∑ l, normed X g r l * w l j

/-- Equal rows have equal normalised rows. -/
theorem norm_congr {σ : Type} {X : ρ → Fin 1024 → EReal} {Y : σ → Fin 1024 → EReal} {g h : Fin 1024 → EReal} {r : ρ} {s : σ}
    (hX : ∀ k, X r k = Y s k) (hg : ∀ k, g k = h k) (k : Fin 1024) : normed X g r k = normed Y h s k := by
  unfold normed
  rw [show X r = Y s from funext hX, hg]

end Cert.NormFwd
-- ==== Proof.FfnFwd.lean ====
/-
  THE CALL `_norm_mm` OF THE FEED-FORWARD NETWORK: in sixteen blocks of 512 rows it adds a product to the rows, normalises
  the sum, multiplies it by the first weight (which lies in eight pieces of 512 columns) and squares what is above zero.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Common
public import proofs.«01_k».proof.Proof.NormFwd
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.FfnFwd

variable {ρ : Type}

/-- The rows plus a product. -/
def sum (u x : ρ → Fin 1024 → EReal) (w : Fin 1024 → Fin 1024 → EReal) (r : ρ) (k : Fin 1024) : EReal := x r k + ∑ l, u r l * w l k

/-- What is above zero, squared. -/
def square (v : EReal) : EReal := max v 0 * max v 0

end Cert.FfnFwd

namespace Cert.Kernel9Ideal.FfnFwd

open Cert.Kernel9Ideal Cert.Kernel9Ideal.Gen Cert.NormFwd Cert.FfnFwd

section
variable (x : Vec Ideal S512x1024 .f32) (u : Vec Ideal S512x1024 .bf16) (v : Vec Ideal S1024x1024 .bf16) (g : Vec Ideal S1x1024 .f32)
  (h : FVec Ideal S512x1024 .bf16) (w : Vec Ideal S1x1024x512 .bf16)

theorem x1_apply (r : Fin 512) (k : Fin 1024) : k0_pay5 x u v (ix2 r k) = sum (fun r k => u (ix2 r k)) (fun r k => x (ix2 r k)) (fun l k => v (ix2 l k)) r k := by
  pointwise [k0_pay5, sum]

theorem h_apply (r : Fin 512) (k : Fin 1024) : k0_pay6 x u v g (ix2 r k) = normed (fun r k => k0_pay5 x u v (ix2 r k)) (fun k => g (ix2 0 k)) r k := by
  pointwise [k0_pay6, normed, Norm.rs, Norm.ms]

/-- The rows times 512 columns of the weight. -/
def tile : FVec Ideal S512x512 .bf16 := k0_pay3 h w
/-- Of these, what is above zero, squared. -/
def tile2 : FVec Ideal S512x512 .bf16 := k0_pay4 h w

theorem tile_apply (r : Fin 512) (k : Fin 512) : tile h w (ix2 r k) = ∑ l : Fin 1024, (h (ix2 r l) : EReal) * w (ix3 0 l k) := by
  pointwise [tile, k0_pay3, k0_pay2]

theorem tile2_apply (r : Fin 512) (k : Fin 512) : tile2 h w (ix2 r k) = square (∑ l : Fin 1024, (h (ix2 r l) : EReal) * w (ix3 0 l k)) := by
  pointwise [tile2, k0_pay4, k0_pay2, square]

theorem stored_h (x0 : Vec Ideal S512x1024 .bf16) (x1 : Vec Ideal S1024x1024 .bf16) (x2 : Vec Ideal S512x1024 .f32) (x3 : Vec Ideal S1x1024 .f32) (x4 : Vec Ideal S8x1024x512 .bf16) :
    k0_pay28 x0 x1 x2 x3 x4 = k0_pay6 x2 x0 x1 x3 :=
  congr (congr (congr (congrArg k0_pay6 (View.ld_unit_lit _ _ (by decide))) (View.ld_unit_lit _ _ (by decide))) (View.ld_unit_lit _ _ (by decide))) (View.ld_unit_lit _ _ (by decide))

end

variable (m : (ℓ : Loc nD τ sig) → Buf (Elt Ideal) ℓ) (ρ : Dev nD → PrngReg)

abbrev A0 (c : Dev nD) : FVec Ideal S8192x1024 .bf16 := m ((c : Thread nD τ).loc main_arg0)
abbrev A1 (c : Dev nD) : FVec Ideal S8192x1024 .f32 := m ((c : Thread nD τ).loc main_arg1)
abbrev A2 (c : Dev nD) : FVec Ideal S1024x1024 .f32 := m ((c : Thread nD τ).loc main_arg2)
abbrev A3 (c : Dev nD) : FVec Ideal S1024 .f32 := m ((c : Thread nD τ).loc main_arg3)
abbrev A4 (c : Dev nD) : FVec Ideal S1024x4096 .f32 := m ((c : Thread nD τ).loc main_arg4)

/-- The rows that are normalised, the gain, the weight. -/
abbrev X (c : Dev nD) : Fin 8192 → Fin 1024 → EReal := sum (fun r k => A0 m c (ix2 r k)) (fun r k => A1 m c (ix2 r k)) (fun l k => A2 m c (ix2 l k))
abbrev G (c : Dev nD) (k : Fin 1024) : EReal := A3 m c (ix1 k)
abbrev W (c : Dev nD) (l : Fin 1024) (k : Fin 4096) : EReal := A4 m c (ix2 l k)
/-- The product. -/
abbrev Z (c : Dev nD) : Fin 8192 → Fin 4096 → EReal := prod (X m c) (G m c) (W m c)

theorem index_in : ∀ t : Fin cfg0.N, win0_0.index t = ![t.val, 0] ∧ win0_1.index t = ![0, 0] ∧ win0_2.index t = ![t.val, 0] ∧ win0_3.index t = ![0, 0]
    ∧ win0_4.index t = ![0, 0, 0] ∧ win0_5.index t = ![t.val, 0] ∧ win0_6.index t = ![t.val, 0] ∧ win0_7.index t = ![t.val, 0] ∧ win0_8.index t = ![t.val, 0] :=
  (by decide +kernel : ∀ t : Fin grid0.N, win0_0.index t = ![t.val, 0] ∧ win0_1.index t = ![0, 0] ∧ win0_2.index t = ![t.val, 0] ∧ win0_3.index t = ![0, 0]
    ∧ win0_4.index t = ![0, 0, 0] ∧ win0_5.index t = ![t.val, 0] ∧ win0_6.index t = ![t.val, 0] ∧ win0_7.index t = ![t.val, 0] ∧ win0_8.index t = ![t.val, 0])

theorem row_lt (t : Fin cfg0.N) (r : Fin 512) : t.val * 512 + r.val < 8192 := by
  have := t.isLt; have : cfg0.N = 16 := N_0; omega

/-- Row `r` of point `t`'s block, in the array. -/
abbrev rowAt (t : Fin cfg0.N) (r : Fin 512) : Fin 8192 := ⟨t.val * 512 + r.val, row_lt t r⟩

theorem iblk0_apply (c : Dev nD) (t : Fin cfg0.N) (r : Fin 512) (k : Fin 1024) : iblk m c 0 t (ix2 r k) = A0 m c (ix2 (rowAt t r) k) := by
  blk_point [iblk, V, index_in t]

theorem iblk1_apply (c : Dev nD) (t : Fin cfg0.N) (l : Fin 1024) (k : Fin 1024) : iblk m c 1 t (ix2 l k) = A2 m c (ix2 l k) := by
  blk_point [iblk, V, index_in t]

theorem iblk2_apply (c : Dev nD) (t : Fin cfg0.N) (r : Fin 512) (k : Fin 1024) : iblk m c 2 t (ix2 r k) = A1 m c (ix2 (rowAt t r) k) := by
  blk_point [iblk, V, index_in t]

theorem iblk3_apply (c : Dev nD) (t : Fin cfg0.N) (k : Fin 1024) : iblk m c 3 t (ix2 0 k) = G m c k := by
  blk_point [iblk, V, index_in t]

theorem iblk4_apply (c : Dev nD) (t : Fin cfg0.N) (s : Fin 8) (l : Fin 1024) (k : Fin 512) :
    iblk m c 4 t (ix3 s l k) = W m c l ⟨s.val * 512 + k.val, by omega⟩ := by
  blk_point [iblk, V, index_in t]

/-- The block's rows plus their product, as the body forms them. -/
abbrev xB (c : Dev nD) (t : Fin cfg0.N) : FVec Ideal S512x1024 .f32 := k0_pay5 (iblk m c 2 t) (iblk m c 0 t) (iblk m c 1 t)
abbrev nB (c : Dev nD) (t : Fin cfg0.N) : FVec Ideal S512x1024 .bf16 := k0_pay6 (iblk m c 2 t) (iblk m c 0 t) (iblk m c 1 t) (iblk m c 3 t)

theorem xB_apply (c : Dev nD) (t : Fin cfg0.N) (r : Fin 512) (k : Fin 1024) : xB m c t (ix2 r k) = X m c (rowAt t r) k :=
  (x1_apply _ _ _ _ _).trans (congrArg₂ _ (iblk2_apply m c t _ _) (Finset.sum_congr rfl fun l _ => congrArg₂ _ (iblk0_apply m c t _ _) (iblk1_apply m c t _ _)))

theorem nB_apply (c : Dev nD) (t : Fin cfg0.N) (r : Fin 512) (k : Fin 1024) : nB m c t (ix2 r k) = normed (X m c) (G m c) (rowAt t r) k :=
  (h_apply _ _ _ _ _ _).trans (norm_congr (xB_apply m c t r) (iblk3_apply m c t) k)

theorem ldW (c : Dev nD) (t : Fin cfg0.N) (o : ℕ) (s : Fin 8) (ho : o = s.val) (inb) (l : Fin 1024) (k : Fin 512) :
    View.ld (iblk m c 4 t) (Rect.unit (s := S8x1024x512) ![o, 0, 0] ![1, 1024, 512] inb) (ix3 0 l k) = W m c l ⟨s.val * 512 + k.val, by omega⟩ :=
  (View.ld_unit_apply_of _ _ _ _ _ (ix3 s l k) (by
    subst ho; intro a; match a with | ⟨0, _⟩ => rfl | ⟨1, _⟩ => exact (Nat.zero_add _).symm | ⟨2, _⟩ => exact (Nat.zero_add _).symm)).trans (iblk4_apply m c t _ _ _)

theorem part_eq (c : Dev nD) (t : Fin cfg0.N) (o : ℕ) (s : Fin 8) (ho : o = s.val) (inb) (r : Fin 512) (k : Fin 512) :
    (∑ l : Fin 1024, (nB m c t (ix2 r l) : EReal) * View.ld (iblk m c 4 t) (Rect.unit (s := S8x1024x512) ![o, 0, 0] ![1, 1024, 512] inb) (ix3 0 l k))
      = Z m c (rowAt t r) ⟨s.val * 512 + k.val, by omega⟩ :=
  Finset.sum_congr rfl fun l _ => congrArg₂ _ (nB_apply m c t r l) (ldW m c t o s ho inb l k)

/-- One piece's part of the product, at its columns of the array. -/
theorem tile_eq (c : Dev nD) (t : Fin cfg0.N) (o : ℕ) (s : Fin 8) (ho : o = s.val) (inb) (i : S512x512.Idx) (r : Fin 512) (k : Fin 4096)
    (hr : r.val = (i 0).val) (hk : k.val = s.val * 512 + (i 1).val) :
    tile (nB m c t) (View.ld (iblk m c 4 t) (Rect.unit (s := S8x1024x512) ![o, 0, 0] ![1, 1024, 512] inb)) i = Z m c (rowAt t r) k := by
  obtain rfl : r = i 0 := Fin.ext hr
  have e : i = ix2 (i 0) (i 1) := by
    funext a
    match a with
    | ⟨0, _⟩ => rfl
    | ⟨1, _⟩ => rfl
  refine (congrArg _ e).trans ((tile_apply _ _ _ _).trans ((part_eq m c t o s ho inb _ _).trans (congrArg _ (Fin.ext hk.symm))))

theorem tile2_eq (c : Dev nD) (t : Fin cfg0.N) (o : ℕ) (s : Fin 8) (ho : o = s.val) (inb) (i : S512x512.Idx) (r : Fin 512) (k : Fin 4096)
    (hr : r.val = (i 0).val) (hk : k.val = s.val * 512 + (i 1).val) :
    tile2 (nB m c t) (View.ld (iblk m c 4 t) (Rect.unit (s := S8x1024x512) ![o, 0, 0] ![1, 1024, 512] inb)) i = square (Z m c (rowAt t r) k) := by
  obtain rfl : r = i 0 := Fin.ext hr
  have e : i = ix2 (i 0) (i 1) := by
    funext a
    match a with
    | ⟨0, _⟩ => rfl
    | ⟨1, _⟩ => rfl
  refine (congrArg _ e).trans ((tile2_apply _ _ _ _).trans (congrArg square ((part_eq m c t o s ho inb _ _).trans (congrArg _ (Fin.ext hk.symm)))))

theorem out_x (c : Dev nD) (t : Fin cfg0.N) (j : S512x1024.Idx) :
    out0_5 (iblk m c 0 t) (iblk m c 1 t) (iblk m c 2 t) (iblk m c 3 t) (iblk m c 4 t) j = X m c (rowAt t (j 0)) (j 1) := by
  frame_out
  have e : j = ix2 (j 0) (j 1) := by
    funext a
    match a with
    | ⟨0, _⟩ => rfl
    | ⟨1, _⟩ => rfl
  exact (congrArg _ e).trans (xB_apply m c t _ _)

theorem out_h (c : Dev nD) (t : Fin cfg0.N) (j : S512x1024.Idx) :
    out0_6 (iblk m c 0 t) (iblk m c 1 t) (iblk m c 2 t) (iblk m c 3 t) (iblk m c 4 t) j = normed (X m c) (G m c) (rowAt t (j 0)) (j 1) := by
  frame_out
  have e : j = ix2 (j 0) (j 1) := by
    funext a
    match a with
    | ⟨0, _⟩ => rfl
    | ⟨1, _⟩ => rfl
  exact (congrArg _ e).trans (nB_apply m c t _ _)

theorem out_z (c : Dev nD) (t : Fin cfg0.N) (j : S512x4096.Idx) :
    out0_7 (iblk m c 0 t) (iblk m c 1 t) (iblk m c 2 t) (iblk m c 3 t) (iblk m c 4 t) j = Z m c (rowAt t (j 0)) (j 1) := by
  frame_out
  canon_tiles i hi
  · rw [stored_h]; exact tile_eq m c t 7 7 rfl _ i _ _ hi0 hi1
  · rw [stored_h]; exact tile_eq m c t 6 6 rfl _ i _ _ hi0 hi1
  · rw [stored_h]; exact tile_eq m c t 5 5 rfl _ i _ _ hi0 hi1
  · rw [stored_h]; exact tile_eq m c t 4 4 rfl _ i _ _ hi0 hi1
  · rw [stored_h]; exact tile_eq m c t 3 3 rfl _ i _ _ hi0 hi1
  · rw [stored_h]; exact tile_eq m c t 2 2 rfl _ i _ _ hi0 hi1
  · rw [stored_h]; exact tile_eq m c t 1 1 rfl _ i _ _ hi0 hi1
  · exact tile_eq m c t 0 0 rfl _ i _ _ hi0 (by simpa using hi1)

theorem out_a (c : Dev nD) (t : Fin cfg0.N) (j : S512x4096.Idx) :
    out0_8 (iblk m c 0 t) (iblk m c 1 t) (iblk m c 2 t) (iblk m c 3 t) (iblk m c 4 t) j = square (Z m c (rowAt t (j 0)) (j 1)) := by
  frame_out
  canon_tiles i hi
  · rw [stored_h]; exact tile2_eq m c t 7 7 rfl _ i _ _ hi0 hi1
  · rw [stored_h]; exact tile2_eq m c t 6 6 rfl _ i _ _ hi0 hi1
  · rw [stored_h]; exact tile2_eq m c t 5 5 rfl _ i _ _ hi0 hi1
  · rw [stored_h]; exact tile2_eq m c t 4 4 rfl _ i _ _ hi0 hi1
  · rw [stored_h]; exact tile2_eq m c t 3 3 rfl _ i _ _ hi0 hi1
  · rw [stored_h]; exact tile2_eq m c t 2 2 rfl _ i _ _ hi0 hi1
  · rw [stored_h]; exact tile2_eq m c t 1 1 rfl _ i _ _ hi0 hi1
  · exact tile2_eq m c t 0 0 rfl _ i _ _ hi0 (by simpa using hi1)

abbrev resX (c : Dev nD) : Buf (Elt Ideal) ((c : Thread nD τ).loc main_v5_0) := fun i => (X m c) (i 0) (i 1)
abbrev resH (c : Dev nD) : Buf (Elt Ideal) ((c : Thread nD τ).loc main_v5_1) := fun i => (normed (X m c) (G m c)) (i 0) (i 1)
abbrev resZ (c : Dev nD) : Buf (Elt Ideal) ((c : Thread nD τ).loc main_v5_2) := fun i => (Z m c) (i 0) (i 1)
abbrev resA (c : Dev nD) : Buf (Elt Ideal) ((c : Thread nD τ).loc main_v5_3) := fun i => (fun r k => square (Z m c r k)) (i 0) (i 1)

theorem final_x (c : Dev nD) : (dats m 0 c).arrAt 5 cfg0.N = resX m c := by
  refine (dats m 0 c).arrAt_eq_of_covers 5 _ (by decide +kernel) fun t hf y => ?_
  blk_simp
  rw [after0_5, out_x]
  refine congrArg₂ (X m c) (Fin.ext ?_) (Fin.ext ?_) <;> blk_simp [index_in t]

theorem final_h (c : Dev nD) : (dats m 0 c).arrAt 6 cfg0.N = resH m c := by
  refine (dats m 0 c).arrAt_eq_of_covers 6 _ (by decide +kernel) fun t hf y => ?_
  blk_simp
  rw [after0_6, out_h]
  refine congrArg₂ (normed (X m c) (G m c)) (Fin.ext ?_) (Fin.ext ?_) <;> blk_simp [index_in t]

theorem final_z (c : Dev nD) : (dats m 0 c).arrAt 7 cfg0.N = resZ m c := by
  refine (dats m 0 c).arrAt_eq_of_covers 7 _ (by decide +kernel) fun t hf y => ?_
  blk_simp
  rw [after0_7, out_z]
  refine congrArg₂ (Z m c) (Fin.ext ?_) (Fin.ext ?_) <;> blk_simp [index_in t]

theorem final_a (c : Dev nD) : (dats m 0 c).arrAt 8 cfg0.N = resA m c := by
  refine (dats m 0 c).arrAt_eq_of_covers 8 _ (by decide +kernel) fun t hf y => ?_
  blk_simp
  rw [after0_8, out_a]
  refine congrArg₂ (fun r k => square (Z m c r k)) (Fin.ext ?_) (Fin.ext ?_) <;> blk_simp [index_in t]

/-- The run: the results at the sum, its normalised rows, their product and its square, the arguments unchanged. -/
theorem run : θ_run defs (onTc (τ := τ) (main (F := Ideal))) ⟨m, fun _ => 0, ρ⟩ fun r => ∀ c : Dev nD,
      r.2.mem ((c.tc : Thread nD τ).loc main_v5_0) = resX m c
      ∧ r.2.mem ((c.tc : Thread nD τ).loc main_v5_1) = resH m c
      ∧ r.2.mem ((c.tc : Thread nD τ).loc main_v5_2) = resZ m c
      ∧ r.2.mem ((c.tc : Thread nD τ).loc main_v5_3) = resA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (final_x m c), (h c).2.1.trans (final_h m c), (h c).2.2.1.trans (final_z m c),
    (h c).2.2.2.1.trans (final_a m c), (h c).2.2.2.2⟩) (Value.run_blocks m ρ)

end Cert.Kernel9Ideal.FfnFwd

namespace Cert.FfnFwd

open Cert.Reference9Ideal Cert.Reference9Ideal.Gen Cert.NormFwd Idealize.ShloMosaic.StableHlo

variable (u : FVec Ideal S8192x1024 .bf16) (x : FVec Ideal S8192x1024 .f32) (v : FVec Ideal S1024x1024 .f32) (g : FVec Ideal S1024 .f32) (w : FVec Ideal S1024x4096 .f32)

/-- The rows that are normalised. -/
abbrev X : Fin 8192 → Fin 1024 → EReal := sum (fun r k => u (ix2 r k)) (fun r k => x (ix2 r k)) (fun l k => v (ix2 l k))

theorem sum_eq (r : Fin 8192) (k : Fin 1024) : Read.val_main_v2 (F := Ideal) u x v (ix2 r k) = X u x v r k := by
  pointwise [Read.val_main_v2, Read.val_main_v1, Read.val_main_v0, X, sum]

theorem norm_eq (r : Fin 8192) (k : Fin 1024) : Read.val_main_v15 (F := Ideal) u x v g (ix2 r k) = normed (X u x v) (fun k => g (ix1 k)) r k := by
  refine Eq.trans ?_ (norm_congr (X := fun r k => Read.val_main_v2 (F := Ideal) u x v (ix2 r k)) (sum_eq u x v r) (fun _ => rfl) k)
  pointwise [Read.val_main_v15, Read.val_main_v14, Read.val_main_v13, Read.val_main_v12, Read.val_main_v11, Read.val_main_v10, Read.val_main_v9, Read.val_main_v8, Read.val_main_v7,
    Read.val_main_v6, Read.val_main_v5, Read.val_main_v4, Read.val_main_v3, Read.val_main_cst, Read.val_main_cst_0, Read.val_main_cst_1, normed, Norm.rs, Norm.ms]

theorem prod_eq (r : Fin 8192) (k : Fin 4096) : Read.val_main_v16 (F := Ideal) u x v g w (ix2 r k) = prod (X u x v) (fun k => g (ix1 k)) (fun l k => w (ix2 l k)) r k := by
  pointwise [Read.val_main_v16]
  exact Finset.sum_congr rfl fun l _ => congrArg (· * _) (norm_eq u x v g r l)

theorem x_eq : Read.val_main_v2 (F := Ideal) u x v = fun i => X u x v (i 0) (i 1) := Common.ext2 fun r k => sum_eq u x v r k

theorem h_eq : Read.val_main_v17 (F := Ideal) u x v g = fun i => normed (X u x v) (fun k => g (ix1 k)) (i 0) (i 1) := by
  refine Common.ext2 fun r k => Eq.trans ?_ (norm_eq u x v g r k)
  pointwise [Read.val_main_v17]

theorem z_eq : Read.val_main_v18 (F := Ideal) u x v g w = fun i => prod (X u x v) (fun k => g (ix1 k)) (fun l k => w (ix2 l k)) (i 0) (i 1) := by
  refine Common.ext2 fun r k => Eq.trans ?_ (prod_eq u x v g w r k)
  pointwise [Read.val_main_v18]

theorem a_eq : Read.val_main_v21 (F := Ideal) u x v g w = fun i => square (prod (X u x v) (fun k => g (ix1 k)) (fun l k => w (ix2 l k)) (i 0) (i 1)) := by
  refine Common.ext2 fun r k => Eq.trans ?_ (congrArg square (prod_eq u x v g w r k))
  pointwise [Read.val_main_v21, Read.val_main_v20, Read.val_main_v19, Read.val_main_call0_v0, Read.val_main_call0_cst, square]

/-- Equal arguments give equal sums, normalised rows, products and squares. -/
theorem algebraic : Cert.algebraic_Kernel9Ideal_Reference9Ideal := fun m g m' g' _ hm =>
  ⟨fun c => Cert.Kernel9Ideal.FfnFwd.resX m c, fun c => Cert.Kernel9Ideal.FfnFwd.resH m c, fun c => Cert.Kernel9Ideal.FfnFwd.resZ m c,
    fun c => Cert.Kernel9Ideal.FfnFwd.resA m c, Cert.Kernel9Ideal.FfnFwd.run m g,
    (θ_run _ _ _).mono (fun _ h c => by
      obtain ⟨h0, h1, h2, h3, h4⟩ := hm c
      exact ⟨(h c).1.trans ((Read.val_main_v2_eq _ _ _).trans ((congr (congr (congrArg (Read.val_main_v2 (F := Ideal)) h0) h1) h2).trans (x_eq _ _ _))),
        (h c).2.1.trans ((Read.val_main_v17_eq _ _ _ _).trans ((congr (congr (congr (congrArg (Read.val_main_v17 (F := Ideal)) h0) h1) h2) h3).trans (h_eq _ _ _ _))),
        (h c).2.2.1.trans ((Read.val_main_v18_eq _ _ _ _ _).trans ((congr (congr (congr (congr (congrArg (Read.val_main_v18 (F := Ideal)) h0) h1) h2) h3) h4).trans (z_eq _ _ _ _ _))),
        (h c).2.2.2.1.trans ((Read.val_main_v21_eq _ _ _ _ _).trans ((congr (congr (congr (congr (congrArg (Read.val_main_v21 (F := Ideal)) h0) h1) h2) h3) h4).trans (a_eq _ _ _ _ _))),
        (h c).2.2.2.2⟩) (Cert.Reference9Ideal.Value.run m' g')⟩

end Cert.FfnFwd
-- ==== Proof.QkvFwd.lean ====
/-
  THE NORM BEFORE THE ATTENTION WITH ITS PRODUCT: the call `_norm_mm` of q, k and v. In sixteen blocks of 512 rows it
  normalises the rows and multiplies them by the weight, which lies in eight pieces of 384 columns, two pieces at a time.
-/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Common
public import proofs.«01_k».proof.Proof.NormFwd
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.Kernel10Ideal.QkvFwd

open Cert.Kernel10Ideal Cert.Kernel10Ideal.Gen Cert.NormFwd

section
variable (x : Vec Ideal S512x1024 .f32) (g : Vec Ideal S1x1024 .f32) (h : FVec Ideal S512x1024 .bf16) (w w' : Vec Ideal S1x1024x384 .bf16)

theorem h_apply (r : Fin 512) (k : Fin 1024) : k0_pay3 x g (ix2 r k) = normed (fun r k => x (ix2 r k)) (fun k => g (ix2 0 k)) r k := by
  pointwise [k0_pay3, normed, Norm.rs, Norm.ms]

/-- Two pieces of the weight side by side. -/
def both (l : Fin 1024) (k : Fin 768) : EReal :=
  if hk : k.val < 384 then w (ix3 0 l ⟨k.val, hk⟩) else w' (ix3 0 l ⟨k.val - 384, by omega⟩)

/-- The rows times two pieces of the weight. -/
def tile : FVec Ideal S512x768 .bf16 := k0_pay1 h w w'

theorem tile_apply (r : Fin 512) (k : Fin 768) : tile h w w' (ix2 r k) = ∑ l : Fin 1024, (h (ix2 r l) : EReal) * both w w' l k := by
  pointwise [tile, k0_pay1, both]

end

variable (m : (ℓ : Loc nD τ sig) → Buf (Elt Ideal) ℓ) (ρ : Dev nD → PrngReg)

abbrev A0 (c : Dev nD) : FVec Ideal S8192x1024 .f32 := m ((c : Thread nD τ).loc main_arg0)
abbrev A1 (c : Dev nD) : FVec Ideal S1024 .f32 := m ((c : Thread nD τ).loc main_arg1)
abbrev A2 (c : Dev nD) : FVec Ideal S1024x3072 .f32 := m ((c : Thread nD τ).loc main_arg2)

abbrev X (c : Dev nD) (r : Fin 8192) (k : Fin 1024) : EReal := A0 m c (ix2 r k)
abbrev G (c : Dev nD) (k : Fin 1024) : EReal := A1 m c (ix1 k)
abbrev W (c : Dev nD) (l : Fin 1024) (k : Fin 3072) : EReal := A2 m c (ix2 l k)

theorem index_in : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0, 0]
    ∧ win0_3.index t = ![t.val, 0] ∧ win0_4.index t = ![t.val, 0])

theorem row_lt (t : Fin cfg0.N) (r : Fin 512) : t.val * 512 + r.val < 8192 := by
  have := t.isLt; have : cfg0.N = 16 := N_0; omega

/-- Row `r` of point `t`'s block, in the array. -/
abbrev rowAt (t : Fin cfg0.N) (r : Fin 512) : Fin 8192 := ⟨t.val * 512 + r.val, row_lt t r⟩

theorem iblk0_apply (c : Dev nD) (t : Fin cfg0.N) (r : Fin 512) (k : Fin 1024) : iblk m c 0 t (ix2 r k) = X m c (rowAt t r) k := by
  blk_point [iblk, V, index_in t]

theorem iblk1_apply (c : Dev nD) (t : Fin cfg0.N) (k : Fin 1024) : iblk m c 1 t (ix2 0 k) = G m c k := by
  blk_point [iblk, V, index_in t]

theorem iblk2_apply (c : Dev nD) (t : Fin cfg0.N) (s : Fin 8) (l : Fin 1024) (k : Fin 384) :
    iblk m c 2 t (ix3 s l k) = W m c l ⟨s.val * 384 + k.val, by omega⟩ := by
  blk_point [iblk, V, index_in t]

theorem hB (c : Dev nD) (t : Fin cfg0.N) (r : Fin 512) (k : Fin 1024) :
    k0_pay3 (iblk m c 0 t) (iblk m c 1 t) (ix2 r k) = normed (X m c) (G m c) (rowAt t r) k :=
  (h_apply _ _ _ _).trans (norm_congr (iblk0_apply m c t r) (iblk1_apply m c t) k)

theorem ldW (c : Dev nD) (t : Fin cfg0.N) (o : ℕ) (s : Fin 8) (ho : o = s.val) (inb : ∀ a, ![o, 0, 0] a + ![1, 1024, 384] a ≤ S8x1024x384.size a) (l : Fin 1024) (k : Fin 384) :
    View.ld (iblk m c 2 t) (Rect.unit (s := S8x1024x384) ![o, 0, 0] ![1, 1024, 384] inb) (ix3 0 l k) = W m c l ⟨s.val * 384 + k.val, by omega⟩ :=
  (View.ld_unit_apply_of _ _ _ _ _ (ix3 s l k) (by
    subst ho; intro a; match a with | ⟨0, _⟩ => rfl | ⟨1, _⟩ => exact (Nat.zero_add _).symm | ⟨2, _⟩ => exact (Nat.zero_add _).symm)).trans (iblk2_apply m c t _ _ _)

/-- Two pieces' part of the product, at its columns of the array. -/
theorem tile_eq (c : Dev nD) (t : Fin cfg0.N) (o o' : ℕ) (p : Fin 4) (ho : o = 2 * p.val) (ho' : o' = 2 * p.val + 1) (inb inb') (r : Fin 512) (k : Fin 768) :
    tile (k0_pay3 (iblk m c 0 t) (iblk m c 1 t)) (View.ld (iblk m c 2 t) (Rect.unit (s := S8x1024x384) ![o, 0, 0] ![1, 1024, 384] inb))
      (View.ld (iblk m c 2 t) (Rect.unit (s := S8x1024x384) ![o', 0, 0] ![1, 1024, 384] inb')) (ix2 r k)
      = prod (X m c) (G m c) (W m c) (rowAt t r) ⟨p.val * 768 + k.val, by omega⟩ := by
  refine (tile_apply _ _ _ _ _).trans (Finset.sum_congr rfl fun l _ => congrArg₂ _ (hB m c t r l) ?_)
  unfold both
  split
  · next hk =>
    refine (ldW m c t o ⟨2 * p.val, by omega⟩ ho inb l _).trans (congrArg (W m c l) (Fin.ext ?_))
    show 2 * p.val * 384 + k.val = p.val * 768 + k.val
    omega
  · next hk =>
    refine (ldW m c t o' ⟨2 * p.val + 1, by omega⟩ ho' inb' l _).trans (congrArg (W m c l) (Fin.ext ?_))
    show (2 * p.val + 1) * 384 + (k.val - 384) = p.val * 768 + k.val
    omega

theorem out_h (c : Dev nD) (t : Fin cfg0.N) (j : S512x1024.Idx) :
    out0_3 (iblk m c 0 t) (iblk m c 1 t) (iblk m c 2 t) j = normed (X m c) (G m c) (rowAt t (j 0)) (j 1) := by
  frame_out
  have e : j = ix2 (j 0) (j 1) := by
    funext a
    match a with
    | ⟨0, _⟩ => rfl
    | ⟨1, _⟩ => rfl
  exact (congrArg _ e).trans (hB m c t _ _)

theorem stored_h (x0 : Vec Ideal S512x1024 .f32) (x1 : Vec Ideal S1x1024 .f32) (x2 : Vec Ideal S8x1024x384 .bf16) : k0_pay6 x0 x1 x2 = k0_pay3 x0 x1 :=
  congrArg₂ k0_pay3 (View.ld_unit_lit _ _ (by decide)) (View.ld_unit_lit _ _ (by decide))

theorem out_z (c : Dev nD) (t : Fin cfg0.N) (j : S512x3072.Idx) :
    out0_4 (iblk m c 0 t) (iblk m c 1 t) (iblk m c 2 t) j = prod (X m c) (G m c) (W m c) (rowAt t (j 0)) (j 1) := by
  have e : ∀ i : S512x768.Idx, i = ix2 (i 0) (i 1) := fun i => by
    funext a
    match a with
    | ⟨0, _⟩ => rfl
    | ⟨1, _⟩ => rfl
  frame_out
  canon_tiles i hi
  · rw [stored_h]
    exact ((congrArg _ (e i)).trans (tile_eq m c t 6 7 3 rfl rfl _ _ _ _)).trans (congrArg₂ (prod (X m c) (G m c) (W m c)) (Fin.ext (by simp [hi0])) (Fin.ext (by simp [hi1])))
  · rw [stored_h]
    exact ((congrArg _ (e i)).trans (tile_eq m c t 4 5 2 rfl rfl _ _ _ _)).trans (congrArg₂ (prod (X m c) (G m c) (W m c)) (Fin.ext (by simp [hi0])) (Fin.ext (by simp [hi1])))
  · exact ((congrArg _ (e i)).trans (tile_eq m c t 2 3 1 rfl rfl _ _ _ _)).trans (congrArg₂ (prod (X m c) (G m c) (W m c)) (Fin.ext (by simp [hi0])) (Fin.ext (by simp [hi1])))
  · exact ((congrArg _ (e i)).trans (tile_eq m c t 0 1 0 rfl rfl _ _ _ _)).trans (congrArg₂ (prod (X m c) (G m c) (W m c)) (Fin.ext (by simp [hi0])) (Fin.ext (by simp [hi1])))

abbrev resH (c : Dev nD) : Buf (Elt Ideal) ((c : Thread nD τ).loc main_v4_0) := fun i => normed (X m c) (G m c) (i 0) (i 1)
abbrev resZ (c : Dev nD) : Buf (Elt Ideal) ((c : Thread nD τ).loc main_v4_1) := fun i => prod (X m c) (G m c) (W m c) (i 0) (i 1)

theorem final_h (c : Dev nD) : (dats m 0 c).arrAt 3 cfg0.N = resH m c := by
  refine (dats m 0 c).arrAt_eq_of_covers 3 _ (by decide +kernel) fun t hf y => ?_
  blk_simp
  rw [after0_3, out_h]
  refine congrArg₂ (normed (X m c) (G m c)) (Fin.ext ?_) (Fin.ext ?_) <;> blk_simp [index_in t]

theorem final_z (c : Dev nD) : (dats m 0 c).arrAt 4 cfg0.N = resZ m c := by
  refine (dats m 0 c).arrAt_eq_of_covers 4 _ (by decide +kernel) fun t hf y => ?_
  blk_simp
  rw [after0_4, out_z]
  refine congrArg₂ (prod (X m c) (G m c) (W m c)) (Fin.ext ?_) (Fin.ext ?_) <;> blk_simp [index_in t]

/-- The run: the results at the normalised rows and the product, the arguments unchanged. -/
theorem run : θ_run defs (onTc (τ := τ) (main (F := Ideal))) ⟨m, fun _ => 0, ρ⟩ fun r => ∀ c : Dev nD,
      r.2.mem ((c.tc : Thread nD τ).loc main_v4_0) = resH m c
      ∧ r.2.mem ((c.tc : Thread nD τ).loc main_v4_1) = resZ m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_h m c), (h c).2.1.trans (final_z m c), (h c).2.2⟩) (Value.run_blocks m ρ)

end Cert.Kernel10Ideal.QkvFwd

namespace Cert.QkvFwd

open Cert.Reference10Ideal Cert.Reference10Ideal.Gen Cert.NormFwd Idealize.ShloMosaic.StableHlo

variable (x : FVec Ideal S8192x1024 .f32) (g : FVec Ideal S1024 .f32) (w : FVec Ideal S1024x3072 .f32)

theorem norm_eq (r : Fin 8192) (k : Fin 1024) : Read.val_main_v12 (F := Ideal) x g (ix2 r k) = normed (fun r k => x (ix2 r k)) (fun k => g (ix1 k)) r k := by
  pointwise [Read.val_main_v12, Read.val_main_v11, Read.val_main_v10, Read.val_main_v9, Read.val_main_v8, Read.val_main_v7, Read.val_main_v6, Read.val_main_v5,
    Read.val_main_v4, Read.val_main_v3, Read.val_main_v2, Read.val_main_v1, Read.val_main_v0, Read.val_main_cst, Read.val_main_cst_0, Read.val_main_cst_1, normed, Norm.rs, Norm.ms]

theorem h_eq : Read.val_main_v13 (F := Ideal) x g = fun i => normed (fun r k => x (ix2 r k)) (fun k => g (ix1 k)) (i 0) (i 1) := by
  refine Common.ext2 fun r k => Eq.trans ?_ (norm_eq x g r k)
  pointwise [Read.val_main_v13]

theorem z_eq : Read.val_main_v15 (F := Ideal) x g w = fun i => prod (fun r k => x (ix2 r k)) (fun k => g (ix1 k)) (fun l k => w (ix2 l k)) (i 0) (i 1) := by
  refine Common.ext2 fun r k => ?_
  pointwise [Read.val_main_v15, Read.val_main_v14]
  exact Finset.sum_congr rfl fun l _ => congrArg (· * _) (norm_eq x g r l)

/-- Equal arguments give equal normalised rows and products. -/
theorem algebraic : Cert.algebraic_Kernel10Ideal_Reference10Ideal := fun m g m' g' _ hm =>
  ⟨fun c => Cert.Kernel10Ideal.QkvFwd.resH m c, fun c => Cert.Kernel10Ideal.QkvFwd.resZ m c, Cert.Kernel10Ideal.QkvFwd.run m g,
    (θ_run _ _ _).mono (fun _ h c => by
      obtain ⟨h0, h1, h2⟩ := hm c
      exact ⟨(h c).1.trans ((Read.val_main_v13_eq _ _).trans ((congr (congrArg (Read.val_main_v13 (F := Ideal)) h0) h1).trans (h_eq _ _))),
        (h c).2.1.trans ((Read.val_main_v15_eq _ _ _).trans ((congr (congr (congrArg (Read.val_main_v15 (F := Ideal)) h0) h1) h2).trans (z_eq _ _ _))), (h c).2.2⟩) (Cert.Reference10Ideal.Value.run m' g')⟩

end Cert.QkvFwd
-- ==== Proof.AbFwd.lean ====
/-
  THE NORM BEFORE POOL AND RETENTION WITH ITS PRODUCT: the call `_norm_mm` whose weight has the columns of every head's
  rotary pairs split into two halves. In sixteen blocks of 512 rows it normalises the rows and multiplies them by the
  weight, 512 columns at a time.
-/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Common
public import proofs.«01_k».proof.Proof.NormFwd
public import proofs.«01_k».proof.Proof.AbIn
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.Kernel11Ideal.AbFwd

open Cert.Kernel11Ideal Cert.Kernel11Ideal.Gen Cert.NormFwd

section
variable (x : Vec Ideal S512x1024 .f32) (g : Vec Ideal S1x1024 .f32) (h : FVec Ideal S512x1024 .bf16) (w : Vec Ideal S1x1024x512 .bf16)

theorem h_apply (r : Fin 512) (k : Fin 1024) : k0_pay3 x g (ix2 r k) = normed (fun r k => x (ix2 r k)) (fun k => g (ix2 0 k)) r k := by
  pointwise [k0_pay3, normed, Norm.rs, Norm.ms]

/-- The rows times 512 columns of the weight. -/
def tile : FVec Ideal S512x512 .f32 := k0_pay1 h w

theorem tile_apply (r : Fin 512) (k : Fin 512) : tile h w (ix2 r k) = ∑ l : Fin 1024, (h (ix2 r l) : EReal) * w (ix3 0 l k) := by
  pointwise [tile, k0_pay1]

theorem stored_h (x0 : Vec Ideal S512x1024 .f32) (x1 : Vec Ideal S1x1024 .f32) (x2 : Vec Ideal S1x1024x2560 .bf16) : k0_pay7 x0 x1 x2 = k0_pay3 x0 x1 :=
  congrArg₂ k0_pay3 (View.ld_unit_lit _ _ (by decide)) (View.ld_unit_lit _ _ (by decide))

end

variable (m : (ℓ : Loc nD τ sig) → Buf (Elt Ideal) ℓ) (ρ : Dev nD → PrngReg)

abbrev A0 (c : Dev nD) : FVec Ideal S8192x1024 .f32 := m ((c : Thread nD τ).loc main_arg0)
abbrev A1 (c : Dev nD) : FVec Ideal S1024 .f32 := m ((c : Thread nD τ).loc main_arg1)
abbrev A2 (c : Dev nD) : FVec Ideal S1024x2560 .f32 := m ((c : Thread nD τ).loc main_arg2)

abbrev X (c : Dev nD) (r : Fin 8192) (k : Fin 1024) : EReal := A0 m c (ix2 r k)
abbrev G (c : Dev nD) (k : Fin 1024) : EReal := A1 m c (ix1 k)
/-- The weight with its columns in the split order. -/
abbrev W (c : Dev nD) (l : Fin 1024) (k : Fin 2560) : EReal := A2 m c (ix2 l (AbIn.src k))

theorem index_in : ∀ t : Fin cfg0.N, win0_0.index t = ![t.val, 0] ∧ win0_1.index t = ![0, 0] ∧ win0_2.index t = ![0, 0, 0]
    ∧ win0_3.index t = ![t.val, 0] ∧ win0_4.index t = ![t.val, 0] :=
  (by decide +kernel : ∀ t : Fin grid0.N, win0_0.index t = ![t.val, 0] ∧ win0_1.index t = ![0, 0] ∧ win0_2.index t = ![0, 0, 0]
    ∧ win0_3.index t = ![t.val, 0] ∧ win0_4.index t = ![t.val, 0])

theorem row_lt (t : Fin cfg0.N) (r : Fin 512) : t.val * 512 + r.val < 8192 := by
  have := t.isLt; have : cfg0.N = 16 := N_0; omega

/-- Row `r` of point `t`'s block, in the array. -/
abbrev rowAt (t : Fin cfg0.N) (r : Fin 512) : Fin 8192 := ⟨t.val * 512 + r.val, row_lt t r⟩

theorem iblk0_apply (c : Dev nD) (t : Fin cfg0.N) (r : Fin 512) (k : Fin 1024) : iblk m c 0 t (ix2 r k) = X m c (rowAt t r) k := by
  blk_point [iblk, V, index_in t]

theorem iblk1_apply (c : Dev nD) (t : Fin cfg0.N) (k : Fin 1024) : iblk m c 1 t (ix2 0 k) = G m c k := by
  blk_point [iblk, V, index_in t]

theorem iblk2_apply (c : Dev nD) (t : Fin cfg0.N) (l : Fin 1024) (k : Fin 2560) : iblk m c 2 t (ix3 0 l k) = W m c l k := by
  have e : (win0_2.blk t).view.emb (ix3 0 l k) = ix3 0 l k := by blk_ext [index_in t]
  blk_simp [iblk, index_in t]
  entry_read
  pointwise
  exact AbIn.split_read3 (A2 m c) _ _ _ e _ _

theorem hB (c : Dev nD) (t : Fin cfg0.N) (r : Fin 512) (k : Fin 1024) :
    k0_pay3 (iblk m c 0 t) (iblk m c 1 t) (ix2 r k) = normed (X m c) (G m c) (rowAt t r) k :=
  (h_apply _ _ _ _).trans (norm_congr (iblk0_apply m c t r) (iblk1_apply m c t) k)

/-- 512 columns of the product, at their place in the array. -/
theorem tile_eq (c : Dev nD) (t : Fin cfg0.N) (o : ℕ) (p : Fin 5) (ho : o = p.val * 512) (inb) (r : Fin 512) (k : Fin 512) :
    tile (k0_pay3 (iblk m c 0 t) (iblk m c 1 t)) (View.ld (iblk m c 2 t) (Rect.unit (s := S1x1024x2560) ![0, 0, o] ![1, 1024, 512] inb)) (ix2 r k)
      = prod (X m c) (G m c) (W m c) (rowAt t r) ⟨p.val * 512 + k.val, by omega⟩ := by
  refine (tile_apply _ _ _ _).trans (Finset.sum_congr rfl fun l _ => congrArg₂ _ (hB m c t r l) ?_)
  exact (View.ld_unit_apply_of _ _ _ _ _ (ix3 0 l ⟨p.val * 512 + k.val, by omega⟩) (by
    subst ho; intro a; match a with | ⟨0, _⟩ => rfl | ⟨1, _⟩ => exact (Nat.zero_add _).symm | ⟨2, _⟩ => rfl)).trans (iblk2_apply m c t _ _)

theorem out_h (c : Dev nD) (t : Fin cfg0.N) (j : S512x1024.Idx) :
    out0_3 (iblk m c 0 t) (iblk m c 1 t) (iblk m c 2 t) j = normed (X m c) (G m c) (rowAt t (j 0)) (j 1) := by
  frame_out
  have e : j = ix2 (j 0) (j 1) := by
    funext a
    match a with
    | ⟨0, _⟩ => rfl
    | ⟨1, _⟩ => rfl
  exact (congrArg _ e).trans (hB m c t _ _)

theorem out_z (c : Dev nD) (t : Fin cfg0.N) (j : S512x2560.Idx) :
    out0_4 (iblk m c 0 t) (iblk m c 1 t) (iblk m c 2 t) j = prod (X m c) (G m c) (W m c) (rowAt t (j 0)) (j 1) := by
  have e : ∀ i : S512x512.Idx, i = ix2 (i 0) (i 1) := fun i => by
    funext a
    match a with
    | ⟨0, _⟩ => rfl
    | ⟨1, _⟩ => rfl
  frame_out
  canon_tiles i hi
  · rw [stored_h]
    exact ((congrArg _ (e i)).trans (tile_eq m c t 2048 4 rfl _ _ _)).trans (congrArg₂ (prod (X m c) (G m c) (W m c)) (Fin.ext (by simp [hi0])) (Fin.ext (by simp [hi1])))
  · rw [stored_h]
    exact ((congrArg _ (e i)).trans (tile_eq m c t 1536 3 rfl _ _ _)).trans (congrArg₂ (prod (X m c) (G m c) (W m c)) (Fin.ext (by simp [hi0])) (Fin.ext (by simp [hi1])))
  · exact ((congrArg _ (e i)).trans (tile_eq m c t 1024 2 rfl _ _ _)).trans (congrArg₂ (prod (X m c) (G m c) (W m c)) (Fin.ext (by simp [hi0])) (Fin.ext (by simp [hi1])))
  · exact ((congrArg _ (e i)).trans (tile_eq m c t 512 1 rfl _ _ _)).trans (congrArg₂ (prod (X m c) (G m c) (W m c)) (Fin.ext (by simp [hi0])) (Fin.ext (by simp [hi1])))
  · exact ((congrArg _ (e i)).trans (tile_eq m c t 0 0 rfl _ _ _)).trans (congrArg₂ (prod (X m c) (G m c) (W m c)) (Fin.ext (by simp [hi0])) (Fin.ext (by simp [hi1])))

abbrev resH (c : Dev nD) : Buf (Elt Ideal) ((c : Thread nD τ).loc main_v9_0) := fun i => normed (X m c) (G m c) (i 0) (i 1)
abbrev resZ (c : Dev nD) : Buf (Elt Ideal) ((c : Thread nD τ).loc main_v9_1) := fun i => prod (X m c) (G m c) (W m c) (i 0) (i 1)

theorem final_h (c : Dev nD) : (dats m 0 c).arrAt 3 cfg0.N = resH m c := by
  refine (dats m 0 c).arrAt_eq_of_covers 3 _ (by decide +kernel) fun t hf y => ?_
  blk_simp
  rw [after0_3, out_h]
  refine congrArg₂ (normed (X m c) (G m c)) (Fin.ext ?_) (Fin.ext ?_) <;> blk_simp [index_in t]

theorem final_z (c : Dev nD) : (dats m 0 c).arrAt 4 cfg0.N = resZ m c := by
  refine (dats m 0 c).arrAt_eq_of_covers 4 _ (by decide +kernel) fun t hf y => ?_
  blk_simp
  rw [after0_4, out_z]
  refine congrArg₂ (prod (X m c) (G m c) (W m c)) (Fin.ext ?_) (Fin.ext ?_) <;> blk_simp [index_in t]

/-- The run: the results at the normalised rows and the product, the arguments unchanged. -/
theorem run : θ_run defs (onTc (τ := τ) (main (F := Ideal))) ⟨m, fun _ => 0, ρ⟩ fun r => ∀ c : Dev nD,
      r.2.mem ((c.tc : Thread nD τ).loc main_v9_0) = resH m c
      ∧ r.2.mem ((c.tc : Thread nD τ).loc main_v9_1) = resZ m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_h m c), (h c).2.1.trans (final_z m c), (h c).2.2⟩) (Value.run_blocks m ρ)

end Cert.Kernel11Ideal.AbFwd

namespace Cert.AbFwd

open Cert.Reference11Ideal Cert.Reference11Ideal.Gen Cert.NormFwd Idealize.ShloMosaic.StableHlo

variable (x : FVec Ideal S8192x1024 .f32) (g : FVec Ideal S1024 .f32) (w : FVec Ideal S1024x2560 .f32)

theorem norm_eq (r : Fin 8192) (k : Fin 1024) : Read.val_main_v12 (F := Ideal) x g (ix2 r k) = normed (fun r k => x (ix2 r k)) (fun k => g (ix1 k)) r k := by
  pointwise [Read.val_main_v12, Read.val_main_v11, Read.val_main_v10, Read.val_main_v9, Read.val_main_v8, Read.val_main_v7, Read.val_main_v6, Read.val_main_v5,
    Read.val_main_v4, Read.val_main_v3, Read.val_main_v2, Read.val_main_v1, Read.val_main_v0, Read.val_main_cst, Read.val_main_cst_0, Read.val_main_cst_1, normed, Norm.rs, Norm.ms]

theorem h_eq : Read.val_main_v46 (F := Ideal) x g = fun i => normed (fun r k => x (ix2 r k)) (fun k => g (ix1 k)) (i 0) (i 1) := by
  refine Common.ext2 fun r k => Eq.trans ?_ (norm_eq x g r k)
  pointwise [Read.val_main_v46]

/-! ## The columns of the product, head by head -/

/-- Column `k` of the head that begins at column `b`, in the model's order. -/
theorem head_src (b : ℕ) (hb : b % 128 = 0) (hb' : b < 1024) (k : Fin 128) (n n' : ℕ) (hn : n < 2560) (hn' : n' < 2560)
    (e : n = b + (if k.val < 64 then 2 * k.val else 1 + 2 * (k.val - 64))) (e' : n' = b + k.val) :
    (⟨n, hn⟩ : Fin 2560) = AbIn.src ⟨n', hn'⟩ := by
  subst e e'
  apply Fin.ext
  rw [AbIn.src_val]
  have := k.isLt
  rw [if_pos (show b + k.val < 1024 by omega)]
  show b + (if k.val < 64 then 2 * k.val else 1 + 2 * (k.val - 64)) = (b + k.val) / 128 * 128 + (b + k.val) % 64 * 2 + (b + k.val) / 64 % 2
  split <;> omega

theorem head0 (r : Fin 8192) (k : Fin 128) : Read.val_main_v17 (F := Ideal) x g w (ix2 r k) = Read.val_main_v13 (F := Ideal) x g w (ix2 r (AbIn.src ⟨0 + k.val, by omega⟩)) := by
  pointwise [Read.val_main_v17, Read.val_main_v16, Read.val_main_v15, Read.val_main_v14]
  split
  · exact congrArg (fun l => Read.val_main_v13 (F := Ideal) x g w (ix2 r l)) (head_src 0 (by decide) (by decide) k _ _ _ _ (by simp_all) (by simp))
  · exact congrArg (fun l => Read.val_main_v13 (F := Ideal) x g w (ix2 r l)) (head_src 0 (by decide) (by decide) k _ _ _ _ (by simp_all) (by simp))

theorem head1 (r : Fin 8192) (k : Fin 128) : Read.val_main_v21 (F := Ideal) x g w (ix2 r k) = Read.val_main_v13 (F := Ideal) x g w (ix2 r (AbIn.src ⟨128 + k.val, by omega⟩)) := by
  pointwise [Read.val_main_v21, Read.val_main_v20, Read.val_main_v19, Read.val_main_v18]
  split
  · exact congrArg (fun l => Read.val_main_v13 (F := Ideal) x g w (ix2 r l)) (head_src 128 (by decide) (by decide) k _ _ _ _ (by simp_all) (by simp))
  · exact congrArg (fun l => Read.val_main_v13 (F := Ideal) x g w (ix2 r l)) (head_src 128 (by decide) (by decide) k _ _ _ _ (by simp_all) (by simp))

theorem head2 (r : Fin 8192) (k : Fin 128) : Read.val_main_v25 (F := Ideal) x g w (ix2 r k) = Read.val_main_v13 (F := Ideal) x g w (ix2 r (AbIn.src ⟨256 + k.val, by omega⟩)) := by
  pointwise [Read.val_main_v25, Read.val_main_v24, Read.val_main_v23, Read.val_main_v22]
  split
  · exact congrArg (fun l => Read.val_main_v13 (F := Ideal) x g w (ix2 r l)) (head_src 256 (by decide) (by decide) k _ _ _ _ (by simp_all) (by simp))
  · exact congrArg (fun l => Read.val_main_v13 (F := Ideal) x g w (ix2 r l)) (head_src 256 (by decide) (by decide) k _ _ _ _ (by simp_all) (by simp))

theorem head3 (r : Fin 8192) (k : Fin 128) : Read.val_main_v29 (F := Ideal) x g w (ix2 r k) = Read.val_main_v13 (F := Ideal) x g w (ix2 r (AbIn.src ⟨384 + k.val, by omega⟩)) := by
  pointwise [Read.val_main_v29, Read.val_main_v28, Read.val_main_v27, Read.val_main_v26]
  split
  · exact congrArg (fun l => Read.val_main_v13 (F := Ideal) x g w (ix2 r l)) (head_src 384 (by decide) (by decide) k _ _ _ _ (by simp_all) (by simp))
  · exact congrArg (fun l => Read.val_main_v13 (F := Ideal) x g w (ix2 r l)) (head_src 384 (by decide) (by decide) k _ _ _ _ (by simp_all) (by simp))

theorem head4 (r : Fin 8192) (k : Fin 128) : Read.val_main_v33 (F := Ideal) x g w (ix2 r k) = Read.val_main_v13 (F := Ideal) x g w (ix2 r (AbIn.src ⟨512 + k.val, by omega⟩)) := by
  pointwise [Read.val_main_v33, Read.val_main_v32, Read.val_main_v31, Read.val_main_v30]
  split
  · exact congrArg (fun l => Read.val_main_v13 (F := Ideal) x g w (ix2 r l)) (head_src 512 (by decide) (by decide) k _ _ _ _ (by simp_all) (by simp))
  · exact congrArg (fun l => Read.val_main_v13 (F := Ideal) x g w (ix2 r l)) (head_src 512 (by decide) (by decide) k _ _ _ _ (by simp_all) (by simp))

theorem head5 (r : Fin 8192) (k : Fin 128) : Read.val_main_v37 (F := Ideal) x g w (ix2 r k) = Read.val_main_v13 (F := Ideal) x g w (ix2 r (AbIn.src ⟨640 + k.val, by omega⟩)) := by
  pointwise [Read.val_main_v37, Read.val_main_v36, Read.val_main_v35, Read.val_main_v34]
  split
  · exact congrArg (fun l => Read.val_main_v13 (F := Ideal) x g w (ix2 r l)) (head_src 640 (by decide) (by decide) k _ _ _ _ (by simp_all) (by simp))
  · exact congrArg (fun l => Read.val_main_v13 (F := Ideal) x g w (ix2 r l)) (head_src 640 (by decide) (by decide) k _ _ _ _ (by simp_all) (by simp))

theorem head6 (r : Fin 8192) (k : Fin 128) : Read.val_main_v41 (F := Ideal) x g w (ix2 r k) = Read.val_main_v13 (F := Ideal) x g w (ix2 r (AbIn.src ⟨768 + k.val, by omega⟩)) := by
  pointwise [Read.val_main_v41, Read.val_main_v40, Read.val_main_v39, Read.val_main_v38]
  split
  · exact congrArg (fun l => Read.val_main_v13 (F := Ideal) x g w (ix2 r l)) (head_src 768 (by decide) (by decide) k _ _ _ _ (by simp_all) (by simp))
  · exact congrArg (fun l => Read.val_main_v13 (F := Ideal) x g w (ix2 r l)) (head_src 768 (by decide) (by decide) k _ _ _ _ (by simp_all) (by simp))

theorem head7 (r : Fin 8192) (k : Fin 128) : Read.val_main_v45 (F := Ideal) x g w (ix2 r k) = Read.val_main_v13 (F := Ideal) x g w (ix2 r (AbIn.src ⟨896 + k.val, by omega⟩)) := by
  pointwise [Read.val_main_v45, Read.val_main_v44, Read.val_main_v43, Read.val_main_v42]
  split
  · exact congrArg (fun l => Read.val_main_v13 (F := Ideal) x g w (ix2 r l)) (head_src 896 (by decide) (by decide) k _ _ _ _ (by simp_all) (by simp))
  · exact congrArg (fun l => Read.val_main_v13 (F := Ideal) x g w (ix2 r l)) (head_src 896 (by decide) (by decide) k _ _ _ _ (by simp_all) (by simp))

/-- Every column of the result is the product's column that stands there in the split order. -/
theorem cols_eq (r : Fin 8192) (k : Fin 2560) : Read.val_main_v48 (F := Ideal) x g w (ix2 r k) = Read.val_main_v13 (F := Ideal) x g w (ix2 r (AbIn.src k)) := by
  have at_src (n : ℕ) (hn : n < 2560) (e : n = k.val) : Read.val_main_v13 (F := Ideal) x g w (ix2 r (AbIn.src ⟨n, hn⟩)) = Read.val_main_v13 (F := Ideal) x g w (ix2 r (AbIn.src k)) := by
    subst e; rfl
  have last (h : 1024 ≤ k.val) : 1024 + (k.val - 128 - 128 - 128 - 128 - 128 - 128 - 128 - 128) = (AbIn.src k).val := by
    rw [AbIn.src_val, if_neg (by omega)]; omega
  pointwise [Read.val_main_v48, Read.val_main_v47]
  by_cases h0 : k.val < 128
  · simp only [h0, dif_pos, dif_neg, not_false_eq_true]; exact (head0 x g w r _).trans (at_src _ _ (by show 0 + (k.val) = k.val; omega))
  by_cases h1 : k.val - 128 < 128
  · simp only [h1, dif_pos, dif_neg, h0, not_false_eq_true]; exact (head1 x g w r _).trans (at_src _ _ (by show 128 + (k.val - 128) = k.val; omega))
  by_cases h2 : k.val - 128 - 128 < 128
  · simp only [h2, dif_pos, dif_neg, h0, h1, not_false_eq_true]; exact (head2 x g w r _).trans (at_src _ _ (by show 256 + (k.val - 128 - 128) = k.val; omega))
  by_cases h3 : k.val - 128 - 128 - 128 < 128
  · simp only [h3, dif_pos, dif_neg, h0, h1, h2, not_false_eq_true]; exact (head3 x g w r _).trans (at_src _ _ (by show 384 + (k.val - 128 - 128 - 128) = k.val; omega))
  by_cases h4 : k.val - 128 - 128 - 128 - 128 < 128
  · simp only [h4, dif_pos, dif_neg, h0, h1, h2, h3, not_false_eq_true]; exact (head4 x g w r _).trans (at_src _ _ (by show 512 + (k.val - 128 - 128 - 128 - 128) = k.val; omega))
  by_cases h5 : k.val - 128 - 128 - 128 - 128 - 128 < 128
  · simp only [h5, dif_pos, dif_neg, h0, h1, h2, h3, h4, not_false_eq_true]; exact (head5 x g w r _).trans (at_src _ _ (by show 640 + (k.val - 128 - 128 - 128 - 128 - 128) = k.val; omega))
  by_cases h6 : k.val - 128 - 128 - 128 - 128 - 128 - 128 < 128
  · simp only [h6, dif_pos, dif_neg, h0, h1, h2, h3, h4, h5, not_false_eq_true]; exact (head6 x g w r _).trans (at_src _ _ (by show 768 + (k.val - 128 - 128 - 128 - 128 - 128 - 128) = k.val; omega))
  by_cases h7 : k.val - 128 - 128 - 128 - 128 - 128 - 128 - 128 < 128
  · simp only [h7, dif_pos, dif_neg, h0, h1, h2, h3, h4, h5, h6, not_false_eq_true]; exact (head7 x g w r _).trans (at_src _ _ (by show 896 + (k.val - 128 - 128 - 128 - 128 - 128 - 128 - 128) = k.val; omega))
  simp only [dif_neg, h0, h1, h2, h3, h4, h5, h6, h7, not_false_eq_true]
  exact congrArg (fun l => Read.val_main_v13 (F := Ideal) x g w (ix2 r l)) (Fin.ext (last (by omega)))

theorem z_eq : Read.val_main_v48 (F := Ideal) x g w = fun i => prod (fun r k => x (ix2 r k)) (fun k => g (ix1 k)) (fun l k => w (ix2 l (AbIn.src k))) (i 0) (i 1) := by
  refine Common.ext2 fun r k => (cols_eq x g w r k).trans ?_
  pointwise [Read.val_main_v13]
  exact Finset.sum_congr rfl fun l _ => congrArg (· * _) (norm_eq x g r l)

/-- Equal arguments give equal normalised rows and products. -/
theorem algebraic : Cert.algebraic_Kernel11Ideal_Reference11Ideal := fun m g m' g' _ hm =>
  ⟨fun c => Cert.Kernel11Ideal.AbFwd.resH m c, fun c => Cert.Kernel11Ideal.AbFwd.resZ m c, Cert.Kernel11Ideal.AbFwd.run m g,
    (θ_run _ _ _).mono (fun _ h c => by
      obtain ⟨h0, h1, h2⟩ := hm c
      exact ⟨(h c).1.trans ((Read.val_main_v46_eq _ _).trans ((congr (congrArg (Read.val_main_v46 (F := Ideal)) h0) h1).trans (h_eq _ _))),
        (h c).2.1.trans ((Read.val_main_v48_eq m' c).trans ((congr (congr (congrArg (Read.val_main_v48 (F := Ideal)) h0) h1) h2).trans (z_eq _ _ _))), (h c).2.2⟩) (Cert.Reference11Ideal.Value.run m' g')⟩

end Cert.AbFwd
-- ==== Proof.MmRes.lean ====
/-
  THE PRODUCT WITH A RESIDUAL: the call `_mm_res` adds `a · w` to the rows `x` in sixteen blocks of 512 rows.
-/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Common
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.Kernel12Ideal.MmRes

open Cert.Kernel12Ideal Cert.Kernel12Ideal.Gen

/-- The sum at row `n` and column `k`. -/
def res (a : FVec Ideal S8192x4096 .bf16) (w : FVec Ideal S4096x1024 .f32) (x : FVec Ideal S8192x1024 .f32) (n : Fin 8192) (k : Fin 1024) : EReal :=
  x (ix2 n k) + ∑ l : Fin 4096, (a (ix2 n l) : EReal) * w (ix2 l k)

theorem pay_apply (x : Vec Ideal S512x1024 .f32) (a : Vec Ideal S512x4096 .bf16) (w : Vec Ideal S4096x1024 .bf16) (r : Fin 512) (k : Fin 1024) :
    k0_pay1 x a w (ix2 r k) = x (ix2 r k) + ∑ l : Fin 4096, (a (ix2 r l) : EReal) * w (ix2 l k) := by
  pointwise [k0_pay1]

variable (m : (ℓ : Loc nD τ sig) → Buf (Elt Ideal) ℓ) (ρ : Dev nD → PrngReg)

abbrev A0 (c : Dev nD) : FVec Ideal S8192x4096 .bf16 := m ((c : Thread nD τ).loc main_arg0)
abbrev A1 (c : Dev nD) : FVec Ideal S4096x1024 .f32 := m ((c : Thread nD τ).loc main_arg1)
abbrev A2 (c : Dev nD) : FVec Ideal S8192x1024 .f32 := m ((c : Thread nD τ).loc main_arg2)

theorem index_in : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

theorem row_lt (t : Fin cfg0.N) (r : Fin 512) : t.val * 512 + r.val < 8192 := by
  have := t.isLt; have : cfg0.N = 16 := N_0; omega

/-- Row `r` of point `t`'s block, in the array. -/
abbrev rowAt (t : Fin cfg0.N) (r : Fin 512) : Fin 8192 := ⟨t.val * 512 + r.val, row_lt t r⟩

theorem iblk0_apply (c : Dev nD) (t : Fin cfg0.N) (r : Fin 512) (k : Fin 4096) : iblk m c 0 t (ix2 r k) = A0 m c (ix2 (rowAt t r) k) := by
  blk_point [iblk, V, index_in t]

theorem iblk1_apply (c : Dev nD) (t : Fin cfg0.N) (l : Fin 4096) (k : Fin 1024) : iblk m c 1 t (ix2 l k) = A1 m c (ix2 l k) := by
  blk_point [iblk, V, index_in t]

theorem iblk2_apply (c : Dev nD) (t : Fin cfg0.N) (r : Fin 512) (k : Fin 1024) : iblk m c 2 t (ix2 r k) = A2 m c (ix2 (rowAt t r) k) := by
  blk_point [iblk, V, index_in t]

theorem out_eq (c : Dev nD) (t : Fin cfg0.N) (j : S512x1024.Idx) :
    out0_3 (iblk m c 0 t) (iblk m c 1 t) (iblk m c 2 t) j = res (A0 m c) (A1 m c) (A2 m c) (rowAt t (j 0)) (j 1) := by
  frame_out
  have e : j = ix2 (j 0) (j 1) := by
    funext a
    match a with
    | ⟨0, _⟩ => rfl
    | ⟨1, _⟩ => rfl
  refine (congrArg _ e).trans ((pay_apply _ _ _ _ _).trans ?_)
  exact congrArg₂ _ (iblk2_apply m c t _ _) (Finset.sum_congr rfl fun l _ => congrArg₂ _ (iblk0_apply m c t _ _) (iblk1_apply m c t _ _))

abbrev result (c : Dev nD) : Buf (Elt Ideal) ((c : Thread nD τ).loc main_v1) := fun i => res (A0 m c) (A1 m c) (A2 m c) (i 0) (i 1)

theorem final_eq (c : Dev nD) : (dats m 0 c).arrAt 3 cfg0.N = result m c := by
  refine (dats m 0 c).arrAt_eq_of_covers 3 _ (by decide +kernel) fun t hf y => ?_
  blk_simp
  rw [after0_3, out_eq]
  refine congrArg₂ (res (A0 m c) (A1 m c) (A2 m c)) (Fin.ext ?_) (Fin.ext ?_) <;> blk_simp [index_in t]

/-- The run: the result at the sum, the arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_eq m c), (h c).2⟩) (Value.run_blocks m ρ)

end Cert.Kernel12Ideal.MmRes

namespace Cert.MmRes

open Cert.Reference12Ideal Cert.Reference12Ideal.Gen Idealize.ShloMosaic.StableHlo

theorem value_eq (a : FVec Ideal S8192x4096 .bf16) (w : FVec Ideal S4096x1024 .f32) (x : FVec Ideal S8192x1024 .f32) :
    Read.val_main_v2 (F := Ideal) a w x = fun i => Cert.Kernel12Ideal.MmRes.res a w x (i 0) (i 1) := by
  refine Common.ext2 fun r k => ?_
  pointwise [Read.val_main_v2, Read.val_main_v1, Read.val_main_v0, Cert.Kernel12Ideal.MmRes.res]

/-- Equal arguments give equal sums. -/
theorem algebraic : Cert.algebraic_Kernel12Ideal_Reference12Ideal := fun m g m' g' _ hm =>
  ⟨fun c => Cert.Kernel12Ideal.MmRes.result m c, Cert.Kernel12Ideal.MmRes.run m g,
    (θ_run _ _ _).mono (fun _ h c => ⟨(h c).1.trans ((Read.val_main_v2_eq _ _ _).trans (by
      obtain ⟨h0, h1, h2⟩ := hm c
      exact (congr (congr (congrArg (Read.val_main_v2 (F := Ideal)) h0) h1) h2).trans (value_eq _ _ _))), (h c).2⟩) (Cert.Reference12Ideal.Value.run m' g')⟩

end Cert.MmRes
-- ==== Proof.Bias.lean ====
/-
  THE BIAS TILE: a query and a key of the tile read the table's entry of their clipped offset where the key's chunk is
  in sight, a large negative number where it is not. The call `_attn_bias` computes the entry of every offset first.
-/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Common
public import proofs.«01_k».proof.Proof.Pool
public import proofs.«01_k».proof.Proof.AttnMath
public import Idealize.ShloMosaic.Lib.StableHlo.RunRead
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.Bias

open Cert.Attn Cert.Dbias

/-- The number that stands where a key is out of sight. -/
def far : EReal := Ideal.ofBits .f32 0xF149F2CA#32

/-- The bias of a query and a key: the tile's query stands 512 past the first key. -/
def bias (t : Fin 16 → Fin 257 → EReal) (h : Fin 16) (q : Fin 256) (k : Fin 768) : EReal :=
  if sees k.val q.val then t h ⟨rel (q.val + 512) k.val, rel_lt _ _⟩ else far

/-- The table entry of diagonal `c`, which counts from the tile's first query; the diagonals past the keys wrap round. -/
def entry (c : ℕ) : ℕ := if c < 768 then min 256 (640 - c) else 256

theorem entry_word : ∀ c : Fin 1024, Scalar.select
    (IntOp.andi (IntOp.cmpi CmpIPredicate.sge (IntOp.subi (BitVec.ofNat 32 c.val) 0#32) 0#32)
      (IntOp.cmpi CmpIPredicate.slt (IntOp.subi (BitVec.ofNat 32 c.val) 0#32) 768#32))
    (clipWord (IntOp.subi 512#32 (IntOp.subi (BitVec.ofNat 32 c.val) 0#32))) 256#32
    = BitVec.ofNat 32 (entry c.val) := by
  decide +kernel

theorem entry_lt (c : ℕ) : entry c < 257 := by
  unfold entry
  split <;> omega

/-- The diagonal that the rotated row of a query holds at a key has the pair's entry. -/
theorem entry_pair (q : Fin 256) (k : Fin 768) : entry ((k.val + 1024 - q.val % 1024) % 1024) = rel (q.val + 512) k.val := by
  have hq := q.isLt
  have hk := k.isLt
  unfold entry rel
  split <;> omega

theorem entry_col (c : ℕ) (r : Fin 384) : BitVec.ofNat 32 (entry c) = BitVec.ofNat 32 r.val ↔ r = ⟨entry c, (entry_lt c).trans (by omega)⟩ := by
  have hr := r.isLt
  have he := entry_lt c
  rw [word_inj (by omega) (by omega), Fin.ext_iff]
  exact eq_comm

/-- The word that says whether a chunk is in sight of another. -/
theorem sight_word : ∀ a : Fin 4, ∀ b : Fin 12, IntOp.andi (IntOp.cmpi CmpIPredicate.sge (BitVec.ofNat 32 b.val) (BitVec.ofNat 32 a.val))
    (IntOp.cmpi CmpIPredicate.sle (BitVec.ofNat 32 b.val) (IntOp.addi (BitVec.ofNat 32 a.val) 8#32)) = if a.val ≤ b.val ∧ b.val ≤ a.val + 8 then 1#1 else 0#1 := by
  decide +kernel

end Cert.Bias

namespace Cert.Kernel13Ideal.Bias

open Cert.Kernel13Ideal Cert.Kernel13Ideal.Gen Cert.Bias Cert.Attn
open Cert.Dbias (clipWord ind self_sub)

variable {x : Vec Ideal S1x8x384 .f32} (hx : ∀ a r, ∃ s : ℝ, (x (ix3 0 a r) : EReal) = s)

include hx in
/-- The rotated row of a query: the table's entry of each diagonal. -/
theorem pay2_apply (q : Fin 256) (c : Fin 1024) : k0_pay2 x (ix2 q c) = x (ix3 0 0 ⟨entry ((c.val + 1024 - q.val % 1024) % 1024), (entry_lt _).trans (by omega)⟩) := by
  have z : ∀ r, (x (ix3 0 0 r) : EReal) - x (ix3 0 0 r) = 0 := fun r => self_sub (hx 0 r)
  have e := entry_word ⟨(c.val + 1024 - q.val % 1024) % 1024, by omega⟩
  unfold clipWord at e
  simp only at e
  pointwise [k0_pay2]
  simp only [z, sub_zero, zero_mul, Finset.sum_const_zero, add_zero, zero_add, e, ind, entry_col, mul_ite, mul_one, mul_zero, Finset.sum_ite_eq', Finset.mem_univ, if_true]

/-- The chunk of each query and of each key. -/
theorem query_word (q : Fin 256) (k : Fin 768) : k0_pay4 (ix2 q k) = BitVec.ofNat 32 (q.val / 64) :=
  Eq.trans (by rfl) ((by decide +kernel : ∀ q : Fin 256, k0_pay4 (ix2 q 0) = BitVec.ofNat 32 (q.val / 64)) q)

theorem key_word (q : Fin 256) (k : Fin 768) : Scalar.select (IntOp.andi (k0_pay6 (ix2 q k)) (k0_pay7 (ix2 q k))) (IntOp.subi (k0_pay5 (ix2 q k)) 1#32) (k0_pay5 (ix2 q k))
    = BitVec.ofNat 32 (k.val / 64) :=
  Eq.trans (by rfl) ((by decide +kernel : ∀ k : Fin 768, Scalar.select (IntOp.andi (k0_pay6 (ix2 0 k)) (k0_pay7 (ix2 0 k))) (IntOp.subi (k0_pay5 (ix2 0 k)) 1#32) (k0_pay5 (ix2 0 k))
    = BitVec.ofNat 32 (k.val / 64)) k)

/-- The masked tile. -/
theorem pay1_apply (v : FVec Ideal S256x768 .f32) (q : Fin 256) (k : Fin 768) : k0_pay1 v k0_pay4 k0_pay5 k0_pay6 k0_pay7 (ix3 0 q k)
    = if sees k.val q.val then (v (ix2 q k) : EReal) else far := by
  have e := sight_word ⟨q.val / 64, by omega⟩ ⟨k.val / 64, by omega⟩
  rw [← select_ite]
  unfold sees
  simp only at e
  rw [← e, ← key_word q k, ← query_word q k]
  pointwise [k0_pay1]
  rfl

include hx in
/-- The body leaves the head's bias of the tile. -/
theorem out_apply (q : Fin 256) (k : Fin 768) : out0_1 x (ix3 0 q k)
    = if sees k.val q.val then (x (ix3 0 0 ⟨rel (q.val + 512) k.val, (rel_lt _ _).trans (by omega)⟩) : EReal) else far := by
  unfold out0_1
  frame_out
  refine (pay1_apply _ q k).trans ?_
  have e : k0_pay3 (k0_pay2 x) (ix2 q k) = k0_pay2 x (ix2 q ⟨k.val, by omega⟩) := by
    pointwise [k0_pay3]
  refine if_congr Iff.rfl (e.trans ((pay2_apply hx q _).trans (congrArg (fun r => x (ix3 0 0 r)) (Fin.ext ?_)))) rfl
  exact entry_pair q k

variable (m : (ℓ : Loc nD τ sig) → Buf (Elt Ideal) ℓ) (ρ : Dev nD → PrngReg)

/-- The table padded to 384 columns, eight rows to a head. -/
def table (x : FVec Ideal S16x257 .f32) : FVec Ideal S16x8x384 .f32 :=
  broadcastInDim S16x8x384 ![0, 1, 2] bcast_S16x1x384_S16x8x384_0_1_2 (broadcastInDim S16x1x384 ![0, 2] bcast_S16x384_S16x1x384_0_2
    (pad S16x384 ![0, 0] ![0, 127] ![0, 0] x (sitofp .f32 (constantI S_ 32 0#32)) pads_S16x257_S16x384_000_01270 h_S_))

theorem table_eq (c : Dev nD) : V m c main_v2 = table (m ((c : Thread nD τ).loc main_arg0)) := by
  show StableHlo.after [hostOps0, hostOps0_1, hostOps0_2].flatten (fun b => m (c, b)) (Proc.tc.devRef main_v2) = _
  simp only [hostOps0, hostOps0_1, hostOps0_2, List.flatten_cons, List.flatten_nil, List.cons_append, List.nil_append, List.append_nil]
  after_reads_simp
  simp only [StableHlo.TRef.toBuf, StableHlo.TRef.ofBuf, cast_eq, id_eq]
  rfl

theorem table_apply (x : FVec Ideal S16x257 .f32) (h : Fin 16) (a : Fin 8) (r : Fin 384) :
    table x (ix3 h a r) = if hr : r.val < 257 then (x (ix2 h ⟨r.val, hr⟩) : EReal) else 0 := by
  pointwise [table]
  split
  · rfl
  · show (((0#32 : BitVec 32).toInt : ℝ) : EReal) = 0
    simp

/-- Where the two windows stand at point `t`: head `t`. -/
theorem index_t : ∀ t : Fin cfg0.N, (win0_0.index t 0 = t.val ∧ win0_0.index t 1 = 0 ∧ win0_0.index t 2 = 0)
    ∧ (win0_1.index t 0 = t.val ∧ win0_1.index t 1 = 0 ∧ win0_1.index t 2 = 0) :=
  (by decide +kernel : ∀ t : Fin grid0.N, (win0_0.index t 0 = t.val ∧ win0_0.index t 1 = 0 ∧ win0_0.index t 2 = 0)
    ∧ (win0_1.index t 0 = t.val ∧ win0_1.index t 1 = 0 ∧ win0_1.index t 2 = 0))

theorem head_lt (t : Fin cfg0.N) : t.val < 16 := by
  have := t.isLt; have : cfg0.N = 16 := N_0; omega

/-- The launched table. -/
def T (c : Dev nD) (h : Fin 16) (r : Fin 257) : EReal := (m ((c : Thread nD τ).loc main_arg0) : FVec Ideal S16x257 .f32) (ix2 h r)

theorem iblk_apply (c : Dev nD) (t : Fin cfg0.N) (a : Fin 8) (r : Fin 384) :
    iblk m c 0 t (ix3 0 a r) = if hr : r.val < 257 then T m c ⟨t.val, head_lt t⟩ ⟨r.val, hr⟩ else 0 := by
  unfold iblk
  rw [View.read_apply]
  refine Eq.trans ?_ ((congrFun (table_eq m c) _).trans (table_apply _ ⟨t.val, head_lt t⟩ a r))
  show V m c main_v2 _ = V m c main_v2 _
  congr 1
  funext b
  apply Fin.ext
  match b with
  | ⟨0, _⟩ => show win0_0.index t 0 * 1 + 1 * 0 = t.val; rw [(index_t t).1.1]; omega
  | ⟨1, _⟩ => show win0_0.index t 1 * 8 + 1 * a.val = a.val; rw [(index_t t).1.2.1]; omega
  | ⟨2, _⟩ => show win0_0.index t 2 * 384 + 1 * r.val = r.val; rw [(index_t t).1.2.2]; omega

/-- The result array: each head's bias of the tile. -/
abbrev result (c : Dev nD) : Buf (Elt Ideal) ((c : Thread nD τ).loc main_v3) :=
  fun i : S16x256x768.Idx => bias (T m c) (i 0) (i 1) (i 2)

/-- Every entry of the table is a real number. -/
abbrev Finite (c : Dev nD) : Prop := ∀ h r, ∃ s : ℝ, T m c h r = (s : EReal)

theorem block_apply (c : Dev nD) (hf : Finite m c) (t : Fin cfg0.N) (q : Fin 256) (k : Fin 768) :
    out0_1 (iblk m c 0 t) (ix3 0 q k) = bias (T m c) ⟨t.val, head_lt t⟩ q k := by
  refine (out_apply (fun a r => ?_) q k).trans (if_congr Iff.rfl ((iblk_apply m c t 0 _).trans (dif_pos (rel_lt _ _))) rfl)
  rw [iblk_apply]
  split
  · exact hf _ _
  · exact ⟨0, rfl⟩

/-- The sixteen heads' blocks make up the result. -/
theorem final_eq (c : Dev nD) (hf : Finite m c) : (dats m 0 c).arrAt 1 cfg0.N = result m c :=
  (dats m 0 c).arrAt_eq_of_covers 1 (result m c) (by decide +kernel) fun t _ y => by
    blk_simp
    rw [after0_1]
    refine (congrArg (out0_1 _) (eq_ix3 _)).trans ((congrArg (fun a => out0_1 _ (ix3 a _ _)) (Subsingleton.elim _ 0)).trans ((block_apply m c hf t _ _).trans ?_))
    refine congr (congrArg₂ (bias (T m c)) (Fin.ext ?_) (Fin.ext ?_)) (Fin.ext ?_) <;> blk_simp [(index_t t).2.1, (index_t t).2.2.1, (index_t t).2.2.2]

/-- The run where the table is finite: the result at the bias, the argument unchanged. -/
theorem run (hf : ∀ c, Finite m c) : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0) :=
  (θ_run defs _ _).mono (fun _ h c => ⟨(h c).1.trans (final_eq m c (hf c)), (h c).2⟩) (Value.run_blocks m ρ)

end Cert.Kernel13Ideal.Bias

namespace Cert.Reference13Ideal.Bias

open Cert.Reference13Ideal Cert.Reference13Ideal.Gen Cert.Reference13Ideal.Read Cert.Bias Cert.Attn Idealize.ShloMosaic.StableHlo

/-- The reference's index word of a pair. -/
theorem word_apply (q : Fin 256) (k : Fin 768) : val_main_v33 (F := Ideal) (ix3 q k 0) = BitVec.ofNat 32 (rel (q.val + 512) k.val) := by
  have e := rel_nonneg ⟨rel (q.val + 512) k.val, rel_lt _ _⟩
  have e' : IntOp.addi (BitVec.ofNat 32 q.val) 512#32 = BitVec.ofNat 32 (q.val + 512) := (BitVec.ofNat_add ..).symm
  simp only at e
  rw [← e, ← seq_word ⟨q.val + 512, by omega⟩ ⟨k.val, by omega⟩]
  unfold Dbias.clipWord
  simp only
  rw [← e']
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_c_3, val_main_c_4, val_main_c_5, val_main_c_6, val_main_c_7, val_main_c_8, val_main_call0_v4, val_main_call0_v3, val_main_call0_v2, val_main_call0_v1, val_main_call0_v0]
  rfl

/-- The reference's word that says whether a pair is in sight. -/
theorem seen_apply (q : Fin 256) (k : Fin 768) : val_main_v15 (F := Ideal) (ix2 q k) = if sees k.val q.val then 1#1 else 0#1 := by
  rw [← seen_word ⟨k.val, by omega⟩ ⟨q.val, by omega⟩]
  pointwise [val_main_v15, val_main_v14, val_main_v13, val_main_v12, val_main_v11, val_main_v10, val_main_v9, val_main_v8, val_main_v7, val_main_v6, val_main_v5, val_main_v4, val_main_v3, val_main_v2, val_main_v1, val_main_v0, val_main_c, val_main_c_0, val_main_c_1, val_main_c_2]

theorem reads_row (h : Fin 16) (q : Fin 256) (k : Fin 768) (y : IVec S256x768x1 32) :
    (gather_S16x257_S256x768x1_S16x256x768_0_1_n_n_1_2_161.operandIdx (ix3 h q k : S16x256x768.Idx) y 0).val = h.val := by
  show 0 + 0 + h.val = h.val
  omega

theorem reads_col (h : Fin 16) (q : Fin 256) (k : Fin 768) (y : IVec S256x768x1 32) :
    (gather_S16x257_S256x768x1_S16x256x768_0_1_n_n_1_2_161.operandIdx (ix3 h q k : S16x256x768.Idx) y 1).val = min (y (ix3 q k 0)).toInt.toNat 256 := by
  show min (y _).toInt.toNat 256 + 0 + 0 = _
  refine congrArg (fun w : BitVec 32 => min w.toInt.toNat 256) (congrArg y ?_)
  funext a
  match a with
  | ⟨0, _⟩ => rfl
  | ⟨1, _⟩ => rfl
  | ⟨2, _⟩ => rfl

variable (x0 : FVec Ideal S16x257 .f32)

theorem gather_apply (h : Fin 16) (q : Fin 256) (k : Fin 768) : val_main_v34 (F := Ideal) x0 (ix3 h q k) = x0 (ix2 h ⟨rel (q.val + 512) k.val, rel_lt _ _⟩) := by
  have two : ∀ p : Fin S16x257.rank → Prop, (∀ a, p a) ↔ p 0 ∧ p 1 := fun _ => Fin.forall_fin_two
  have e := rel_int ⟨rel (q.val + 512) k.val, rel_lt _ _⟩
  have l := rel_lt (q.val + 512) k.val
  show x0 _ = x0 _
  congr 1
  refine funext ((two _).2 ⟨Fin.ext ?_, Fin.ext ?_⟩)
  · rw [reads_row]; rfl
  · rw [reads_col, word_apply, e]
    show min ((rel (q.val + 512) k.val : ℤ).toNat) 256 = rel (q.val + 512) k.val
    omega

theorem value_eq : val_main_v35 (F := Ideal) x0 = fun i : S16x256x768.Idx => bias (fun h r => x0 (ix2 h r)) (i 0) (i 1) (i 2) := by
  funext i
  refine (congrArg (val_main_v35 (F := Ideal) x0) (eq_ix3 i)).trans ?_
  refine Eq.trans ?_ (select_ite _ _ _)
  exact congrArg₂ (fun w y => (Scalar.select w y far : EReal)) (seen_apply (i 1) (i 2)) (gather_apply x0 (i 0) (i 1) (i 2))

/-- The reference's run: the result at the bias, the argument unchanged. -/
theorem run (m : (ℓ : Loc nD τ sig) → Buf (Elt Ideal) ℓ) (ρ : Dev nD → PrngReg) (a0 : Dev nD → FVec Ideal S16x257 .f32)
    (hm : ∀ c : Dev nD, m ((c.tc : Thread nD τ).loc main_arg0) = a0 c) :
    θ_run defs (onTc (τ := τ) (main (F := Ideal))) ⟨m, fun _ => 0, ρ⟩ fun r => ∀ c : Dev nD,
      r.2.mem ((c.tc : Thread nD τ).loc main_v35) = (fun i => bias (fun h r => a0 c (ix2 h r)) (i 0) (i 1) (i 2) : FVec Ideal S16x256x768 .f32)
      ∧ r.2.mem ((c.tc : Thread nD τ).loc main_arg0) = m ((c.tc : Thread nD τ).loc main_arg0) :=
  (θ_run defs _ _).mono (fun _ h c => ⟨(h c).1.trans ((Read.val_main_v35_eq _).trans ((congrArg (val_main_v35 (F := Ideal)) (hm c)).trans (value_eq _))), (h c).2⟩)
    (Value.run m ρ)

end Cert.Reference13Ideal.Bias

namespace Cert.Bias

/-- The shape conditions of the precondition's operations. -/
theorem pre_facts : Cert.Pre_finite_bias.Facts :=
  ⟨by decide +kernel⟩

/-- Equal finite tables give equal biases. -/
theorem algebraic [Cert.Pre_finite_bias.Facts] : Cert.algebraic_Kernel13Ideal_Reference13Ideal_pre_finite_bias := fun m g m' g' h hm =>
  ⟨fun c => Cert.Kernel13Ideal.Bias.result m c,
    Cert.Kernel13Ideal.Bias.run m g fun c n r => Cert.Pool.real_of_bits Cert.Pool.bot_f32 Cert.Pool.top_f32 (congrFun (h c) (ix2 n r)),
    Cert.Reference13Ideal.Bias.run m' g' _ hm⟩

end Cert.Bias
-- ==== Proof.PoolFwd.lean ====
/-
  THE MULTI-SCALE POOL'S FORWARD PASS: the call `_pool_fwd` mixes a block's pooled rows by each group's weight and scales
  them; the reference forms the pooled rows from running sums. They are the same where the pooled columns are finite.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Pool

@[expose] public section

set_option maxRecDepth 16384

noncomputable section

open Idealize.ShloMosaic Idealize.ShloMosaic.TcCoe Idealize.SL.Sem
open Idealize.ShloMosaic.Pipeline (Dat)

namespace Cert.PoolFwd

open Cert.Window Idealize.ShloMosaic

/-- A row's mixed and scaled value in group `g`, place `e`. -/
def mixed (P : Fin 8192 → Fin 512 → EReal) (W : Fin 4 → Fin 128 → Fin 128 → EReal) (S : Fin 512 → EReal) (g : Fin 4) (e : Fin 128) (n : Fin 8192) : EReal :=
  (∑ a, pooled P g a n * W g a e) * S (col g e)

end Cert.PoolFwd

namespace Cert.Kernel14Ideal.PoolFwd

open Cert.Kernel14Ideal Cert.Kernel14Ideal.Gen Cert.Window Cert.PoolFwd
open Cert.Kernel6Ideal.Pool (vin gt_zero grp lane at_col two_axes)

section
variable (i : grid0.Coords) (h : Vec Ideal S16x512 .f32) (p : Vec Ideal S512x512 .f32)

theorem pooled0_apply (q : Fin 512) (a : Fin 128) : k0_pay8 i h p (ix2 q a)
    = Ideal.div (rot 1 (vin i h p (col 0 a)) ⟨16 + q.val, by omega⟩) (cnt 2#32 ((i 0).val * 512 + q.val)) - p (ix2 q (col 0 a)) :=
  Cert.Kernel6Ideal.Pool.pooled0_apply i h p q a

theorem pooled1_apply (q : Fin 512) (a : Fin 128) : k0_pay9 i h p (ix2 q a)
    = Ideal.div (rot 2 (rot 1 (vin i h p (col 1 a))) ⟨16 + q.val, by omega⟩) (cnt 4#32 ((i 0).val * 512 + q.val)) - p (ix2 q (col 1 a)) :=
  Cert.Kernel6Ideal.Pool.pooled1_apply i h p q a

theorem pooled2_apply (q : Fin 512) (a : Fin 128) : k0_pay15 p (k0_pay10 i) (k0_pay11 i h p) (ix2 q a)
    = Ideal.div (rot 4 (rot 2 (rot 1 (vin i h p (col 2 a)))) ⟨16 + q.val, by omega⟩) (cnt 8#32 ((i 0).val * 512 + q.val)) - p (ix2 q (col 2 a)) :=
  Cert.Kernel6Ideal.Pool.pooled2_apply i h p q a

theorem pooled3_apply (q : Fin 512) (a : Fin 128) : k0_pay12 p (k0_pay6 i h p) (k0_pay7 i) (ix2 q a)
    = Ideal.div (rot 8 (rot 4 (rot 2 (rot 1 (vin i h p (col 3 a))))) ⟨16 + q.val, by omega⟩) (cnt 16#32 ((i 0).val * 512 + q.val)) - p (ix2 q (col 3 a)) :=
  Cert.Kernel6Ideal.Pool.pooled3_apply i h p q a

end

section
variable (y : FVec Ideal S512x128 .f32) (w : Vec Ideal S1x128x128 .f32) (s : Vec Ideal S1x128 .f32)

/-- A group's pooled rows mixed and scaled. -/
theorem mix0_apply (q : Fin 512) (e : Fin 128) : k0_pay13 y w s (ix2 q e) = (∑ a : Fin 128, (y (ix2 q a) : EReal) * w (ix3 0 a e)) * s (ix2 0 e) := by
  pointwise [k0_pay13]

theorem mix1_apply (q : Fin 512) (e : Fin 128) : k0_pay14 y w s (ix2 q e) = (∑ a : Fin 128, (y (ix2 q a) : EReal) * w (ix3 0 a e)) * s (ix2 0 e) :=
  mix0_apply y w s q e

theorem mix2_apply (y : FVec Ideal S512x128 .bf16) (q : Fin 512) (e : Fin 128) : k0_pay1 y (k0_pay16 w) s (ix2 q e) = (∑ a : Fin 128, (y (ix2 q a) : EReal) * w (ix3 0 a e)) * s (ix2 0 e) := by
  pointwise [k0_pay1, k0_pay16]

theorem mix3_apply (q : Fin 512) (e : Fin 128) : k0_pay2 y w s (ix2 q e) = (∑ a : Fin 128, (y (ix2 q a) : EReal) * w (ix3 0 a e)) * s (ix2 0 e) :=
  mix0_apply y w s q e

end

variable (m : (ℓ : Loc nD τ sig) → Buf (Elt Ideal) ℓ) (ρ : Dev nD → PrngReg)

/-- The pool's columns, the weight and the scale. -/
abbrev P (c : Dev nD) (n : Fin 8192) (k : Fin 512) : EReal := (m ((c : Thread nD τ).loc main_arg0) : FVec Ideal S8192x2560 .f32) (ix2 n ⟨2048 + k.val, by omega⟩)
abbrev W (c : Dev nD) (g : Fin 4) (a e : Fin 128) : EReal := (m ((c : Thread nD τ).loc main_arg1) : FVec Ideal S4x128x128 .f32) (ix3 g a e)
abbrev S (c : Dev nD) (k : Fin 512) : EReal := (m ((c : Thread nD τ).loc main_arg2) : FVec Ideal S512 .f32) (ix1 k)

theorem index_in : ∀ t : Fin cfg0.N, win0_0.index t = ![t.val, 4] ∧ win0_1.index t = ![t.val * 32 - 1, 4] ∧ win0_2.index t = ![0, 0, 0]
    ∧ win0_3.index t = ![0, 0] ∧ win0_4.index t = ![t.val, 0] :=
  (by decide +kernel : ∀ t : Fin grid0.N, win0_0.index t = ![t.val, 4] ∧ win0_1.index t = ![t.val * 32 - 1, 4] ∧ win0_2.index t = ![0, 0, 0]
    ∧ win0_3.index t = ![0, 0] ∧ win0_4.index t = ![t.val, 0])

theorem coord : ∀ t : Fin cfg0.N, (grid0.coords t 0).val = t.val :=
  (by decide +kernel : ∀ t : Fin grid0.N, (grid0.coords t 0).val = t.val)

theorem t_lt (t : Fin cfg0.N) : t.val < 16 := by
  have := t.isLt; have : cfg0.N = 16 := N_0; omega

/-- Row `r` of point `t`'s block, in the array. -/
abbrev rowAt (t : Fin cfg0.N) (r : Fin 512) : Fin 8192 := ⟨t.val * 512 + r.val, by have := t_lt t; omega⟩

theorem iblk0_apply (c : Dev nD) (t : Fin cfg0.N) (r k : Fin 512) :
    iblk m c 0 t (ix2 r k) = P m c (rowAt t r) k := by
  blk_point [iblk, V, index_in t]

theorem iblk1_apply (c : Dev nD) (t : Fin cfg0.N) (r : Fin 16) (k : Fin 512) :
    iblk m c 1 t (ix2 r k) = P m c ⟨(t.val * 32 - 1) * 16 + r.val, by have := t_lt t; omega⟩ k := by
  blk_point [iblk, V, index_in t]

theorem iblk2_apply (c : Dev nD) (t : Fin cfg0.N) (g : Fin 4) (a e : Fin 128) :
    iblk m c 2 t (ix3 g a e) = W m c g a e := by
  blk_point [iblk, V, index_in t]

theorem iblk3_apply (c : Dev nD) (t : Fin cfg0.N) (k : Fin 512) :
    iblk m c 3 t (ix2 0 k) = S m c k := by
  blk_point [iblk, V, index_in t]

/-- Loads of one group's weight and of its part of the scale. -/
theorem ldW (c : Dev nD) (t : Fin cfg0.N) (o : ℕ) (g : Fin 4) (ho : o = g.val) (inb : ∀ a, ![o, 0, 0] a + ![1, 128, 128] a ≤ S4x128x128.size a) (a e : Fin 128) :
    View.ld (iblk m c 2 t) (Rect.unit (s := S4x128x128) ![o, 0, 0] ![1, 128, 128] inb) (ix3 0 a e) = W m c g a e :=
  (View.ld_unit_apply_of _ _ _ _ _ (ix3 g a e) (by
    subst ho; intro a; match a with | ⟨0, _⟩ => rfl | ⟨1, _⟩ => exact (Nat.zero_add _).symm | ⟨2, _⟩ => exact (Nat.zero_add _).symm)).trans (iblk2_apply m c t _ _ _)

theorem ldS (c : Dev nD) (t : Fin cfg0.N) (o : ℕ) (g : Fin 4) (ho : o = g.val * 128) (inb : ∀ a, ![0, o] a + ![1, 128] a ≤ S1x512.size a) (e : Fin 128) :
    View.ld (iblk m c 3 t) (Rect.unit (s := S1x512) ![0, o] ![1, 128] inb) (ix2 0 e) = S m c (col g e) :=
  (View.ld_unit_apply_of _ _ _ _ _ (ix2 0 (col g e)) (by
    subst ho; intro a; match a with | ⟨0, _⟩ => rfl | ⟨1, _⟩ => rfl)).trans (iblk3_apply m c t _)

theorem vin_eq (c : Dev nD) (t : Fin cfg0.N) (k : Fin 512) (r : Fin 528) :
    vin (grid0.coords t) (iblk m c 1 t) (iblk m c 0 t) k r = halo (fun n => P m c n k) t.val r.val := by
  have ht := t_lt t
  have hc : Scalar.cmpi .sgt (BitVec.ofNat 32 (grid0.coords t 0).val) 0#32 = if 0 < t.val then 1#1 else 0#1 := by
    rw [coord]; exact gt_zero ⟨t.val, ht⟩
  unfold vin halo
  by_cases hr : r.val < 16
  · rw [dif_pos hr]
    refine (congrArg₂ (fun b x => (Scalar.select b x 0 : EReal)) hc (iblk1_apply m c t ⟨r.val, hr⟩ k)).trans ?_
    by_cases h0 : 0 < t.val
    · rw [if_pos h0, if_pos (by omega)]
      refine Eq.trans ?_ (ext_lt (fun n => P m c n k) ⟨t.val * 512 + r.val - 16, by omega⟩).symm
      exact congrArg (fun n => P m c n k) (Fin.ext (by show (t.val * 32 - 1) * 16 + r.val = t.val * 512 + r.val - 16; omega))
    · rw [if_neg h0, if_neg (by omega)]; rfl
  · rw [dif_neg hr, if_pos (by omega)]
    refine (iblk0_apply m c t ⟨r.val - 16, by omega⟩ k).trans (Eq.trans ?_ (ext_lt (fun n => P m c n k) ⟨t.val * 512 + r.val - 16, by omega⟩).symm)
    exact congrArg (fun n => P m c n k) (Fin.ext (by show t.val * 512 + (r.val - 16) = t.val * 512 + r.val - 16; omega))

/-- Group 0's pooled rows of a block. -/
abbrev pool0 (c : Dev nD) (t : Fin cfg0.N) : FVec Ideal S512x128 .f32 := k0_pay8 (grid0.coords t) (iblk m c 1 t) (iblk m c 0 t)

theorem pool0_eq (c : Dev nD) (t : Fin cfg0.N) (q : Fin 512) (a : Fin 128) : pool0 m c t (ix2 q a) = pooled (P m c) 0 a (rowAt t q) := by
  refine (pooled0_apply _ _ _ _ _).trans ?_
  rw [down2 _ _ (vin_eq m c t (col 0 a)) _ (by show 2 ≤ 16 + q.val + 1; omega), iblk0_apply, coord]
  exact congrArg₂ (fun x y => Ideal.div x _ - y) (sum_halo _ _ _ _ (by decide)) rfl

/-- Group 1's pooled rows of a block. -/
abbrev pool1 (c : Dev nD) (t : Fin cfg0.N) : FVec Ideal S512x128 .f32 := k0_pay9 (grid0.coords t) (iblk m c 1 t) (iblk m c 0 t)

theorem pool1_eq (c : Dev nD) (t : Fin cfg0.N) (q : Fin 512) (a : Fin 128) : pool1 m c t (ix2 q a) = pooled (P m c) 1 a (rowAt t q) := by
  refine (pooled1_apply _ _ _ _ _).trans ?_
  rw [down4 _ _ (vin_eq m c t (col 1 a)) _ (by show 4 ≤ 16 + q.val + 1; omega), iblk0_apply, coord]
  exact congrArg₂ (fun x y => Ideal.div x _ - y) (sum_halo _ _ _ _ (by decide)) rfl

/-- Group 2's pooled rows of a block. -/
abbrev pool2 (c : Dev nD) (t : Fin cfg0.N) : FVec Ideal S512x128 .bf16 := k0_pay15 (iblk m c 0 t) (k0_pay10 (grid0.coords t)) (k0_pay11 (grid0.coords t) (iblk m c 1 t) (iblk m c 0 t))

theorem pool2_eq (c : Dev nD) (t : Fin cfg0.N) (q : Fin 512) (a : Fin 128) : pool2 m c t (ix2 q a) = pooled (P m c) 2 a (rowAt t q) := by
  refine (pooled2_apply _ _ _ _ _).trans ?_
  rw [down8 _ _ (vin_eq m c t (col 2 a)) _ (by show 8 ≤ 16 + q.val + 1; omega), iblk0_apply, coord]
  exact congrArg₂ (fun x y => Ideal.div x _ - y) (sum_halo _ _ _ _ (by decide)) rfl

/-- Group 3's pooled rows of a block. -/
abbrev pool3 (c : Dev nD) (t : Fin cfg0.N) : FVec Ideal S512x128 .f32 := k0_pay12 (iblk m c 0 t) (k0_pay6 (grid0.coords t) (iblk m c 1 t) (iblk m c 0 t)) (k0_pay7 (grid0.coords t))

theorem pool3_eq (c : Dev nD) (t : Fin cfg0.N) (q : Fin 512) (a : Fin 128) : pool3 m c t (ix2 q a) = pooled (P m c) 3 a (rowAt t q) := by
  refine (pooled3_apply _ _ _ _ _).trans ?_
  rw [down16 _ _ (vin_eq m c t (col 3 a)) _ (by show 16 ≤ 16 + q.val + 1; omega), iblk0_apply, coord]
  exact congrArg₂ (fun x y => Ideal.div x _ - y) (sum_halo _ _ _ _ (by decide)) rfl

/-! ## The result -/

/-- The tile of the result that group `g` stores, at the block's index. -/
theorem tile (c : Dev nD) (t : Fin cfg0.N) (j : S512x512.Idx) (i : S512x128.Idx) (x : Vec Ideal S512x128 .bf16) (y : Fin 512 → Fin 128 → EReal) (w : Fin 128 → Fin 128 → EReal) (s : Fin 128 → EReal) (o : ℕ) (g : Fin 4) (ho : o = g.val * 128)
    (hx : ∀ (q : Fin 512) (e : Fin 128), x (ix2 q e) = (∑ a, y q a * w a e) * s e)
    (hy : ∀ (q : Fin 512) (a : Fin 128), y q a = pooled (P m c) g a (rowAt t q)) (hw : ∀ a e, w a e = W m c g a e) (hs : ∀ e, s e = S m c (col g e))
    (h0 : (j 0).val = (i 0).val) (h1 : (j 1).val = o + (i 1).val) :
    x i = mixed (P m c) (W m c) (S m c) (grp (j 1)) (lane (j 1)) (rowAt t (j 0)) := by
  have hv : ∀ (q : Fin 512) (e : Fin 128), x (ix2 q e) = mixed (P m c) (W m c) (S m c) g e (rowAt t q) := fun q e =>
    (hx q e).trans (congrArg₂ HMul.hMul (Finset.sum_congr rfl fun a _ => congrArg₂ HMul.hMul (hy q a) (hw a e)) (hs e))
  exact ((congrArg x (two_axes i)).trans (hv _ _)).trans ((at_col (fun g e => mixed (P m c) (W m c) (S m c) g e (rowAt t (i 0))) (j 1) o g ho (i 1) h1).trans
    (congrArg _ (Fin.ext (by show t.val * 512 + (i 0).val = t.val * 512 + (j 0).val; omega))))

theorem block_apply (c : Dev nD) (t : Fin cfg0.N) (j : S512x512.Idx) :
    out0_4 (grid0.coords t) (iblk m c 0 t) (iblk m c 1 t) (iblk m c 2 t) (iblk m c 3 t) j = mixed (P m c) (W m c) (S m c) (grp (j 1)) (lane (j 1)) (rowAt t (j 0)) := by
  unfold out0_4
  frame_out
  canon_tiles i hi
  · exact tile m c t j i _ _ _ _ 384 3 rfl (mix3_apply _ _ _) (pool3_eq m c t) (ldW m c t 3 3 rfl _) (ldS m c t 384 3 rfl _) hi0 hi1
  · exact tile m c t j i _ _ _ _ 256 2 rfl (mix2_apply _ _ _) (pool2_eq m c t) (ldW m c t 2 2 rfl _) (ldS m c t 256 2 rfl _) hi0 hi1
  · exact tile m c t j i _ _ _ _ 128 1 rfl (mix1_apply _ _ _) (pool1_eq m c t) (ldW m c t 1 1 rfl _) (ldS m c t 128 1 rfl _) hi0 hi1
  · exact tile m c t j i _ _ _ _ 0 0 rfl (mix0_apply _ _ _) (pool0_eq m c t) (ldW m c t 0 0 rfl _) (ldS m c t 0 0 rfl _) hi0 (hi1.trans (Nat.zero_add _).symm)

/-- The result, of the launched arguments. -/
abbrev result (c : Dev nD) : Buf (Elt Ideal) ((c : Thread nD τ).loc main_v1) := fun i : S8192x512.Idx =>
  mixed (P m c) (W m c) (S m c) (grp (i 1)) (lane (i 1)) (i 0)

theorem result_read (c : Dev nD) (E : S8192x512.Idx) (n : Fin 8192) (k : Fin 512) (hE : E = ix2 n k) :
    (result m c : FVec Ideal S8192x512 .bf16) E = mixed (P m c) (W m c) (S m c) (grp k) (lane k) n := by
  subst hE; rfl

theorem final_eq (c : Dev nD) : (dats m 0 c).arrAt 4 cfg0.N = result m c :=
  (dats m 0 c).arrAt_eq_of_covers 4 (result m c) (by decide +kernel) fun t _ y => by
    blk_simp
    rw [after0_4, block_apply]
    have e : (win0_4.blk t).view.emb y = ix2 (rowAt t (y 0)) (y 1 : Fin 512) := by blk_ext [index_in t]
    exact (result_read m c _ _ _ e).symm

/-- The run: the result at the mixed rows, the arguments unchanged. -/
theorem run : θ_run defs (onTc (τ := τ) (main (F := Ideal))) ⟨m, fun _ => 0, ρ⟩ fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final_eq m c), (h c).2⟩) (Value.run_blocks m ρ)

end Cert.Kernel14Ideal.PoolFwd

namespace Cert.Reference14Ideal.PoolFwd

open Cert.Reference14Ideal Cert.Reference14Ideal.Gen Cert.Reference14Ideal.Read Cert.Window Cert.PoolFwd Idealize.ShloMosaic.StableHlo
open Cert.Kernel6Ideal.Pool (grp lane col_eq)
open Cert.Reference6Ideal.Pool (P W S)

variable (x0 : FVec Ideal S8192x2560 .f32) (x1 : FVec Ideal S4x128x128 .f32) (x2 : FVec Ideal S512 .f32)

/-- The pooled rows are those of the gradient's reference. -/
theorem pooled_eq : val_main_v77 (F := Ideal) x0 = Cert.Reference6Ideal.Read.val_main_v84 (F := Ideal) x0 := rfl

theorem mixed_apply (hP : ∀ n k, ∃ r : ℝ, P x0 n k = (r : EReal)) (n : Fin 8192) (g : Fin 4) (e : Fin 128) :
    val_main_v80 (F := Ideal) x0 x1 (ix3 0 n (col g e)) = ∑ a, pooled (P x0) g a n * W x1 g a e := by
  have h : val_main_v80 (F := Ideal) x0 x1 (ix3 0 n (col g e)) = val_main_v78 (F := Ideal) x0 x1 (ix4 g e 0 n) := by
    pointwise [val_main_v80, val_main_v79, col]
  refine h.trans ?_
  pointwise [val_main_v78]
  simp only [pooled_eq, Cert.Reference6Ideal.Pool.pooled_apply x0 hP]
  exact Finset.sum_congr rfl fun a _ => mul_comm _ _

theorem value_eq (hP : ∀ n k, ∃ r : ℝ, P x0 n k = (r : EReal)) : val_main_v85 (F := Ideal) x0 x1 x2
    = fun i : S8192x512.Idx => mixed (P x0) (W x1) (S x2) (grp (i 1)) (lane (i 1)) (i 0) := by
  refine Common.ext2 fun n k => ?_
  have e : (ix2 n k : S8192x512.Idx) = ix2 n (col (grp k) (lane k)) := by rw [col_eq]
  have s : val_main_v82 (F := Ideal) x2 (ix3 0 n (col (grp k) (lane k))) = S x2 (col (grp k) (lane k)) := by
    pointwise [val_main_v82, val_main_v81]
  have h : val_main_v85 (F := Ideal) x0 x1 x2 (ix2 n (col (grp k) (lane k))) = val_main_v83 (F := Ideal) x0 x1 x2 (ix3 0 n (col (grp k) (lane k))) := by
    pointwise [val_main_v85, val_main_v84]
  exact (congrArg _ e).trans (h.trans (congrArg₂ HMul.hMul (mixed_apply x0 x1 hP n (grp k) (lane k)) s))

/-- The reference's run where the pooled columns are finite: the result at the mixed rows, the arguments unchanged. -/
theorem run (m : (ℓ : Loc nD τ sig) → Buf (Elt Ideal) ℓ) (ρ : Dev nD → PrngReg) (a0 : Dev nD → FVec Ideal S8192x2560 .f32) (a1 : Dev nD → FVec Ideal S4x128x128 .f32) (a2 : Dev nD → FVec Ideal S512 .f32)
    (hf : ∀ c n k, ∃ r : ℝ, P (a0 c) n k = (r : EReal))
    (hm : ∀ c : Dev nD, m ((c.tc : Thread nD τ).loc main_arg0) = a0 c
      ∧ m ((c.tc : Thread nD τ).loc main_arg1) = a1 c
      ∧ m ((c.tc : Thread nD τ).loc main_arg2) = a2 c) :
    θ_run defs (onTc (τ := τ) (main (F := Ideal))) ⟨m, fun _ => 0, ρ⟩ fun r => ∀ c : Dev nD,
      r.2.mem ((c.tc : Thread nD τ).loc main_v85) = (fun i => mixed (P (a0 c)) (W (a1 c)) (S (a2 c)) (grp (i 1)) (lane (i 1)) (i 0) : FVec Ideal S8192x512 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2⟩ := hm c
    refine ⟨(h c).1.trans ((Read.val_main_v85_eq _ _).trans ((congr (congr (congrArg (val_main_v85 (F := Ideal)) h0) h1) h2).trans (value_eq _ _ _ (hf c)))), (h c).2⟩) (Value.run m ρ)

end Cert.Reference14Ideal.PoolFwd

namespace Cert.PoolFwd

open Cert.Window Cert.Pool Cert.Pre_finite_pool_fwd Idealize.ShloMosaic.StableHlo

/-- The shape conditions of the precondition's operations. -/
theorem pre_facts : Cert.Pre_finite_pool_fwd.Facts :=
  ⟨by decide +kernel, by decide +kernel⟩

/-- The precondition makes every pooled column's entry a real number. -/
theorem finite_of_pre [Cert.Pre_finite_pool_fwd.Facts] (a0 : FVec Ideal S8192x2560 .f32) (a1 : FVec Ideal S4x128x128 .f32) (a2 : FVec Ideal S512 .f32)
    (h : fn (F := Ideal) a0 a1 a2 = fun _ => 1#1) (n : Fin 8192) (k : Fin 512) : ∃ r : ℝ, Cert.Reference6Ideal.Pool.P a0 n k = (r : EReal) := by
  refine real_of_bits bot_f32 top_f32 (Eq.trans ?_ (congrFun h (ix2 n k)))
  pointwise [fn, Cert.Reference6Ideal.Pool.P]

/-- Equal arguments with finite pooled columns give equal results of the pool. -/
theorem algebraic [Cert.Pre_finite_pool_fwd.Facts] : Cert.algebraic_Kernel14Ideal_Reference14Ideal_pre_finite_pool_fwd := fun m g m' g' h hm =>
  ⟨fun c => Cert.Kernel14Ideal.PoolFwd.result m c, Cert.Kernel14Ideal.PoolFwd.run m g,
    Cert.Reference14Ideal.PoolFwd.run m' g' _ _ _ (fun c => finite_of_pre _ _ _ (h c)) hm⟩

end Cert.PoolFwd
-- ==== Proof.Tn.lean ====
/-
  A PRODUCT OVER THE ROWS: the call `_mm_tn` of `ffn_out_dw`, `aᵀ · dx` over 8192 rows. Each of four blocks of 1024
  columns of `a` adds up its product in a scratch over four blocks of 2048 rows, and the last of them writes the two
  pieces of 512 rows that two devices own.
-/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Common
public import Idealize.ShloMosaic.Lib.Pipeline.ValueKit.Point
public import Idealize.ShloMosaic.Lib.Pipeline.ReadBack

@[expose] public section

set_option maxRecDepth 16384

noncomputable section

open Idealize.ShloMosaic Idealize.ShloMosaic.TcCoe Idealize.SL.Sem

namespace Cert.Kernel15Ideal.Tn

open Cert.Kernel15Ideal Cert.Kernel15Ideal.Gen

/-- The product at row `l` and column `k`. -/
def prod (a : FVec Ideal S8192x4096 .bf16) (d : FVec Ideal S8192x1024 .f32) (l : Fin 4096) (k : Fin 1024) : EReal :=
  ∑ n : Fin 8192, (a (ix2 n l) : EReal) * d (ix2 n k)

theorem pay_apply (x : Vec Ideal S2048x1024 .bf16) (s : Vec Ideal S1024x1024 .f32) (y : Vec Ideal S2048x1024 .f32) (j : S1024x1024.Idx) :
    k0_pay2 x s y j = s j + ∑ r : Fin 2048, (x (ix2 r (j 0)) : EReal) * y (ix2 r (j 1)) := by
  pointwise [k0_pay2]

theorem zero_apply (j : S1024x1024.Idx) : k0_pay1 (F := Ideal) j = (0 : EReal) := by
  pointwise [k0_pay1]

theorem piece0_apply (x : Vec Ideal S512x1024 .f32) (i : S1x512x1024.Idx) : k0_pay3 x i = (x (ix2 (i 1) (i 2)) : EReal) := by
  pointwise [k0_pay3]

theorem piece1_apply (x : Vec Ideal S512x1024 .f32) (i : S1x512x1024.Idx) : k0_pay4 x i = (x (ix2 (i 1) (i 2)) : EReal) := by
  pointwise [k0_pay4]

variable (m : (ℓ : Loc nD τ sig) → Buf (Elt Ideal) ℓ) (ρ : Dev nD → PrngReg)

abbrev A0 (c : Dev nD) : FVec Ideal S8192x4096 .bf16 := m ((c : Thread nD τ).loc main_arg0)
abbrev A1 (c : Dev nD) : FVec Ideal S8192x1024 .f32 := m ((c : Thread nD τ).loc main_arg1)

theorem index_in : ∀ t : Fin cfg0.N, win0_0.index t = ![t.val % 4, t.val / 4] ∧ win0_1.index t = ![t.val % 4, 0] ∧ win0_2.index t = ![t.val / 4, 0, 0] :=
  (by decide +kernel : ∀ t : Fin grid0.N, win0_0.index t = ![t.val % 4, t.val / 4] ∧ win0_1.index t = ![t.val % 4, 0] ∧ win0_2.index t = ![t.val / 4, 0, 0])

/-- Row `r` of point `t`'s block of rows, and column `l` of its block of columns. -/
abbrev rowAt (t : ℕ) (r : Fin 2048) : Fin 8192 := ⟨t % 4 * 2048 + r.val, by omega⟩
abbrev colAt (t : ℕ) (l : Fin 1024) : Fin 4096 := ⟨t / 4 % 4 * 1024 + l.val, by omega⟩

theorem run_lt (t : Fin cfg0.N) : t.val / 4 % 4 = t.val / 4 := by
  have := t.isLt; have : cfg0.N = 16 := N_0; omega

theorem iblk0_apply (c : Dev nD) (t : Fin cfg0.N) (r : Fin 2048) (l : Fin 1024) : iblk m c 0 t (ix2 r l) = A0 m c (ix2 (rowAt t.val r) (colAt t.val l)) := by
  have e : colAt t.val l = ⟨t.val / 4 * 1024 + l.val, by have := run_lt t; omega⟩ := Fin.ext (by have := run_lt t; dsimp only; omega)
  rw [e]
  blk_point [iblk, V, index_in t]

theorem iblk1_apply (c : Dev nD) (t : Fin cfg0.N) (r : Fin 2048) (k : Fin 1024) : iblk m c 1 t (ix2 r k) = A1 m c (ix2 (rowAt t.val r) k) := by
  blk_point [iblk, V, index_in t]

/-- Four blocks of 2048 rows are 8192 rows. -/
theorem sum_8192 (f : Fin 8192 → EReal) : (∑ s : Fin 4, ∑ r : Fin 2048, f ⟨s.val * 2048 + r.val, by omega⟩) = ∑ r, f r :=
  Fin.sum_mul_add_congr fun _ _ _ => rfl

/-- What point `t` adds. -/
def part (c : Dev nD) (t : ℕ) (j : S1024x1024.Idx) : EReal :=
  ∑ r : Fin 2048, (A0 m c (ix2 (rowAt t r) (colAt t (j 0))) : EReal) * A1 m c (ix2 (rowAt t r) (j 1))

theorem part_eq (c : Dev nD) (t : Fin cfg0.N) (s : Vec Ideal S1024x1024 .f32) (j : S1024x1024.Idx) :
    k0_pay2 (iblk m c 0 t) s (iblk m c 1 t) j = s j + part m c t.val j :=
  (pay_apply _ _ _ _).trans (congrArg _ (Finset.sum_congr rfl fun r _ => congrArg₂ _ (iblk0_apply m c t r _) (iblk1_apply m c t r _)))

theorem scr_A (c : Dev nD) (t : Fin cfg0.N) (h : t.val % 4 = 0) (j : S1024x1024.Idx) :
    (outsAt0 m c t.val t.isLt).2 j = (0 : EReal) + part m c t.val j := by
  rw [outsAt0_A m c t h (by omega)]
  frame_out
  exact (part_eq m c t _ j).trans (congrArg₂ HAdd.hAdd (zero_apply j) rfl)

theorem scr_B (c : Dev nD) (t : Fin cfg0.N) (h : ¬ t.val % 4 = 0) (j : S1024x1024.Idx) :
    (outsAt0 m c t.val t.isLt).2 j = (outsAt0 m c (t.val - 1) (Nat.lt_of_le_of_lt (Nat.sub_le _ _) t.isLt)).2 j + part m c t.val j := by
  by_cases h1 : t.val % 4 = 3
  · rw [outsAt0_C m c t h h1]
    frame_out
    rw [read_unread_whole]
    exact part_eq m c t _ j
  · rw [outsAt0_B m c t h h1]
    frame_out
    rw [read_unread_whole]
    exact part_eq m c t _ j

/-- The scratch after the last block of rows: the product. -/
theorem scr_last (c : Dev nD) (t : Fin cfg0.N) (h : t.val % 4 = 3) (j : S1024x1024.Idx) :
    (outsAt0 m c t.val t.isLt).2 j = prod (A0 m c) (A1 m c) (colAt t.val (j 0)) (j 1) := by
  rw [Pipeline.eq_sum_of_reset_step_apply_of_mod (fun n h => (outsAt0 m c n h).2) 4 (fun _ => (0 : EReal)) (part m c)
    (fun t h j => scr_A m c t h j) (fun t h j => scr_B m c t h j) t h j, zero_add, Finset.sum_range]
  refine (Finset.sum_congr rfl fun k _ => Finset.sum_congr rfl fun r _ => ?_).trans
    (sum_8192 fun n => (A0 m c (ix2 n (colAt t.val (j 0))) : EReal) * A1 m c (ix2 n (j 1)))
  have hk := k.isLt
  have e : rowAt (4 * (t.val / 4) + k.val) r = ⟨k.val * 2048 + r.val, by omega⟩ := Fin.ext (by dsimp only; omega)
  have f : colAt (4 * (t.val / 4) + k.val) (j 0) = colAt t.val (j 0) := Fin.ext (by dsimp only; omega)
  rw [e, f]

/-- Row `p` of piece `q` of a block. -/
abbrev at2 (q : Fin 2) (p : Fin 512) : Fin 1024 := ⟨q.val * 512 + p.val, by omega⟩

/-- Piece `q` of point `t`'s run. -/
abbrev pieceAt (t : Fin cfg0.N) (q : Fin 2) : Fin 8 := ⟨t.val / 4 * 2 + q.val, by have := t.isLt; have : cfg0.N = 16 := N_0; omega⟩

/-- Row `p` of piece `q`. -/
abbrev rowOf {n : ℕ} (q : Fin n) (p : Fin 512) (h : n ≤ 8) : Fin 4096 := ⟨q.val * 512 + p.val, by omega⟩

theorem out_apply (c : Dev nD) (t : Fin cfg0.N) (h : t.val % 4 = 3) (j : S2x512x1024.Idx) :
    (outsAt0 m c t.val t.isLt).1 j = prod (A0 m c) (A1 m c) (colAt t.val (at2 (j 0) (j 1))) (j 2 : Fin 1024) := by
  have hs := scr_last m c t h
  rw [outsAt0_C m c t (by omega) h] at hs ⊢
  frame_out at hs
  frame_out [↓View.readCov_fill]
  canon_tiles i hi
  · refine (piece1_apply _ i).trans ((View.ld_unit_apply_of _ _ _ _ _ (ix2 ⟨512 + (i 1 : Fin 512).val, by omega⟩ (i 2 : Fin 1024)) (by intro a; match a with | ⟨0, _⟩ => rfl | ⟨1, _⟩ => exact (Nat.zero_add _).symm)).trans ((hs _).trans ?_))
    exact congrArg₂ (prod (A0 m c) (A1 m c)) (Fin.ext (show t.val / 4 % 4 * 1024 + (512 + (i 1).val) = t.val / 4 % 4 * 1024 + ((j 0).val * 512 + (j 1).val) by omega)) (Fin.ext hi2.symm)
  · refine (piece0_apply _ i).trans ((View.ld_unit_apply_of _ _ _ _ _ (ix2 ⟨(i 1 : Fin 512).val, by omega⟩ (i 2 : Fin 1024)) (by intro a; match a with | ⟨0, _⟩ => exact (Nat.zero_add _).symm | ⟨1, _⟩ => exact (Nat.zero_add _).symm)).trans ((hs _).trans ?_))
    exact congrArg₂ (prod (A0 m c) (A1 m c)) (Fin.ext (show t.val / 4 % 4 * 1024 + (i 1).val = t.val / 4 % 4 * 1024 + ((j 0).val * 512 + (j 1).val) by omega)) (Fin.ext hi2.symm)

abbrev result (c : Dev nD) : Buf (Elt Ideal) ((c : Thread nD τ).loc main_v0) := fun i : S8x512x1024.Idx =>
  prod (A0 m c) (A1 m c) (rowOf (i 0 : Fin 8) (i 1 : Fin 512) (by decide)) (i 2 : Fin 1024)

theorem result_read (c : Dev nD) (E : S8x512x1024.Idx) (q : Fin 8) (p : Fin 512) (k : Fin 1024) (hE : E = ix3 q p k) :
    (result m c : FVec Ideal S8x512x1024 .bf16) E = prod (A0 m c) (A1 m c) (rowOf q p (by decide)) k := by
  subst hE; rfl

theorem final_eq (c : Dev nD) : (dats m 0 c).arrAt 2 cfg0.N = result m c :=
  (dats m 0 c).arrAt_eq_of_covers 2 (result m c) (by decide +kernel) fun t hf y => by
    blk_simp
    rw [after0_2]
    have hr := run_lt t
    have ht : t.val / 4 < 4 := by omega
    have e : (win0_2.blk t).view.emb y = ix3 (pieceAt t (y 0)) (y 1 : Fin 512) (y 2 : Fin 1024) := by blk_ext [index_in t]
    refine Eq.trans ?_ (result_read m c _ _ _ _ e).symm
    refine (out_apply m c t ((flush0_2 t).mp hf) y).trans ?_
    refine congrArg (fun l => prod (A0 m c) (A1 m c) l (y 2 : Fin 1024)) (Fin.ext ?_)
    dsimp only
    omega

/-- The run: the result at the product, the arguments unchanged. -/
theorem run : θ_run defs (onTc (τ := τ) (main (F := Ideal))) ⟨m, fun _ => 0, ρ⟩ fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final_eq m c), (h c).2⟩) (Value.run_blocks m ρ)

end Cert.Kernel15Ideal.Tn

namespace Cert.Tn

open Cert.Reference15Ideal Cert.Reference15Ideal.Gen Idealize.ShloMosaic.StableHlo

theorem value_eq (a : FVec Ideal S8192x4096 .bf16) (d : FVec Ideal S8192x1024 .f32) :
    Read.val_main_v4 (F := Ideal) a d = fun i : S8x512x1024.Idx => Cert.Kernel15Ideal.Tn.prod a d (Cert.Kernel15Ideal.Tn.rowOf (i 0 : Fin 8) (i 1 : Fin 512) (by decide)) (i 2 : Fin 1024) := by
  funext i
  obtain ⟨q, p, k, rfl⟩ : ∃ (q : Fin 8) (p : Fin 512) (k : Fin 1024), i = ix3 q p k := ⟨i 0, i 1, i 2, eq_ix3 i⟩
  pointwise [Read.val_main_v4, Read.val_main_v3, Read.val_main_v2, Read.val_main_v1, Read.val_main_v0, Cert.Kernel15Ideal.Tn.prod]

/-- Equal arguments give equal products. -/
theorem algebraic : Cert.algebraic_Kernel15Ideal_Reference15Ideal := fun m g m' g' _ hm =>
  ⟨fun c => Cert.Kernel15Ideal.Tn.result m c, Cert.Kernel15Ideal.Tn.run m g,
    (θ_run _ _ _).mono (fun _ h c => ⟨(h c).1.trans ((Read.val_main_v4_eq _ _).trans (by
      obtain ⟨h0, h1⟩ := hm c
      exact (congr (congrArg (Read.val_main_v4 (F := Ideal)) h0) h1).trans (value_eq _ _))), (h c).2⟩) (Cert.Reference15Ideal.Value.run m' g')⟩

end Cert.Tn
-- ==== Proof.Update.lean ====
/-
  THE OPTIMISER'S ARITHMETIC: one step of AdamW at one entry, from the gradient, the weight and the two moments.
-/
module

public import Idealize.ShloMosaic.Lib.Pipeline.ValueKit.Point

@[expose] public section

noncomputable section

open Idealize.ShloMosaic

namespace Cert.Update

/-- The first moment's step. -/
def mom (g m : EReal) : EReal := Ideal.ofBits FTy.f32 1063675494#32 * m + Ideal.ofBits FTy.f32 1036831949#32 * g

/-- The second moment's step. -/
def var (g v : EReal) : EReal := Ideal.ofBits FTy.f32 1065336439#32 * v + Ideal.ofBits FTy.f32 981668463#32 * (g * g)

/-- The weight's step, with its decay. -/
def delta (g w m v : EReal) : EReal :=
  Ideal.ofBits FTy.f32 3129152111#32 *
    (Ideal.div (Ideal.div (mom g m) (Ideal.ofBits FTy.f32 1059503362#32))
        (Ideal.sqrt (Ideal.div (var g v) (Ideal.ofBits FTy.f32 1008933580#32)) + Ideal.ofBits FTy.f32 841731191#32)
      + Ideal.ofBits FTy.f32 1008981770#32 * w)

end Cert.Update

end
-- ==== Proof.Adam.lean ====
/-
  THE OPTIMISER OF ONE WEIGHT: the call `_adamw` of `w_ffn_out`. Grid points are layers and halves of 512 rows; a point
  adds up the eight devices' parts of its layer and takes the step at each entry.
-/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Common
public import proofs.«01_k».proof.Proof.Update
public import Idealize.ShloMosaic.Lib.Pipeline.ValueKit.Point

@[expose] public section

set_option maxRecDepth 16384

noncomputable section

open Idealize.ShloMosaic Idealize.ShloMosaic.TcCoe Idealize.SL.Sem

namespace Cert.Kernel16Ideal.Adam

open Cert.Kernel16Ideal Cert.Kernel16Ideal.Gen Cert.Update

section
variable (g : FVec Ideal S256x1024 .f32) (w x v : Vec Ideal S1x256x1024 .f32) (i : S1x256x1024.Idx)

theorem sum_apply (a b c d e f g h : Vec Ideal S1x256x1024 .bf16) (r : Fin 256) (k : Fin 1024) :
    k0_pay9 a b c d e f g h (ix2 r k) = (a (ix3 0 r k) : EReal) + b (ix3 0 r k) + c (ix3 0 r k) + d (ix3 0 r k) + e (ix3 0 r k) + f (ix3 0 r k) + g (ix3 0 r k) + h (ix3 0 r k) := by
  pointwise [k0_pay9]

theorem g_apply : k0_pay10 g i = (g (ix2 (i 1 : Fin 256) (i 2 : Fin 1024)) : EReal) := by
  pointwise [k0_pay10]

/-- A block has one page. -/
theorem eq_row : ix3 0 (i 1 : Fin 256) (i 2 : Fin 1024) = i := by
  funext a
  match a with
  | ⟨0, _⟩ => exact (Subsingleton.elim (α := Fin 1) _ _)
  | ⟨1, _⟩ => rfl
  | ⟨2, _⟩ => rfl

theorem m_apply : k0_pay1 (k0_pay11 g x) i = mom (g (ix2 (i 1 : Fin 256) (i 2 : Fin 1024))) (x (ix3 0 (i 1 : Fin 256) (i 2 : Fin 1024))) := by
  obtain ⟨r, k, rfl⟩ : ∃ (r : Fin 256) (k : Fin 1024), i = ix3 0 r k := ⟨i 1, i 2, (eq_row i).symm⟩
  pointwise [k0_pay1, k0_pay11, mom]

theorem v_apply : k0_pay2 (k0_pay12 g x) i = var (g (ix2 (i 1 : Fin 256) (i 2 : Fin 1024))) (x (ix3 0 (i 1 : Fin 256) (i 2 : Fin 1024))) := by
  obtain ⟨r, k, rfl⟩ : ∃ (r : Fin 256) (k : Fin 1024), i = ix3 0 r k := ⟨i 1, i 2, (eq_row i).symm⟩
  pointwise [k0_pay2, k0_pay12, var]

theorem d_apply : k0_pay13 g w x v i = delta (g (ix2 (i 1 : Fin 256) (i 2 : Fin 1024))) (w (ix3 0 (i 1 : Fin 256) (i 2 : Fin 1024)))
    (x (ix3 0 (i 1 : Fin 256) (i 2 : Fin 1024))) (v (ix3 0 (i 1 : Fin 256) (i 2 : Fin 1024))) := by
  obtain ⟨r, k, rfl⟩ : ∃ (r : Fin 256) (k : Fin 1024), i = ix3 0 r k := ⟨i 1, i 2, (eq_row i).symm⟩
  pointwise [k0_pay13, k0_pay11, k0_pay12, mom, var, delta]

end

theorem ld_row (X : Vec Ideal S8x256x1024 .bf16) (d : ℕ) (hd : d < 8) (inb) (r : Fin 256) (k : Fin 1024) :
    View.ld X (Rect.unit (s := S8x256x1024) ![d, 0, 0] ![1, 256, 1024] inb) (ix3 0 r k) = (X (ix3 ⟨d, hd⟩ r k) : EReal) :=
  View.ld_unit_apply_of _ _ _ _ _ (ix3 ⟨d, hd⟩ r k) (by
    intro a; match a with | ⟨0, _⟩ => rfl | ⟨1, _⟩ => exact (Nat.zero_add _).symm | ⟨2, _⟩ => exact (Nat.zero_add _).symm)

/-- The sum of the eight rows. -/
theorem sum_ld (X : Vec Ideal S8x256x1024 .bf16) (i0 i1 i2 i3 i4 i5 i6 i7) (r : Fin 256) (k : Fin 1024) :
    k0_pay9 (View.ld X (Rect.unit (s := S8x256x1024) ![0, 0, 0] ![1, 256, 1024] i0)) (View.ld X (Rect.unit (s := S8x256x1024) ![1, 0, 0] ![1, 256, 1024] i1))
      (View.ld X (Rect.unit (s := S8x256x1024) ![2, 0, 0] ![1, 256, 1024] i2)) (View.ld X (Rect.unit (s := S8x256x1024) ![3, 0, 0] ![1, 256, 1024] i3))
      (View.ld X (Rect.unit (s := S8x256x1024) ![4, 0, 0] ![1, 256, 1024] i4)) (View.ld X (Rect.unit (s := S8x256x1024) ![5, 0, 0] ![1, 256, 1024] i5))
      (View.ld X (Rect.unit (s := S8x256x1024) ![6, 0, 0] ![1, 256, 1024] i6)) (View.ld X (Rect.unit (s := S8x256x1024) ![7, 0, 0] ![1, 256, 1024] i7)) (ix2 r k)
      = ∑ d : Fin 8, (X (ix3 d r k) : EReal) := by
  refine (sum_apply _ _ _ _ _ _ _ _ r k).trans ?_
  rw [Fin.sum_univ_eight]
  exact congrArg₂ _ (congrArg₂ _ (congrArg₂ _ (congrArg₂ _ (congrArg₂ _ (congrArg₂ _ (congrArg₂ _ (ld_row X 0 _ _ r k) (ld_row X 1 _ _ r k))
    (ld_row X 2 _ _ r k)) (ld_row X 3 _ _ r k)) (ld_row X 4 _ _ r k)) (ld_row X 5 _ _ r k)) (ld_row X 6 _ _ r k)) (ld_row X 7 _ _ r k)

/-- The layer's gradient at row `r` and column `k`: the sum of the devices' parts. -/
def grad (a0 a1 a2 a3 : FVec Ideal S8x512x1024 .bf16) (l : Fin 4) (r : Fin 512) (k : Fin 1024) : EReal :=
  ∑ x : Fin 8, if h : l.val < 1 then (a0 (ix3 x r k) : EReal)
    else if h : l.val - 1 < 1 then a1 (ix3 x r k) else if h : l.val - 1 - 1 < 1 then a2 (ix3 x r k) else a3 (ix3 x r k)

variable (m : (ℓ : Loc nD τ sig) → Buf (Elt Ideal) ℓ) (ρ : Dev nD → PrngReg)

abbrev A0 (c : Dev nD) : FVec Ideal S8x512x1024 .bf16 := m ((c : Thread nD τ).loc main_arg0)
abbrev A1 (c : Dev nD) : FVec Ideal S8x512x1024 .bf16 := m ((c : Thread nD τ).loc main_arg1)
abbrev A2 (c : Dev nD) : FVec Ideal S8x512x1024 .bf16 := m ((c : Thread nD τ).loc main_arg2)
abbrev A3 (c : Dev nD) : FVec Ideal S8x512x1024 .bf16 := m ((c : Thread nD τ).loc main_arg3)
abbrev W (c : Dev nD) : FVec Ideal S4x512x1024 .f32 := m ((c : Thread nD τ).loc main_arg4)
abbrev M (c : Dev nD) : FVec Ideal S4x512x1024 .f32 := m ((c : Thread nD τ).loc main_arg5)
abbrev S (c : Dev nD) : FVec Ideal S4x512x1024 .f32 := m ((c : Thread nD τ).loc main_arg6)

abbrev lay (t : Fin cfg0.N) : Fin 4 := ⟨t.val / 2, by have := t.isLt; have : cfg0.N = 8 := N_0; omega⟩
abbrev rowAt (t : Fin cfg0.N) (r : Fin 256) : Fin 512 := ⟨t.val % 2 * 256 + r.val, by omega⟩

theorem index_in : ∀ t : Fin cfg0.N, win0_4.index t = ![t.val / 2, t.val % 2, 0] ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] ∧ win0_9.index t = ![t.val / 2, t.val % 2, 0] ∧ win0_10.index t = ![t.val / 2, t.val % 2, 0] :=
  (by decide +kernel : ∀ t : Fin grid0.N, win0_4.index t = ![t.val / 2, t.val % 2, 0] ∧ win0_5.index t = ![t.val / 2, t.val % 2, 0] ∧ win0_6.index t = ![t.val / 2, t.val % 2, 0]
    ∧ win0_7.index t = ![t.val / 2, t.val % 2, 0] ∧ win0_8.index t = ![t.val / 2, t.val % 2, 0] ∧ win0_9.index t = ![t.val / 2, t.val % 2, 0] ∧ win0_10.index t = ![t.val / 2, t.val % 2, 0])

/-- At a layer's points the layer's parts are at the point's half. -/
theorem index0 : ∀ t : Fin cfg0.N, t.val / 2 = 0 → win0_0.index t = ![0, t.val % 2, 0] :=
  (by decide +kernel : ∀ t : Fin grid0.N, t.val / 2 = 0 → win0_0.index t = ![0, t.val % 2, 0])
theorem index1 : ∀ t : Fin cfg0.N, t.val / 2 = 1 → win0_1.index t = ![0, t.val % 2, 0] :=
  (by decide +kernel : ∀ t : Fin grid0.N, t.val / 2 = 1 → win0_1.index t = ![0, t.val % 2, 0])
theorem index2 : ∀ t : Fin cfg0.N, t.val / 2 = 2 → win0_2.index t = ![0, t.val % 2, 0] :=
  (by decide +kernel : ∀ t : Fin grid0.N, t.val / 2 = 2 → win0_2.index t = ![0, t.val % 2, 0])
theorem index3 : ∀ t : Fin cfg0.N, t.val / 2 = 3 → win0_3.index t = ![0, t.val % 2, 0] :=
  (by decide +kernel : ∀ t : Fin grid0.N, t.val / 2 = 3 → win0_3.index t = ![0, t.val % 2, 0])

theorem iblk0_apply (c : Dev nD) (t : Fin cfg0.N) (h : t.val / 2 = 0) (d : Fin 8) (r : Fin 256) (k : Fin 1024) : iblk m c 0 t (ix3 d r k) = A0 m c (ix3 d (rowAt t r) k) := by
  blk_point [iblk, V, index0 t h]
theorem iblk1_apply (c : Dev nD) (t : Fin cfg0.N) (h : t.val / 2 = 1) (d : Fin 8) (r : Fin 256) (k : Fin 1024) : iblk m c 1 t (ix3 d r k) = A1 m c (ix3 d (rowAt t r) k) := by
  blk_point [iblk, V, index1 t h]
theorem iblk2_apply (c : Dev nD) (t : Fin cfg0.N) (h : t.val / 2 = 2) (d : Fin 8) (r : Fin 256) (k : Fin 1024) : iblk m c 2 t (ix3 d r k) = A2 m c (ix3 d (rowAt t r) k) := by
  blk_point [iblk, V, index2 t h]
theorem iblk3_apply (c : Dev nD) (t : Fin cfg0.N) (h : t.val / 2 = 3) (d : Fin 8) (r : Fin 256) (k : Fin 1024) : iblk m c 3 t (ix3 d r k) = A3 m c (ix3 d (rowAt t r) k) := by
  blk_point [iblk, V, index3 t h]
theorem iblk4_apply (c : Dev nD) (t : Fin cfg0.N) (r : Fin 256) (k : Fin 1024) : iblk m c 4 t (ix3 0 r k) = W m c (ix3 (lay t) (rowAt t r) k) := by
  blk_point [iblk, V, index_in t]
theorem iblk5_apply (c : Dev nD) (t : Fin cfg0.N) (r : Fin 256) (k : Fin 1024) : iblk m c 5 t (ix3 0 r k) = M m c (ix3 (lay t) (rowAt t r) k) := by
  blk_point [iblk, V, index_in t]
theorem iblk6_apply (c : Dev nD) (t : Fin cfg0.N) (r : Fin 256) (k : Fin 1024) : iblk m c 6 t (ix3 0 r k) = S m c (ix3 (lay t) (rowAt t r) k) := by
  blk_point [iblk, V, index_in t]

/-- The gradient at an index of the arrays, and the three steps. -/
abbrev G (c : Dev nD) (l : Fin 4) (r : Fin 512) (k : Fin 1024) : EReal := grad (A0 m c) (A1 m c) (A2 m c) (A3 m c) l r k
abbrev D (c : Dev nD) (l : Fin 4) (r : Fin 512) (k : Fin 1024) : EReal := delta (G m c l r k) (W m c (ix3 l r k)) (M m c (ix3 l r k)) (S m c (ix3 l r k))
abbrev M' (c : Dev nD) (l : Fin 4) (r : Fin 512) (k : Fin 1024) : EReal := mom (G m c l r k) (M m c (ix3 l r k))
abbrev S' (c : Dev nD) (l : Fin 4) (r : Fin 512) (k : Fin 1024) : EReal := var (G m c l r k) (S m c (ix3 l r k))

theorem G_eq (c : Dev nD) (t : Fin cfg0.N) (X : Vec Ideal S8x256x1024 .bf16) (A : FVec Ideal S8x512x1024 .bf16) (hX : ∀ d r k, X (ix3 d r k) = A (ix3 d (rowAt t r) k))
    (hA : ∀ r k, G m c (lay t) r k = ∑ d : Fin 8, (A (ix3 d r k) : EReal)) (r : Fin 256) (k : Fin 1024) :
    ∑ d : Fin 8, (X (ix3 d r k) : EReal) = G m c (lay t) (rowAt t r) k :=
  (Finset.sum_congr rfl fun d _ => hX d r k).trans (hA _ _).symm

/-- What a point writes. -/
theorem outs_apply (c : Dev nD) (t : Fin cfg0.N) (j : S1x256x1024.Idx) :
    (outsAt0 m c t.val t.isLt).1 j = G m c (lay t) (rowAt t (j 1 : Fin 256)) (j 2 : Fin 1024)
    ∧ (outsAt0 m c t.val t.isLt).2.1 j = D m c (lay t) (rowAt t (j 1 : Fin 256)) (j 2 : Fin 1024)
    ∧ (outsAt0 m c t.val t.isLt).2.2.1 j = M' m c (lay t) (rowAt t (j 1 : Fin 256)) (j 2 : Fin 1024)
    ∧ (outsAt0 m c t.val t.isLt).2.2.2 j = S' m c (lay t) (rowAt t (j 1 : Fin 256)) (j 2 : Fin 1024) := by
  have hN := t.isLt
  have hE : cfg0.N = 8 := N_0
  have h4 := iblk4_apply m c t (j 1 : Fin 256) (j 2 : Fin 1024)
  have h5 := iblk5_apply m c t (j 1 : Fin 256) (j 2 : Fin 1024)
  have h6 := iblk6_apply m c t (j 1 : Fin 256) (j 2 : Fin 1024)
  rcases (by omega : t.val / 2 = 0 ∨ t.val / 2 = 1 ∨ t.val / 2 = 2 ∨ t.val / 2 = 3) with h | h | h | h
  · have hg := G_eq m c t _ _ (iblk0_apply m c t h) (fun r k => Finset.sum_congr rfl fun d _ => by simp [h]) (j 1 : Fin 256) (j 2 : Fin 1024)
    rw [outsAt0_A m c t (by omega) (by omega) (by omega) (by omega)]
    refine ⟨?_, ?_, ?_, ?_⟩ <;> frame_out
    · exact (g_apply _ j).trans ((sum_ld _ _ _ _ _ _ _ _ _ _ _).trans hg)
    · exact (d_apply _ _ _ _ j).trans (congr (congr (congrArg₂ delta ((sum_ld _ _ _ _ _ _ _ _ _ _ _).trans hg) h4) h5) h6)
    · exact (m_apply _ _ j).trans (congrArg₂ mom ((sum_ld _ _ _ _ _ _ _ _ _ _ _).trans hg) h5)
    · exact (v_apply _ _ j).trans (congrArg₂ var ((sum_ld _ _ _ _ _ _ _ _ _ _ _).trans hg) h6)
  · have hg := G_eq m c t _ _ (iblk1_apply m c t h) (fun r k => Finset.sum_congr rfl fun d _ => by simp [h]) (j 1 : Fin 256) (j 2 : Fin 1024)
    rw [outsAt0_B m c t (by omega) (by omega) (by omega) (by omega)]
    refine ⟨?_, ?_, ?_, ?_⟩ <;> frame_out
    · exact (g_apply _ j).trans ((sum_ld _ _ _ _ _ _ _ _ _ _ _).trans hg)
    · exact (d_apply _ _ _ _ j).trans (congr (congr (congrArg₂ delta ((sum_ld _ _ _ _ _ _ _ _ _ _ _).trans hg) h4) h5) h6)
    · exact (m_apply _ _ j).trans (congrArg₂ mom ((sum_ld _ _ _ _ _ _ _ _ _ _ _).trans hg) h5)
    · exact (v_apply _ _ j).trans (congrArg₂ var ((sum_ld _ _ _ _ _ _ _ _ _ _ _).trans hg) h6)
  · have hg := G_eq m c t _ _ (iblk2_apply m c t h) (fun r k => Finset.sum_congr rfl fun d _ => by simp [h]) (j 1 : Fin 256) (j 2 : Fin 1024)
    rw [outsAt0_C m c t (by omega) (by omega) (by omega) (by omega)]
    refine ⟨?_, ?_, ?_, ?_⟩ <;> frame_out
    · exact (g_apply _ j).trans ((sum_ld _ _ _ _ _ _ _ _ _ _ _).trans hg)
    · exact (d_apply _ _ _ _ j).trans (congr (congr (congrArg₂ delta ((sum_ld _ _ _ _ _ _ _ _ _ _ _).trans hg) h4) h5) h6)
    · exact (m_apply _ _ j).trans (congrArg₂ mom ((sum_ld _ _ _ _ _ _ _ _ _ _ _).trans hg) h5)
    · exact (v_apply _ _ j).trans (congrArg₂ var ((sum_ld _ _ _ _ _ _ _ _ _ _ _).trans hg) h6)
  · have hg := G_eq m c t _ _ (iblk3_apply m c t h) (fun r k => Finset.sum_congr rfl fun d _ => by simp [h]) (j 1 : Fin 256) (j 2 : Fin 1024)
    rw [outsAt0_D m c t (by omega) (by omega) (by omega) (by omega)]
    refine ⟨?_, ?_, ?_, ?_⟩ <;> frame_out
    · exact (g_apply _ j).trans ((sum_ld _ _ _ _ _ _ _ _ _ _ _).trans hg)
    · exact (d_apply _ _ _ _ j).trans (congr (congr (congrArg₂ delta ((sum_ld _ _ _ _ _ _ _ _ _ _ _).trans hg) h4) h5) h6)
    · exact (m_apply _ _ j).trans (congrArg₂ mom ((sum_ld _ _ _ _ _ _ _ _ _ _ _).trans hg) h5)
    · exact (v_apply _ _ j).trans (congrArg₂ var ((sum_ld _ _ _ _ _ _ _ _ _ _ _).trans hg) h6)

/-- An array given entry by entry. -/
abbrev arr (f : Fin 4 → Fin 512 → Fin 1024 → EReal) : FVec Ideal S4x512x1024 .f32 := fun i => f (i 0) (i 1) (i 2)

theorem arr_read (f : Fin 4 → Fin 512 → Fin 1024 → EReal) (E : S4x512x1024.Idx) (l : Fin 4) (r : Fin 512) (k : Fin 1024) (hE : E = ix3 l r k) : arr f E = f l r k := by
  subst hE; rfl

theorem final7_eq (c : Dev nD) : (dats m 0 c).arrAt 7 cfg0.N = arr (G m c) :=
  (dats m 0 c).arrAt_eq_of_covers 7 (arr (G m c)) (by decide +kernel) fun t _ y => by
    blk_simp
    rw [after0_7]
    have e : (win0_7.blk t).view.emb y = ix3 (lay t) (rowAt t (y 1)) (y 2 : Fin 1024) := by blk_ext [index_in t]
    exact ((outs_apply m c t y).1).trans (arr_read _ _ _ _ _ e).symm

theorem final8_eq (c : Dev nD) : (dats m 0 c).arrAt 8 cfg0.N = arr (D m c) :=
  (dats m 0 c).arrAt_eq_of_covers 8 (arr (D m c)) (by decide +kernel) fun t _ y => by
    blk_simp
    rw [after0_8]
    have e : (win0_8.blk t).view.emb y = ix3 (lay t) (rowAt t (y 1)) (y 2 : Fin 1024) := by blk_ext [index_in t]
    exact ((outs_apply m c t y).2.1).trans (arr_read _ _ _ _ _ e).symm

theorem final9_eq (c : Dev nD) : (dats m 0 c).arrAt 9 cfg0.N = arr (M' m c) :=
  (dats m 0 c).arrAt_eq_of_covers 9 (arr (M' m c)) (by decide +kernel) fun t _ y => by
    blk_simp
    rw [after0_9]
    have e : (win0_9.blk t).view.emb y = ix3 (lay t) (rowAt t (y 1)) (y 2 : Fin 1024) := by blk_ext [index_in t]
    exact ((outs_apply m c t y).2.2.1).trans (arr_read _ _ _ _ _ e).symm

theorem final10_eq (c : Dev nD) : (dats m 0 c).arrAt 10 cfg0.N = arr (S' m c) :=
  (dats m 0 c).arrAt_eq_of_covers 10 (arr (S' m c)) (by decide +kernel) fun t _ y => by
    blk_simp
    rw [after0_10]
    have e : (win0_10.blk t).view.emb y = ix3 (lay t) (rowAt t (y 1)) (y 2 : Fin 1024) := by blk_ext [index_in t]
    exact ((outs_apply m c t y).2.2.2).trans (arr_read _ _ _ _ _ e).symm

/-- The run: the gradient and the three steps, the arguments unchanged. -/
theorem run : θ_run defs (onTc (τ := τ) (main (F := Ideal))) ⟨m, fun _ => 0, ρ⟩ fun r => ∀ c : Dev nD,
      r.2.mem ((c.tc : Thread nD τ).loc main_v0_0) = arr (G m c)
      ∧ r.2.mem ((c.tc : Thread nD τ).loc main_v0_1) = arr (D m c)
      ∧ r.2.mem ((c.tc : Thread nD τ).loc main_v0_2) = arr (M' m c)
      ∧ r.2.mem ((c.tc : Thread nD τ).loc main_v0_3) = arr (S' m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final7_eq m c), (h c).2.1.trans (final8_eq m c), (h c).2.2.1.trans (final9_eq m c),
    (h c).2.2.2.1.trans (final10_eq m c), (h c).2.2.2.2⟩) (Value.run_blocks m ρ)

end Cert.Kernel16Ideal.Adam

namespace Cert.Adam

open Cert.Reference16Ideal Cert.Reference16Ideal.Gen Idealize.ShloMosaic.StableHlo Cert.Update

section
variable (a0 a1 a2 a3 : FVec Ideal S8x512x1024 .bf16) (w x v : FVec Ideal S4x512x1024 .f32)

theorem g_eq : Read.val_main_v6 (F := Ideal) a0 a1 a2 a3 = Cert.Kernel16Ideal.Adam.arr fun l r k => Cert.Kernel16Ideal.Adam.grad a0 a1 a2 a3 l r k := by
  funext i
  obtain ⟨l, r, k, rfl⟩ : ∃ (l : Fin 4) (r : Fin 512) (k : Fin 1024), i = ix3 l r k := ⟨i 0, i 1, i 2, eq_ix3 i⟩
  pointwise [Read.val_main_v6, Read.val_main_cst, Read.val_main_v5, Read.val_main_v4, Read.val_main_v3, Read.val_main_v2, Read.val_main_v1, Read.val_main_v0, Cert.Kernel16Ideal.Adam.grad, mom, var, delta]
  rfl

theorem m_eq : Read.val_main_v11 (F := Ideal) a0 a1 a2 a3 x = Cert.Kernel16Ideal.Adam.arr fun l r k => mom (Cert.Kernel16Ideal.Adam.grad a0 a1 a2 a3 l r k) (x (ix3 l r k)) := by
  funext i
  obtain ⟨l, r, k, rfl⟩ : ∃ (l : Fin 4) (r : Fin 512) (k : Fin 1024), i = ix3 l r k := ⟨i 0, i 1, i 2, eq_ix3 i⟩
  pointwise [Read.val_main_v11, Read.val_main_v10, Read.val_main_v9, Read.val_main_cst_1, Read.val_main_v8, Read.val_main_v7, Read.val_main_cst_0, Read.val_main_v6, Read.val_main_cst, Read.val_main_v5, Read.val_main_v4, Read.val_main_v3, Read.val_main_v2, Read.val_main_v1, Read.val_main_v0, Cert.Kernel16Ideal.Adam.grad, mom, var, delta]
  rfl

theorem v_eq : Read.val_main_v17 (F := Ideal) a0 a1 a2 a3 v = Cert.Kernel16Ideal.Adam.arr fun l r k => var (Cert.Kernel16Ideal.Adam.grad a0 a1 a2 a3 l r k) (v (ix3 l r k)) := by
  funext i
  obtain ⟨l, r, k, rfl⟩ : ∃ (l : Fin 4) (r : Fin 512) (k : Fin 1024), i = ix3 l r k := ⟨i 0, i 1, i 2, eq_ix3 i⟩
  pointwise [Read.val_main_v17, Read.val_main_v16, Read.val_main_v15, Read.val_main_cst_3, Read.val_main_v14, Read.val_main_v13, Read.val_main_v12, Read.val_main_cst_2, Read.val_main_v11, Read.val_main_v10, Read.val_main_v9, Read.val_main_cst_1, Read.val_main_v8, Read.val_main_v7, Read.val_main_cst_0, Read.val_main_v6, Read.val_main_cst, Read.val_main_v5, Read.val_main_v4, Read.val_main_v3, Read.val_main_v2, Read.val_main_v1, Read.val_main_v0, Cert.Kernel16Ideal.Adam.grad, mom, var, delta]
  rfl

theorem d_eq : Read.val_main_v30 (F := Ideal) a0 a1 a2 a3 w x v = Cert.Kernel16Ideal.Adam.arr fun l r k => delta (Cert.Kernel16Ideal.Adam.grad a0 a1 a2 a3 l r k) (w (ix3 l r k)) (x (ix3 l r k)) (v (ix3 l r k)) := by
  funext i
  obtain ⟨l, r, k, rfl⟩ : ∃ (l : Fin 4) (r : Fin 512) (k : Fin 1024), i = ix3 l r k := ⟨i 0, i 1, i 2, eq_ix3 i⟩
  pointwise [Read.val_main_v30, Read.val_main_v29, Read.val_main_cst_8, Read.val_main_v28, Read.val_main_v27, Read.val_main_v26, Read.val_main_cst_7, Read.val_main_v25, Read.val_main_v24, Read.val_main_v23, Read.val_main_cst_6, Read.val_main_v22, Read.val_main_v21, Read.val_main_v20, Read.val_main_cst_5, Read.val_main_v19, Read.val_main_v18, Read.val_main_cst_4, Read.val_main_v17, Read.val_main_v16, Read.val_main_v15, Read.val_main_cst_3, Read.val_main_v14, Read.val_main_v13, Read.val_main_v12, Read.val_main_cst_2, Read.val_main_v11, Read.val_main_v10, Read.val_main_v9, Read.val_main_cst_1, Read.val_main_v8, Read.val_main_v7, Read.val_main_cst_0, Read.val_main_v6, Read.val_main_cst, Read.val_main_v5, Read.val_main_v4, Read.val_main_v3, Read.val_main_v2, Read.val_main_v1, Read.val_main_v0, Cert.Kernel16Ideal.Adam.grad, mom, var, delta]
  rfl

end

/-- Equal arguments give equal gradients and steps. -/
theorem algebraic : Cert.algebraic_Kernel16Ideal_Reference16Ideal := fun m g m' g' _ hm =>
  ⟨fun c => Cert.Kernel16Ideal.Adam.arr (Cert.Kernel16Ideal.Adam.G m c), fun c => Cert.Kernel16Ideal.Adam.arr (Cert.Kernel16Ideal.Adam.D m c), fun c => Cert.Kernel16Ideal.Adam.arr (Cert.Kernel16Ideal.Adam.M' m c), fun c => Cert.Kernel16Ideal.Adam.arr (Cert.Kernel16Ideal.Adam.S' m c), Cert.Kernel16Ideal.Adam.run m g,
    (θ_run _ _ _).mono (fun _ h c => by
      obtain ⟨h0, h1, h2, h3, h4, h5, h6⟩ := hm c
      exact ⟨(h c).1.trans ((Read.val_main_v6_eq _ _ _ _).trans ((congr (congr (congr (congrArg (Read.val_main_v6 (F := Ideal)) h0) h1) h2) h3).trans (g_eq _ _ _ _))),
        (h c).2.1.trans ((Read.val_main_v30_eq _ _).trans ((congr (congr (congr (congr (congr (congr (congrArg (Read.val_main_v30 (F := Ideal)) h0) h1) h2) h3) h4) h5) h6).trans (d_eq _ _ _ _ _ _ _))),
        (h c).2.2.1.trans ((Read.val_main_v11_eq _ _ _ _ _).trans ((congr (congr (congr (congr (congrArg (Read.val_main_v11 (F := Ideal)) h0) h1) h2) h3) h5).trans (m_eq _ _ _ _ _))),
        (h c).2.2.2.1.trans ((Read.val_main_v17_eq _ _ _ _ _).trans ((congr (congr (congr (congr (congrArg (Read.val_main_v17 (F := Ideal)) h0) h1) h2) h3) h6).trans (v_eq _ _ _ _ _))),
        (h c).2.2.2.2⟩) (Cert.Reference16Ideal.Value.run m' g')⟩

end Cert.Adam
-- ==== Proof.Cast.lean ====
/-
  THE WEIGHTS OF ONE LAYER, CAST: the call `_cast_group` takes one layer's page of each of four weights and rounds it to
  the exchange's type, which over the extended reals keeps the values.
-/
module

public import proofs.«01_k».proof.Defs
public import proofs.«01_k».proof.Proof.Gen.Kernel17Ideal.Value
public import proofs.«01_k».proof.Proof.Gen.Reference17Ideal.Run
public import proofs.«01_k».proof.Proof.Common
public import Idealize.ShloMosaic.Lib.Pipeline.ValueKit.Point

@[expose] public section

set_option maxRecDepth 16384

noncomputable section

open Idealize.ShloMosaic Idealize.ShloMosaic.TcCoe Idealize.SL.Sem
open Idealize.ShloMosaic.Pipeline (Dat)

namespace Cert.Kernel17Ideal.Cast

open Cert.Kernel17Ideal Cert.Kernel17Ideal.Gen

variable (m : (ℓ : Loc nD τ sig) → Buf (Elt Ideal) ℓ) (ρ : Dev nD → PrngReg)

theorem index_in : ∀ t : Fin cfg0.N, win0_0.index t = ![0, 0, 0] ∧ win0_1.index t = ![1, 0, 0] ∧ win0_2.index t = ![1, 0, 0] ∧ win0_3.index t = ![1, 0, 0] ∧ win0_4.index t = ![0, 0] ∧ win0_5.index t = ![0, 0] ∧ win0_6.index t = ![0, 0] ∧ win0_7.index t = ![0, 0] :=
  (by decide +kernel : ∀ t : Fin grid0.N, win0_0.index t = ![0, 0, 0] ∧ win0_1.index t = ![1, 0, 0] ∧ win0_2.index t = ![1, 0, 0] ∧ win0_3.index t = ![1, 0, 0] ∧ win0_4.index t = ![0, 0] ∧ win0_5.index t = ![0, 0] ∧ win0_6.index t = ![0, 0] ∧ win0_7.index t = ![0, 0])

abbrev A0 (c : Dev nD) : FVec Ideal S2x128x1024 .f32 := m ((c : Thread nD τ).loc main_arg0)

theorem pay0_apply (x : Vec Ideal S1x128x1024 .f32) (r : Fin 128) (k : Fin 1024) : k0_pay1 x (ix2 r k) = (x (ix3 0 r k) : EReal) := by
  pointwise [k0_pay1]

theorem iblk0_apply (c : Dev nD) (t : Fin cfg0.N) (r : Fin 128) (k : Fin 1024) : iblk m c 0 t (ix3 0 r k) = A0 m c (ix3 0 r k) := by
  blk_point [iblk, V, index_in t]

abbrev page0 (x : FVec Ideal S2x128x1024 .f32) : FVec Ideal S128x1024 .bf16 := fun i => (x (ix3 0 (i 0) (i 1)) : EReal)

theorem out0_eq (c : Dev nD) (t : Fin cfg0.N) : out0_4 (iblk m c 0 t) (iblk m c 1 t) (iblk m c 2 t) (iblk m c 3 t) = page0 (A0 m c) := by
  refine Common.ext2 fun r k => ?_
  unfold out0_4
  frame_out
  exact (pay0_apply _ _ _).trans (iblk0_apply m c t _ _)

theorem final0_eq (c : Dev nD) : (dats m 0 c).arrAt 4 cfg0.N = page0 (A0 m c) := by
  refine (dats m 0 c).arrAt_eq_of_covers 4 _ (by decide +kernel) fun t hf y => ?_
  blk_simp
  rw [after0_4, out0_eq]
  refine congrArg₂ (fun (r : Fin 128) (k : Fin 1024) => (A0 m c (ix3 0 r k) : EReal)) (Fin.ext ?_) (Fin.ext ?_) <;> blk_simp [index_in t]

abbrev A1 (c : Dev nD) : FVec Ideal S4x1024x512 .f32 := m ((c : Thread nD τ).loc main_arg1)

theorem pay1_apply (x : Vec Ideal S1x1024x512 .f32) (r : Fin 1024) (k : Fin 512) : k0_pay2 x (ix2 r k) = (x (ix3 0 r k) : EReal) := by
  pointwise [k0_pay2]

theorem iblk1_apply (c : Dev nD) (t : Fin cfg0.N) (r : Fin 1024) (k : Fin 512) : iblk m c 1 t (ix3 0 r k) = A1 m c (ix3 1 r k) := by
  blk_point [iblk, V, index_in t]

abbrev page1 (x : FVec Ideal S4x1024x512 .f32) : FVec Ideal S1024x512 .bf16 := fun i => (x (ix3 1 (i 0) (i 1)) : EReal)

theorem out1_eq (c : Dev nD) (t : Fin cfg0.N) : out0_5 (iblk m c 0 t) (iblk m c 1 t) (iblk m c 2 t) (iblk m c 3 t) = page1 (A1 m c) := by
  refine Common.ext2 fun r k => ?_
  unfold out0_5
  frame_out
  exact (pay1_apply _ _ _).trans (iblk1_apply m c t _ _)

theorem final1_eq (c : Dev nD) : (dats m 0 c).arrAt 5 cfg0.N = page1 (A1 m c) := by
  refine (dats m 0 c).arrAt_eq_of_covers 5 _ (by decide +kernel) fun t hf y => ?_
  blk_simp
  rw [after0_5, out1_eq]
  refine congrArg₂ (fun (r : Fin 1024) (k : Fin 512) => (A1 m c (ix3 1 r k) : EReal)) (Fin.ext ?_) (Fin.ext ?_) <;> blk_simp [index_in t]

abbrev A2 (c : Dev nD) : FVec Ideal S4x512x1024 .f32 := m ((c : Thread nD τ).loc main_arg2)

theorem pay2_apply (x : Vec Ideal S1x512x1024 .f32) (r : Fin 512) (k : Fin 1024) : k0_pay3 x (ix2 r k) = (x (ix3 0 r k) : EReal) := by
  pointwise [k0_pay3]

theorem iblk2_apply (c : Dev nD) (t : Fin cfg0.N) (r : Fin 512) (k : Fin 1024) : iblk m c 2 t (ix3 0 r k) = A2 m c (ix3 1 r k) := by
  blk_point [iblk, V, index_in t]

abbrev page2 (x : FVec Ideal S4x512x1024 .f32) : FVec Ideal S512x1024 .bf16 := fun i => (x (ix3 1 (i 0) (i 1)) : EReal)

theorem out2_eq (c : Dev nD) (t : Fin cfg0.N) : out0_6 (iblk m c 0 t) (iblk m c 1 t) (iblk m c 2 t) (iblk m c 3 t) = page2 (A2 m c) := by
  refine Common.ext2 fun r k => ?_
  unfold out0_6
  frame_out
  exact (pay2_apply _ _ _).trans (iblk2_apply m c t _ _)

theorem final2_eq (c : Dev nD) : (dats m 0 c).arrAt 6 cfg0.N = page2 (A2 m c) := by
  refine (dats m 0 c).arrAt_eq_of_covers 6 _ (by decide +kernel) fun t hf y => ?_
  blk_simp
  rw [after0_6, out2_eq]
  refine congrArg₂ (fun (r : Fin 512) (k : Fin 1024) => (A2 m c (ix3 1 r k) : EReal)) (Fin.ext ?_) (Fin.ext ?_) <;> blk_simp [index_in t]

abbrev A3 (c : Dev nD) : FVec Ideal S2x1024x320 .f32 := m ((c : Thread nD τ).loc main_arg3)

theorem pay3_apply (x : Vec Ideal S1x1024x320 .f32) (r : Fin 1024) (k : Fin 320) : k0_pay4 x (ix2 r k) = (x (ix3 0 r k) : EReal) := by
  pointwise [k0_pay4]

theorem iblk3_apply (c : Dev nD) (t : Fin cfg0.N) (r : Fin 1024) (k : Fin 320) : iblk m c 3 t (ix3 0 r k) = A3 m c (ix3 1 r k) := by
  blk_point [iblk, V, index_in t]

abbrev page3 (x : FVec Ideal S2x1024x320 .f32) : FVec Ideal S1024x320 .bf16 := fun i => (x (ix3 1 (i 0) (i 1)) : EReal)

theorem out3_eq (c : Dev nD) (t : Fin cfg0.N) : out0_7 (iblk m c 0 t) (iblk m c 1 t) (iblk m c 2 t) (iblk m c 3 t) = page3 (A3 m c) := by
  refine Common.ext2 fun r k => ?_
  unfold out0_7
  frame_out
  exact (pay3_apply _ _ _).trans (iblk3_apply m c t _ _)

theorem final3_eq (c : Dev nD) : (dats m 0 c).arrAt 7 cfg0.N = page3 (A3 m c) := by
  refine (dats m 0 c).arrAt_eq_of_covers 7 _ (by decide +kernel) fun t hf y => ?_
  blk_simp
  rw [after0_7, out3_eq]
  refine congrArg₂ (fun (r : Fin 1024) (k : Fin 320) => (A3 m c (ix3 1 r k) : EReal)) (Fin.ext ?_) (Fin.ext ?_) <;> blk_simp [index_in t]

/-- The run: the four results at the pages, the arguments unchanged. -/
theorem run : θ_run defs (onTc (τ := τ) (main (F := Ideal))) ⟨m, fun _ => 0, ρ⟩ fun r => ∀ c : Dev nD,
      r.2.mem ((c.tc : Thread nD τ).loc main_v0_0) = page0 (A0 m c)
      ∧ r.2.mem ((c.tc : Thread nD τ).loc main_v0_1) = page1 (A1 m c)
      ∧ r.2.mem ((c.tc : Thread nD τ).loc main_v0_2) = page2 (A2 m c)
      ∧ r.2.mem ((c.tc : Thread nD τ).loc main_v0_3) = page3 (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final0_eq m c), (h c).2.1.trans (final1_eq m c), (h c).2.2.1.trans (final2_eq m c),
    (h c).2.2.2.1.trans (final3_eq m c), (h c).2.2.2.2⟩) (Value.run_blocks m ρ)

end Cert.Kernel17Ideal.Cast

namespace Cert.Cast

open Cert.Reference17Ideal Cert.Reference17Ideal.Gen Idealize.ShloMosaic.StableHlo

theorem page0_eq (x : FVec Ideal S2x128x1024 .f32) :
    (truncf .bf16 (shapeCast _ (extractStridedSlice S1x128x1024 ![0, 0, 0] x slices_S2x128x1024_S1x128x1024_0_0_0) shapeCasts_S1x128x1024_S128x1024) bitsLt_bf16_f32 : FVec Ideal S128x1024 .bf16) = Cert.Kernel17Ideal.Cast.page0 x := by
  refine Common.ext2 fun r k => ?_
  pointwise [Cert.Kernel17Ideal.Cast.page0]

theorem page1_eq (x : FVec Ideal S4x1024x512 .f32) :
    (truncf .bf16 (shapeCast _ (extractStridedSlice S1x1024x512 ![1, 0, 0] x slices_S4x1024x512_S1x1024x512_1_0_0) shapeCasts_S1x1024x512_S1024x512) bitsLt_bf16_f32 : FVec Ideal S1024x512 .bf16) = Cert.Kernel17Ideal.Cast.page1 x := by
  refine Common.ext2 fun r k => ?_
  pointwise [Cert.Kernel17Ideal.Cast.page1]

theorem page2_eq (x : FVec Ideal S4x512x1024 .f32) :
    (truncf .bf16 (shapeCast _ (extractStridedSlice S1x512x1024 ![1, 0, 0] x slices_S4x512x1024_S1x512x1024_1_0_0) shapeCasts_S1x512x1024_S512x1024) bitsLt_bf16_f32 : FVec Ideal S512x1024 .bf16) = Cert.Kernel17Ideal.Cast.page2 x := by
  refine Common.ext2 fun r k => ?_
  pointwise [Cert.Kernel17Ideal.Cast.page2]

theorem page3_eq (x : FVec Ideal S2x1024x320 .f32) :
    (truncf .bf16 (shapeCast _ (extractStridedSlice S1x1024x320 ![1, 0, 0] x slices_S2x1024x320_S1x1024x320_1_0_0) shapeCasts_S1x1024x320_S1024x320) bitsLt_bf16_f32 : FVec Ideal S1024x320 .bf16) = Cert.Kernel17Ideal.Cast.page3 x := by
  refine Common.ext2 fun r k => ?_
  pointwise [Cert.Kernel17Ideal.Cast.page3]

/-- Equal arguments give equal pages. -/
theorem algebraic : Cert.algebraic_Kernel17Ideal_Reference17Ideal := fun m g m' g' _ hm =>
  ⟨fun c => Cert.Kernel17Ideal.Cast.page0 (Cert.Kernel17Ideal.Cast.A0 m c), fun c => Cert.Kernel17Ideal.Cast.page1 (Cert.Kernel17Ideal.Cast.A1 m c), fun c => Cert.Kernel17Ideal.Cast.page2 (Cert.Kernel17Ideal.Cast.A2 m c), fun c => Cert.Kernel17Ideal.Cast.page3 (Cert.Kernel17Ideal.Cast.A3 m c),
    Cert.Kernel17Ideal.Cast.run m g,
    (θ_run _ _ _).mono (fun _ h c => by
      obtain ⟨h0, h1, h2, h3⟩ := hm c
      exact ⟨(h c).1.trans ((page0_eq _).trans (congrArg Cert.Kernel17Ideal.Cast.page0 h0)), (h c).2.1.trans ((page1_eq _).trans (congrArg Cert.Kernel17Ideal.Cast.page1 h1)), (h c).2.2.1.trans ((page2_eq _).trans (congrArg Cert.Kernel17Ideal.Cast.page2 h2)), (h c).2.2.2.1.trans ((page3_eq _).trans (congrArg Cert.Kernel17Ideal.Cast.page3 h3)), (h c).2.2.2.2⟩) (Cert.Reference17Ideal.Value.run m' g')⟩

end Cert.Cast
-- ==== Proof.lean ====
module

public import proofs.«01_k».proof.Defs
public import proofs.«01_k».proof.Proof.Gen.Kernel18.Frame
public import proofs.«01_k».proof.Proof.Gen.Kernel18Ideal.Frame
public import proofs.«01_k».proof.Proof.Gen.Kernel.Frame
public import proofs.«01_k».proof.Proof.Gate
public import proofs.«01_k».proof.Proof.Gen.Kernel2.Frame
public import proofs.«01_k».proof.Proof.Loss
public import proofs.«01_k».proof.Proof.Gen.Kernel3.Frame
public import proofs.«01_k».proof.Proof.FfnIn
public import proofs.«01_k».proof.Proof.Gen.Kernel4.Frame
public import proofs.«01_k».proof.Proof.Qkv
public import proofs.«01_k».proof.Proof.Gen.Kernel5.Frame
public import proofs.«01_k».proof.Proof.AbIn
public import proofs.«01_k».proof.Proof.Gen.Kernel6.Frame
public import proofs.«01_k».proof.Proof.Pool
public import proofs.«01_k».proof.Proof.Gen.Kernel7.Frame
public import proofs.«01_k».proof.Proof.Dbias
public import proofs.«01_k».proof.Proof.Gen.Kernel8.Frame
public import proofs.«01_k».proof.Proof.Attn
public import proofs.«01_k».proof.Proof.Gen.Kernel9.Frame
public import proofs.«01_k».proof.Proof.FfnFwd
public import proofs.«01_k».proof.Proof.Gen.Kernel10.Frame
public import proofs.«01_k».proof.Proof.QkvFwd
public import proofs.«01_k».proof.Proof.Gen.Kernel11.Frame
public import proofs.«01_k».proof.Proof.AbFwd
public import proofs.«01_k».proof.Proof.Gen.Kernel12.Frame
public import proofs.«01_k».proof.Proof.MmRes
public import proofs.«01_k».proof.Proof.Gen.Kernel13.Frame
public import proofs.«01_k».proof.Proof.Bias
public import proofs.«01_k».proof.Proof.Gen.Kernel14.Frame
public import proofs.«01_k».proof.Proof.PoolFwd
public import proofs.«01_k».proof.Proof.Gen.Kernel15.Frame
public import proofs.«01_k».proof.Proof.Tn
public import proofs.«01_k».proof.Proof.Gen.Kernel16.Frame
public import proofs.«01_k».proof.Proof.Adam
public import proofs.«01_k».proof.Proof.Gen.Kernel17.Frame
public import proofs.«01_k».proof.Proof.Cast
public import Idealize.ShloMosaic.Lib.Quiescent

@[expose] public section

noncomputable section

namespace Cert.Proof

open Idealize.ShloMosaic Idealize.SL.Sem

/-- The gate gradient's reference runs to an end and leaves its arguments unchanged. -/
theorem frame_reference : Cert.quiescent_ReferenceIdeal := fun m ρ _ =>
  (θ_run _ _ _).mono (fun r h => ⟨fun c => (h c).2, sem_eq_zero_of_no_sems rfl r.2⟩) (Cert.ReferenceIdeal.Value.run m ρ)

/-- The loss gradient's reference runs to an end and leaves its arguments unchanged. -/
theorem frame_reference2 : Cert.quiescent_Reference2Ideal := fun m ρ _ =>
  (θ_run _ _ _).mono (fun r h => ⟨fun c => (h c).2.2.2, sem_eq_zero_of_no_sems rfl r.2⟩) (Cert.Reference2Ideal.Value.run m ρ)

/-- The feed-forward input gradient's reference runs to an end and leaves its arguments unchanged. -/
theorem frame_reference3 : Cert.quiescent_Reference3Ideal := fun m ρ _ =>
  (θ_run _ _ _).mono (fun r h => ⟨fun c => (h c).2.2.2, sem_eq_zero_of_no_sems rfl r.2⟩) (Cert.Reference3Ideal.Value.run m ρ)

/-- The attention input gradient's reference runs to an end and leaves its arguments unchanged. -/
theorem frame_reference4 : Cert.quiescent_Reference4Ideal := fun m ρ _ =>
  (θ_run _ _ _).mono (fun r h => ⟨fun c => (h c).2.2, sem_eq_zero_of_no_sems rfl r.2⟩) (Cert.Reference4Ideal.Value.run m ρ)

/-- The mixer input gradient's reference runs to an end and leaves its arguments unchanged. -/
theorem frame_reference5 : Cert.quiescent_Reference5Ideal := fun m ρ _ =>
  (θ_run _ _ _).mono (fun r h => ⟨fun c => (h c).2.2, sem_eq_zero_of_no_sems rfl r.2⟩) (Cert.Reference5Ideal.Value.run m ρ)

/-- The pool gradient's reference runs to an end and leaves its arguments unchanged. -/
theorem frame_reference6 : Cert.quiescent_Reference6Ideal := fun m ρ _ =>
  (θ_run _ _ _).mono (fun r h => ⟨fun c => (h c).2.2.2, sem_eq_zero_of_no_sems rfl r.2⟩) (Cert.Reference6Ideal.Value.run m ρ)

/-- The relative bias gradient's reference runs to an end and leaves its arguments unchanged. -/
theorem frame_reference7 : Cert.quiescent_Reference7Ideal := fun m ρ _ =>
  (θ_run _ _ _).mono (fun r h => ⟨fun c => (h c).2, sem_eq_zero_of_no_sems rfl r.2⟩) (Cert.Reference7Ideal.Value.run m ρ)

/-- The attention's forward reference runs to an end and leaves its arguments unchanged. -/
theorem frame_reference8 : Cert.quiescent_Reference8Ideal := fun m ρ _ =>
  (θ_run _ _ _).mono (fun r h => ⟨fun c => (h c).2, sem_eq_zero_of_no_sems rfl r.2⟩) (Cert.Reference8Ideal.Value.run m ρ)

/-- The feed-forward's forward reference runs to an end and leaves its arguments unchanged. -/
theorem frame_reference9 : Cert.quiescent_Reference9Ideal := fun m ρ _ =>
  (θ_run _ _ _).mono (fun r h => ⟨fun c => (h c).2.2.2.2, sem_eq_zero_of_no_sems rfl r.2⟩) (Cert.Reference9Ideal.Value.run m ρ)

/-- The attention input's forward reference runs to an end and leaves its arguments unchanged. -/
theorem frame_reference10 : Cert.quiescent_Reference10Ideal := fun m ρ _ =>
  (θ_run _ _ _).mono (fun r h => ⟨fun c => (h c).2.2, sem_eq_zero_of_no_sems rfl r.2⟩) (Cert.Reference10Ideal.Value.run m ρ)

/-- The mixer input's forward reference runs to an end and leaves its arguments unchanged. -/
theorem frame_reference11 : Cert.quiescent_Reference11Ideal := fun m ρ _ =>
  (θ_run _ _ _).mono (fun r h => ⟨fun c => (h c).2.2, sem_eq_zero_of_no_sems rfl r.2⟩) (Cert.Reference11Ideal.Value.run m ρ)

/-- The residual's forward reference runs to an end and leaves its arguments unchanged. -/
theorem frame_reference12 : Cert.quiescent_Reference12Ideal := fun m ρ _ =>
  (θ_run _ _ _).mono (fun r h => ⟨fun c => (h c).2, sem_eq_zero_of_no_sems rfl r.2⟩) (Cert.Reference12Ideal.Value.run m ρ)

/-- The relative bias's forward reference runs to an end and leaves its arguments unchanged. -/
theorem frame_reference13 : Cert.quiescent_Reference13Ideal := fun m ρ _ =>
  (θ_run _ _ _).mono (fun r h => ⟨fun c => (h c).2, sem_eq_zero_of_no_sems rfl r.2⟩) (Cert.Reference13Ideal.Value.run m ρ)

/-- The pool's forward reference runs to an end and leaves its arguments unchanged. -/
theorem frame_reference14 : Cert.quiescent_Reference14Ideal := fun m ρ _ =>
  (θ_run _ _ _).mono (fun r h => ⟨fun c => (h c).2, sem_eq_zero_of_no_sems rfl r.2⟩) (Cert.Reference14Ideal.Value.run m ρ)

/-- The weight gradient's product's reference runs to an end and leaves its arguments unchanged. -/
theorem frame_reference15 : Cert.quiescent_Reference15Ideal := fun m ρ _ =>
  (θ_run _ _ _).mono (fun r h => ⟨fun c => (h c).2, sem_eq_zero_of_no_sems rfl r.2⟩) (Cert.Reference15Ideal.Value.run m ρ)

/-- The optimiser's reference runs to an end and leaves its arguments unchanged. -/
theorem frame_reference16 : Cert.quiescent_Reference16Ideal := fun m ρ _ =>
  (θ_run _ _ _).mono (fun r h => ⟨fun c => (h c).2.2.2.2, sem_eq_zero_of_no_sems rfl r.2⟩) (Cert.Reference16Ideal.Value.run m ρ)

/-- The packing's reference runs to an end and leaves its arguments unchanged. -/
theorem frame_reference17 : Cert.quiescent_Reference17Ideal := fun m ρ _ =>
  (θ_run _ _ _).mono (fun r h => ⟨fun c => (h c).2.2.2.2, sem_eq_zero_of_no_sems rfl r.2⟩) (Cert.Reference17Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts,
  Cert.Pool.pre_facts, Cert.Dbias.pre_facts, Cert.Attn.pre_facts, Cert.Bias.pre_facts, Cert.PoolFwd.pre_facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, fun m ρ _ => Cert.Kernel6Ideal.Gen.frame m ρ,
  frame_reference6, fun m ρ _ => frame_reference6 m ρ True.intro,
  fun m ρ _ => Cert.Kernel7.Gen.frame m ρ, fun m ρ _ => Cert.Kernel7Ideal.Gen.frame m ρ, fun m ρ _ => Cert.Kernel7Ideal.Gen.frame m ρ,
  frame_reference7, fun m ρ _ => frame_reference7 m ρ True.intro,
  fun m ρ _ => Cert.Kernel8.Gen.frame m ρ, fun m ρ _ => Cert.Kernel8Ideal.Gen.frame m ρ, fun m ρ _ => Cert.Kernel8Ideal.Gen.frame m ρ,
  frame_reference8, fun m ρ _ => frame_reference8 m ρ True.intro,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, fun m ρ _ => Cert.Kernel13Ideal.Gen.frame m ρ,
  frame_reference13, fun m ρ _ => frame_reference13 m ρ True.intro,
  fun m ρ _ => Cert.Kernel14.Gen.frame m ρ, fun m ρ _ => Cert.Kernel14Ideal.Gen.frame m ρ, fun m ρ _ => Cert.Kernel14Ideal.Gen.frame m ρ,
  frame_reference14, fun m ρ _ => frame_reference14 m ρ True.intro,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ,
  trivial, Cert.Gate.algebraic,
  trivial, Cert.Loss.algebraic,
  trivial, Cert.FfnIn.algebraic,
  trivial, Cert.Qkv.algebraic,
  trivial, Cert.AbIn.algebraic,
  trivial, (letI := Cert.Pool.pre_facts; Cert.Pool.algebraic),
  trivial, (letI := Cert.Dbias.pre_facts; Cert.Dbias.algebraic),
  Cert.Attn.preserves, (letI := Cert.Attn.pre_facts; Cert.Attn.algebraic),
  trivial, Cert.FfnFwd.algebraic,
  trivial, Cert.QkvFwd.algebraic,
  trivial, Cert.AbFwd.algebraic,
  trivial, Cert.MmRes.algebraic,
  trivial, (letI := Cert.Bias.pre_facts; Cert.Bias.algebraic),
  trivial, (letI := Cert.PoolFwd.pre_facts; Cert.PoolFwd.algebraic),
  trivial, Cert.Tn.algebraic,
  trivial, Cert.Adam.algebraic,
  trivial, Cert.Cast.algebraic,
  trivial⟩

end Cert.Proof

end
